-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_v275) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v180)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v180) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v181) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x256x2688 : Shape := ⟨3, ![8, 256, 2688]⟩
abbrev S8x2048x2688 : Shape := ⟨3, ![8, 2048, 2688]⟩
abbrev S4x1536 : Shape := ⟨2, ![4, 1536]⟩
abbrev S2x4 : Shape := ⟨2, ![2, 4]⟩
abbrev S128 : Shape := ⟨1, ![128]⟩
abbrev S_ : Shape := ⟨0, ![]⟩

class Facts : Prop where
  bcast_S_S8x256x2688 : S_.BroadcastsInDim S8x256x2688 (![] : Fin 0 → Fin S8x256x2688.rank)
  reducesTo_S8x256x2688_S_d0_1_2 : S8x256x2688.ReducesTo [0, 1, 2] S_
  h_S_ : 0 < S_.numel
  bcast_S_S8x2048x2688 : S_.BroadcastsInDim S8x2048x2688 (![] : Fin 0 → Fin S8x2048x2688.rank)
  reducesTo_S8x2048x2688_S_d0_1_2 : S8x2048x2688.ReducesTo [0, 1, 2] S_
  bcast_S_S4x1536 : S_.BroadcastsInDim S4x1536 (![] : Fin 0 → Fin S4x1536.rank)
  reducesTo_S4x1536_S_d0_1 : S4x1536.ReducesTo [0, 1] S_
  bcast_S_S2x4 : S_.BroadcastsInDim S2x4 (![] : Fin 0 → Fin S2x4.rank)
  reducesTo_S2x4_S_d0_1 : S2x4.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S2x4 .f32) (main_arg5 : FVec F S128 .f32) (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  let main_v19 : FVec F S2x4 .f32 := Host.absf main_arg4
  let main_cst_6 : FVec F S_ .f32 := constant S_ .f32 0x7F800000#32
  let main_v20 : FVec F S2x4 .f32 := broadcastInDim S2x4 ![] bcast_S_S2x4 main_cst_6
  let main_v21 : IVec S2x4 1 := cmpf .olt main_v19 main_v20
  let main_c_7 : IVec S_ 1 := constantI S_ 1 1#1
  let main_v22 : IVec S_ 1 := (fun x v => Host.reduce IntOp.andi x v reducesTo_S2x4_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x256x2688 .f32) (main_arg1 : FVec F S8x2048x2688 .f32) (main_arg2 : FVec F S4x1536 .f32) (main_arg3 : FVec F S2x4 .f32) (main_arg4 : FVec F S2x4 .f32) (main_arg5 : FVec F S128 .f32) : IVec S_ 1 :=
  let main_v0 : FVec F S8x256x2688 .f32 := Host.absf main_arg0
  let main_cst : FVec F S_ .f32 := constant S_ .f32 0x7F800000#32
  let main_v1 : FVec F S8x256x2688 .f32 := broadcastInDim S8x256x2688 ![] bcast_S_S8x256x2688 main_cst
  let main_v2 : IVec S8x256x2688 1 := cmpf .olt main_v0 main_v1
  let main_c : IVec S_ 1 := constantI S_ 1 1#1
  let main_v3 : IVec S_ 1 := (fun x v => Host.reduce IntOp.andi x v reducesTo_S8x256x2688_S_d0_1_2 h_S_) main_v2 main_c
  let main_v4 : FVec F S8x2048x2688 .f32 := Host.absf main_arg1
  let main_cst_0 : FVec F S_ .f32 := constant S_ .f32 0x7F800000#32
  let main_v5 : FVec F S8x2048x2688 .f32 := broadcastInDim S8x2048x2688 ![] bcast_S_S8x2048x2688 main_cst_0
  let main_v6 : IVec S8x2048x2688 1 := cmpf .olt main_v4 main_v5
  let main_c_1 : IVec S_ 1 := constantI S_ 1 1#1
  let main_v7 : IVec S_ 1 := (fun x v => Host.reduce IntOp.andi x v reducesTo_S8x2048x2688_S_d0_1_2 h_S_) main_v6 main_c_1
  let main_v8 : IVec S_ 1 := andi main_v3 main_v7
  let main_v9 : FVec F S4x1536 .f32 := Host.absf main_arg2
  let main_cst_2 : FVec F S_ .f32 := constant S_ .f32 0x7F800000#32
  let main_v10 : FVec F S4x1536 .f32 := broadcastInDim S4x1536 ![] bcast_S_S4x1536 main_cst_2
  let main_v11 : IVec S4x1536 1 := cmpf .olt main_v9 main_v10
  let main_c_3 : IVec S_ 1 := constantI S_ 1 1#1
  let main_v12 : IVec S_ 1 := (fun x v => Host.reduce IntOp.andi x v reducesTo_S4x1536_S_d0_1 h_S_) main_v11 main_c_3
  let main_v13 : IVec S_ 1 := andi main_v8 main_v12
  let main_v14 : FVec F S2x4 .f32 := Host.absf main_arg3
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_arg4 main_arg5 main_v13 main_v16
-- ==== Kernel.lean ====
abbrev S8x256x2688 : Shape := ⟨3, ![8, 256, 2688]⟩
abbrev S8x2048x2688 : Shape := ⟨3, ![8, 2048, 2688]⟩
abbrev S4x1536 : Shape := ⟨2, ![4, 1536]⟩
abbrev S2x4 : Shape := ⟨2, ![2, 4]⟩
abbrev S128 : Shape := ⟨1, ![128]⟩
abbrev S8x256x128 : Shape := ⟨3, ![8, 256, 128]⟩
abbrev S8x2048x128 : Shape := ⟨3, ![8, 2048, 128]⟩
abbrev S4x3x4x128 : Shape := ⟨4, ![4, 3, 4, 128]⟩
abbrev S4x4 : Shape := ⟨2, ![4, 4]⟩
abbrev S4x4x1 : Shape := ⟨3, ![4, 4, 1]⟩
abbrev S4x4x128 : Shape := ⟨3, ![4, 4, 128]⟩
abbrev S_ : Shape := ⟨0, ![]⟩
abbrev S4x8x128 : Shape := ⟨3, ![4, 8, 128]⟩
abbrev S8x256x16 : Shape := ⟨3, ![8, 256, 16]⟩
abbrev S8x2048x16 : Shape := ⟨3, ![8, 2048, 16]⟩
abbrev S8x2304x16 : Shape := ⟨3, ![8, 2304, 16]⟩
abbrev S8x2304x4x4 : Shape := ⟨4, ![8, 2304, 4, 4]⟩
abbrev S8x4x2304x4 : Shape := ⟨4, ![8, 4, 2304, 4]⟩
abbrev S1x128 : Shape := ⟨2, ![1, 128]⟩
abbrev S8x2048x512 : Shape := ⟨3, ![8, 2048, 512]⟩
abbrev S8x256x512 : Shape := ⟨3, ![8, 256, 512]⟩
abbrev S1x256x128 : Shape := ⟨3, ![1, 256, 128]⟩
abbrev S1x2048x128 : Shape := ⟨3, ![1, 2048, 128]⟩
abbrev S1x1x2304x4 : Shape := ⟨4, ![1, 1, 2304, 4]⟩
abbrev S1x3x4x128 : Shape := ⟨4, ![1, 3, 4, 128]⟩
abbrev S1x8x128 : Shape := ⟨3, ![1, 8, 128]⟩
abbrev S2304x128 : Shape := ⟨2, ![2304, 128]⟩
abbrev S2x2304x128 : Shape := ⟨3, ![2, 2304, 128]⟩
abbrev S2432x128 : Shape := ⟨2, ![2432, 128]⟩
abbrev S2x4608x128 : Shape := ⟨3, ![2, 4608, 128]⟩
abbrev S2x288x128 : Shape := ⟨3, ![2, 288, 128]⟩
abbrev S1x1x4x128 : Shape := ⟨4, ![1, 1, 4, 128]⟩
abbrev S4x128 : Shape := ⟨2, ![4, 128]⟩
abbrev S8x128 : Shape := ⟨2, ![8, 128]⟩
abbrev S256x128 : Shape := ⟨2, ![256, 128]⟩
abbrev S256 : Shape := ⟨1, ![256]⟩
abbrev S256x1 : Shape := ⟨2, ![256, 1]⟩
abbrev S2048x128 : Shape := ⟨2, ![2048, 128]⟩
abbrev S2048 : Shape := ⟨1, ![2048]⟩
abbrev S2048x1 : Shape := ⟨2, ![2048, 1]⟩
abbrev S2304x4 : Shape := ⟨2, ![2304, 4]⟩
abbrev S1x2 : Shape := ⟨2, ![1, 2]⟩
abbrev S1x1 : Shape := ⟨2, ![1, 1]⟩
abbrev S1x4 : Shape := ⟨2, ![1, 4]⟩
abbrev S2304x1 : Shape := ⟨2, ![2304, 1]⟩
abbrev S64x128 : Shape := ⟨2, ![64, 128]⟩
abbrev S64x64 : Shape := ⟨2, ![64, 64]⟩
abbrev S128x64 : Shape := ⟨2, ![128, 64]⟩
abbrev S64x256 : Shape := ⟨2, ![64, 256]⟩
abbrev S128x256 : Shape := ⟨2, ![128, 256]⟩
abbrev S1x64x128 : Shape := ⟨3, ![1, 64, 128]⟩
abbrev S128x128 : Shape := ⟨2, ![128, 128]⟩
abbrev S1x128x128 : Shape := ⟨3, ![1, 128, 128]⟩
abbrev S1x1x128 : Shape := ⟨3, ![1, 1, 128]⟩
abbrev S1x2304x128 : Shape := ⟨3, ![1, 2304, 128]⟩
abbrev S2304 : Shape := ⟨1, ![2304]⟩

abbrev nBuf : Space → Nat
  | .hbm => 25
  | .vmem => 41
  | .smem => 0
  | _ => 0

abbrev bufTy : (tb : Table) → Fin (tcTables nBuf tb) → BufTy
  | .hbm, ⟨0, _⟩ => ⟨S8x256x2688, .f32⟩
  | .hbm, ⟨1, _⟩ => ⟨S8x2048x2688, .f32⟩
  | .hbm, ⟨2, _⟩ => ⟨S4x1536, .f32⟩
  | .hbm, ⟨3, _⟩ => ⟨S2x4, .f32⟩
  | .hbm, ⟨4, _⟩ => ⟨S2x4, .f32⟩
  | .hbm, ⟨5, _⟩ => ⟨S128, .f32⟩
  | .hbm, ⟨6, _⟩ => ⟨S8x256x128, .f32⟩
  | .hbm, ⟨7, _⟩ => ⟨S8x2048x128, .f32⟩
  | .hbm, ⟨8, _⟩ => ⟨S4x3x4x128, .f32⟩
  | .hbm, ⟨9, _⟩ => ⟨S4x3x4x128, .f32⟩
  | .hbm, ⟨10, _⟩ => ⟨S4x4, .f32⟩
  | .hbm, ⟨11, _⟩ => ⟨S4x4, .f32⟩
  | .hbm, ⟨12, _⟩ => ⟨S4x4x1, .f32⟩
  | .hbm, ⟨13, _⟩ => ⟨S4x4x128, .f32⟩
  | .hbm, ⟨14, _⟩ => ⟨S_, .f32⟩
  | .hbm, ⟨15, _⟩ => ⟨S4x4x128, .f32⟩
  | .hbm, ⟨16, _⟩ => ⟨S4x8x128, .f32⟩
  | .hbm, ⟨17, _⟩ => ⟨S8x256x16, .f32⟩
  | .hbm, ⟨18, _⟩ => ⟨S8x2048x16, .f32⟩
  | .hbm, ⟨19, _⟩ => ⟨S8x2304x16, .f32⟩
  | .hbm, ⟨20, _⟩ => ⟨S8x2304x4x4, .f32⟩
  | .hbm, ⟨21, _⟩ => ⟨S8x4x2304x4, .f32⟩
  | .hbm, ⟨22, _⟩ => ⟨S1x128, .f32⟩
  | .hbm, ⟨23, _⟩ => ⟨S8x2048x512, .f32⟩
  | .hbm, ⟨24, _⟩ => ⟨S8x256x512, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x1x2304x4, .f32⟩
  | .local _ .vmem, ⟨17, _⟩ => ⟨S1x1x2304x4, .f32⟩
  | .local _ .vmem, ⟨18, _⟩ => ⟨S1x3x4x128, .f32⟩
  | .local _ .vmem, ⟨19, _⟩ => ⟨S1x3x4x128, .f32⟩
  | .local _ .vmem, ⟨20, _⟩ => ⟨S1x8x128, .f32⟩
  | .local _ .vmem, ⟨21, _⟩ => ⟨S1x8x128, .f32⟩
  | .local _ .vmem, ⟨22, _⟩ => ⟨S1x128, .f32⟩
  | .local _ .vmem, ⟨23, _⟩ => ⟨S1x2048x128, .f32⟩
  | .local _ .vmem, ⟨24, _⟩ => ⟨S1x2048x128, .f32⟩
  | .local _ .vmem, ⟨25, _⟩ => ⟨S1x256x128, .f32⟩
  | .local _ .vmem, ⟨26, _⟩ => ⟨S1x256x128, .f32⟩
  | .local _ .vmem, ⟨27, _⟩ => ⟨S2304x128, .f32⟩
  | .local _ .vmem, ⟨28, _⟩ => ⟨S2304x128, .f32⟩
  | .local _ .vmem, ⟨29, _⟩ => ⟨S2304x128, .f32⟩
  | .local _ .vmem, ⟨30, _⟩ => ⟨S2304x128, .f32⟩
  | .local _ .vmem, ⟨31, _⟩ => ⟨S2304x128, .f32⟩
  | .local _ .vmem, ⟨32, _⟩ => ⟨S2304x128, .f32⟩
  | .local _ .vmem, ⟨33, _⟩ => ⟨S2304x128, .f32⟩
  | .local _ .vmem, ⟨34, _⟩ => ⟨S2x2304x128, .f32⟩
  | .local _ .vmem, ⟨35, _⟩ => ⟨S2432x128, .f32⟩
  | .local _ .vmem, ⟨36, _⟩ => ⟨S2x4608x128, .bf16⟩
  | .local _ .vmem, ⟨37, _⟩ => ⟨S2x4608x128, .f32⟩
  | .local _ .vmem, ⟨38, _⟩ => ⟨S2x2304x128, .bf16⟩
  | .local _ .vmem, ⟨39, _⟩ => ⟨S2x2304x128, .f32⟩
  | .local _ .vmem, ⟨40, _⟩ => ⟨S2x288x128, .f32⟩
  | _, _ => ⟨S8x256x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_scratch10 : Ref sig .tc := ⟨.vmem, 37, rfl⟩
abbrev cc0_scratch11 : Ref sig .tc := ⟨.vmem, 38, rfl⟩
abbrev cc0_scratch12 : Ref sig .tc := ⟨.vmem, 39, rfl⟩
abbrev cc0_scratch13 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_317 : BitVec 32 := 0#32
  let c3_i32_318 : BitVec 32 := 3#32
  let v572 : BitVec 32 := Scalar.addi c0_i32_317 c3_i32_318
  let c1_i32_319 : BitVec 32 := 1#32
  ⟨c0_i32_317, v572, c1_i32_319⟩
def k0_mult1 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32 : BitVec 32 := 64#32
  let v709 : BitVec 32 := Scalar.muli v614 c64_i32
  v709
def k0_off1 (k0_t1 : Fin k0_t1_loop.trips) (c0_i32_348 : BitVec 32) : Fin 2 → Nat :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let v614 : BitVec 32 := Scalar.addi v613 c0_i32_348
  let c64_i32 : BitVec 32 := 64#32
  let v709 : BitVec 32 := Scalar.muli v614 c64_i32
  let v710 : BitVec 32 := v709
  let v711 : Index := Scalar.indexCast v710
  let c0_391 : Index := 0#32
  ![v711.toNat, 0]
def k0_mult2 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_392 : BitVec 32 := 64#32
  let v713 : BitVec 32 := Scalar.muli v616 c64_i32_392
  v713
def k0_mult3 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_394 : BitVec 32 := 64#32
  let v717 : BitVec 32 := Scalar.muli v618 c64_i32_394
  v717
def k0_mult4 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_396 : BitVec 32 := 64#32
  let v721 : BitVec 32 := Scalar.muli v620 c64_i32_396
  v721
def k0_mult5 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_398 : BitVec 32 := 64#32
  let v725 : BitVec 32 := Scalar.muli v622 c64_i32_398
  v725
def k0_mult6 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_400 : BitVec 32 := 64#32
  let v729 : BitVec 32 := Scalar.muli v624 c64_i32_400
  v729
def k0_mult7 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_402 : BitVec 32 := 64#32
  let v733 : BitVec 32 := Scalar.muli v626 c64_i32_402
  v733
def k0_mult8 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_404 : BitVec 32 := 64#32
  let v737 : BitVec 32 := Scalar.muli v628 c64_i32_404
  v737
def k0_mult9 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_406 : BitVec 32 := 64#32
  let v741 : BitVec 32 := Scalar.muli v630 c64_i32_406
  v741
def k0_mult10 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_408 : BitVec 32 := 64#32
  let v745 : BitVec 32 := Scalar.muli v632 c64_i32_408
  v745
def k0_mult11 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_410 : BitVec 32 := 64#32
  let v749 : BitVec 32 := Scalar.muli v634 c64_i32_410
  v749
def k0_mult12 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_412 : BitVec 32 := 64#32
  let v753 : BitVec 32 := Scalar.muli v636 c64_i32_412
  v753
def k0_mult13 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_414 : BitVec 32 := 64#32
  let v757 : BitVec 32 := Scalar.muli v638 c64_i32_414
  v757
def k0_mult14 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_416 : BitVec 32 := 64#32
  let v761 : BitVec 32 := Scalar.muli v640 c64_i32_416
  v761
def k0_mult15 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_418 : BitVec 32 := 64#32
  let v765 : BitVec 32 := Scalar.muli v642 c64_i32_418
  v765
def k0_mult16 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_420 : BitVec 32 := 64#32
  let v769 : BitVec 32 := Scalar.muli v644 c64_i32_420
  v769
def k0_mult17 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_422 : BitVec 32 := 64#32
  let v773 : BitVec 32 := Scalar.muli v646 c64_i32_422
  v773
def k0_mult18 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_424 : BitVec 32 := 64#32
  let v777 : BitVec 32 := Scalar.muli v648 c64_i32_424
  v777
def k0_mult19 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_426 : BitVec 32 := 64#32
  let v781 : BitVec 32 := Scalar.muli v650 c64_i32_426
  v781
def k0_mult20 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_428 : BitVec 32 := 64#32
  let v785 : BitVec 32 := Scalar.muli v652 c64_i32_428
  v785
def k0_mult21 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_430 : BitVec 32 := 64#32
  let v789 : BitVec 32 := Scalar.muli v654 c64_i32_430
  v789
def k0_mult22 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_432 : BitVec 32 := 64#32
  let v793 : BitVec 32 := Scalar.muli v656 c64_i32_432
  v793
def k0_mult23 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_434 : BitVec 32 := 64#32
  let v797 : BitVec 32 := Scalar.muli v658 c64_i32_434
  v797
def k0_mult24 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_436 : BitVec 32 := 64#32
  let v801 : BitVec 32 := Scalar.muli v660 c64_i32_436
  v801
def k0_mult25 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32_438 : BitVec 32 := 64#32
  let v805 : BitVec 32 := Scalar.muli v614 c64_i32_438
  v805
def k0_mult26 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_440 : BitVec 32 := 64#32
  let v809 : BitVec 32 := Scalar.muli v616 c64_i32_440
  v809
def k0_mult27 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_442 : BitVec 32 := 64#32
  let v813 : BitVec 32 := Scalar.muli v618 c64_i32_442
  v813
def k0_mult28 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_444 : BitVec 32 := 64#32
  let v817 : BitVec 32 := Scalar.muli v620 c64_i32_444
  v817
def k0_mult29 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_446 : BitVec 32 := 64#32
  let v821 : BitVec 32 := Scalar.muli v622 c64_i32_446
  v821
def k0_mult30 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_448 : BitVec 32 := 64#32
  let v825 : BitVec 32 := Scalar.muli v624 c64_i32_448
  v825
def k0_mult31 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_450 : BitVec 32 := 64#32
  let v829 : BitVec 32 := Scalar.muli v626 c64_i32_450
  v829
def k0_mult32 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_452 : BitVec 32 := 64#32
  let v833 : BitVec 32 := Scalar.muli v628 c64_i32_452
  v833
def k0_mult33 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_454 : BitVec 32 := 64#32
  let v837 : BitVec 32 := Scalar.muli v630 c64_i32_454
  v837
def k0_mult34 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_456 : BitVec 32 := 64#32
  let v841 : BitVec 32 := Scalar.muli v632 c64_i32_456
  v841
def k0_mult35 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_458 : BitVec 32 := 64#32
  let v845 : BitVec 32 := Scalar.muli v634 c64_i32_458
  v845
def k0_mult36 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_460 : BitVec 32 := 64#32
  let v849 : BitVec 32 := Scalar.muli v636 c64_i32_460
  v849
def k0_mult37 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_462 : BitVec 32 := 64#32
  let v853 : BitVec 32 := Scalar.muli v638 c64_i32_462
  v853
def k0_mult38 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_464 : BitVec 32 := 64#32
  let v857 : BitVec 32 := Scalar.muli v640 c64_i32_464
  v857
def k0_mult39 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_466 : BitVec 32 := 64#32
  let v861 : BitVec 32 := Scalar.muli v642 c64_i32_466
  v861
def k0_mult40 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_468 : BitVec 32 := 64#32
  let v865 : BitVec 32 := Scalar.muli v644 c64_i32_468
  v865
def k0_mult41 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_470 : BitVec 32 := 64#32
  let v869 : BitVec 32 := Scalar.muli v646 c64_i32_470
  v869
def k0_mult42 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_472 : BitVec 32 := 64#32
  let v873 : BitVec 32 := Scalar.muli v648 c64_i32_472
  v873
def k0_mult43 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_474 : BitVec 32 := 64#32
  let v877 : BitVec 32 := Scalar.muli v650 c64_i32_474
  v877
def k0_mult44 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_476 : BitVec 32 := 64#32
  let v881 : BitVec 32 := Scalar.muli v652 c64_i32_476
  v881
def k0_mult45 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_478 : BitVec 32 := 64#32
  let v885 : BitVec 32 := Scalar.muli v654 c64_i32_478
  v885
def k0_mult46 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_480 : BitVec 32 := 64#32
  let v889 : BitVec 32 := Scalar.muli v656 c64_i32_480
  v889
def k0_mult47 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_482 : BitVec 32 := 64#32
  let v893 : BitVec 32 := Scalar.muli v658 c64_i32_482
  v893
def k0_mult48 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_484 : BitVec 32 := 64#32
  let v897 : BitVec 32 := Scalar.muli v660 c64_i32_484
  v897
def k0_mult49 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32_486 : BitVec 32 := 64#32
  let v901 : BitVec 32 := Scalar.muli v614 c64_i32_486
  v901
def k0_mult50 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_488 : BitVec 32 := 64#32
  let v905 : BitVec 32 := Scalar.muli v616 c64_i32_488
  v905
def k0_mult51 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_490 : BitVec 32 := 64#32
  let v909 : BitVec 32 := Scalar.muli v618 c64_i32_490
  v909
def k0_mult52 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_492 : BitVec 32 := 64#32
  let v913 : BitVec 32 := Scalar.muli v620 c64_i32_492
  v913
def k0_mult53 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_494 : BitVec 32 := 64#32
  let v917 : BitVec 32 := Scalar.muli v622 c64_i32_494
  v917
def k0_mult54 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_496 : BitVec 32 := 64#32
  let v921 : BitVec 32 := Scalar.muli v624 c64_i32_496
  v921
def k0_mult55 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_498 : BitVec 32 := 64#32
  let v925 : BitVec 32 := Scalar.muli v626 c64_i32_498
  v925
def k0_mult56 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_500 : BitVec 32 := 64#32
  let v929 : BitVec 32 := Scalar.muli v628 c64_i32_500
  v929
def k0_mult57 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_502 : BitVec 32 := 64#32
  let v933 : BitVec 32 := Scalar.muli v630 c64_i32_502
  v933
def k0_mult58 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_504 : BitVec 32 := 64#32
  let v937 : BitVec 32 := Scalar.muli v632 c64_i32_504
  v937
def k0_mult59 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_506 : BitVec 32 := 64#32
  let v941 : BitVec 32 := Scalar.muli v634 c64_i32_506
  v941
def k0_mult60 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_508 : BitVec 32 := 64#32
  let v945 : BitVec 32 := Scalar.muli v636 c64_i32_508
  v945
def k0_mult61 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_510 : BitVec 32 := 64#32
  let v949 : BitVec 32 := Scalar.muli v638 c64_i32_510
  v949
def k0_mult62 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_512 : BitVec 32 := 64#32
  let v953 : BitVec 32 := Scalar.muli v640 c64_i32_512
  v953
def k0_mult63 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_514 : BitVec 32 := 64#32
  let v957 : BitVec 32 := Scalar.muli v642 c64_i32_514
  v957
def k0_mult64 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_516 : BitVec 32 := 64#32
  let v961 : BitVec 32 := Scalar.muli v644 c64_i32_516
  v961
def k0_mult65 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_518 : BitVec 32 := 64#32
  let v965 : BitVec 32 := Scalar.muli v646 c64_i32_518
  v965
def k0_mult66 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_520 : BitVec 32 := 64#32
  let v969 : BitVec 32 := Scalar.muli v648 c64_i32_520
  v969
def k0_mult67 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_522 : BitVec 32 := 64#32
  let v973 : BitVec 32 := Scalar.muli v650 c64_i32_522
  v973
def k0_mult68 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_524 : BitVec 32 := 64#32
  let v977 : BitVec 32 := Scalar.muli v652 c64_i32_524
  v977
def k0_mult69 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_526 : BitVec 32 := 64#32
  let v981 : BitVec 32 := Scalar.muli v654 c64_i32_526
  v981
def k0_mult70 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_528 : BitVec 32 := 64#32
  let v985 : BitVec 32 := Scalar.muli v656 c64_i32_528
  v985
def k0_mult71 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_530 : BitVec 32 := 64#32
  let v989 : BitVec 32 := Scalar.muli v658 c64_i32_530
  v989
def k0_mult72 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_532 : BitVec 32 := 64#32
  let v993 : BitVec 32 := Scalar.muli v660 c64_i32_532
  v993
def k0_mult73 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32_534 : BitVec 32 := 64#32
  let v997 : BitVec 32 := Scalar.muli v614 c64_i32_534
  v997
def k0_mult74 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_536 : BitVec 32 := 64#32
  let v1001 : BitVec 32 := Scalar.muli v616 c64_i32_536
  v1001
def k0_mult75 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_538 : BitVec 32 := 64#32
  let v1005 : BitVec 32 := Scalar.muli v618 c64_i32_538
  v1005
def k0_mult76 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_540 : BitVec 32 := 64#32
  let v1009 : BitVec 32 := Scalar.muli v620 c64_i32_540
  v1009
def k0_mult77 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_542 : BitVec 32 := 64#32
  let v1013 : BitVec 32 := Scalar.muli v622 c64_i32_542
  v1013
def k0_mult78 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_544 : BitVec 32 := 64#32
  let v1017 : BitVec 32 := Scalar.muli v624 c64_i32_544
  v1017
def k0_mult79 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_546 : BitVec 32 := 64#32
  let v1021 : BitVec 32 := Scalar.muli v626 c64_i32_546
  v1021
def k0_mult80 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_548 : BitVec 32 := 64#32
  let v1025 : BitVec 32 := Scalar.muli v628 c64_i32_548
  v1025
def k0_mult81 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_550 : BitVec 32 := 64#32
  let v1029 : BitVec 32 := Scalar.muli v630 c64_i32_550
  v1029
def k0_mult82 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_552 : BitVec 32 := 64#32
  let v1033 : BitVec 32 := Scalar.muli v632 c64_i32_552
  v1033
def k0_mult83 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_554 : BitVec 32 := 64#32
  let v1037 : BitVec 32 := Scalar.muli v634 c64_i32_554
  v1037
def k0_mult84 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_556 : BitVec 32 := 64#32
  let v1041 : BitVec 32 := Scalar.muli v636 c64_i32_556
  v1041
def k0_mult85 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_558 : BitVec 32 := 64#32
  let v1045 : BitVec 32 := Scalar.muli v638 c64_i32_558
  v1045
def k0_mult86 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_560 : BitVec 32 := 64#32
  let v1049 : BitVec 32 := Scalar.muli v640 c64_i32_560
  v1049
def k0_mult87 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_562 : BitVec 32 := 64#32
  let v1053 : BitVec 32 := Scalar.muli v642 c64_i32_562
  v1053
def k0_mult88 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_564 : BitVec 32 := 64#32
  let v1057 : BitVec 32 := Scalar.muli v644 c64_i32_564
  v1057
def k0_mult89 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_566 : BitVec 32 := 64#32
  let v1061 : BitVec 32 := Scalar.muli v646 c64_i32_566
  v1061
def k0_mult90 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_568 : BitVec 32 := 64#32
  let v1065 : BitVec 32 := Scalar.muli v648 c64_i32_568
  v1065
def k0_mult91 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_570 : BitVec 32 := 64#32
  let v1069 : BitVec 32 := Scalar.muli v650 c64_i32_570
  v1069
def k0_mult92 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_572 : BitVec 32 := 64#32
  let v1073 : BitVec 32 := Scalar.muli v652 c64_i32_572
  v1073
def k0_mult93 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_574 : BitVec 32 := 64#32
  let v1077 : BitVec 32 := Scalar.muli v654 c64_i32_574
  v1077
def k0_mult94 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_576 : BitVec 32 := 64#32
  let v1081 : BitVec 32 := Scalar.muli v656 c64_i32_576
  v1081
def k0_mult95 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_578 : BitVec 32 := 64#32
  let v1085 : BitVec 32 := Scalar.muli v658 c64_i32_578
  v1085
def k0_mult96 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_580 : BitVec 32 := 64#32
  let v1089 : BitVec 32 := Scalar.muli v660 c64_i32_580
  v1089
def k0_mult97 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32_582 : BitVec 32 := 64#32
  let v1093 : BitVec 32 := Scalar.muli v614 c64_i32_582
  v1093
def k0_mult98 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_584 : BitVec 32 := 64#32
  let v1097 : BitVec 32 := Scalar.muli v616 c64_i32_584
  v1097
def k0_mult99 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_586 : BitVec 32 := 64#32
  let v1101 : BitVec 32 := Scalar.muli v618 c64_i32_586
  v1101
def k0_mult100 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_588 : BitVec 32 := 64#32
  let v1105 : BitVec 32 := Scalar.muli v620 c64_i32_588
  v1105
def k0_mult101 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_590 : BitVec 32 := 64#32
  let v1109 : BitVec 32 := Scalar.muli v622 c64_i32_590
  v1109
def k0_mult102 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_592 : BitVec 32 := 64#32
  let v1113 : BitVec 32 := Scalar.muli v624 c64_i32_592
  v1113
def k0_mult103 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_594 : BitVec 32 := 64#32
  let v1117 : BitVec 32 := Scalar.muli v626 c64_i32_594
  v1117
def k0_mult104 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_596 : BitVec 32 := 64#32
  let v1121 : BitVec 32 := Scalar.muli v628 c64_i32_596
  v1121
def k0_mult105 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_598 : BitVec 32 := 64#32
  let v1125 : BitVec 32 := Scalar.muli v630 c64_i32_598
  v1125
def k0_mult106 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_600 : BitVec 32 := 64#32
  let v1129 : BitVec 32 := Scalar.muli v632 c64_i32_600
  v1129
def k0_mult107 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_602 : BitVec 32 := 64#32
  let v1133 : BitVec 32 := Scalar.muli v634 c64_i32_602
  v1133
def k0_mult108 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_604 : BitVec 32 := 64#32
  let v1137 : BitVec 32 := Scalar.muli v636 c64_i32_604
  v1137
def k0_mult109 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_606 : BitVec 32 := 64#32
  let v1141 : BitVec 32 := Scalar.muli v638 c64_i32_606
  v1141
def k0_mult110 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_608 : BitVec 32 := 64#32
  let v1145 : BitVec 32 := Scalar.muli v640 c64_i32_608
  v1145
def k0_mult111 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_610 : BitVec 32 := 64#32
  let v1149 : BitVec 32 := Scalar.muli v642 c64_i32_610
  v1149
def k0_mult112 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_612 : BitVec 32 := 64#32
  let v1153 : BitVec 32 := Scalar.muli v644 c64_i32_612
  v1153
def k0_mult113 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_614 : BitVec 32 := 64#32
  let v1157 : BitVec 32 := Scalar.muli v646 c64_i32_614
  v1157
def k0_mult114 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_616 : BitVec 32 := 64#32
  let v1161 : BitVec 32 := Scalar.muli v648 c64_i32_616
  v1161
def k0_mult115 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_618 : BitVec 32 := 64#32
  let v1165 : BitVec 32 := Scalar.muli v650 c64_i32_618
  v1165
def k0_mult116 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_620 : BitVec 32 := 64#32
  let v1169 : BitVec 32 := Scalar.muli v652 c64_i32_620
  v1169
def k0_mult117 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_622 : BitVec 32 := 64#32
  let v1173 : BitVec 32 := Scalar.muli v654 c64_i32_622
  v1173
def k0_mult118 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_624 : BitVec 32 := 64#32
  let v1177 : BitVec 32 := Scalar.muli v656 c64_i32_624
  v1177
def k0_mult119 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_626 : BitVec 32 := 64#32
  let v1181 : BitVec 32 := Scalar.muli v658 c64_i32_626
  v1181
def k0_mult120 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_628 : BitVec 32 := 64#32
  let v1185 : BitVec 32 := Scalar.muli v660 c64_i32_628
  v1185
def k0_mult121 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c128_i32 : BitVec 32 := 128#32
  let v3325 : BitVec 32 := Scalar.muli v614 c128_i32
  v3325
def k0_mult122 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32_1230 : BitVec 32 := 64#32
  let v3331 : BitVec 32 := Scalar.muli v614 c64_i32_1230
  v3331
def k0_off2 (k0_t1 : Fin k0_t1_loop.trips) (c0_i32_348 : BitVec 32) : Fin 3 → Nat :=
  let c0_1231 : Index := 0#32
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let v614 : BitVec 32 := Scalar.addi v613 c0_i32_348
  let c64_i32_1230 : BitVec 32 := 64#32
  let v3331 : BitVec 32 := Scalar.muli v614 c64_i32_1230
  let v3332 : BitVec 32 := v3331
  let v3333 : Index := Scalar.indexCast v3332
  let c0_1232 : Index := 0#32
  ![0, v3333.toNat, 0]
def k0_mult123 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c64_i32_1233 : BitVec 32 := 64#32
  let v3338 : BitVec 32 := Scalar.muli v614 c64_i32_1233
  v3338
def k0_off3 (k0_t1 : Fin k0_t1_loop.trips) (c0_i32_348 : BitVec 32) : Fin 3 → Nat :=
  let c0_1236 : Index := 0#32
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let v614 : BitVec 32 := Scalar.addi v613 c0_i32_348
  let c128_i32 : BitVec 32 := 128#32
  let v3325 : BitVec 32 := Scalar.muli v614 c128_i32
  let v3326 : BitVec 32 := v3325
  let v3346 : Index := Scalar.indexCast v3326
  let c0_1237 : Index := 0#32
  ![0, v3346.toNat, 0]
def k0_mult124 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let c0_i32_348 : BitVec 32 := 0#32
  let v614 : BitVec 32 := Scalar.addi v613 c0_i32_348
  let c8_i32_1240 : BitVec 32 := 8#32
  let v3358 : BitVec 32 := Scalar.muli v614 c8_i32_1240
  v3358
def k0_off4 (k0_t1 : Fin k0_t1_loop.trips) (c0_i32_348 : BitVec 32) : Fin 3 → Nat :=
  let c0_1241 : Index := 0#32
  let c0_i32_317 : BitVec 32 := 0#32
  let c1_i32_319 : BitVec 32 := 1#32
  let arg30 : BitVec 32 := Scf.iv c0_i32_317 c1_i32_319 k0_t1
  let c12_i32 : BitVec 32 := 12#32
  let v613 : BitVec 32 := Scalar.muli arg30 c12_i32
  let v614 : BitVec 32 := Scalar.addi v613 c0_i32_348
  let c8_i32_1240 : BitVec 32 := 8#32
  let v3358 : BitVec 32 := Scalar.muli v614 c8_i32_1240
  let v3359 : BitVec 32 := v3358
  let v3360 : Index := Scalar.indexCast v3359
  let c0_1242 : Index := 0#32
  ![0, v3360.toNat, 0]
def k0_mult125 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c128_i32_1243 : BitVec 32 := 128#32
  let v3364 : BitVec 32 := Scalar.muli v616 c128_i32_1243
  v3364
def k0_mult126 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_1244 : BitVec 32 := 64#32
  let v3370 : BitVec 32 := Scalar.muli v616 c64_i32_1244
  v3370
def k0_off5 (k0_t1 : Fin k0_t1_loop.trips) (c0_i32_350 : BitVec 32) : Fin 3 → Nat :=
  let c1_1245 : Index := 1#32
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let v616 : BitVec 32 := Scalar.addi v615 c0_i32_350
  let c64_i32_1244 : BitVec 32 := 64#32
  let v3370 : BitVec 32 := Scalar.muli v616 c64_i32_1244
  let v3371 : BitVec 32 := v3370
  let v3372 : Index := Scalar.indexCast v3371
  let c0_1246 : Index := 0#32
  ![1, v3372.toNat, 0]
def k0_mult127 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c64_i32_1247 : BitVec 32 := 64#32
  let v3377 : BitVec 32 := Scalar.muli v616 c64_i32_1247
  v3377
def k0_off6 (k0_t1 : Fin k0_t1_loop.trips) (c0_i32_350 : BitVec 32) : Fin 3 → Nat :=
  let c1_1250 : Index := 1#32
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let v616 : BitVec 32 := Scalar.addi v615 c0_i32_350
  let c128_i32_1243 : BitVec 32 := 128#32
  let v3364 : BitVec 32 := Scalar.muli v616 c128_i32_1243
  let v3365 : BitVec 32 := v3364
  let v3385 : Index := Scalar.indexCast v3365
  let c0_1251 : Index := 0#32
  ![1, v3385.toNat, 0]
def k0_mult128 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let c0_i32_350 : BitVec 32 := 0#32
  let v616 : BitVec 32 := Scalar.addi v615 c0_i32_350
  let c8_i32_1254 : BitVec 32 := 8#32
  let v3397 : BitVec 32 := Scalar.muli v616 c8_i32_1254
  v3397
def k0_off7 (k0_t1 : Fin k0_t1_loop.trips) (c0_i32_350 : BitVec 32) : Fin 3 → Nat :=
  let c1_1255 : Index := 1#32
  let c0_i32_317 : BitVec 32 := 0#32
  let c1_i32_319 : BitVec 32 := 1#32
  let arg30 : BitVec 32 := Scf.iv c0_i32_317 c1_i32_319 k0_t1
  let c12_i32_349 : BitVec 32 := 12#32
  let v615 : BitVec 32 := Scalar.muli arg30 c12_i32_349
  let v616 : BitVec 32 := Scalar.addi v615 c0_i32_350
  let c8_i32_1254 : BitVec 32 := 8#32
  let v3397 : BitVec 32 := Scalar.muli v616 c8_i32_1254
  let v3398 : BitVec 32 := v3397
  let v3399 : Index := Scalar.indexCast v3398
  let c0_1256 : Index := 0#32
  ![1, v3399.toNat, 0]
def k0_mult129 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c128_i32_1257 : BitVec 32 := 128#32
  let v3403 : BitVec 32 := Scalar.muli v618 c128_i32_1257
  v3403
def k0_mult130 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_1258 : BitVec 32 := 64#32
  let v3409 : BitVec 32 := Scalar.muli v618 c64_i32_1258
  v3409
def k0_mult131 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c64_i32_1261 : BitVec 32 := 64#32
  let v3416 : BitVec 32 := Scalar.muli v618 c64_i32_1261
  v3416
def k0_mult132 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_351 : BitVec 32 := 12#32
  let v617 : BitVec 32 := Scalar.muli arg30 c12_i32_351
  let c1_i32_352 : BitVec 32 := 1#32
  let v618 : BitVec 32 := Scalar.addi v617 c1_i32_352
  let c8_i32_1268 : BitVec 32 := 8#32
  let v3436 : BitVec 32 := Scalar.muli v618 c8_i32_1268
  v3436
def k0_mult133 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c128_i32_1271 : BitVec 32 := 128#32
  let v3442 : BitVec 32 := Scalar.muli v620 c128_i32_1271
  v3442
def k0_mult134 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_1272 : BitVec 32 := 64#32
  let v3448 : BitVec 32 := Scalar.muli v620 c64_i32_1272
  v3448
def k0_mult135 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c64_i32_1275 : BitVec 32 := 64#32
  let v3455 : BitVec 32 := Scalar.muli v620 c64_i32_1275
  v3455
def k0_mult136 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_353 : BitVec 32 := 12#32
  let v619 : BitVec 32 := Scalar.muli arg30 c12_i32_353
  let c1_i32_354 : BitVec 32 := 1#32
  let v620 : BitVec 32 := Scalar.addi v619 c1_i32_354
  let c8_i32_1282 : BitVec 32 := 8#32
  let v3475 : BitVec 32 := Scalar.muli v620 c8_i32_1282
  v3475
def k0_mult137 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c128_i32_1285 : BitVec 32 := 128#32
  let v3481 : BitVec 32 := Scalar.muli v622 c128_i32_1285
  v3481
def k0_mult138 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_1286 : BitVec 32 := 64#32
  let v3487 : BitVec 32 := Scalar.muli v622 c64_i32_1286
  v3487
def k0_mult139 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c64_i32_1289 : BitVec 32 := 64#32
  let v3494 : BitVec 32 := Scalar.muli v622 c64_i32_1289
  v3494
def k0_mult140 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_355 : BitVec 32 := 12#32
  let v621 : BitVec 32 := Scalar.muli arg30 c12_i32_355
  let c2_i32_356 : BitVec 32 := 2#32
  let v622 : BitVec 32 := Scalar.addi v621 c2_i32_356
  let c8_i32_1296 : BitVec 32 := 8#32
  let v3514 : BitVec 32 := Scalar.muli v622 c8_i32_1296
  v3514
def k0_mult141 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c128_i32_1299 : BitVec 32 := 128#32
  let v3520 : BitVec 32 := Scalar.muli v624 c128_i32_1299
  v3520
def k0_mult142 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_1300 : BitVec 32 := 64#32
  let v3526 : BitVec 32 := Scalar.muli v624 c64_i32_1300
  v3526
def k0_mult143 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c64_i32_1303 : BitVec 32 := 64#32
  let v3533 : BitVec 32 := Scalar.muli v624 c64_i32_1303
  v3533
def k0_mult144 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_357 : BitVec 32 := 12#32
  let v623 : BitVec 32 := Scalar.muli arg30 c12_i32_357
  let c2_i32_358 : BitVec 32 := 2#32
  let v624 : BitVec 32 := Scalar.addi v623 c2_i32_358
  let c8_i32_1310 : BitVec 32 := 8#32
  let v3553 : BitVec 32 := Scalar.muli v624 c8_i32_1310
  v3553
def k0_mult145 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c128_i32_1313 : BitVec 32 := 128#32
  let v3559 : BitVec 32 := Scalar.muli v626 c128_i32_1313
  v3559
def k0_mult146 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_1314 : BitVec 32 := 64#32
  let v3565 : BitVec 32 := Scalar.muli v626 c64_i32_1314
  v3565
def k0_mult147 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c64_i32_1317 : BitVec 32 := 64#32
  let v3572 : BitVec 32 := Scalar.muli v626 c64_i32_1317
  v3572
def k0_mult148 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_359 : BitVec 32 := 12#32
  let v625 : BitVec 32 := Scalar.muli arg30 c12_i32_359
  let c3_i32_360 : BitVec 32 := 3#32
  let v626 : BitVec 32 := Scalar.addi v625 c3_i32_360
  let c8_i32_1324 : BitVec 32 := 8#32
  let v3592 : BitVec 32 := Scalar.muli v626 c8_i32_1324
  v3592
def k0_mult149 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c128_i32_1327 : BitVec 32 := 128#32
  let v3598 : BitVec 32 := Scalar.muli v628 c128_i32_1327
  v3598
def k0_mult150 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_1328 : BitVec 32 := 64#32
  let v3604 : BitVec 32 := Scalar.muli v628 c64_i32_1328
  v3604
def k0_mult151 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c64_i32_1331 : BitVec 32 := 64#32
  let v3611 : BitVec 32 := Scalar.muli v628 c64_i32_1331
  v3611
def k0_mult152 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_361 : BitVec 32 := 12#32
  let v627 : BitVec 32 := Scalar.muli arg30 c12_i32_361
  let c3_i32_362 : BitVec 32 := 3#32
  let v628 : BitVec 32 := Scalar.addi v627 c3_i32_362
  let c8_i32_1338 : BitVec 32 := 8#32
  let v3631 : BitVec 32 := Scalar.muli v628 c8_i32_1338
  v3631
def k0_mult153 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c128_i32_1341 : BitVec 32 := 128#32
  let v3637 : BitVec 32 := Scalar.muli v630 c128_i32_1341
  v3637
def k0_mult154 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_1342 : BitVec 32 := 64#32
  let v3643 : BitVec 32 := Scalar.muli v630 c64_i32_1342
  v3643
def k0_mult155 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c64_i32_1345 : BitVec 32 := 64#32
  let v3650 : BitVec 32 := Scalar.muli v630 c64_i32_1345
  v3650
def k0_mult156 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_363 : BitVec 32 := 12#32
  let v629 : BitVec 32 := Scalar.muli arg30 c12_i32_363
  let c4_i32_364 : BitVec 32 := 4#32
  let v630 : BitVec 32 := Scalar.addi v629 c4_i32_364
  let c8_i32_1352 : BitVec 32 := 8#32
  let v3670 : BitVec 32 := Scalar.muli v630 c8_i32_1352
  v3670
def k0_mult157 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c128_i32_1355 : BitVec 32 := 128#32
  let v3676 : BitVec 32 := Scalar.muli v632 c128_i32_1355
  v3676
def k0_mult158 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_1356 : BitVec 32 := 64#32
  let v3682 : BitVec 32 := Scalar.muli v632 c64_i32_1356
  v3682
def k0_mult159 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c64_i32_1359 : BitVec 32 := 64#32
  let v3689 : BitVec 32 := Scalar.muli v632 c64_i32_1359
  v3689
def k0_mult160 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_365 : BitVec 32 := 12#32
  let v631 : BitVec 32 := Scalar.muli arg30 c12_i32_365
  let c4_i32_366 : BitVec 32 := 4#32
  let v632 : BitVec 32 := Scalar.addi v631 c4_i32_366
  let c8_i32_1366 : BitVec 32 := 8#32
  let v3709 : BitVec 32 := Scalar.muli v632 c8_i32_1366
  v3709
def k0_mult161 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c128_i32_1369 : BitVec 32 := 128#32
  let v3715 : BitVec 32 := Scalar.muli v634 c128_i32_1369
  v3715
def k0_mult162 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_1370 : BitVec 32 := 64#32
  let v3721 : BitVec 32 := Scalar.muli v634 c64_i32_1370
  v3721
def k0_mult163 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c64_i32_1373 : BitVec 32 := 64#32
  let v3728 : BitVec 32 := Scalar.muli v634 c64_i32_1373
  v3728
def k0_mult164 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_367 : BitVec 32 := 12#32
  let v633 : BitVec 32 := Scalar.muli arg30 c12_i32_367
  let c5_i32_368 : BitVec 32 := 5#32
  let v634 : BitVec 32 := Scalar.addi v633 c5_i32_368
  let c8_i32_1380 : BitVec 32 := 8#32
  let v3748 : BitVec 32 := Scalar.muli v634 c8_i32_1380
  v3748
def k0_mult165 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c128_i32_1383 : BitVec 32 := 128#32
  let v3754 : BitVec 32 := Scalar.muli v636 c128_i32_1383
  v3754
def k0_mult166 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_1384 : BitVec 32 := 64#32
  let v3760 : BitVec 32 := Scalar.muli v636 c64_i32_1384
  v3760
def k0_mult167 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c64_i32_1387 : BitVec 32 := 64#32
  let v3767 : BitVec 32 := Scalar.muli v636 c64_i32_1387
  v3767
def k0_mult168 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_369 : BitVec 32 := 12#32
  let v635 : BitVec 32 := Scalar.muli arg30 c12_i32_369
  let c5_i32_370 : BitVec 32 := 5#32
  let v636 : BitVec 32 := Scalar.addi v635 c5_i32_370
  let c8_i32_1394 : BitVec 32 := 8#32
  let v3787 : BitVec 32 := Scalar.muli v636 c8_i32_1394
  v3787
def k0_mult169 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c128_i32_1397 : BitVec 32 := 128#32
  let v3793 : BitVec 32 := Scalar.muli v638 c128_i32_1397
  v3793
def k0_mult170 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_1398 : BitVec 32 := 64#32
  let v3799 : BitVec 32 := Scalar.muli v638 c64_i32_1398
  v3799
def k0_mult171 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c64_i32_1401 : BitVec 32 := 64#32
  let v3806 : BitVec 32 := Scalar.muli v638 c64_i32_1401
  v3806
def k0_mult172 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_371 : BitVec 32 := 12#32
  let v637 : BitVec 32 := Scalar.muli arg30 c12_i32_371
  let c6_i32_372 : BitVec 32 := 6#32
  let v638 : BitVec 32 := Scalar.addi v637 c6_i32_372
  let c8_i32_1408 : BitVec 32 := 8#32
  let v3826 : BitVec 32 := Scalar.muli v638 c8_i32_1408
  v3826
def k0_mult173 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c128_i32_1411 : BitVec 32 := 128#32
  let v3832 : BitVec 32 := Scalar.muli v640 c128_i32_1411
  v3832
def k0_mult174 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_1412 : BitVec 32 := 64#32
  let v3838 : BitVec 32 := Scalar.muli v640 c64_i32_1412
  v3838
def k0_mult175 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c64_i32_1415 : BitVec 32 := 64#32
  let v3845 : BitVec 32 := Scalar.muli v640 c64_i32_1415
  v3845
def k0_mult176 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_373 : BitVec 32 := 12#32
  let v639 : BitVec 32 := Scalar.muli arg30 c12_i32_373
  let c6_i32_374 : BitVec 32 := 6#32
  let v640 : BitVec 32 := Scalar.addi v639 c6_i32_374
  let c8_i32_1422 : BitVec 32 := 8#32
  let v3865 : BitVec 32 := Scalar.muli v640 c8_i32_1422
  v3865
def k0_mult177 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c128_i32_1425 : BitVec 32 := 128#32
  let v3871 : BitVec 32 := Scalar.muli v642 c128_i32_1425
  v3871
def k0_mult178 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_1426 : BitVec 32 := 64#32
  let v3877 : BitVec 32 := Scalar.muli v642 c64_i32_1426
  v3877
def k0_mult179 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c64_i32_1429 : BitVec 32 := 64#32
  let v3884 : BitVec 32 := Scalar.muli v642 c64_i32_1429
  v3884
def k0_mult180 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_375 : BitVec 32 := 12#32
  let v641 : BitVec 32 := Scalar.muli arg30 c12_i32_375
  let c7_i32 : BitVec 32 := 7#32
  let v642 : BitVec 32 := Scalar.addi v641 c7_i32
  let c8_i32_1436 : BitVec 32 := 8#32
  let v3904 : BitVec 32 := Scalar.muli v642 c8_i32_1436
  v3904
def k0_mult181 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c128_i32_1439 : BitVec 32 := 128#32
  let v3910 : BitVec 32 := Scalar.muli v644 c128_i32_1439
  v3910
def k0_mult182 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_1440 : BitVec 32 := 64#32
  let v3916 : BitVec 32 := Scalar.muli v644 c64_i32_1440
  v3916
def k0_mult183 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c64_i32_1443 : BitVec 32 := 64#32
  let v3923 : BitVec 32 := Scalar.muli v644 c64_i32_1443
  v3923
def k0_mult184 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_376 : BitVec 32 := 12#32
  let v643 : BitVec 32 := Scalar.muli arg30 c12_i32_376
  let c7_i32_377 : BitVec 32 := 7#32
  let v644 : BitVec 32 := Scalar.addi v643 c7_i32_377
  let c8_i32_1450 : BitVec 32 := 8#32
  let v3943 : BitVec 32 := Scalar.muli v644 c8_i32_1450
  v3943
def k0_mult185 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c128_i32_1453 : BitVec 32 := 128#32
  let v3949 : BitVec 32 := Scalar.muli v646 c128_i32_1453
  v3949
def k0_mult186 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_1454 : BitVec 32 := 64#32
  let v3955 : BitVec 32 := Scalar.muli v646 c64_i32_1454
  v3955
def k0_mult187 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c64_i32_1457 : BitVec 32 := 64#32
  let v3962 : BitVec 32 := Scalar.muli v646 c64_i32_1457
  v3962
def k0_mult188 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_378 : BitVec 32 := 12#32
  let v645 : BitVec 32 := Scalar.muli arg30 c12_i32_378
  let c8_i32_379 : BitVec 32 := 8#32
  let v646 : BitVec 32 := Scalar.addi v645 c8_i32_379
  let c8_i32_1464 : BitVec 32 := 8#32
  let v3982 : BitVec 32 := Scalar.muli v646 c8_i32_1464
  v3982
def k0_mult189 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c128_i32_1467 : BitVec 32 := 128#32
  let v3988 : BitVec 32 := Scalar.muli v648 c128_i32_1467
  v3988
def k0_mult190 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_1468 : BitVec 32 := 64#32
  let v3994 : BitVec 32 := Scalar.muli v648 c64_i32_1468
  v3994
def k0_mult191 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c64_i32_1471 : BitVec 32 := 64#32
  let v4001 : BitVec 32 := Scalar.muli v648 c64_i32_1471
  v4001
def k0_mult192 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_380 : BitVec 32 := 12#32
  let v647 : BitVec 32 := Scalar.muli arg30 c12_i32_380
  let c8_i32_381 : BitVec 32 := 8#32
  let v648 : BitVec 32 := Scalar.addi v647 c8_i32_381
  let c8_i32_1478 : BitVec 32 := 8#32
  let v4021 : BitVec 32 := Scalar.muli v648 c8_i32_1478
  v4021
def k0_mult193 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c128_i32_1481 : BitVec 32 := 128#32
  let v4027 : BitVec 32 := Scalar.muli v650 c128_i32_1481
  v4027
def k0_mult194 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_1482 : BitVec 32 := 64#32
  let v4033 : BitVec 32 := Scalar.muli v650 c64_i32_1482
  v4033
def k0_mult195 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c64_i32_1485 : BitVec 32 := 64#32
  let v4040 : BitVec 32 := Scalar.muli v650 c64_i32_1485
  v4040
def k0_mult196 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_382 : BitVec 32 := 12#32
  let v649 : BitVec 32 := Scalar.muli arg30 c12_i32_382
  let c9_i32 : BitVec 32 := 9#32
  let v650 : BitVec 32 := Scalar.addi v649 c9_i32
  let c8_i32_1492 : BitVec 32 := 8#32
  let v4060 : BitVec 32 := Scalar.muli v650 c8_i32_1492
  v4060
def k0_mult197 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c128_i32_1495 : BitVec 32 := 128#32
  let v4066 : BitVec 32 := Scalar.muli v652 c128_i32_1495
  v4066
def k0_mult198 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_1496 : BitVec 32 := 64#32
  let v4072 : BitVec 32 := Scalar.muli v652 c64_i32_1496
  v4072
def k0_mult199 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c64_i32_1499 : BitVec 32 := 64#32
  let v4079 : BitVec 32 := Scalar.muli v652 c64_i32_1499
  v4079
def k0_mult200 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_383 : BitVec 32 := 12#32
  let v651 : BitVec 32 := Scalar.muli arg30 c12_i32_383
  let c9_i32_384 : BitVec 32 := 9#32
  let v652 : BitVec 32 := Scalar.addi v651 c9_i32_384
  let c8_i32_1506 : BitVec 32 := 8#32
  let v4099 : BitVec 32 := Scalar.muli v652 c8_i32_1506
  v4099
def k0_mult201 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c128_i32_1509 : BitVec 32 := 128#32
  let v4105 : BitVec 32 := Scalar.muli v654 c128_i32_1509
  v4105
def k0_mult202 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_1510 : BitVec 32 := 64#32
  let v4111 : BitVec 32 := Scalar.muli v654 c64_i32_1510
  v4111
def k0_mult203 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c64_i32_1513 : BitVec 32 := 64#32
  let v4118 : BitVec 32 := Scalar.muli v654 c64_i32_1513
  v4118
def k0_mult204 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_385 : BitVec 32 := 12#32
  let v653 : BitVec 32 := Scalar.muli arg30 c12_i32_385
  let c10_i32 : BitVec 32 := 10#32
  let v654 : BitVec 32 := Scalar.addi v653 c10_i32
  let c8_i32_1520 : BitVec 32 := 8#32
  let v4138 : BitVec 32 := Scalar.muli v654 c8_i32_1520
  v4138
def k0_mult205 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c128_i32_1523 : BitVec 32 := 128#32
  let v4144 : BitVec 32 := Scalar.muli v656 c128_i32_1523
  v4144
def k0_mult206 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_1524 : BitVec 32 := 64#32
  let v4150 : BitVec 32 := Scalar.muli v656 c64_i32_1524
  v4150
def k0_mult207 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c64_i32_1527 : BitVec 32 := 64#32
  let v4157 : BitVec 32 := Scalar.muli v656 c64_i32_1527
  v4157
def k0_mult208 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_386 : BitVec 32 := 12#32
  let v655 : BitVec 32 := Scalar.muli arg30 c12_i32_386
  let c10_i32_387 : BitVec 32 := 10#32
  let v656 : BitVec 32 := Scalar.addi v655 c10_i32_387
  let c8_i32_1534 : BitVec 32 := 8#32
  let v4177 : BitVec 32 := Scalar.muli v656 c8_i32_1534
  v4177
def k0_mult209 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c128_i32_1537 : BitVec 32 := 128#32
  let v4183 : BitVec 32 := Scalar.muli v658 c128_i32_1537
  v4183
def k0_mult210 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_1538 : BitVec 32 := 64#32
  let v4189 : BitVec 32 := Scalar.muli v658 c64_i32_1538
  v4189
def k0_mult211 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c64_i32_1541 : BitVec 32 := 64#32
  let v4196 : BitVec 32 := Scalar.muli v658 c64_i32_1541
  v4196
def k0_mult212 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_388 : BitVec 32 := 12#32
  let v657 : BitVec 32 := Scalar.muli arg30 c12_i32_388
  let c11_i32 : BitVec 32 := 11#32
  let v658 : BitVec 32 := Scalar.addi v657 c11_i32
  let c8_i32_1548 : BitVec 32 := 8#32
  let v4216 : BitVec 32 := Scalar.muli v658 c8_i32_1548
  v4216
def k0_mult213 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c128_i32_1551 : BitVec 32 := 128#32
  let v4222 : BitVec 32 := Scalar.muli v660 c128_i32_1551
  v4222
def k0_mult214 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_1552 : BitVec 32 := 64#32
  let v4228 : BitVec 32 := Scalar.muli v660 c64_i32_1552
  v4228
def k0_mult215 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c64_i32_1555 : BitVec 32 := 64#32
  let v4235 : BitVec 32 := Scalar.muli v660 c64_i32_1555
  v4235
def k0_mult216 (k0_t1 : Fin k0_t1_loop.trips) : BitVec 32 :=
  let c0_i32_317 : BitVec 32 := 0#32
  let c1_i32_319 : BitVec 32 := 1#32
  let arg30 : BitVec 32 := Scf.iv c0_i32_317 c1_i32_319 k0_t1
  let c12_i32_389 : BitVec 32 := 12#32
  let v659 : BitVec 32 := Scalar.muli arg30 c12_i32_389
  let c11_i32_390 : BitVec 32 := 11#32
  let v660 : BitVec 32 := Scalar.addi v659 c11_i32_390
  let c8_i32_1562 : BitVec 32 := 8#32
  let v4255 : BitVec 32 := Scalar.muli v660 c8_i32_1562
  v4255
@[reducible] def k0_t2_loop : Scf.Loop 32 :=
  let c0_i32_322 : BitVec 32 := 0#32
  let c36_i32 : BitVec 32 := 36#32
  let v574 : BitVec 32 := Scalar.addi c0_i32_322 c36_i32
  let c1_i32_323 : BitVec 32 := 1#32
  ⟨c0_i32_322, v574, c1_i32_323⟩
def k0_mult217 (k0_t2 : Fin k0_t2_loop.trips) : BitVec 32 :=
  let c0_i32_322 : BitVec 32 := 0#32
  let c1_i32_323 : BitVec 32 := 1#32
  let arg30 : BitVec 32 := Scf.iv c0_i32_322 c1_i32_323 k0_t2
  let c64_i32 : BitVec 32 := 64#32
  let v617 : BitVec 32 := Scalar.muli arg30 c64_i32
  v617
def k0_mult218 (k0_t2 : Fin k0_t2_loop.trips) : BitVec 32 :=
  let c0_i32_322 : BitVec 32 := 0#32
  let c1_i32_323 : BitVec 32 := 1#32
  let arg30 : BitVec 32 := Scf.iv c0_i32_322 c1_i32_323 k0_t2
  let c128_i32 : BitVec 32 := 128#32
  let v619 : BitVec 32 := Scalar.muli arg30 c128_i32
  v619
def k0_off8 (k0_t2 : Fin k0_t2_loop.trips) : Fin 3 → Nat :=
  let c0_350 : Index := 0#32
  let c0_i32_322 : BitVec 32 := 0#32
  let c1_i32_323 : BitVec 32 := 1#32
  let arg30 : BitVec 32 := Scf.iv c0_i32_322 c1_i32_323 k0_t2
  let c64_i32 : BitVec 32 := 64#32
  let v617 : BitVec 32 := Scalar.muli arg30 c64_i32
  let v618 : BitVec 32 := v617
  let v622 : Index := Scalar.indexCast v618
  let c0_351 : Index := 0#32
  ![0, v622.toNat, 0]
def k0_mult219 (k0_t2 : Fin k0_t2_loop.trips) : BitVec 32 :=
  let c0_i32_322 : BitVec 32 := 0#32
  let c1_i32_323 : BitVec 32 := 1#32
  let arg30 : BitVec 32 := Scf.iv c0_i32_322 c1_i32_323 k0_t2
  let c8_i32_357 : BitVec 32 := 8#32
  let v634 : BitVec 32 := Scalar.muli arg30 c8_i32_357
  v634
def k0_off9 (k0_t2 : Fin k0_t2_loop.trips) : Fin 3 → Nat :=
  let c0_358 : Index := 0#32
  let c0_i32_322 : BitVec 32 := 0#32
  let c1_i32_323 : BitVec 32 := 1#32
  let arg30 : BitVec 32 := Scf.iv c0_i32_322 c1_i32_323 k0_t2
  let c8_i32_357 : BitVec 32 := 8#32
  let v634 : BitVec 32 := Scalar.muli arg30 c8_i32_357
  let v635 : BitVec 32 := v634
  let v636 : Index := Scalar.indexCast v635
  let c0_359 : Index := 0#32
  ![0, v636.toNat, 0]
def k0_off10 (k0_t2 : Fin k0_t2_loop.trips) : Fin 3 → Nat :=
  let c0_360 : Index := 0#32
  let c0_i32_322 : BitVec 32 := 0#32
  let c1_i32_323 : BitVec 32 := 1#32
  let arg30 : BitVec 32 := Scf.iv c0_i32_322 c1_i32_323 k0_t2
  let c128_i32 : BitVec 32 := 128#32
  let v619 : BitVec 32 := Scalar.muli arg30 c128_i32
  let v620 : BitVec 32 := v619
  let v641 : Index := Scalar.indexCast v620
  let c0_361 : Index := 0#32
  ![0, v641.toNat, 0]
def k0_mult220 (k0_t2 : Fin k0_t2_loop.trips) : BitVec 32 :=
  let c0_i32_322 : BitVec 32 := 0#32
  let c1_i32_323 : BitVec 32 := 1#32
  let arg30 : BitVec 32 := Scf.iv c0_i32_322 c1_i32_323 k0_t2
  let c4_i32_348 : BitVec 32 := 4#32
  let v613 : BitVec 1 := Scalar.cmpi .slt arg30 c4_i32_348
  let c3_i32_349 : BitVec 32 := 3#32
  let v614 : BitVec 32 := Scalar.subi c3_i32_349 arg30
  let c39_i32 : BitVec 32 := 39#32
  let v615 : BitVec 32 := Scalar.subi c39_i32 arg30
  let v616 : BitVec 32 := Scalar.select v613 v614 v615
  let c64_i32_365 : BitVec 32 := 64#32
  let v650 : BitVec 32 := Scalar.muli v616 c64_i32_365
  v650
def k0_mult221 (k0_t2 : Fin k0_t2_loop.trips) : BitVec 32 :=
  let c0_i32_322 : BitVec 32 := 0#32
  let c1_i32_323 : BitVec 32 := 1#32
  let arg30 : BitVec 32 := Scf.iv c0_i32_322 c1_i32_323 k0_t2
  let c4_i32_348 : BitVec 32 := 4#32
  let v613 : BitVec 1 := Scalar.cmpi .slt arg30 c4_i32_348
  let c3_i32_349 : BitVec 32 := 3#32
  let v614 : BitVec 32 := Scalar.subi c3_i32_349 arg30
  let c39_i32 : BitVec 32 := 39#32
  let v615 : BitVec 32 := Scalar.subi c39_i32 arg30
  let v616 : BitVec 32 := Scalar.select v613 v614 v615
  let c128_i32_366 : BitVec 32 := 128#32
  let v652 : BitVec 32 := Scalar.muli v616 c128_i32_366
  v652
def k0_off11 (k0_t2 : Fin k0_t2_loop.trips) : Fin 3 → Nat :=
  let c1_367 : Index := 1#32
  let c0_i32_322 : BitVec 32 := 0#32
  let c1_i32_323 : BitVec 32 := 1#32
  let arg30 : BitVec 32 := Scf.iv c0_i32_322 c1_i32_323 k0_t2
  let c4_i32_348 : BitVec 32 := 4#32
  let v613 : BitVec 1 := Scalar.cmpi .slt arg30 c4_i32_348
  let c3_i32_349 : BitVec 32 := 3#32
  let v614 : BitVec 32 := Scalar.subi c3_i32_349 arg30
  let c39_i32 : BitVec 32 := 39#32
  let v615 : BitVec 32 := Scalar.subi c39_i32 arg30
  let v616 : BitVec 32 := Scalar.select v613 v614 v615
  let c64_i32_365 : BitVec 32 := 64#32
  let v650 : BitVec 32 := Scalar.muli v616 c64_i32_365
  let v651 : BitVec 32 := v650
  let v655 : Index := Scalar.indexCast v651
  let c0_368 : Index := 0#32
  ![1, v655.toNat, 0]
def k0_mult222 (k0_t2 : Fin k0_t2_loop.trips) : BitVec 32 :=
  let c0_i32_322 : BitVec 32 := 0#32
  let c1_i32_323 : BitVec 32 := 1#32
  let arg30 : BitVec 32 := Scf.iv c0_i32_322 c1_i32_323 k0_t2
  let c4_i32_348 : BitVec 32 := 4#32
  let v613 : BitVec 1 := Scalar.cmpi .slt arg30 c4_i32_348
  let c3_i32_349 : BitVec 32 := 3#32
  let v614 : BitVec 32 := Scalar.subi c3_i32_349 arg30
  let c39_i32 : BitVec 32 := 39#32
  let v615 : BitVec 32 := Scalar.subi c39_i32 arg30
  let v616 : BitVec 32 := Scalar.select v613 v614 v615
  let c8_i32_374 : BitVec 32 := 8#32
  let v667 : BitVec 32 := Scalar.muli v616 c8_i32_374
  v667
def k0_off12 (k0_t2 : Fin k0_t2_loop.trips) : Fin 3 → Nat :=
  let c1_375 : Index := 1#32
  let c0_i32_322 : BitVec 32 := 0#32
  let c1_i32_323 : BitVec 32 := 1#32
  let arg30 : BitVec 32 := Scf.iv c0_i32_322 c1_i32_323 k0_t2
  let c4_i32_348 : BitVec 32 := 4#32
  let v613 : BitVec 1 := Scalar.cmpi .slt arg30 c4_i32_348
  let c3_i32_349 : BitVec 32 := 3#32
  let v614 : BitVec 32 := Scalar.subi c3_i32_349 arg30
  let c39_i32 : BitVec 32 := 39#32
  let v615 : BitVec 32 := Scalar.subi c39_i32 arg30
  let v616 : BitVec 32 := Scalar.select v613 v614 v615
  let c8_i32_374 : BitVec 32 := 8#32
  let v667 : BitVec 32 := Scalar.muli v616 c8_i32_374
  let v668 : BitVec 32 := v667
  let v669 : Index := Scalar.indexCast v668
  let c0_376 : Index := 0#32
  ![1, v669.toNat, 0]
def k0_off13 (k0_t2 : Fin k0_t2_loop.trips) : Fin 3 → Nat :=
  let c1_377 : Index := 1#32
  let c0_i32_322 : BitVec 32 := 0#32
  let c1_i32_323 : BitVec 32 := 1#32
  let arg30 : BitVec 32 := Scf.iv c0_i32_322 c1_i32_323 k0_t2
  let c4_i32_348 : BitVec 32 := 4#32
  let v613 : BitVec 1 := Scalar.cmpi .slt arg30 c4_i32_348
  let c3_i32_349 : BitVec 32 := 3#32
  let v614 : BitVec 32 := Scalar.subi c3_i32_349 arg30
  let c39_i32 : BitVec 32 := 39#32
  let v615 : BitVec 32 := Scalar.subi c39_i32 arg30
  let v616 : BitVec 32 := Scalar.select v613 v614 v615
  let c128_i32_366 : BitVec 32 := 128#32
  let v652 : BitVec 32 := Scalar.muli v616 c128_i32_366
  let v653 : BitVec 32 := v652
  let v674 : Index := Scalar.indexCast v653
  let c0_378 : Index := 0#32
  ![1, v674.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2304x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x256x2688 : Shape := ⟨3, ![8, 256, 2688]⟩
abbrev S8x2048x2688 : Shape := ⟨3, ![8, 2048, 2688]⟩
abbrev S4x1536 : Shape := ⟨2, ![4, 1536]⟩
abbrev S2x4 : Shape := ⟨2, ![2, 4]⟩
abbrev S128 : Shape := ⟨1, ![128]⟩
abbrev S8x2048x1536 : Shape := ⟨3, ![8, 2048, 1536]⟩
abbrev S8x2048x8 : Shape := ⟨3, ![8, 2048, 8]⟩
abbrev S_ : Shape := ⟨0, ![]⟩
abbrev S8x2051x1536 : Shape := ⟨3, ![8, 2051, 1536]⟩
abbrev S1x1536 : Shape := ⟨2, ![1, 1536]⟩
abbrev S1536 : Shape := ⟨1, ![1536]⟩
abbrev S1x1x1536 : Shape := ⟨3, ![1, 1, 1536]⟩
abbrev S8x2048x3x4x128 : Shape := ⟨5, ![8, 2048, 3, 4, 128]⟩
abbrev S3x8x4x2048x128 : Shape := ⟨5, ![3, 8, 4, 2048, 128]⟩
abbrev S1x8x4x2048x128 : Shape := ⟨5, ![1, 8, 4, 2048, 128]⟩
abbrev S8x4x2048x128 : Shape := ⟨4, ![8, 4, 2048, 128]⟩
abbrev S8x4x2048 : Shape := ⟨3, ![8, 4, 2048]⟩
abbrev S8x4x2048x1 : Shape := ⟨4, ![8, 4, 2048, 1]⟩
abbrev S8x2048x2x4 : Shape := ⟨4, ![8, 2048, 2, 4]⟩
abbrev S2x8x4x2048 : Shape := ⟨4, ![2, 8, 4, 2048]⟩
abbrev S2x1x4x1 : Shape := ⟨4, ![2, 1, 4, 1]⟩
abbrev S8x256x1536 : Shape := ⟨3, ![8, 256, 1536]⟩
abbrev S8x256x8 : Shape := ⟨3, ![8, 256, 8]⟩
abbrev S8x259x1536 : Shape := ⟨3, ![8, 259, 1536]⟩
abbrev S8x256x3x4x128 : Shape := ⟨5, ![8, 256, 3, 4, 128]⟩
abbrev S3x8x4x256x128 : Shape := ⟨5, ![3, 8, 4, 256, 128]⟩
abbrev S1x8x4x256x128 : Shape := ⟨5, ![1, 8, 4, 256, 128]⟩
abbrev S8x4x256x128 : Shape := ⟨4, ![8, 4, 256, 128]⟩
abbrev S8x4x256 : Shape := ⟨3, ![8, 4, 256]⟩
abbrev S8x4x256x1 : Shape := ⟨4, ![8, 4, 256, 1]⟩
abbrev S8x256x2x4 : Shape := ⟨4, ![8, 256, 2, 4]⟩
abbrev S2x8x4x256 : Shape := ⟨4, ![2, 8, 4, 256]⟩
abbrev S2x8x4x128x128 : Shape := ⟨5, ![2, 8, 4, 128, 128]⟩
abbrev S2x8x4x256x128 : Shape := ⟨5, ![2, 8, 4, 256, 128]⟩
abbrev S2x8x4x2048x128 : Shape := ⟨5, ![2, 8, 4, 2048, 128]⟩
abbrev S2x8x4x2304x128 : Shape := ⟨5, ![2, 8, 4, 2304, 128]⟩
abbrev S1x8x4x256 : Shape := ⟨4, ![1, 8, 4, 256]⟩
abbrev S1x8x4x2048 : Shape := ⟨4, ![1, 8, 4, 2048]⟩
abbrev S2x8x4x2304 : Shape := ⟨4, ![2, 8, 4, 2304]⟩
abbrev S2304x2x8x4x128 : Shape := ⟨5, ![2304, 2, 8, 4, 128]⟩
abbrev S2304x2x8x4 : Shape := ⟨4, ![2304, 2, 8, 4]⟩
abbrev S1x2x8x4x128 : Shape := ⟨5, ![1, 2, 8, 4, 128]⟩
abbrev S2x8x4x128 : Shape := ⟨4, ![2, 8, 4, 128]⟩
abbrev S1x2x8x4 : Shape := ⟨4, ![1, 2, 8, 4]⟩
abbrev S2x8x4 : Shape := ⟨3, ![2, 8, 4]⟩
abbrev S2x8x4x1x1 : Shape := ⟨5, ![2, 8, 4, 1, 1]⟩
abbrev S2x8x4x1 : Shape := ⟨4, ![2, 8, 4, 1]⟩
abbrev S2x8x4x128x1 : Shape := ⟨5, ![2, 8, 4, 128, 1]⟩
abbrev S2x8x4x1x128 : Shape := ⟨5, ![2, 8, 4, 1, 128]⟩
abbrev S8x2048x512 : Shape := ⟨3, ![8, 2048, 512]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x256x512 : Shape := ⟨3, ![8, 256, 512]⟩
abbrev S8x256x4x128 : Shape := ⟨4, ![8, 256, 4, 128]⟩
abbrev S8x256x4 : Shape := ⟨3, ![8, 256, 4]⟩
abbrev S8x256x4x1 : Shape := ⟨4, ![8, 256, 4, 1]⟩

abbrev nBuf : Space → Nat
  | .hbm => 428
  | .vmem => 0
  | .smem => 0
  | _ => 0

abbrev hbmTy0_0 (i : Nat) : BufTy := match i % 128 with
  | 0 => ⟨S8x256x2688, .f32⟩
  | 1 => ⟨S8x2048x2688, .f32⟩
  | 2 => ⟨S4x1536, .f32⟩
  | 3 => ⟨S2x4, .f32⟩
  | 4 => ⟨S2x4, .f32⟩
  | 5 => ⟨S128, .f32⟩
  | 6 => ⟨S8x2048x1536, .f32⟩
  | 7 => ⟨S8x2048x8, .f32⟩
  | 8 => ⟨S8x2048x8, .f32⟩
  | 9 => ⟨S_, .i32⟩
  | 10 => ⟨S_, .f32⟩
  | 11 => ⟨S8x2051x1536, .f32⟩
  | 12 => ⟨S1x1536, .f32⟩
  | 13 => ⟨S1536, .f32⟩
  | 14 => ⟨S8x2048x1536, .f32⟩
  | 15 => ⟨S1x1x1536, .f32⟩
  | 16 => ⟨S8x2048x1536, .f32⟩
  | 17 => ⟨S8x2048x1536, .f32⟩
  | 18 => ⟨S1x1536, .f32⟩
  | 19 => ⟨S1536, .f32⟩
  | 20 => ⟨S8x2048x1536, .f32⟩
  | 21 => ⟨S1x1x1536, .f32⟩
  | 22 => ⟨S8x2048x1536, .f32⟩
  | 23 => ⟨S8x2048x1536, .f32⟩
  | 24 => ⟨S8x2048x1536, .f32⟩
  | 25 => ⟨S1x1536, .f32⟩
  | 26 => ⟨S1536, .f32⟩
  | 27 => ⟨S8x2048x1536, .f32⟩
  | 28 => ⟨S1x1x1536, .f32⟩
  | 29 => ⟨S8x2048x1536, .f32⟩
  | 30 => ⟨S8x2048x1536, .f32⟩
  | 31 => ⟨S8x2048x1536, .f32⟩
  | 32 => ⟨S1x1536, .f32⟩
  | 33 => ⟨S1536, .f32⟩
  | 34 => ⟨S8x2048x1536, .f32⟩
  | 35 => ⟨S1x1x1536, .f32⟩
  | 36 => ⟨S8x2048x1536, .f32⟩
  | 37 => ⟨S8x2048x1536, .f32⟩
  | 38 => ⟨S8x2048x1536, .f32⟩
  | 39 => ⟨S8x2048x1536, .f32⟩
  | 40 => ⟨S8x2048x1536, .f32⟩
  | 41 => ⟨S_, .f32⟩
  | 42 => ⟨S8x2048x1536, .f32⟩
  | 43 => ⟨S8x2048x1536, .f32⟩
  | 44 => ⟨S_, .f32⟩
  | 45 => ⟨S8x2048x1536, .f32⟩
  | 46 => ⟨S8x2048x1536, .f32⟩
  | 47 => ⟨S8x2048x1536, .f32⟩
  | 48 => ⟨S8x2048x3x4x128, .f32⟩
  | 49 => ⟨S3x8x4x2048x128, .f32⟩
  | 50 => ⟨S1x8x4x2048x128, .f32⟩
  | 51 => ⟨S8x4x2048x128, .f32⟩
  | 52 => ⟨S8x4x2048x128, .f32⟩
  | 53 => ⟨S_, .f32⟩
  | 54 => ⟨S8x4x2048, .f32⟩
  | 55 => ⟨S8x4x2048x1, .f32⟩
  | 56 => ⟨S_, .f32⟩
  | 57 => ⟨S8x4x2048x1, .f32⟩
  | 58 => ⟨S8x4x2048x1, .f32⟩
  | 59 => ⟨S8x4x2048x1, .f32⟩
  | 60 => ⟨S8x4x2048x128, .f32⟩
  | 61 => ⟨S8x4x2048x128, .f32⟩
  | 62 => ⟨S_, .f32⟩
  | 63 => ⟨S8x4x2048x128, .f32⟩
  | 64 => ⟨S8x4x2048x128, .f32⟩
  | 65 => ⟨S1x8x4x2048x128, .f32⟩
  | 66 => ⟨S8x4x2048x128, .f32⟩
  | 67 => ⟨S8x4x2048x128, .f32⟩
  | 68 => ⟨S_, .f32⟩
  | 69 => ⟨S8x4x2048, .f32⟩
  | 70 => ⟨S8x4x2048x1, .f32⟩
  | 71 => ⟨S_, .f32⟩
  | 72 => ⟨S8x4x2048x1, .f32⟩
  | 73 => ⟨S8x4x2048x1, .f32⟩
  | 74 => ⟨S8x4x2048x1, .f32⟩
  | 75 => ⟨S8x4x2048x128, .f32⟩
  | 76 => ⟨S8x4x2048x128, .f32⟩
  | 77 => ⟨S1x8x4x2048x128, .f32⟩
  | 78 => ⟨S8x4x2048x128, .f32⟩
  | 79 => ⟨S8x2048x8, .f32⟩
  | 80 => ⟨S8x2048x8, .f32⟩
  | 81 => ⟨S_, .f32⟩
  | 82 => ⟨S8x2048x8, .f32⟩
  | 83 => ⟨S8x2048x8, .f32⟩
  | 84 => ⟨S_, .f32⟩
  | 85 => ⟨S8x2048x8, .f32⟩
  | 86 => ⟨S8x2048x8, .f32⟩
  | 87 => ⟨S8x2048x2x4, .f32⟩
  | 88 => ⟨S2x8x4x2048, .f32⟩
  | 89 => ⟨S8x2048x2x4, .f32⟩
  | 90 => ⟨S2x8x4x2048, .f32⟩
  | 91 => ⟨S2x4, .f32⟩
  | 92 => ⟨S2x1x4x1, .f32⟩
  | 93 => ⟨S2x1x4x1, .f32⟩
  | 94 => ⟨S2x1x4x1, .f32⟩
  | 95 => ⟨S2x8x4x2048, .f32⟩
  | 96 => ⟨S2x8x4x2048, .f32⟩
  | 97 => ⟨S_, .f32⟩
  | 98 => ⟨S2x8x4x2048, .f32⟩
  | 99 => ⟨S2x8x4x2048, .f32⟩
  | 100 => ⟨S2x8x4x2048, .f32⟩
  | 101 => ⟨S2x8x4x2048, .f32⟩
  | 102 => ⟨S2x8x4x2048, .i1⟩
  | 103 => ⟨S2x8x4x2048, .f32⟩
  | 104 => ⟨S2x8x4x2048, .f32⟩
  | 105 => ⟨S2x8x4x2048, .f32⟩
  | 106 => ⟨S2x8x4x2048, .f32⟩
  | 107 => ⟨S2x8x4x2048, .f32⟩
  | 108 => ⟨S2x8x4x2048, .f32⟩
  | 109 => ⟨S2x8x4x2048, .f32⟩
  | 110 => ⟨S2x8x4x2048, .f32⟩
  | 111 => ⟨S2x8x4x2048, .f32⟩
  | 112 => ⟨S2x8x4x2048, .f32⟩
  | 113 => ⟨S8x256x1536, .f32⟩
  | 114 => ⟨S8x256x8, .f32⟩
  | 115 => ⟨S8x256x8, .f32⟩
  | 116 => ⟨S_, .i32⟩
  | 117 => ⟨S_, .f32⟩
  | 118 => ⟨S8x259x1536, .f32⟩
  | 119 => ⟨S1x1536, .f32⟩
  | 120 => ⟨S1536, .f32⟩
  | 121 => ⟨S8x256x1536, .f32⟩
  | 122 => ⟨S1x1x1536, .f32⟩
  | 123 => ⟨S8x256x1536, .f32⟩
  | 124 => ⟨S8x256x1536, .f32⟩
  | 125 => ⟨S1x1536, .f32⟩
  | 126 => ⟨S1536, .f32⟩
  | 127 => ⟨S8x256x1536, .f32⟩
  | _ => ⟨S8x256x2688, .f32⟩

abbrev hbmTy0_1 (i : Nat) : BufTy := match i % 128 with
  | 0 => ⟨S1x1x1536, .f32⟩
  | 1 => ⟨S8x256x1536, .f32⟩
  | 2 => ⟨S8x256x1536, .f32⟩
  | 3 => ⟨S8x256x1536, .f32⟩
  | 4 => ⟨S1x1536, .f32⟩
  | 5 => ⟨S1536, .f32⟩
  | 6 => ⟨S8x256x1536, .f32⟩
  | 7 => ⟨S1x1x1536, .f32⟩
  | 8 => ⟨S8x256x1536, .f32⟩
  | 9 => ⟨S8x256x1536, .f32⟩
  | 10 => ⟨S8x256x1536, .f32⟩
  | 11 => ⟨S1x1536, .f32⟩
  | 12 => ⟨S1536, .f32⟩
  | 13 => ⟨S8x256x1536, .f32⟩
  | 14 => ⟨S1x1x1536, .f32⟩
  | 15 => ⟨S8x256x1536, .f32⟩
  | 16 => ⟨S8x256x1536, .f32⟩
  | 17 => ⟨S8x256x1536, .f32⟩
  | 18 => ⟨S8x256x1536, .f32⟩
  | 19 => ⟨S8x256x1536, .f32⟩
  | 20 => ⟨S_, .f32⟩
  | 21 => ⟨S8x256x1536, .f32⟩
  | 22 => ⟨S8x256x1536, .f32⟩
  | 23 => ⟨S_, .f32⟩
  | 24 => ⟨S8x256x1536, .f32⟩
  | 25 => ⟨S8x256x1536, .f32⟩
  | 26 => ⟨S8x256x1536, .f32⟩
  | 27 => ⟨S8x256x3x4x128, .f32⟩
  | 28 => ⟨S3x8x4x256x128, .f32⟩
  | 29 => ⟨S1x8x4x256x128, .f32⟩
  | 30 => ⟨S8x4x256x128, .f32⟩
  | 31 => ⟨S8x4x256x128, .f32⟩
  | 32 => ⟨S_, .f32⟩
  | 33 => ⟨S8x4x256, .f32⟩
  | 34 => ⟨S8x4x256x1, .f32⟩
  | 35 => ⟨S_, .f32⟩
  | 36 => ⟨S8x4x256x1, .f32⟩
  | 37 => ⟨S8x4x256x1, .f32⟩
  | 38 => ⟨S8x4x256x1, .f32⟩
  | 39 => ⟨S8x4x256x128, .f32⟩
  | 40 => ⟨S8x4x256x128, .f32⟩
  | 41 => ⟨S_, .f32⟩
  | 42 => ⟨S8x4x256x128, .f32⟩
  | 43 => ⟨S8x4x256x128, .f32⟩
  | 44 => ⟨S1x8x4x256x128, .f32⟩
  | 45 => ⟨S8x4x256x128, .f32⟩
  | 46 => ⟨S8x4x256x128, .f32⟩
  | 47 => ⟨S_, .f32⟩
  | 48 => ⟨S8x4x256, .f32⟩
  | 49 => ⟨S8x4x256x1, .f32⟩
  | 50 => ⟨S_, .f32⟩
  | 51 => ⟨S8x4x256x1, .f32⟩
  | 52 => ⟨S8x4x256x1, .f32⟩
  | 53 => ⟨S8x4x256x1, .f32⟩
  | 54 => ⟨S8x4x256x128, .f32⟩
  | 55 => ⟨S8x4x256x128, .f32⟩
  | 56 => ⟨S1x8x4x256x128, .f32⟩
  | 57 => ⟨S8x4x256x128, .f32⟩
  | 58 => ⟨S8x256x8, .f32⟩
  | 59 => ⟨S8x256x8, .f32⟩
  | 60 => ⟨S_, .f32⟩
  | 61 => ⟨S8x256x8, .f32⟩
  | 62 => ⟨S8x256x8, .f32⟩
  | 63 => ⟨S_, .f32⟩
  | 64 => ⟨S8x256x8, .f32⟩
  | 65 => ⟨S8x256x8, .f32⟩
  | 66 => ⟨S8x256x2x4, .f32⟩
  | 67 => ⟨S2x8x4x256, .f32⟩
  | 68 => ⟨S8x256x2x4, .f32⟩
  | 69 => ⟨S2x8x4x256, .f32⟩
  | 70 => ⟨S2x4, .f32⟩
  | 71 => ⟨S2x1x4x1, .f32⟩
  | 72 => ⟨S2x1x4x1, .f32⟩
  | 73 => ⟨S2x1x4x1, .f32⟩
  | 74 => ⟨S2x8x4x256, .f32⟩
  | 75 => ⟨S2x8x4x256, .f32⟩
  | 76 => ⟨S_, .f32⟩
  | 77 => ⟨S2x8x4x256, .f32⟩
  | 78 => ⟨S2x8x4x256, .f32⟩
  | 79 => ⟨S2x8x4x256, .f32⟩
  | 80 => ⟨S2x8x4x256, .f32⟩
  | 81 => ⟨S2x8x4x256, .i1⟩
  | 82 => ⟨S2x8x4x256, .f32⟩
  | 83 => ⟨S2x8x4x256, .f32⟩
  | 84 => ⟨S2x8x4x256, .f32⟩
  | 85 => ⟨S2x8x4x256, .f32⟩
  | 86 => ⟨S2x8x4x256, .f32⟩
  | 87 => ⟨S2x8x4x256, .f32⟩
  | 88 => ⟨S2x8x4x256, .f32⟩
  | 89 => ⟨S2x8x4x256, .f32⟩
  | 90 => ⟨S2x8x4x256, .f32⟩
  | 91 => ⟨S2x8x4x256, .f32⟩
  | 92 => ⟨S_, .f32⟩
  | 93 => ⟨S2x8x4x128x128, .f32⟩
  | 94 => ⟨S8x4x256x128, .f32⟩
  | 95 => ⟨S1x8x4x256x128, .f32⟩
  | 96 => ⟨S1x8x4x256x128, .f32⟩
  | 97 => ⟨S2x8x4x256x128, .f32⟩
  | 98 => ⟨S8x4x2048x128, .f32⟩
  | 99 => ⟨S1x8x4x2048x128, .f32⟩
  | 100 => ⟨S1x8x4x2048x128, .f32⟩
  | 101 => ⟨S2x8x4x2048x128, .f32⟩
  | 102 => ⟨S2x8x4x2304x128, .f32⟩
  | 103 => ⟨S8x4x256x128, .f32⟩
  | 104 => ⟨S1x8x4x256x128, .f32⟩
  | 105 => ⟨S1x8x4x256x128, .f32⟩
  | 106 => ⟨S2x8x4x256x128, .f32⟩
  | 107 => ⟨S8x4x2048x128, .f32⟩
  | 108 => ⟨S1x8x4x2048x128, .f32⟩
  | 109 => ⟨S1x8x4x2048x128, .f32⟩
  | 110 => ⟨S2x8x4x2048x128, .f32⟩
  | 111 => ⟨S2x8x4x2304x128, .f32⟩
  | 112 => ⟨S8x4x256x128, .f32⟩
  | 113 => ⟨S1x8x4x256x128, .f32⟩
  | 114 => ⟨S1x8x4x256x128, .f32⟩
  | 115 => ⟨S2x8x4x256x128, .f32⟩
  | 116 => ⟨S8x4x2048x128, .f32⟩
  | 117 => ⟨S1x8x4x2048x128, .f32⟩
  | 118 => ⟨S1x8x4x2048x128, .f32⟩
  | 119 => ⟨S2x8x4x2048x128, .f32⟩
  | 120 => ⟨S2x8x4x2304x128, .f32⟩
  | 121 => ⟨S1x8x4x256, .f32⟩
  | 122 => ⟨S8x4x256, .f32⟩
  | 123 => ⟨S1x8x4x256, .f32⟩
  | 124 => ⟨S8x4x256, .f32⟩
  | 125 => ⟨S8x4x256, .f32⟩
  | 126 => ⟨S1x8x4x256, .f32⟩
  | 127 => ⟨S1x8x4x256, .f32⟩
  | _ => ⟨S8x256x2688, .f32⟩

abbrev hbmTy0_2 (i : Nat) : BufTy := match i % 128 with
  | 0 => ⟨S2x8x4x256, .f32⟩
  | 1 => ⟨S1x8x4x2048, .f32⟩
  | 2 => ⟨S8x4x2048, .f32⟩
  | 3 => ⟨S1x8x4x2048, .f32⟩
  | 4 => ⟨S8x4x2048, .f32⟩
  | 5 => ⟨S8x4x2048, .f32⟩
  | 6 => ⟨S1x8x4x2048, .f32⟩
  | 7 => ⟨S1x8x4x2048, .f32⟩
  | 8 => ⟨S2x8x4x2048, .f32⟩
  | 9 => ⟨S2x8x4x2304, .f32⟩
  | 10 => ⟨S1x8x4x256, .f32⟩
  | 11 => ⟨S8x4x256, .f32⟩
  | 12 => ⟨S1x8x4x256, .f32⟩
  | 13 => ⟨S8x4x256, .f32⟩
  | 14 => ⟨S8x4x256, .f32⟩
  | 15 => ⟨S1x8x4x256, .f32⟩
  | 16 => ⟨S1x8x4x256, .f32⟩
  | 17 => ⟨S2x8x4x256, .f32⟩
  | 18 => ⟨S1x8x4x2048, .f32⟩
  | 19 => ⟨S8x4x2048, .f32⟩
  | 20 => ⟨S1x8x4x2048, .f32⟩
  | 21 => ⟨S8x4x2048, .f32⟩
  | 22 => ⟨S8x4x2048, .f32⟩
  | 23 => ⟨S1x8x4x2048, .f32⟩
  | 24 => ⟨S1x8x4x2048, .f32⟩
  | 25 => ⟨S2x8x4x2048, .f32⟩
  | 26 => ⟨S2x8x4x2304, .f32⟩
  | 27 => ⟨S2304x2x8x4x128, .f32⟩
  | 28 => ⟨S2304x2x8x4x128, .f32⟩
  | 29 => ⟨S2304x2x8x4x128, .f32⟩
  | 30 => ⟨S2304x2x8x4, .f32⟩
  | 31 => ⟨S2304x2x8x4, .f32⟩
  | 32 => ⟨S_, .f32⟩
  | 33 => ⟨S2304x2x8x4x128, .f32⟩
  | 34 => ⟨S_, .i32⟩
  | 35 => ⟨S2304x2x8x4x128, .f32⟩
  | 36 => ⟨S2304x2x8x4x128, .f32⟩
  | 37 => ⟨S2304x2x8x4x128, .f32⟩
  | 38 => ⟨S2304x2x8x4, .f32⟩
  | 39 => ⟨S2304x2x8x4, .f32⟩
  | 40 => ⟨S_, .i32⟩
  | 41 => ⟨S2x8x4x128x128, .f32⟩
  | 42 => ⟨S2304x2x8x4x128, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S1x2x8x4x128, .f32⟩
  | 50 => ⟨S2x8x4x128, .f32⟩
  | 51 => ⟨S_, .i32⟩
  | 52 => ⟨S_, .i32⟩
  | 53 => ⟨S_, .i32⟩
  | 54 => ⟨S_, .i32⟩
  | 55 => ⟨S1x2x8x4x128, .f32⟩
  | 56 => ⟨S2x8x4x128, .f32⟩
  | 57 => ⟨S_, .i32⟩
  | 58 => ⟨S_, .i32⟩
  | 59 => ⟨S_, .i32⟩
  | 60 => ⟨S_, .i32⟩
  | 61 => ⟨S1x2x8x4x128, .f32⟩
  | 62 => ⟨S2x8x4x128, .f32⟩
  | 63 => ⟨S_, .i32⟩
  | 64 => ⟨S_, .i32⟩
  | 65 => ⟨S_, .i32⟩
  | 66 => ⟨S1x2x8x4, .f32⟩
  | 67 => ⟨S2x8x4, .f32⟩
  | 68 => ⟨S_, .i32⟩
  | 69 => ⟨S_, .i32⟩
  | 70 => ⟨S_, .i32⟩
  | 71 => ⟨S1x2x8x4, .f32⟩
  | 72 => ⟨S2x8x4, .f32⟩
  | 73 => ⟨S2x8x4, .f32⟩
  | 74 => ⟨S2x8x4x1x1, .f32⟩
  | 75 => ⟨S2x8x4x128x128, .f32⟩
  | 76 => ⟨S2x8x4x128x128, .f32⟩
  | 77 => ⟨S2x8x4x128, .f32⟩
  | 78 => ⟨S2x8x4x128, .f32⟩
  | 79 => ⟨S2x8x4x1, .f32⟩
  | 80 => ⟨S2x8x4x128, .f32⟩
  | 81 => ⟨S2x8x4x128, .f32⟩
  | 82 => ⟨S2x8x4x128x1, .f32⟩
  | 83 => ⟨S2x8x4x1x128, .f32⟩
  | 84 => ⟨S2x8x4x128x128, .f32⟩
  | 85 => ⟨S2x8x4x128x128, .f32⟩
  | 86 => ⟨S2x8x4x128x128, .f32⟩
  | 87 => ⟨S2x8x4x128x128, .f32⟩
  | 88 => ⟨S2x8x4x128, .f32⟩
  | 89 => ⟨S1x2x8x4x128, .f32⟩
  | 90 => ⟨S_, .i32⟩
  | 91 => ⟨S_, .i32⟩
  | 92 => ⟨S_, .i32⟩
  | 93 => ⟨S_, .i32⟩
  | 94 => ⟨S2304x2x8x4x128, .f32⟩
  | 95 => ⟨S_, .i32⟩
  | 96 => ⟨S_, .i32⟩
  | 97 => ⟨S2x8x4x2304x128, .f32⟩
  | 98 => ⟨S2x8x4x256x128, .f32⟩
  | 99 => ⟨S2x8x4x2048x128, .f32⟩
  | 100 => ⟨S1x8x4x2048x128, .f32⟩
  | 101 => ⟨S8x4x2048x128, .f32⟩
  | 102 => ⟨S1x8x4x2048x128, .f32⟩
  | 103 => ⟨S8x4x2048x128, .f32⟩
  | 104 => ⟨S8x4x2048x128, .f32⟩
  | 105 => ⟨S8x4x2048x128, .f32⟩
  | 106 => ⟨S1x8x4x256x128, .f32⟩
  | 107 => ⟨S8x4x256x128, .f32⟩
  | 108 => ⟨S1x8x4x256x128, .f32⟩
  | 109 => ⟨S8x4x256x128, .f32⟩
  | 110 => ⟨S8x4x256x128, .f32⟩
  | 111 => ⟨S8x4x256x128, .f32⟩
  | 112 => ⟨S8x2048x512, .f32⟩
  | 113 => ⟨S8x2048x4x128, .f32⟩
  | 114 => ⟨S8x2048x4x128, .f32⟩
  | 115 => ⟨S_, .f32⟩
  | 116 => ⟨S8x2048x4, .f32⟩
  | 117 => ⟨S8x2048x4x1, .f32⟩
  | 118 => ⟨S_, .f32⟩
  | 119 => ⟨S8x2048x4x1, .f32⟩
  | 120 => ⟨S8x2048x4x1, .f32⟩
  | 121 => ⟨S_, .f32⟩
  | 122 => ⟨S8x2048x4x1, .f32⟩
  | 123 => ⟨S8x2048x4x1, .f32⟩
  | 124 => ⟨S8x2048x4x1, .f32⟩
  | 125 => ⟨S8x2048x4x128, .f32⟩
  | 126 => ⟨S8x2048x4x128, .f32⟩
  | 127 => ⟨S1x1x1x128, .f32⟩
  | _ => ⟨S8x256x2688, .f32⟩

abbrev hbmTy0_3 (i : Nat) : BufTy := match i % 128 with
  | 0 => ⟨S8x2048x4x128, .f32⟩
  | 1 => ⟨S8x2048x4x128, .f32⟩
  | 2 => ⟨S8x2048x512, .f32⟩
  | 3 => ⟨S8x2048x512, .f32⟩
  | 4 => ⟨S_, .f32⟩
  | 5 => ⟨S8x2048x512, .f32⟩
  | 6 => ⟨S8x2048x512, .f32⟩
  | 7 => ⟨S_, .f32⟩
  | 8 => ⟨S8x2048x512, .f32⟩
  | 9 => ⟨S8x2048x512, .f32⟩
  | 10 => ⟨S8x2048x512, .f32⟩
  | 11 => ⟨S8x2048x4x128, .f32⟩
  | 12 => ⟨S8x2048x4x128, .f32⟩
  | 13 => ⟨S8x2048x512, .f32⟩
  | 14 => ⟨S8x256x512, .f32⟩
  | 15 => ⟨S8x256x4x128, .f32⟩
  | 16 => ⟨S8x256x4x128, .f32⟩
  | 17 => ⟨S_, .f32⟩
  | 18 => ⟨S8x256x4, .f32⟩
  | 19 => ⟨S8x256x4x1, .f32⟩
  | 20 => ⟨S_, .f32⟩
  | 21 => ⟨S8x256x4x1, .f32⟩
  | 22 => ⟨S8x256x4x1, .f32⟩
  | 23 => ⟨S_, .f32⟩
  | 24 => ⟨S8x256x4x1, .f32⟩
  | 25 => ⟨S8x256x4x1, .f32⟩
  | 26 => ⟨S8x256x4x1, .f32⟩
  | 27 => ⟨S8x256x4x128, .f32⟩
  | 28 => ⟨S8x256x4x128, .f32⟩
  | 29 => ⟨S1x1x1x128, .f32⟩
  | 30 => ⟨S8x256x4x128, .f32⟩
  | 31 => ⟨S8x256x4x128, .f32⟩
  | 32 => ⟨S8x256x512, .f32⟩
  | 33 => ⟨S8x256x512, .f32⟩
  | 34 => ⟨S_, .f32⟩
  | 35 => ⟨S8x256x512, .f32⟩
  | 36 => ⟨S8x256x512, .f32⟩
  | 37 => ⟨S_, .f32⟩
  | 38 => ⟨S8x256x512, .f32⟩
  | 39 => ⟨S8x256x512, .f32⟩
  | 40 => ⟨S8x256x512, .f32⟩
  | 41 => ⟨S8x256x4x128, .f32⟩
  | 42 => ⟨S8x256x4x128, .f32⟩
  | 43 => ⟨S8x256x512, .f32⟩
  | _ => ⟨S8x256x2688, .f32⟩

abbrev hbmTy (i : Nat) : BufTy := match i / 128 with
  | 0 => hbmTy0_0 i
  | 1 => hbmTy0_1 i
  | 2 => hbmTy0_2 i
  | 3 => hbmTy0_3 i
  | _ => ⟨S8x256x2688, .f32⟩

abbrev bufTy : (tb : Table) → Fin (tcTables nBuf tb) → BufTy
  | .hbm, ⟨i, _⟩ => hbmTy i
  | _, _ => ⟨S8x256x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_6 : Ref sig .tc := ⟨.hbm, 116, rfl⟩
abbrev main_call3_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_7 : Ref sig .tc := ⟨.hbm, 160, rfl⟩
abbrev main_v114 : Ref sig .tc := ⟨.hbm, 161, rfl⟩
abbrev main_v115 : Ref sig .tc := ⟨.hbm, 162, rfl⟩
abbrev main_cst_8 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_9 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_10 : Ref sig .tc := ⟨.hbm, 175, rfl⟩
abbrev main_v126 : Ref sig .tc := ⟨.hbm, 176, rfl⟩
abbrev main_v127 : Ref sig .tc := ⟨.hbm, 177, rfl⟩
abbrev main_cst_11 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_12 : Ref sig .tc := ⟨.hbm, 188, rfl⟩
abbrev main_v137 : Ref sig .tc := ⟨.hbm, 189, rfl⟩
abbrev main_v138 : Ref sig .tc := ⟨.hbm, 190, rfl⟩
abbrev main_cst_13 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_call5_cst : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_call5_v5 : Ref sig .tc := ⟨.hbm, 210, rfl⟩
abbrev main_call5_v6 : Ref sig .tc := ⟨.hbm, 211, rfl⟩
abbrev main_call5_v7 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_cst_14 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_15 : Ref sig .tc := ⟨.hbm, 288, rfl⟩
abbrev main_v221 : Ref sig .tc := ⟨.hbm, 289, rfl⟩
abbrev main_c_16 : Ref sig .tc := ⟨.hbm, 290, rfl⟩
abbrev main_v222_0 : Ref sig .tc := ⟨.hbm, 291, rfl⟩
abbrev main_v222_1 : Ref sig .tc := ⟨.hbm, 292, rfl⟩
abbrev main_v222_2 : Ref sig .tc := ⟨.hbm, 293, rfl⟩
abbrev main_v222_3 : Ref sig .tc := ⟨.hbm, 294, rfl⟩
abbrev main_v222_4 : Ref sig .tc := ⟨.hbm, 295, rfl⟩
abbrev main_v222_5 : Ref sig .tc := ⟨.hbm, 296, rfl⟩
abbrev main_v222_6 : Ref sig .tc := ⟨.hbm, 297, rfl⟩
abbrev main_v222_7 : Ref sig .tc := ⟨.hbm, 298, rfl⟩
abbrev main_while0c_c_30 : Ref sig .tc := ⟨.hbm, 299, rfl⟩
abbrev main_while0c_v276 : Ref sig .tc := ⟨.hbm, 300, rfl⟩
abbrev main_while0b_call16_c : Ref sig .tc := ⟨.hbm, 301, rfl⟩
abbrev main_while0b_call16_c_0 : Ref sig .tc := ⟨.hbm, 302, rfl⟩
abbrev main_while0b_call16_c_1 : Ref sig .tc := ⟨.hbm, 303, rfl⟩
abbrev main_while0b_call16_c_2 : Ref sig .tc := ⟨.hbm, 304, rfl⟩
abbrev main_while0b_call16_v0 : Ref sig .tc := ⟨.hbm, 305, rfl⟩
abbrev main_while0b_v276 : Ref sig .tc := ⟨.hbm, 306, rfl⟩
abbrev main_while0b_call17_c : Ref sig .tc := ⟨.hbm, 307, rfl⟩
abbrev main_while0b_call17_c_0 : Ref sig .tc := ⟨.hbm, 308, rfl⟩
abbrev main_while0b_call17_c_1 : Ref sig .tc := ⟨.hbm, 309, rfl⟩
abbrev main_while0b_call17_c_2 : Ref sig .tc := ⟨.hbm, 310, rfl⟩
abbrev main_while0b_call17_v0 : Ref sig .tc := ⟨.hbm, 311, rfl⟩
abbrev main_while0b_v277 : Ref sig .tc := ⟨.hbm, 312, rfl⟩
abbrev main_while0b_call18_c : Ref sig .tc := ⟨.hbm, 313, rfl⟩
abbrev main_while0b_call18_c_0 : Ref sig .tc := ⟨.hbm, 314, rfl⟩
abbrev main_while0b_call18_c_1 : Ref sig .tc := ⟨.hbm, 315, rfl⟩
abbrev main_while0b_call18_c_2 : Ref sig .tc := ⟨.hbm, 316, rfl⟩
abbrev main_while0b_call18_v0 : Ref sig .tc := ⟨.hbm, 317, rfl⟩
abbrev main_while0b_v278 : Ref sig .tc := ⟨.hbm, 318, rfl⟩
abbrev main_while0b_call19_c : Ref sig .tc := ⟨.hbm, 319, rfl⟩
abbrev main_while0b_call19_c_0 : Ref sig .tc := ⟨.hbm, 320, rfl⟩
abbrev main_while0b_call19_c_1 : Ref sig .tc := ⟨.hbm, 321, rfl⟩
abbrev main_while0b_call19_v0 : Ref sig .tc := ⟨.hbm, 322, rfl⟩
abbrev main_while0b_v279 : Ref sig .tc := ⟨.hbm, 323, rfl⟩
abbrev main_while0b_call20_c : Ref sig .tc := ⟨.hbm, 324, rfl⟩
abbrev main_while0b_call20_c_0 : Ref sig .tc := ⟨.hbm, 325, rfl⟩
abbrev main_while0b_call20_c_1 : Ref sig .tc := ⟨.hbm, 326, rfl⟩
abbrev main_while0b_call20_v0 : Ref sig .tc := ⟨.hbm, 327, rfl⟩
abbrev main_while0b_v280 : Ref sig .tc := ⟨.hbm, 328, rfl⟩
abbrev main_while0b_v281 : Ref sig .tc := ⟨.hbm, 329, rfl⟩
abbrev main_while0b_v282 : Ref sig .tc := ⟨.hbm, 330, rfl⟩
abbrev main_while0b_v283 : Ref sig .tc := ⟨.hbm, 331, rfl⟩
abbrev main_while0b_v284 : Ref sig .tc := ⟨.hbm, 332, rfl⟩
abbrev main_while0b_v285 : Ref sig .tc := ⟨.hbm, 333, rfl⟩
abbrev main_while0b_v286 : Ref sig .tc := ⟨.hbm, 334, rfl⟩
abbrev main_while0b_v287 : Ref sig .tc := ⟨.hbm, 335, rfl⟩
abbrev main_while0b_v288 : Ref sig .tc := ⟨.hbm, 336, rfl⟩
abbrev main_while0b_v289 : Ref sig .tc := ⟨.hbm, 337, rfl⟩
abbrev main_while0b_v290 : Ref sig .tc := ⟨.hbm, 338, rfl⟩
abbrev main_while0b_v291 : Ref sig .tc := ⟨.hbm, 339, rfl⟩
abbrev main_while0b_v292 : Ref sig .tc := ⟨.hbm, 340, rfl⟩
abbrev main_while0b_v293 : Ref sig .tc := ⟨.hbm, 341, rfl⟩
abbrev main_while0b_v294 : Ref sig .tc := ⟨.hbm, 342, rfl⟩
abbrev main_while0b_v295 : Ref sig .tc := ⟨.hbm, 343, rfl⟩
abbrev main_while0b_v296 : Ref sig .tc := ⟨.hbm, 344, rfl⟩
abbrev main_while0b_call21_v0 : Ref sig .tc := ⟨.hbm, 345, rfl⟩
abbrev main_while0b_call21_c : Ref sig .tc := ⟨.hbm, 346, rfl⟩
abbrev main_while0b_call21_c_0 : Ref sig .tc := ⟨.hbm, 347, rfl⟩
abbrev main_while0b_call21_c_1 : Ref sig .tc := ⟨.hbm, 348, rfl⟩
abbrev main_while0b_call21_c_2 : Ref sig .tc := ⟨.hbm, 349, rfl⟩
abbrev main_while0b_v297 : Ref sig .tc := ⟨.hbm, 350, rfl⟩
abbrev main_while0b_c_30 : Ref sig .tc := ⟨.hbm, 351, rfl⟩
abbrev main_while0b_v298 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_cst_17 : Ref sig .tc := ⟨.hbm, 371, rfl⟩
abbrev main_v241 : Ref sig .tc := ⟨.hbm, 372, rfl⟩
abbrev main_v242 : Ref sig .tc := ⟨.hbm, 373, rfl⟩
abbrev main_cst_18 : Ref sig .tc := ⟨.hbm, 374, rfl⟩
abbrev main_v243 : Ref sig .tc := ⟨.hbm, 375, rfl⟩
abbrev main_v244 : Ref sig .tc := ⟨.hbm, 376, rfl⟩
abbrev main_cst_19 : Ref sig .tc := ⟨.hbm, 377, rfl⟩
abbrev main_v245 : Ref sig .tc := ⟨.hbm, 378, rfl⟩
abbrev main_v246 : Ref sig .tc := ⟨.hbm, 379, rfl⟩
abbrev main_v247 : Ref sig .tc := ⟨.hbm, 380, rfl⟩
abbrev main_v248 : Ref sig .tc := ⟨.hbm, 381, rfl⟩
abbrev main_v249 : Ref sig .tc := ⟨.hbm, 382, rfl⟩
abbrev main_v250 : Ref sig .tc := ⟨.hbm, 383, rfl⟩
abbrev main_v251 : Ref sig .tc := ⟨.hbm, 384, rfl⟩
abbrev main_v252 : Ref sig .tc := ⟨.hbm, 385, rfl⟩
abbrev main_call24_v0 : Ref sig .tc := ⟨.hbm, 386, rfl⟩
abbrev main_call24_v1 : Ref sig .tc := ⟨.hbm, 387, rfl⟩
abbrev main_call24_cst : Ref sig .tc := ⟨.hbm, 388, rfl⟩
abbrev main_call24_v2 : Ref sig .tc := ⟨.hbm, 389, rfl⟩
abbrev main_call24_v3 : Ref sig .tc := ⟨.hbm, 390, rfl⟩
abbrev main_call24_cst_0 : Ref sig .tc := ⟨.hbm, 391, rfl⟩
abbrev main_call24_v4 : Ref sig .tc := ⟨.hbm, 392, rfl⟩
abbrev main_call24_v5 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_v259 : Ref sig .tc := ⟨.hbm, 400, rfl⟩
abbrev main_cst_20 : Ref sig .tc := ⟨.hbm, 401, rfl⟩
abbrev main_v260 : Ref sig .tc := ⟨.hbm, 402, rfl⟩
abbrev main_v261 : Ref sig .tc := ⟨.hbm, 403, rfl⟩
abbrev main_cst_21 : Ref sig .tc := ⟨.hbm, 404, rfl⟩
abbrev main_v262 : Ref sig .tc := ⟨.hbm, 405, rfl⟩
abbrev main_v263 : Ref sig .tc := ⟨.hbm, 406, rfl⟩
abbrev main_cst_22 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_call25_v0 : Ref sig .tc := ⟨.hbm, 416, rfl⟩
abbrev main_call25_v1 : Ref sig .tc := ⟨.hbm, 417, rfl⟩
abbrev main_call25_cst : Ref sig .tc := ⟨.hbm, 418, rfl⟩
abbrev main_call25_v2 : Ref sig .tc := ⟨.hbm, 419, rfl⟩
abbrev main_call25_v3 : Ref sig .tc := ⟨.hbm, 420, rfl⟩
abbrev main_call25_cst_0 : Ref sig .tc := ⟨.hbm, 421, rfl⟩
abbrev main_call25_v4 : Ref sig .tc := ⟨.hbm, 422, rfl⟩
abbrev main_call25_v5 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S8x2048x1024 : Shape := ⟨3, ![8, 2048, 1024]⟩
abbrev S16x6144 : Shape := ⟨2, ![16, 6144]⟩
abbrev S1024 : Shape := ⟨1, ![1024]⟩
abbrev S1024x2576 : Shape := ⟨2, ![1024, 2576]⟩
abbrev S8 : Shape := ⟨1, ![8]⟩
abbrev S16x6x1024 : Shape := ⟨3, ![16, 6, 1024]⟩
abbrev S_ : Shape := ⟨0, ![]⟩
abbrev S8x1 : Shape := ⟨2, ![8, 1]⟩
abbrev S8x6x1024 : Shape := ⟨3, ![8, 6, 1024]⟩
abbrev S8x2x1024 : Shape := ⟨3, ![8, 2, 1024]⟩
abbrev S8x8x1024 : Shape := ⟨3, ![8, 8, 1024]⟩
abbrev S1024x1536 : Shape := ⟨2, ![1024, 1536]⟩
abbrev S1024x512 : Shape := ⟨2, ![1024, 512]⟩
abbrev S1024x256 : Shape := ⟨2, ![1024, 256]⟩
abbrev S1024x16 : Shape := ⟨2, ![1024, 16]⟩
abbrev S1024x112 : Shape := ⟨2, ![1024, 112]⟩
abbrev S1024x2688 : Shape := ⟨2, ![1024, 2688]⟩
abbrev S1x1024 : Shape := ⟨2, ![1, 1024]⟩
abbrev S8x2048x2688 : Shape := ⟨3, ![8, 2048, 2688]⟩
abbrev S8x2048x128 : Shape := ⟨3, ![8, 2048, 128]⟩
abbrev S1x512x1024 : Shape := ⟨3, ![1, 512, 1024]⟩
abbrev S1x8x1024 : Shape := ⟨3, ![1, 8, 1024]⟩
abbrev S1x512x2688 : Shape := ⟨3, ![1, 512, 2688]⟩
abbrev S1x512x128 : Shape := ⟨3, ![1, 512, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2688 : Shape := ⟨2, ![512, 2688]⟩
abbrev S512x128 : Shape := ⟨2, ![512, 128]⟩

abbrev nBuf : Space → Nat
  | .hbm => 30
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1024, .f32⟩
  | .hbm, ⟨3, _⟩ => ⟨S1024x2576, .f32⟩
  | .hbm, ⟨4, _⟩ => ⟨S8, .i32⟩
  | .hbm, ⟨5, _⟩ => ⟨S16x6x1024, .f32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S8x6x1024, .f32⟩
  | .hbm, ⟨15, _⟩ => ⟨S_, .f32⟩
  | .hbm, ⟨16, _⟩ => ⟨S8x2x1024, .f32⟩
  | .hbm, ⟨17, _⟩ => ⟨S8x8x1024, .f32⟩
  | .hbm, ⟨18, _⟩ => ⟨S1024x1536, .f32⟩
  | .hbm, ⟨19, _⟩ => ⟨S1024x512, .f32⟩
  | .hbm, ⟨20, _⟩ => ⟨S1024x256, .f32⟩
  | .hbm, ⟨21, _⟩ => ⟨S1024x256, .f32⟩
  | .hbm, ⟨22, _⟩ => ⟨S1024x16, .f32⟩
  | .hbm, ⟨23, _⟩ => ⟨S_, .f32⟩
  | .hbm, ⟨24, _⟩ => ⟨S1024x112, .f32⟩
  | .hbm, ⟨25, _⟩ => ⟨S1024x2688, .f32⟩
  | .hbm, ⟨26, _⟩ => ⟨S1024x2688, .bf16⟩
  | .hbm, ⟨27, _⟩ => ⟨S1x1024, .f32⟩
  | .hbm, ⟨28, _⟩ => ⟨S8x2048x2688, .f32⟩
  | .hbm, ⟨29, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2688, .bf16⟩
  | .local _ .vmem, ⟨6, _⟩ => ⟨S1x512x2688, .f32⟩
  | .local _ .vmem, ⟨7, _⟩ => ⟨S1x512x2688, .f32⟩
  | .local _ .vmem, ⟨8, _⟩ => ⟨S1x512x128, .f32⟩
  | .local _ .vmem, ⟨9, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x1024 : Shape := ⟨3, ![8, 2048, 1024]⟩
abbrev S16x6144 : Shape := ⟨2, ![16, 6144]⟩
abbrev S1024 : Shape := ⟨1, ![1024]⟩
abbrev S1024x2576 : Shape := ⟨2, ![1024, 2576]⟩
abbrev S8x6144 : Shape := ⟨2, ![8, 6144]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2576 : Shape := ⟨3, ![8, 2048, 2576]⟩
abbrev S8x2048x16 : Shape := ⟨3, ![8, 2048, 16]⟩
abbrev S8x2048x112 : Shape := ⟨3, ![8, 2048, 112]⟩
abbrev S8x2048x128 : Shape := ⟨3, ![8, 2048, 128]⟩
abbrev S8x2048x1536 : Shape := ⟨3, ![8, 2048, 1536]⟩
abbrev S8x2048x2688 : Shape := ⟨3, ![8, 2048, 2688]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1024, .f32⟩
  | .hbm, ⟨3, _⟩ => ⟨S1024x2576, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x2576, .f32⟩
  | .hbm, ⟨36, _⟩ => ⟨S8x2048x16, .f32⟩
  | .hbm, ⟨37, _⟩ => ⟨S_, .f32⟩
  | .hbm, ⟨38, _⟩ => ⟨S8x2048x112, .f32⟩
  | .hbm, ⟨39, _⟩ => ⟨S8x2048x128, .f32⟩
  | .hbm, ⟨40, _⟩ => ⟨S8x2048x1536, .f32⟩
  | .hbm, ⟨41, _⟩ => ⟨S8x2048x1024, .f32⟩
  | .hbm, ⟨42, _⟩ => ⟨S8x2048x2688, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S8x2048x2688 : Shape := ⟨3, ![8, 2048, 2688]⟩
abbrev S8x2048x256 : Shape := ⟨3, ![8, 2048, 256]⟩
abbrev S16x6144 : Shape := ⟨2, ![16, 6144]⟩
abbrev S4x64x64 : Shape := ⟨3, ![4, 64, 64]⟩
abbrev S256 : Shape := ⟨1, ![256]⟩
abbrev S1024x1024 : Shape := ⟨2, ![1024, 1024]⟩
abbrev S8 : Shape := ⟨1, ![8]⟩
abbrev S16x6x1024 : Shape := ⟨3, ![16, 6, 1024]⟩
abbrev S_ : Shape := ⟨0, ![]⟩
abbrev S8x1 : Shape := ⟨2, ![8, 1]⟩
abbrev S8x6x1024 : Shape := ⟨3, ![8, 6, 1024]⟩
abbrev S8x2x1024 : Shape := ⟨3, ![8, 2, 1024]⟩
abbrev S8x8x1024 : Shape := ⟨3, ![8, 8, 1024]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S256x1 : Shape := ⟨2, ![256, 1]⟩
abbrev S256x64 : Shape := ⟨2, ![256, 64]⟩
abbrev S1x256x256 : Shape := ⟨3, ![1, 256, 256]⟩
abbrev S4x256x256 : Shape := ⟨3, ![4, 256, 256]⟩
abbrev S1x256x1024 : Shape := ⟨3, ![1, 256, 1024]⟩
abbrev S1x256x512 : Shape := ⟨3, ![1, 256, 512]⟩
abbrev S1x8x1024 : Shape := ⟨3, ![1, 8, 1024]⟩
abbrev S256x512 : Shape := ⟨2, ![256, 512]⟩
abbrev S512x1024 : Shape := ⟨2, ![512, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 223
  | .vmem => 17
  | .smem => 0
  | _ => 0

abbrev hbmTy0_0 (i : Nat) : BufTy := match i % 128 with
  | 0 => ⟨S8x2048x1024, .f32⟩
  | 1 => ⟨S8x2048x512, .f32⟩
  | 2 => ⟨S8x2048x2688, .f32⟩
  | 3 => ⟨S8x2048x256, .f32⟩
  | 4 => ⟨S16x6144, .f32⟩
  | 5 => ⟨S4x64x64, .f32⟩
  | 6 => ⟨S256, .f32⟩
  | 7 => ⟨S1024x1024, .f32⟩
  | 8 => ⟨S8, .i32⟩
  | 9 => ⟨S16x6x1024, .f32⟩
  | 10 => ⟨S_, .i32⟩
  | 11 => ⟨S8, .i32⟩
  | 12 => ⟨S8, .i1⟩
  | 13 => ⟨S_, .i32⟩
  | 14 => ⟨S8, .i32⟩
  | 15 => ⟨S8, .i32⟩
  | 16 => ⟨S8, .i32⟩
  | 17 => ⟨S8x1, .i32⟩
  | 18 => ⟨S8x6x1024, .f32⟩
  | 19 => ⟨S_, .f32⟩
  | 20 => ⟨S8x2x1024, .f32⟩
  | 21 => ⟨S8x8x1024, .f32⟩
  | 22 => ⟨S_, .f32⟩
  | 23 => ⟨S256x256, .f32⟩
  | 24 => ⟨S1x64x64, .f32⟩
  | 25 => ⟨S64x64, .f32⟩
  | 26 => ⟨S_, .i32⟩
  | 27 => ⟨S1, .i32⟩
  | 28 => ⟨S_, .i32⟩
  | 29 => ⟨S1, .i32⟩
  | 30 => ⟨S2, .i32⟩
  | 31 => ⟨S256x256, .f32⟩
  | 32 => ⟨S1x64x64, .f32⟩
  | 33 => ⟨S64x64, .f32⟩
  | 34 => ⟨S_, .i32⟩
  | 35 => ⟨S1, .i32⟩
  | 36 => ⟨S_, .i32⟩
  | 37 => ⟨S1, .i32⟩
  | 38 => ⟨S2, .i32⟩
  | 39 => ⟨S256x256, .f32⟩
  | 40 => ⟨S1x64x64, .f32⟩
  | 41 => ⟨S64x64, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S1x64x64, .f32⟩
  | 49 => ⟨S64x64, .f32⟩
  | 50 => ⟨S_, .i32⟩
  | 51 => ⟨S1, .i32⟩
  | 52 => ⟨S_, .i32⟩
  | 53 => ⟨S1, .i32⟩
  | 54 => ⟨S2, .i32⟩
  | 55 => ⟨S256x256, .f32⟩
  | 56 => ⟨S256x256, .bf16⟩
  | 57 => ⟨S1024x1024, .bf16⟩
  | 58 => ⟨S1x256, .f32⟩
  | 59 => ⟨S256, .i32⟩
  | 60 => ⟨S_, .i32⟩
  | 61 => ⟨S256, .i32⟩
  | 62 => ⟨S256, .i32⟩
  | 63 => ⟨S256, .i32⟩
  | 64 => ⟨S_, .i32⟩
  | 65 => ⟨S256, .i32⟩
  | 66 => ⟨S256, .i32⟩
  | 67 => ⟨S_, .i32⟩
  | 68 => ⟨S256, .i32⟩
  | 69 => ⟨S256, .i32⟩
  | 70 => ⟨S_, .i32⟩
  | 71 => ⟨S256, .i32⟩
  | 72 => ⟨S256, .i32⟩
  | 73 => ⟨S_, .i32⟩
  | 74 => ⟨S256, .i32⟩
  | 75 => ⟨S256, .i32⟩
  | 76 => ⟨S_, .i32⟩
  | 77 => ⟨S256, .i32⟩
  | 78 => ⟨S256, .i32⟩
  | 79 => ⟨S256x1, .i32⟩
  | 80 => ⟨S1x256, .i32⟩
  | 81 => ⟨S256x256, .i32⟩
  | 82 => ⟨S256x256, .i32⟩
  | 83 => ⟨S256x256, .i1⟩
  | 84 => ⟨S1x256, .i32⟩
  | 85 => ⟨S256x1, .i32⟩
  | 86 => ⟨S256x256, .i32⟩
  | 87 => ⟨S256x256, .i32⟩
  | 88 => ⟨S256x256, .i1⟩
  | 89 => ⟨S256x256, .i1⟩
  | 90 => ⟨S1x256, .i32⟩
  | 91 => ⟨S256x1, .i32⟩
  | 92 => ⟨S256x256, .i32⟩
  | 93 => ⟨S256x256, .i32⟩
  | 94 => ⟨S256x256, .i1⟩
  | 95 => ⟨S256x256, .i1⟩
  | 96 => ⟨S256x256, .f32⟩
  | 97 => ⟨S256, .i32⟩
  | 98 => ⟨S256, .f32⟩
  | 99 => ⟨S_, .f32⟩
  | 100 => ⟨S256, .f32⟩
  | 101 => ⟨S256, .f32⟩
  | 102 => ⟨S256x1, .f32⟩
  | 103 => ⟨S256x64, .f32⟩
  | 104 => ⟨S_, .i32⟩
  | 105 => ⟨S256, .i32⟩
  | 106 => ⟨S256, .i32⟩
  | 107 => ⟨S_, .i32⟩
  | 108 => ⟨S256, .i32⟩
  | 109 => ⟨S256, .i32⟩
  | 110 => ⟨S_, .i32⟩
  | 111 => ⟨S256, .i32⟩
  | 112 => ⟨S256, .i32⟩
  | 113 => ⟨S_, .i32⟩
  | 114 => ⟨S256, .i32⟩
  | 115 => ⟨S256, .i32⟩
  | 116 => ⟨S256x1, .i32⟩
  | 117 => ⟨S1x256, .i32⟩
  | 118 => ⟨S256x256, .i32⟩
  | 119 => ⟨S256x256, .i32⟩
  | 120 => ⟨S256x256, .i1⟩
  | 121 => ⟨S1x256, .i32⟩
  | 122 => ⟨S256x1, .i32⟩
  | 123 => ⟨S256x256, .i32⟩
  | 124 => ⟨S256x256, .i32⟩
  | 125 => ⟨S256x256, .i1⟩
  | 126 => ⟨S256x256, .i1⟩
  | 127 => ⟨S1x256, .i32⟩
  | _ => ⟨S8x2048x1024, .f32⟩

abbrev hbmTy0_1 (i : Nat) : BufTy := match i % 128 with
  | 0 => ⟨S256x1, .i32⟩
  | 1 => ⟨S256x256, .i32⟩
  | 2 => ⟨S256x256, .i32⟩
  | 3 => ⟨S256x256, .i1⟩
  | 4 => ⟨S256x256, .i1⟩
  | 5 => ⟨S256x256, .f32⟩
  | 6 => ⟨S256, .i32⟩
  | 7 => ⟨S256, .f32⟩
  | 8 => ⟨S_, .f32⟩
  | 9 => ⟨S256, .f32⟩
  | 10 => ⟨S256, .f32⟩
  | 11 => ⟨S256x1, .f32⟩
  | 12 => ⟨S256x64, .f32⟩
  | 13 => ⟨S_, .i32⟩
  | 14 => ⟨S256, .i32⟩
  | 15 => ⟨S256, .i32⟩
  | 16 => ⟨S_, .i32⟩
  | 17 => ⟨S256, .i32⟩
  | 18 => ⟨S256, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S256x1, .i32⟩
  | 26 => ⟨S1x256, .i32⟩
  | 27 => ⟨S256x256, .i32⟩
  | 28 => ⟨S256x256, .i32⟩
  | 29 => ⟨S256x256, .i1⟩
  | 30 => ⟨S1x256, .i32⟩
  | 31 => ⟨S256x1, .i32⟩
  | 32 => ⟨S256x256, .i32⟩
  | 33 => ⟨S256x256, .i32⟩
  | 34 => ⟨S256x256, .i1⟩
  | 35 => ⟨S256x256, .i1⟩
  | 36 => ⟨S1x256, .i32⟩
  | 37 => ⟨S256x1, .i32⟩
  | 38 => ⟨S256x256, .i32⟩
  | 39 => ⟨S256x256, .i32⟩
  | 40 => ⟨S256x256, .i1⟩
  | 41 => ⟨S256x256, .i1⟩
  | 42 => ⟨S256x256, .f32⟩
  | 43 => ⟨S256, .i32⟩
  | 44 => ⟨S256, .f32⟩
  | 45 => ⟨S_, .f32⟩
  | 46 => ⟨S256, .f32⟩
  | 47 => ⟨S256, .f32⟩
  | 48 => ⟨S256x1, .f32⟩
  | 49 => ⟨S256x64, .f32⟩
  | 50 => ⟨S_, .i32⟩
  | 51 => ⟨S256, .i32⟩
  | 52 => ⟨S256, .i32⟩
  | 53 => ⟨S_, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S256, .i32⟩
  | 61 => ⟨S256, .i32⟩
  | 62 => ⟨S256x1, .i32⟩
  | 63 => ⟨S1x256, .i32⟩
  | 64 => ⟨S256x256, .i32⟩
  | 65 => ⟨S256x256, .i32⟩
  | 66 => ⟨S256x256, .i1⟩
  | 67 => ⟨S1x256, .i32⟩
  | 68 => ⟨S256x1, .i32⟩
  | 69 => ⟨S256x256, .i32⟩
  | 70 => ⟨S256x256, .i32⟩
  | 71 => ⟨S256x256, .i1⟩
  | 72 => ⟨S256x256, .i1⟩
  | 73 => ⟨S1x256, .i32⟩
  | 74 => ⟨S256x1, .i32⟩
  | 75 => ⟨S256x256, .i32⟩
  | 76 => ⟨S256x256, .i32⟩
  | 77 => ⟨S256x256, .i1⟩
  | 78 => ⟨S256x256, .i1⟩
  | 79 => ⟨S256x256, .f32⟩
  | 80 => ⟨S256, .i32⟩
  | 81 => ⟨S256, .f32⟩
  | 82 => ⟨S_, .f32⟩
  | 83 => ⟨S256, .f32⟩
  | 84 => ⟨S256, .f32⟩
  | 85 => ⟨S256x1, .f32⟩
  | 86 => ⟨S256x64, .f32⟩
  | 87 => ⟨S1x256x256, .f32⟩
  | 88 => ⟨S1x256x256, .f32⟩
  | 89 => ⟨S1x256x256, .f32⟩
  | 90 => ⟨S1x256x256, .f32⟩
  | 91 => ⟨S4x256x256, .f32⟩
  | 92 => ⟨S4x256x256, .bf16⟩
  | 93 => ⟨S256x256, .f32⟩
  | 94 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S4x256x256, .bf16⟩
  | .local _ .vmem, ⟨9, _⟩ => ⟨S256x256, .f32⟩
  | .local _ .vmem, ⟨10, _⟩ => ⟨S256x256, .bf16⟩
  | .local _ .vmem, ⟨11, _⟩ => ⟨S1x256, .f32⟩
  | .local _ .vmem, ⟨12, _⟩ => ⟨S1024x1024, .bf16⟩
  | .local _ .vmem, ⟨13, _⟩ => ⟨S1x8x1024, .f32⟩
  | .local _ .vmem, ⟨14, _⟩ => ⟨S1x8x1024, .f32⟩
  | .local _ .vmem, ⟨15, _⟩ => ⟨S1x256x1024, .f32⟩
  | .local _ .vmem, ⟨16, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_c_14 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_c_19 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_21 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_22 : Ref sig .tc := ⟨.hbm, 141, rfl⟩
abbrev main_v109 : Ref sig .tc := ⟨.hbm, 142, rfl⟩
abbrev main_v110 : Ref sig .tc := ⟨.hbm, 143, rfl⟩
abbrev main_c_23 : Ref sig .tc := ⟨.hbm, 144, rfl⟩
abbrev main_v111 : Ref sig .tc := ⟨.hbm, 145, rfl⟩
abbrev main_v112 : Ref sig .tc := ⟨.hbm, 146, rfl⟩
abbrev main_c_24 : Ref sig .tc := ⟨.hbm, 147, rfl⟩
abbrev main_v113 : Ref sig .tc := ⟨.hbm, 148, rfl⟩
abbrev main_v114 : Ref sig .tc := ⟨.hbm, 149, rfl⟩
abbrev main_c_25 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_26 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_c_27 : Ref sig .tc := ⟨.hbm, 178, rfl⟩
abbrev main_v141 : Ref sig .tc := ⟨.hbm, 179, rfl⟩
abbrev main_v142 : Ref sig .tc := ⟨.hbm, 180, rfl⟩
abbrev main_c_28 : Ref sig .tc := ⟨.hbm, 181, rfl⟩
abbrev main_v143 : Ref sig .tc := ⟨.hbm, 182, rfl⟩
abbrev main_v144 : Ref sig .tc := ⟨.hbm, 183, rfl⟩
abbrev main_c_29 : Ref sig .tc := ⟨.hbm, 184, rfl⟩
abbrev main_v145 : Ref sig .tc := ⟨.hbm, 185, rfl⟩
abbrev main_v146 : Ref sig .tc := ⟨.hbm, 186, rfl⟩
abbrev main_c_30 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_31 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8x2048x1024 : Shape := ⟨3, ![8, 2048, 1024]⟩
abbrev S8x2048x512 : Shape := ⟨3, ![8, 2048, 512]⟩
abbrev S8x2048x2688 : Shape := ⟨3, ![8, 2048, 2688]⟩
abbrev S8x2048x256 : Shape := ⟨3, ![8, 2048, 256]⟩
abbrev S16x6144 : Shape := ⟨2, ![16, 6144]⟩
abbrev S4x64x64 : Shape := ⟨3, ![4, 64, 64]⟩
abbrev S256 : Shape := ⟨1, ![256]⟩
abbrev S1024x1024 : Shape := ⟨2, ![1024, 1024]⟩
abbrev S8x6144 : Shape := ⟨2, ![8, 6144]⟩
abbrev S8x1x6144 : Shape := ⟨3, ![8, 1, 6144]⟩
abbrev S8x1x1024 : Shape := ⟨3, ![8, 1, 1024]⟩
abbrev S8x32x64x4x64 : Shape := ⟨5, ![8, 32, 64, 4, 64]⟩
abbrev S8x32x64x1x64 : Shape := ⟨5, ![8, 32, 64, 1, 64]⟩
abbrev S8x32x64x64 : Shape := ⟨4, ![8, 32, 64, 64]⟩
abbrev S_ : Shape := ⟨0, ![]⟩
abbrev S8x32x65x64 : Shape := ⟨4, ![8, 32, 65, 64]⟩
abbrev S64 : Shape := ⟨1, ![64]⟩
abbrev S64x1 : Shape := ⟨2, ![64, 1]⟩
abbrev S1x1x64x1 : Shape := ⟨4, ![1, 1, 64, 1]⟩
abbrev S8x32x67x64 : Shape := ⟨4, ![8, 32, 67, 64]⟩
abbrev S8x32x71x64 : Shape := ⟨4, ![8, 32, 71, 64]⟩
abbrev S8x32x79x64 : Shape := ⟨4, ![8, 32, 79, 64]⟩
abbrev S4x64x8x32x64 : Shape := ⟨5, ![4, 64, 8, 32, 64]⟩
abbrev S1x1x256 : Shape := ⟨3, ![1, 1, 256]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x2688, .f32⟩
  | 3 => ⟨S8x2048x256, .f32⟩
  | 4 => ⟨S16x6144, .f32⟩
  | 5 => ⟨S4x64x64, .f32⟩
  | 6 => ⟨S256, .f32⟩
  | 7 => ⟨S1024x1024, .f32⟩
  | 8 => ⟨S8x6144, .f32⟩
  | 9 => ⟨S8x1x6144, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x2048x256, .f32⟩
  | 17 => ⟨S8x32x64x4x64, .f32⟩
  | 18 => ⟨S8x32x64x1x64, .f32⟩
  | 19 => ⟨S8x32x64x64, .f32⟩
  | 20 => ⟨S_, .i32⟩
  | 21 => ⟨S_, .f32⟩
  | 22 => ⟨S8x32x65x64, .f32⟩
  | 23 => ⟨S8x32x64x64, .f32⟩
  | 24 => ⟨S_, .f32⟩
  | 25 => ⟨S8x32x64x64, .f32⟩
  | 26 => ⟨S8x32x64x64, .f32⟩
  | 27 => ⟨S8x32x64x64, .f32⟩
  | 28 => ⟨S8x32x64x64, .f32⟩
  | 29 => ⟨S64, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64, .i32⟩
  | 46 => ⟨S64, .f32⟩
  | 47 => ⟨S64x1, .f32⟩
  | 48 => ⟨S1x1x64x1, .f32⟩
  | 49 => ⟨S8x32x64x64, .f32⟩
  | 50 => ⟨S8x32x64x64, .f32⟩
  | 51 => ⟨S8x32x64x1x64, .f32⟩
  | 52 => ⟨S8x32x64x64, .f32⟩
  | 53 => ⟨S8x32x64x64, .f32⟩
  | 54 => ⟨S8x32x64x1x64, .f32⟩
  | 55 => ⟨S8x32x64x64, .f32⟩
  | 56 => ⟨S_, .i32⟩
  | 57 => ⟨S_, .f32⟩
  | 58 => ⟨S8x32x67x64, .f32⟩
  | 59 => ⟨S8x32x64x64, .f32⟩
  | 60 => ⟨S_, .f32⟩
  | 61 => ⟨S8x32x64x64, .f32⟩
  | 62 => ⟨S8x32x64x64, .f32⟩
  | 63 => ⟨S8x32x64x64, .f32⟩
  | 64 => ⟨S8x32x64x64, .f32⟩
  | 65 => ⟨S8x32x64x64, .f32⟩
  | 66 => ⟨S8x32x64x64, .f32⟩
  | 67 => ⟨S8x32x64x64, .f32⟩
  | 68 => ⟨S8x32x64x64, .f32⟩
  | 69 => ⟨S64, .i32⟩
  | 70 => ⟨S_, .i32⟩
  | 71 => ⟨S64, .i32⟩
  | 72 => ⟨S64, .i32⟩
  | 73 => ⟨S_, .i32⟩
  | 74 => ⟨S64, .i32⟩
  | 75 => ⟨S64, .i32⟩
  | 76 => ⟨S_, .i32⟩
  | 77 => ⟨S64, .i32⟩
  | 78 => ⟨S64, .i32⟩
  | 79 => ⟨S_, .i32⟩
  | 80 => ⟨S64, .i32⟩
  | 81 => ⟨S64, .i32⟩
  | 82 => ⟨S_, .i32⟩
  | 83 => ⟨S64, .i32⟩
  | 84 => ⟨S64, .i32⟩
  | 85 => ⟨S64, .i32⟩
  | 86 => ⟨S64, .f32⟩
  | 87 => ⟨S64x1, .f32⟩
  | 88 => ⟨S1x1x64x1, .f32⟩
  | 89 => ⟨S8x32x64x64, .f32⟩
  | 90 => ⟨S8x32x64x64, .f32⟩
  | 91 => ⟨S8x32x64x1x64, .f32⟩
  | 92 => ⟨S8x32x64x64, .f32⟩
  | 93 => ⟨S8x32x64x64, .f32⟩
  | 94 => ⟨S8x32x64x1x64, .f32⟩
  | 95 => ⟨S8x32x64x64, .f32⟩
  | 96 => ⟨S_, .i32⟩
  | 97 => ⟨S_, .f32⟩
  | 98 => ⟨S8x32x71x64, .f32⟩
  | 99 => ⟨S8x32x64x64, .f32⟩
  | 100 => ⟨S_, .f32⟩
  | 101 => ⟨S8x32x64x64, .f32⟩
  | 102 => ⟨S8x32x64x64, .f32⟩
  | 103 => ⟨S8x32x64x64, .f32⟩
  | 104 => ⟨S8x32x64x64, .f32⟩
  | 105 => ⟨S8x32x64x64, .f32⟩
  | 106 => ⟨S8x32x64x64, .f32⟩
  | 107 => ⟨S8x32x64x64, .f32⟩
  | 108 => ⟨S8x32x64x64, .f32⟩
  | 109 => ⟨S8x32x64x64, .f32⟩
  | 110 => ⟨S8x32x64x64, .f32⟩
  | 111 => ⟨S8x32x64x64, .f32⟩
  | 112 => ⟨S8x32x64x64, .f32⟩
  | 113 => ⟨S8x32x64x64, .f32⟩
  | 114 => ⟨S8x32x64x64, .f32⟩
  | 115 => ⟨S8x32x64x64, .f32⟩
  | 116 => ⟨S8x32x64x64, .f32⟩
  | 117 => ⟨S64, .i32⟩
  | 118 => ⟨S_, .i32⟩
  | 119 => ⟨S64, .i32⟩
  | 120 => ⟨S64, .i32⟩
  | 121 => ⟨S_, .i32⟩
  | 122 => ⟨S64, .i32⟩
  | 123 => ⟨S64, .i32⟩
  | 124 => ⟨S_, .i32⟩
  | 125 => ⟨S64, .i32⟩
  | 126 => ⟨S64, .i32⟩
  | 127 => ⟨S_, .i32⟩
  | _ => ⟨S8x2048x1024, .f32⟩

abbrev hbmTy0_1 (i : Nat) : BufTy := match i % 128 with
  | 0 => ⟨S64, .i32⟩
  | 1 => ⟨S64, .i32⟩
  | 2 => ⟨S_, .i32⟩
  | 3 => ⟨S64, .i32⟩
  | 4 => ⟨S64, .i32⟩
  | 5 => ⟨S64, .i32⟩
  | 6 => ⟨S64, .f32⟩
  | 7 => ⟨S64x1, .f32⟩
  | 8 => ⟨S1x1x64x1, .f32⟩
  | 9 => ⟨S8x32x64x64, .f32⟩
  | 10 => ⟨S8x32x64x64, .f32⟩
  | 11 => ⟨S8x32x64x1x64, .f32⟩
  | 12 => ⟨S8x32x64x64, .f32⟩
  | 13 => ⟨S8x32x64x64, .f32⟩
  | 14 => ⟨S8x32x64x1x64, .f32⟩
  | 15 => ⟨S8x32x64x64, .f32⟩
  | 16 => ⟨S_, .i32⟩
  | 17 => ⟨S_, .f32⟩
  | 18 => ⟨S8x32x79x64, .f32⟩
  | 19 => ⟨S8x32x64x64, .f32⟩
  | 20 => ⟨S_, .f32⟩
  | 21 => ⟨S8x32x64x64, .f32⟩
  | 22 => ⟨S8x32x64x64, .f32⟩
  | 23 => ⟨S8x32x64x64, .f32⟩
  | 24 => ⟨S8x32x64x64, .f32⟩
  | 25 => ⟨S8x32x64x64, .f32⟩
  | 26 => ⟨S8x32x64x64, .f32⟩
  | 27 => ⟨S8x32x64x64, .f32⟩
  | 28 => ⟨S8x32x64x64, .f32⟩
  | 29 => ⟨S8x32x64x64, .f32⟩
  | 30 => ⟨S8x32x64x64, .f32⟩
  | 31 => ⟨S8x32x64x64, .f32⟩
  | 32 => ⟨S8x32x64x64, .f32⟩
  | 33 => ⟨S8x32x64x64, .f32⟩
  | 34 => ⟨S8x32x64x64, .f32⟩
  | 35 => ⟨S8x32x64x64, .f32⟩
  | 36 => ⟨S8x32x64x64, .f32⟩
  | 37 => ⟨S8x32x64x64, .f32⟩
  | 38 => ⟨S8x32x64x64, .f32⟩
  | 39 => ⟨S8x32x64x64, .f32⟩
  | 40 => ⟨S8x32x64x64, .f32⟩
  | 41 => ⟨S8x32x64x64, .f32⟩
  | 42 => ⟨S8x32x64x64, .f32⟩
  | 43 => ⟨S8x32x64x64, .f32⟩
  | 44 => ⟨S8x32x64x64, .f32⟩
  | 45 => ⟨S8x32x64x64, .f32⟩
  | 46 => ⟨S8x32x64x64, .f32⟩
  | 47 => ⟨S8x32x64x64, .f32⟩
  | 48 => ⟨S8x32x64x64, .f32⟩
  | 49 => ⟨S8x32x64x64, .f32⟩
  | 50 => ⟨S8x32x64x64, .f32⟩
  | 51 => ⟨S8x32x64x64, .f32⟩
  | 52 => ⟨S8x32x64x64, .f32⟩
  | 53 => ⟨S64, .i32⟩
  | 54 => ⟨S_, .i32⟩
  | 55 => ⟨S64, .i32⟩
  | 56 => ⟨S64, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S64, .i32⟩
  | 70 => ⟨S64, .f32⟩
  | 71 => ⟨S64x1, .f32⟩
  | 72 => ⟨S1x1x64x1, .f32⟩
  | 73 => ⟨S8x32x64x64, .f32⟩
  | 74 => ⟨S8x32x64x64, .f32⟩
  | 75 => ⟨S8x32x64x1x64, .f32⟩
  | 76 => ⟨S8x32x64x64, .f32⟩
  | 77 => ⟨S8x32x64x64, .f32⟩
  | 78 => ⟨S8x32x64x1x64, .f32⟩
  | 79 => ⟨S8x32x64x1x64, .f32⟩
  | 80 => ⟨S8x32x64x1x64, .f32⟩
  | 81 => ⟨S8x32x64x1x64, .f32⟩
  | 82 => ⟨S8x32x64x4x64, .f32⟩
  | 83 => ⟨S4x64x8x32x64, .f32⟩
  | 84 => ⟨S8x32x64x4x64, .f32⟩
  | 85 => ⟨S8x2048x256, .f32⟩
  | 86 => ⟨S1x1x256, .f32⟩
  | 87 => ⟨S8x2048x256, .f32⟩
  | 88 => ⟨S8x2048x256, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_call2_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_14 : Ref sig .tc := ⟨.hbm, 118, rfl⟩
abbrev main_v91 : Ref sig .tc := ⟨.hbm, 119, rfl⟩
abbrev main_v92 : Ref sig .tc := ⟨.hbm, 120, rfl⟩
abbrev main_c_15 : Ref sig .tc := ⟨.hbm, 121, rfl⟩
abbrev main_v93 : Ref sig .tc := ⟨.hbm, 122, rfl⟩
abbrev main_v94 : Ref sig .tc := ⟨.hbm, 123, rfl⟩
abbrev main_c_16 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_c_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_19 : Ref sig .tc := ⟨.hbm, 144, rfl⟩
abbrev main_call3_v0 : Ref sig .tc := ⟨.hbm, 145, rfl⟩
abbrev main_v112 : Ref sig .tc := ⟨.hbm, 146, rfl⟩
abbrev main_v113 : Ref sig .tc := ⟨.hbm, 147, rfl⟩
abbrev main_cst_20 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_c_21 : Ref sig .tc := ⟨.hbm, 182, rfl⟩
abbrev main_v147 : Ref sig .tc := ⟨.hbm, 183, rfl⟩
abbrev main_v148 : Ref sig .tc := ⟨.hbm, 184, rfl⟩
abbrev main_c_22 : Ref sig .tc := ⟨.hbm, 185, rfl⟩
abbrev main_v149 : Ref sig .tc := ⟨.hbm, 186, rfl⟩
abbrev main_v150 : Ref sig .tc := ⟨.hbm, 187, rfl⟩
abbrev main_c_23 : Ref sig .tc := ⟨.hbm, 188, rfl⟩
abbrev main_v151 : Ref sig .tc := ⟨.hbm, 189, rfl⟩
abbrev main_v152 : Ref sig .tc := ⟨.hbm, 190, rfl⟩
abbrev main_c_24 : Ref sig .tc := ⟨.hbm, 191, rfl⟩
abbrev main_v153 : Ref sig .tc := ⟨.hbm, 192, rfl⟩
abbrev main_v154 : Ref sig .tc := ⟨.hbm, 193, rfl⟩
abbrev main_c_25 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩

abbrev nD : Nat := 1
abbrev τ : Topo := Topo.v7x

variable {F : FTy → Type} [FloatOps F]
-- ==== Proof.WordsRun.lean ====
/- The kernel's body at any floats: it runs, and leaves its inputs as they were. What it leaves in its outputs is not named here. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Words

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at point `t`, and that it is whole; the scratch buffers. -/
abbrev ms0_0 (t : Fin cfg0.N) : Memref sig .tc .vmem S1x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2304x4 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x4x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x128 .f32 := win0_13.stage (cfg0.slots t 13)
abbrev hs0_13 (t : Fin cfg0.N) : (ms0_13 t).IsWhole := hstage0_13 ((cfg0.slots t 13).cast nbuf0_13)
abbrev scM0_0 : Memref sig .tc .vmem S2304x128 .f32 := Memref.whole cc0_scratch0
abbrev scM0_1 : Memref sig .tc .vmem S2304x128 .f32 := Memref.whole cc0_scratch1
abbrev scM0_2 : Memref sig .tc .vmem S2304x128 .f32 := Memref.whole cc0_scratch2
abbrev scM0_3 : Memref sig .tc .vmem S2304x128 .f32 := Memref.whole cc0_scratch3
abbrev scM0_4 : Memref sig .tc .vmem S2304x128 .f32 := Memref.whole cc0_scratch4
abbrev scM0_5 : Memref sig .tc .vmem S2304x128 .f32 := Memref.whole cc0_scratch5
abbrev scM0_6 : Memref sig .tc .vmem S2304x128 .f32 := Memref.whole cc0_scratch6
abbrev scM0_7 : Memref sig .tc .vmem S2x2304x128 .f32 := Memref.whole cc0_scratch7
abbrev scM0_8 : Memref sig .tc .vmem S2432x128 .f32 := Memref.whole cc0_scratch8
abbrev scM0_9 : Memref sig .tc .vmem S2x4608x128 .bf16 := Memref.whole cc0_scratch9
abbrev scM0_10 : Memref sig .tc .vmem S2x4608x128 .f32 := Memref.whole cc0_scratch10
abbrev scM0_11 : Memref sig .tc .vmem S2x2304x128 .bf16 := Memref.whole cc0_scratch11
abbrev scM0_12 : Memref sig .tc .vmem S2x2304x128 .f32 := Memref.whole cc0_scratch12
abbrev scM0_13 : Memref sig .tc .vmem S2x288x128 .f32 := Memref.whole cc0_scratch13

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

set_option maxHeartbeats 1432000 in
/-- The body on whole staging buffers at given inputs, the outputs and the scratch at anything: it runs and hands the inputs back
    as they were. -/
theorem kernelRun0_A (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole)
    (x0 : Vec F S1x256x128 .f32) (x1 : Vec F S1x256x128 .f32) (x2 : Vec F S1x256x128 .f32) (x3 : Vec F S1x256x128 .f32) (x4 : Vec F S1x2048x128 .f32) (x5 : Vec F S1x2048x128 .f32) (x6 : Vec F S1x2048x128 .f32) (x7 : Vec F S1x2048x128 .f32) (x8 : Vec F S1x1x2304x4 .f32) (x9 : Vec F S1x3x4x128 .f32) (x10 : Vec F S1x8x128 .f32) (x11 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_delta i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_delta_eq_skeleton]; unfold cc0_delta_skel
    simp only [k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    iexists _, _; isplitr; swap; · iexact HS13
    ipureintro; rfl

end Cert.Kernel.Words

end
-- ==== Proof.WordsFrame.lean ====
/- The kernel's frame at any floats: from any memory with zero counters it runs, its arguments end unchanged and every counter at
   zero. -/
module

public import proofs.«01_k».proof.Proof.WordsRun
public import Idealize.ShloMosaic.Lib.Claim

@[expose] public section

set_option maxRecDepth 16384

noncomputable section

namespace Cert.Kernel.Words

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end unchanged, from what a run of the call leaves in the arrays. -/
theorem frame_of_forgets (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      (Pipeline.RDat.FramePost.arr_in h c 7 rfl).trans ((hA c 7).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The two output windows. -/
def forgets0 : Fin 14 → Bool := fun w => w.val == 12 || w.val == 13

/-- The arrays as the call finds them; after each grid point the inputs' buffers at their blocks, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d))

set_option maxHeartbeats 2800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forgets m ρ (fun c => (dats m 0 c).toRForget forgets0) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Words

end
-- ==== Proof.Run.lean ====
/- The run of the kernel's body on whole buffers, over any values: what the two output buffers end with is
   found by running the body, as pieces over the buffers' starting contents. -/
module

public import proofs.«01_k».proof.Proof.Gen.KernelIdeal.Frame
public import proofs.«01_k».proof.Proof.Gen.KernelIdeal.Loops

@[expose] public section

set_option maxRecDepth 16384

noncomputable section

namespace Cert.Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body's triple.  The inputs' buffers hold `x0 … x11`, the outputs' `x12`, `x13`, the scratch buffers
    `s0 … s13`; the body ends with the inputs as they were, the scratch at some contents, and the outputs at
    their starting contents overwritten by the two lists of pieces the run finds. -/
def kernelRun (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole)
    (x0 : Vec F S1x256x128 .f32) (x1 : Vec F S1x256x128 .f32) (x2 : Vec F S1x256x128 .f32) (x3 : Vec F S1x256x128 .f32) (x4 : Vec F S1x2048x128 .f32) (x5 : Vec F S1x2048x128 .f32) (x6 : Vec F S1x2048x128 .f32) (x7 : Vec F S1x2048x128 .f32) (x8 : Vec F S1x1x2304x4 .f32) (x9 : Vec F S1x3x4x128 .f32) (x10 : Vec F S1x8x128 .f32) (x11 : Vec F S1x128 .f32) (x12 : Vec F S1x2048x128 .f32) (x13 : Vec F S1x256x128 .f32) (s0 : Vec F S2304x128 .f32) (s1 : Vec F S2304x128 .f32) (s2 : Vec F S2304x128 .f32) (s3 : Vec F S2304x128 .f32) (s4 : Vec F S2304x128 .f32) (s5 : Vec F S2304x128 .f32) (s6 : Vec F S2304x128 .f32) (s7 : Vec F S2x2304x128 .f32) (s8 : Vec F S2432x128 .f32) (s9 : Vec F S2x4608x128 .bf16) (s10 : Vec F S2x4608x128 .f32) (s11 : Vec F S2x2304x128 .bf16) (s12 : Vec F S2x2304x128 .f32) (s13 : Vec F S2x288x128 .f32) :
      Σ' (L12 : List (View.Piece (Elt F) S1x2048x128 .f32)), { L13 : List (View.Piece (Elt F) S1x256x128 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5 ∗ owns (c : Thread nD τ) arg22 fullShare s6 ∗ owns (c : Thread nD τ) arg23 fullShare s7 ∗ owns (c : Thread nD τ) arg24 fullShare s8 ∗ owns (c : Thread nD τ) arg25 fullShare s9 ∗ owns (c : Thread nD τ) arg26 fullShare s10 ∗ owns (c : Thread nD τ) arg27 fullShare s11 ∗ owns (c : Thread nD τ) arg28 fullShare s12 ∗ owns (c : Thread nD τ) arg29 fullShare s13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (arg14.view.read _ (arg14.view.writes _ (harg14.unread x12) L12)) ∗ owns (c : Thread nD τ) arg15 fullShare (arg15.view.read _ (arg15.view.writes _ (harg15.unread x13) L13)) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_delta i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
    refine ⟨?_, ?_, fun E K => ?run⟩
    case run =>
      simp only [cc0_delta_eq_skeleton]; unfold cc0_delta_skel
      simp only [k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, ⟨%fs10, %hfs10, HS10⟩, ⟨%fs11, %hfs11, HS11⟩, ⟨%fs12, %hfs12, HS12⟩, ⟨%fs13, %hfs13, HS13⟩, Hk⟩
      obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0; obtain rfl := harg17.eq_unread hfs1; obtain rfl := harg18.eq_unread hfs2; obtain rfl := harg19.eq_unread hfs3; obtain rfl := harg20.eq_unread hfs4; obtain rfl := harg21.eq_unread hfs5; obtain rfl := harg22.eq_unread hfs6; obtain rfl := harg23.eq_unread hfs7; obtain rfl := harg24.eq_unread hfs8; obtain rfl := harg25.eq_unread hfs9; obtain rfl := harg26.eq_unread hfs10; obtain rfl := harg27.eq_unread hfs11; obtain rfl := harg28.eq_unread hfs12; obtain rfl := harg29.eq_unread hfs13
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists (arg14.view.writes _ (harg14.unread x12) _); isplitr; swap; · iexact H12
        ipureintro; rfl
      isplitl [H13]
      · iexists (arg15.view.writes _ (harg15.unread x13) _); isplitr; swap; · iexact H13
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      isplitl [HS10]
      · iexists _, _; isplitr; swap; · iexact HS10
        ipureintro; rfl
      isplitl [HS11]
      · iexists _, _; isplitr; swap; · iexact HS11
        ipureintro; rfl
      isplitl [HS12]
      · iexists _, _; isplitr; swap; · iexact HS12
        ipureintro; rfl
      iexists _, _; isplitr; swap; · iexact HS13
      ipureintro; rfl

end Cert.Delta

end
-- ==== Proof.Spec.lean ====
/- What one (batch, head) pair's tokens are made of, over extended reals: the four-tap convolution of a row of
   projections, its SiLU, the unit length vectors, the gates, and sums of decays inside a chunk of 64 tokens. -/
module

public import Idealize.ShloMosaic.Lib.Pointwise

@[expose] public section

noncomputable section

namespace Cert.Delta.Spec

open Idealize.ShloMosaic

/-- Row `r + j - 2` of a sequence of `n` rows, zero outside it: tap `j` of the convolution at row `r`. -/
def tap {n : ℕ} (X : Fin n → EReal) (r : Fin n) (j : ℕ) : EReal :=
  if h : 2 ≤ r.val + j ∧ r.val + j < n + 2 then X ⟨r.val + j - 2, by omega⟩ else 0

/-- Four taps, two rows back to one ahead. -/
def conv {n : ℕ} (w : Fin 4 → EReal) (X : Fin n → EReal) (r : Fin n) : EReal :=
  w 0 * tap X r 0 + w 1 * tap X r 1 + w 2 * tap X r 2 + w 3 * tap X r 3

def silu (x : EReal) : EReal := x * Ideal.logistic x

/-- The smoothing constant of the norms. -/
def eps : EReal := Ideal.ofBits FTy.f32 897988541#32

/-- The scale of the queries. -/
def scale : EReal := Ideal.ofBits FTy.f32 1035273459#32

/-- Entry `l` of a vector brought to unit length. -/
def unit (f : Fin 128 → EReal) (l : Fin 128) : EReal := f l * Ideal.rsqrt (∑ x, f x * f x + eps)

/-- The convolved and activated row. -/
def act {n : ℕ} (w : Fin 4 → Fin 128 → EReal) (X : Fin n → Fin 128 → EReal) (r : Fin n) (l : Fin 128) : EReal :=
  silu (conv (fun j => w j l) (fun r => X r l) r)

/-- One token of the joined sequence: the 256 of the context, then the 2048 others. -/
def joined {α : Type} (c : Fin 256 → α) (x : Fin 2048 → α) (t : Fin 2304) : α :=
  if h : t.val < 256 then c ⟨t.val, h⟩ else x ⟨t.val - 256, by have := t.isLt; omega⟩

/-- The convolved and activated row of the joined sequence. -/
def value (w : Fin 4 → Fin 128 → EReal) (c : Fin 256 → Fin 128 → EReal) (x : Fin 2048 → Fin 128 → EReal) :
    Fin 2304 → Fin 128 → EReal := joined (act w c) (act w x)

def key (w : Fin 4 → Fin 128 → EReal) (c : Fin 256 → Fin 128 → EReal) (x : Fin 2048 → Fin 128 → EReal)
    (t : Fin 2304) (l : Fin 128) : EReal := unit (value w c x t) l

def query (w : Fin 4 → Fin 128 → EReal) (c : Fin 256 → Fin 128 → EReal) (x : Fin 2048 → Fin 128 → EReal)
    (t : Fin 2304) (l : Fin 128) : EReal := unit (value w c x t) l * scale

/-- The log of a token's decay. -/
def decay (a dt x : EReal) : EReal :=
  (0 - Ideal.exp a) * (max (x + dt) 0 + Ideal.log1p (Ideal.exp (0 - FloatOps.absf (F := Ideal) (φ := FTy.f32) (x + dt))))

/-- The output's normalisation by its mean square. -/
def normed (f : Fin 128 → EReal) (l : Fin 128) : EReal :=
  f l * Ideal.rsqrt (Ideal.div (∑ x, f x * f x) (Ideal.ofBits FTy.f32 1124073472#32) + eps)

/-- The last `w` decays up to row `r`, none from before its chunk. -/
def back (g : ℕ → EReal) (w r : ℕ) : EReal := ∑ u ∈ Finset.range (min w (r % 64 + 1)), g (r - u)

/-- The next `w` decays from row `r` on, none from after its chunk. -/
def ahead (g : ℕ → EReal) (w r : ℕ) : EReal := ∑ u ∈ Finset.range (min w (64 - r % 64)), g (r + u)

theorem back_double (g : ℕ → EReal) (w r : ℕ) :
    back g (w + w) r = back g w r + if w ≤ r % 64 then back g w (r - w) else 0 := by
  unfold back
  split
  · rename_i h
    have h1 : (r - w) % 64 = r % 64 - w := by omega
    have h2 : min (w + w) (r % 64 + 1) = w + min w ((r - w) % 64 + 1) := by omega
    have h3 : min w (r % 64 + 1) = w := by omega
    rw [h2, h3, Finset.sum_range_add]
    congr 1
    exact Finset.sum_congr rfl fun u _ => by rw [Nat.sub_sub]
  · rename_i h
    rw [add_zero]
    congr 2; omega

theorem ahead_double (g : ℕ → EReal) (w r : ℕ) :
    ahead g (w + w) r = ahead g w r + if r % 64 + w < 64 then ahead g w (r + w) else 0 := by
  unfold ahead
  split
  · rename_i h
    have h1 : (r + w) % 64 = r % 64 + w := by omega
    have h2 : min (w + w) (64 - r % 64) = w + min w (64 - (r + w) % 64) := by omega
    have h3 : min w (64 - r % 64) = w := by omega
    rw [h2, h3, Finset.sum_range_add]
    congr 1
    exact Finset.sum_congr rfl fun u _ => by rw [Nat.add_assoc]
  · rename_i h
    rw [add_zero]
    congr 2; omega

theorem back_one (g : ℕ → EReal) (r : ℕ) : back g 1 r = g r := by
  unfold back
  rw [show min 1 (r % 64 + 1) = 1 by omega]; simp

theorem ahead_one (g : ℕ → EReal) (r : ℕ) : ahead g 1 r = g r := by
  unfold ahead
  rw [show min 1 (64 - r % 64) = 1 by omega]; simp

/-- At row `p` of chunk `n`: the decays of the chunk's rows up to it. -/
theorem back_chunk (g : ℕ → EReal) (n p : ℕ) (hp : p < 64) :
    back g 64 (64 * n + p) = ∑ u ∈ Finset.range (p + 1), g (64 * n + u) := by
  unfold back
  rw [show min 64 ((64 * n + p) % 64 + 1) = p + 1 by omega, ← Finset.sum_range_reflect]
  refine Finset.sum_congr rfl fun u hu => ?_
  have := Finset.mem_range.mp hu
  congr 1; omega

/-- At row `63 - p` of chunk `n`: the decays of the chunk's rows from it on. -/
theorem ahead_chunk (g : ℕ → EReal) (n p : ℕ) (hp : p < 64) :
    ahead g 64 (64 * n + (63 - p)) = ∑ u ∈ Finset.range (p + 1), g (64 * n + (63 - u)) := by
  unfold ahead
  rw [show min 64 (64 - (64 * n + (63 - p)) % 64) = p + 1 by omega, ← Finset.sum_range_reflect]
  refine Finset.sum_congr rfl fun u hu => ?_
  have := Finset.mem_range.mp hu
  congr 1; omega

end Cert.Delta.Spec
end
-- ==== Proof.Pieces.lean ====
/- Reading an array that was written piece by piece: at an index the last piece that holds it decides; an array cut
   into two planes of equal blocks of rows, all of them stored, holds each block's own payload. -/
module

public import Idealize.ShloMosaic.Lib.Pipeline.Value
public import Idealize.ShloMosaic.Lib.Pipeline.FrameBody
public import Idealize.ShloMosaic.Lib.Pipeline.ValueKit
public import Idealize.ShloMosaic.Lib.Pointwise

@[expose] public section

noncomputable section

namespace Cert.Delta

open Idealize.ShloMosaic Idealize.ShloMosaic.TcCoe Idealize.ShloMosaic.Tactic

section
variable {Val : EltTy → Type} [∀ e, Nonempty (Val e)] {e : EltTy}

/-- The last piece, where it holds the index, and the earlier ones elsewhere. -/
theorem canon_overlay {S : Shape} (off size : Fin S.rank → ℕ) (inb : ∀ a, off a + size a ≤ S.size a)
    (w : (Rect.unit off size inb).shape.Idx → Val e) (L : List (View.Piece Val S e)) (y : S.Idx) :
    View.canon (⟨Rect.unit off size inb, w⟩ :: L) y
      = if h : ∀ a, off a ≤ (y a : ℕ) ∧ (y a : ℕ) < off a + size a then
          w (fun a => ⟨(y a : ℕ) - off a, by have := h a; show _ < size a; omega⟩)
        else View.canon L y := by
  split
  · rename_i h
    conv_lhs => rw [show y = (Rect.unit off size inb).emb (fun a => ⟨(y a : ℕ) - off a, by have := h a; show _ < size a; omega⟩)
      from funext fun a => Fin.ext (by rw [ValueKit.rect_emb_unit_val]; have := h a; show _ = off a + ((y a : ℕ) - off a); omega)]
    exact View.canon_cons_emb _ w L _
  · rename_i h
    exact View.canon_cons_of_not_mem _ L (fun hm => h ((Rect.mem_set_unit (inb := inb)).mp hm))

/-- Block `n` of `R` rows in plane `p` of an array of two planes of 36 blocks. -/
abbrev blockRect (R M : ℕ) (hM : M = 36 * R) (p : Fin 2) (n : Fin 36) : Rect ⟨3, ![2, M, 128]⟩ :=
  Rect.unit (s := ⟨3, ![2, M, 128]⟩) ![p.val, R * n.val, 0] ![1, R, 128] (by
    intro a
    have h1 := p.isLt
    have h2 : R * n.val + R ≤ 36 * R := by nlinarith [n.isLt]
    fin_cases a <;> simp <;> omega)

/-- A piece at a block. -/
abbrev blockPiece (R M : ℕ) (hM : M = 36 * R) (p : Fin 2) (n : Fin 36)
    (w : (⟨3, ![1, R, 128]⟩ : Shape).Idx → Val e) : View.Piece Val ⟨3, ![2, M, 128]⟩ e :=
  ⟨blockRect R M hM p n, w⟩

/-- A piece whose offsets come out at a block is the piece at the block. -/
theorem piece_block {R M : ℕ} (hM : M = 36 * R) {off : Fin 3 → ℕ} (p : Fin 2) (n : Fin 36) (h : off = ![p.val, R * n.val, 0])
    (inb) (w : (⟨3, ![1, R, 128]⟩ : Shape).Idx → Val e) :
    (⟨Rect.unit (s := ⟨3, ![2, M, 128]⟩) off ![1, R, 128] inb, w⟩ : View.Piece Val ⟨3, ![2, M, 128]⟩ e)
      = blockPiece R M hM p n w := by
  subst h; rfl

theorem ld_block {R M : ℕ} (hM : M = 36 * R) {off : Fin 3 → ℕ} (p : Fin 2) (n : Fin 36) (h : off = ![p.val, R * n.val, 0])
    (inb) (A : (⟨3, ![2, M, 128]⟩ : Shape).Idx → Val e) :
    View.ld A (Rect.unit (s := ⟨3, ![2, M, 128]⟩) off ![1, R, 128] inb) = View.ld A (blockRect R M hM p n) := by
  subst h; rfl

/-- The index of row `r` of block `n`. -/
theorem block_lt {R M : ℕ} (hM : M = 36 * R) (n : Fin 36) (r : Fin R) : R * n.val + r.val < M := by
  have := n.isLt; have := r.isLt; nlinarith

theorem emb_mem {S : Shape} (r : Rect S) (x : r.shape.Idx) : r.emb x ∈ r.set :=
  r.idx_mem x

theorem mem_of_piece {S : Shape} {r r' : Rect S} {w : r.shape.Idx → Val e} {w' : r'.shape.Idx → Val e}
    (h : (⟨r, w⟩ : View.Piece Val S e) = ⟨r', w'⟩) (x : r.shape.Idx) : r.emb x ∈ r'.set := by
  cases h; exact emb_mem r x

/-- Blocks at different places do not meet. -/
theorem block_unique {R M : ℕ} (hM : M = 36 * R) {p p' : Fin 2} {n n' : Fin 36} {y : (⟨3, ![2, M, 128]⟩ : Shape).Idx}
    (h : y ∈ (blockRect R M hM p n).set) (h' : y ∈ (blockRect R M hM p' n').set) : p = p' ∧ n = n' := by
  have a0 := Rect.mem_set_unit.mp h 0
  have a1 := Rect.mem_set_unit.mp h 1
  have b0 := Rect.mem_set_unit.mp h' 0
  have b1 := Rect.mem_set_unit.mp h' 1
  simp only [Matrix.cons_val_zero, Matrix.cons_val_one] at a0 a1 b0 b1
  refine ⟨Fin.ext (by omega), Fin.ext ?_⟩
  by_contra hne
  rcases Nat.lt_or_gt_of_ne hne with hlt | hlt
  · have : R * n.val + R ≤ R * n'.val := by nlinarith
    omega
  · have : R * n'.val + R ≤ R * n.val := by nlinarith
    omega

/-- An array all of whose pieces are blocks with the payloads `pay`, each block among them, holds in each block its
    payload. -/
theorem ld_canon_blocks {R M : ℕ} (hM : M = 36 * R) (L : List (View.Piece Val ⟨3, ![2, M, 128]⟩ e))
    (pay : Fin 2 → Fin 36 → (⟨3, ![1, R, 128]⟩ : Shape).Idx → Val e)
    (hL : ∀ q ∈ L, ∃ p n, q = blockPiece R M hM p n (pay p n)) (p : Fin 2) (n : Fin 36)
    (hpn : blockPiece R M hM p n (pay p n) ∈ L) :
    View.ld (View.canon L) (blockRect R M hM p n) = pay p n := by
  funext x
  show View.canon L ((blockRect R M hM p n).emb x) = _
  induction L with
  | nil => simp at hpn
  | cons q L ih =>
    obtain ⟨p', n', rfl⟩ := hL q (by simp)
    by_cases hm : (blockRect R M hM p n).emb x ∈ (blockRect R M hM p' n').set
    · have hu := block_unique hM (emb_mem (blockRect R M hM p n) x) hm
      obtain ⟨h1, h2⟩ := hu
      subst h1 h2
      exact View.canon_cons_emb _ _ L x
    · rw [View.canon_cons_of_not_mem (blockPiece R M hM p' n' (pay p' n')) L hm]
      rcases List.mem_cons.mp hpn with heq | hmem
      · exact absurd (mem_of_piece heq x) hm
      · exact ih (fun q hq => hL q (by simp [hq])) hmem

/-- The same of a buffer the pieces were written over. -/
theorem ld_read_blocks {sig : RefSig} {κ : Kind} {sp : Space} {R M : ℕ} (hM : M = 36 * R)
    (v : View sig κ sp ⟨3, ![2, M, 128]⟩ e) (f : v.ty.Contents Val) (L : List (View.Piece Val ⟨3, ![2, M, 128]⟩ e))
    (pay : Fin 2 → Fin 36 → (⟨3, ![1, R, 128]⟩ : Shape).Idx → Val e)
    (hL : ∀ q ∈ L, ∃ p n, q = blockPiece R M hM p n (pay p n)) (p : Fin 2) (n : Fin 36)
    (hpn : blockPiece R M hM p n (pay p n) ∈ L) :
    View.ld (v.read Val (v.writes Val f L)) (blockRect R M hM p n) = pay p n := by
  rw [← ld_canon_blocks hM L pay hL p n hpn]
  funext x
  exact View.read_writes_apply_eq_canon v f _ L ⟨_, hpn, emb_mem (blockRect R M hM p n) x⟩

end

end Cert.Delta

end
-- ==== Proof.Pads.lean ====
/- Rows of a padded buffer, read back at a shifted window: the taps of a convolution, and the steps of a running sum
   that doubles its reach. -/
module

public import proofs.«01_k».proof.Proof.Spec
public import proofs.«01_k».proof.Proof.Pieces

@[expose] public section

set_option maxRecDepth 16384

noncomputable section

namespace Cert.Delta

open Idealize.ShloMosaic Idealize.ShloMosaic.TcCoe Idealize.ShloMosaic.Tactic
open Cert.Delta.Spec

section
variable {Val : EltTy → Type} [∀ e, Nonempty (Val e)] {e : EltTy}

/-- A piece of `R` whole rows from row `o` on decides those rows. -/
theorem canon_rows {N R : ℕ} (o : ℕ) (inb : ∀ a, (![o, 0] : Fin 2 → ℕ) a + (![R, 128] : Fin 2 → ℕ) a ≤ (⟨2, ![N, 128]⟩ : Shape).size a)
    (w : (⟨2, ![R, 128]⟩ : Shape).Idx → Val e) (L : List (View.Piece Val ⟨2, ![N, 128]⟩ e)) (r : Fin N) (l : Fin 128) :
    View.canon (⟨Rect.unit (s := ⟨2, ![N, 128]⟩) ![o, 0] ![R, 128] inb, w⟩ :: L) (ix2 r l)
      = if h : o ≤ r.val ∧ r.val < o + R then w (ix2 ⟨r.val - o, by omega⟩ l) else View.canon L (ix2 r l) := by
  rw [canon_overlay]
  by_cases h : o ≤ r.val ∧ r.val < o + R
  · rw [dif_pos h, dif_pos]
    · congr 1; funext a; apply Fin.ext; fin_cases a <;> simp
    · intro a; fin_cases a
      · exact h
      · exact ⟨Nat.zero_le _, by simpa using l.isLt⟩
  · rw [dif_neg h, dif_neg]
    intro h'; exact h (h' 0)

/-- A window of rows of what pieces wrote. -/
theorem readCov_rows {sig : RefSig} {κ : Kind} {sp : Space} {N R : ℕ} (o : ℕ) (inb : ∀ a, (![o, 0] : Fin 2 → ℕ) a + (![R, 128] : Fin 2 → ℕ) a ≤ (⟨2, ![N, 128]⟩ : Shape).size a)
    (L : List (View.Piece Val ⟨2, ![N, 128]⟩ e)) (v : View sig κ sp ⟨2, ![N, 128]⟩ e) (r : Fin R) (l : Fin 128) (h : o + r.val < N) :
    v.readCov L (Rect.unit (s := ⟨2, ![N, 128]⟩) ![o, 0] ![R, 128] inb).toLoadRect (ix2 r l)
      = View.canon L (ix2 ⟨o + r.val, h⟩ l) := by
  rw [View.readCov_eq_canon']
  show View.canon L _ = _
  congr 1; funext a; apply Fin.ext; fin_cases a <;> simp
end

open Classical in
/-- A window of a sequence stored from row 64 on between eight zero rows on either side: the taps of the convolution. -/
theorem read_tap {sig : RefSig} {κ : Kind} {sp : Space} {N R : ℕ} (o T j : ℕ) (hR : 64 + R + 8 ≤ N) (hT : T = 64 + R) (ho : o = 62 + j) (hj : j < 4)
    (inb) (inb1) (inb2) (inb3)
    (z1 z2 : (⟨2, ![8, 128]⟩ : Shape).Idx → Elt Ideal .f32) (b : (⟨2, ![R, 128]⟩ : Shape).Idx → Elt Ideal .f32)
    (hz1 : ∀ r l, z1 (ix2 r l) = (0 : EReal)) (hz2 : ∀ r l, z2 (ix2 r l) = (0 : EReal))
    (L : List (View.Piece (Elt Ideal) ⟨2, ![N, 128]⟩ .f32)) (v : View sig κ sp ⟨2, ![N, 128]⟩ .f32) (r : Fin R) (l : Fin 128) :
    v.readCov (⟨Rect.unit (s := ⟨2, ![N, 128]⟩) ![T, 0] ![8, 128] inb1, z1⟩
        :: ⟨Rect.unit (s := ⟨2, ![N, 128]⟩) ![64, 0] ![R, 128] inb2, b⟩
        :: ⟨Rect.unit (s := ⟨2, ![N, 128]⟩) ![56, 0] ![8, 128] inb3, z2⟩ :: L)
      (Rect.unit (s := ⟨2, ![N, 128]⟩) ![o, 0] ![R, 128] inb).toLoadRect (ix2 r l)
      = tap (fun r => b (ix2 r l)) r j := by
  have hr := r.isLt
  subst ho
  subst hT
  rw [readCov_rows (62 + j) inb _ v r l (by omega), canon_rows (64 + R), canon_rows 64, canon_rows 56]
  unfold tap
  by_cases h1 : 2 ≤ r.val + j ∧ r.val + j < R + 2
  · rw [dif_neg (by show ¬(64 + R ≤ 62 + j + r.val ∧ _); omega), dif_pos (by show 64 ≤ 62 + j + r.val ∧ 62 + j + r.val < 64 + R; omega), dif_pos h1]
    refine congrArg b ?_
    funext a; apply Fin.ext; fin_cases a <;> simp <;> omega
  · rw [dif_neg h1]
    by_cases h2 : r.val + j < 2
    · rw [dif_neg (by show ¬(64 + R ≤ 62 + j + r.val ∧ _); omega), dif_neg (by show ¬(64 ≤ 62 + j + r.val ∧ _); omega),
        dif_pos (by show 56 ≤ 62 + j + r.val ∧ 62 + j + r.val < 56 + 8; omega)]
      exact hz2 _ _
    · rw [dif_pos (by show 64 + R ≤ 62 + j + r.val ∧ 62 + j + r.val < 64 + R + 8; omega)]
      exact hz1 _ _

/-- A window `s` rows up in a buffer stored from row 64 on, at a row at least `s` down. -/
theorem read_up {sig : RefSig} {κ : Kind} {sp : Space} (o s : ℕ) (ho : o + s = 64) (inb) (inb2)
    (b : (⟨2, ![2304, 128]⟩ : Shape).Idx → Elt Ideal .f32)
    (L : List (View.Piece (Elt Ideal) ⟨2, ![2432, 128]⟩ .f32)) (v : View sig κ sp ⟨2, ![2432, 128]⟩ .f32)
    (r : Fin 2304) (l : Fin 128) (h : s ≤ r.val) :
    v.readCov (⟨Rect.unit (s := ⟨2, ![2432, 128]⟩) ![64, 0] ![2304, 128] inb2, b⟩ :: L)
      (Rect.unit (s := ⟨2, ![2432, 128]⟩) ![o, 0] ![2304, 128] inb).toLoadRect (ix2 r l)
      = b (ix2 ⟨r.val - s, by have := r.isLt; omega⟩ l) := by
  have hr := r.isLt
  rw [readCov_rows o inb _ v r l (by omega), canon_rows 64, dif_pos (by show 64 ≤ o + r.val ∧ o + r.val < 64 + 2304; omega)]
  refine congrArg b ?_
  funext a; apply Fin.ext; fin_cases a <;> simp <;> omega

/-- A window `s` rows down, at a row with `s` rows below it. -/
theorem read_down {sig : RefSig} {κ : Kind} {sp : Space} (o s : ℕ) (ho : o = 64 + s) (inb) (inb2)
    (b : (⟨2, ![2304, 128]⟩ : Shape).Idx → Elt Ideal .f32)
    (L : List (View.Piece (Elt Ideal) ⟨2, ![2432, 128]⟩ .f32)) (v : View sig κ sp ⟨2, ![2432, 128]⟩ .f32)
    (r : Fin 2304) (l : Fin 128) (h : r.val + s < 2304) :
    v.readCov (⟨Rect.unit (s := ⟨2, ![2432, 128]⟩) ![64, 0] ![2304, 128] inb2, b⟩ :: L)
      (Rect.unit (s := ⟨2, ![2432, 128]⟩) ![o, 0] ![2304, 128] inb).toLoadRect (ix2 r l)
      = b (ix2 ⟨r.val + s, h⟩ l) := by
  have hr := r.isLt
  have hs : s ≤ 64 := by
    have h1 : o + 2304 ≤ 2432 := inb 0
    omega
  subst ho
  rw [readCov_rows (64 + s) inb _ v r l (by omega), canon_rows 64, dif_pos (by show 64 ≤ 64 + s + r.val ∧ 64 + s + r.val < 64 + 2304; omega)]
  refine congrArg b ?_
  funext a; apply Fin.ext; fin_cases a <;> simp <;> omega

theorem andi_63 : ∀ r : Fin 2304, IntOp.andi (BitVec.ofNat 32 r.val) 63#32 = BitVec.ofNat 32 (r.val % 64) := by
  decide +kernel

/-- "At least `s` rows into its chunk", as the comparison of words. -/
theorem deep : ∀ (p : Fin 64) (s : Fin 64), IntOp.cmpi .sge (BitVec.ofNat 32 p.val) (BitVec.ofNat 32 s.val)
    = if s.val ≤ p.val then 1#1 else 0#1 := by decide +kernel

theorem shallow : ∀ (p : Fin 64) (s : Fin 64), IntOp.cmpi .slt (BitVec.ofNat 32 p.val) (BitVec.ofNat 32 s.val)
    = if p.val < s.val then 1#1 else 0#1 := by decide +kernel

/-- One forward step of the doubling, entry by entry. -/
theorem forward_entry (g : ℕ → EReal) (s : ℕ) (hs : s < 64) (V W : (⟨2, ![2304, 128]⟩ : Shape).Idx → Elt Ideal .f32) (l : Fin 128)
    (hV : ∀ r : Fin 2304, V (ix2 r l) = back g s r.val)
    (hW : ∀ (r : Fin 2304) (h : s ≤ r.val), W (ix2 r l) = V (ix2 ⟨r.val - s, by have := r.isLt; omega⟩ l)) (r : Fin 2304) :
    (V (ix2 r l) + Scalar.select (IntOp.cmpi .sge (IntOp.andi (BitVec.ofNat 32 r.val) 63#32) (BitVec.ofNat 32 s)) (W (ix2 r l)) 0 : EReal)
      = back g (s + s) r.val := by
  have hp := deep ⟨r.val % 64, Nat.mod_lt _ (by norm_num)⟩ ⟨s, hs⟩
  simp only at hp
  rw [andi_63, hp, back_double, hV]
  by_cases h : s ≤ r.val % 64
  · rw [if_pos h, if_pos h]
    have h' : s ≤ r.val := le_trans h (Nat.mod_le _ _)
    rw [← hV ⟨r.val - s, by have := r.isLt; omega⟩, ← hW r h']
    rfl
  · rw [if_neg h, if_neg h]; rfl

/-- One backward step of the doubling, entry by entry. -/
theorem backward_entry (g : ℕ → EReal) (s m : ℕ) (hs : 0 < s) (hm : s + m = 64) (V W : (⟨2, ![2304, 128]⟩ : Shape).Idx → Elt Ideal .f32) (l : Fin 128)
    (hV : ∀ r : Fin 2304, V (ix2 r l) = ahead g s r.val)
    (hW : ∀ (r : Fin 2304) (h : r.val + s < 2304), W (ix2 r l) = V (ix2 ⟨r.val + s, h⟩ l)) (r : Fin 2304) :
    (V (ix2 r l) + Scalar.select (IntOp.cmpi .slt (IntOp.andi (BitVec.ofNat 32 r.val) 63#32) (BitVec.ofNat 32 m)) (W (ix2 r l)) 0 : EReal)
      = ahead g (s + s) r.val := by
  have hp := shallow ⟨r.val % 64, Nat.mod_lt _ (by norm_num)⟩ ⟨m, by omega⟩
  simp only at hp
  rw [andi_63, hp, ahead_double, hV]
  by_cases h : r.val % 64 < m
  · rw [if_pos h, if_pos (by omega)]
    have h' : r.val + s < 2304 := by have := r.isLt; omega
    rw [← hV ⟨r.val + s, h'⟩, ← hW r h']
    rfl
  · rw [if_neg h, if_neg (by omega)]; rfl

end Cert.Delta
end
-- ==== Proof.PrepRows.lean ====
/- The queries, keys and values the body stores, entry by entry: the convolved, activated and normalised rows of its
   windows. -/
module

public import proofs.«01_k».proof.Proof.Run
public import proofs.«01_k».proof.Proof.Pads

@[expose] public section

set_option maxRecDepth 16384

noncomputable section

namespace Cert.Delta

open Cert.KernelIdeal Cert.KernelIdeal.Gen
open Idealize.ShloMosaic Idealize.ShloMosaic.TcCoe Idealize.ShloMosaic.Tactic
open Cert.Delta.Spec

theorem ctx_query (W : Vec Ideal S1x1x4x128 .f32) (X : Fin 256 → Fin 128 → EReal) (v0 v1 v2 v3 : Vec Ideal S256x128 .f32)
    (h0 : ∀ r l, v0 (ix2 r l) = tap (fun r => X r l) r 0) (h1 : ∀ r l, v1 (ix2 r l) = tap (fun r => X r l) r 1)
    (h2 : ∀ r l, v2 (ix2 r l) = tap (fun r => X r l) r 2) (h3 : ∀ r l, v3 (ix2 r l) = tap (fun r => X r l) r 3) (r : Fin 256) (l : Fin 128) :
    k0_pay1090 (k0_pay1088 W v0 v1 v2) v3 (k0_pay1089 W) (ix2 r l)
      = unit (act (fun j x => W (ix4 0 0 j x)) X r) l * scale := by
  pointwise [k0_pay1084, k0_pay1088, k0_pay1089, k0_pay1090]
  simp only [h0, h1, h2, h3]
  rfl

theorem ctx_key (W : Vec Ideal S1x1x4x128 .f32) (X : Fin 256 → Fin 128 → EReal) (v0 v1 v2 v3 : Vec Ideal S256x128 .f32)
    (h0 : ∀ r l, v0 (ix2 r l) = tap (fun r => X r l) r 0) (h1 : ∀ r l, v1 (ix2 r l) = tap (fun r => X r l) r 1)
    (h2 : ∀ r l, v2 (ix2 r l) = tap (fun r => X r l) r 2) (h3 : ∀ r l, v3 (ix2 r l) = tap (fun r => X r l) r 3) (r : Fin 256) (l : Fin 128) :
    k0_pay1096 (k0_pay1091 W) (k0_pay1095 W) v0 v1 v2 v3 (ix2 r l)
      = unit (act (fun j x => W (ix4 0 0 j x)) X r) l := by
  pointwise [k0_pay1084, k0_pay1091, k0_pay1095, k0_pay1096]
  simp only [h0, h1, h2, h3]
  rfl

theorem ctx_value (W : Vec Ideal S1x1x4x128 .f32) (X : Fin 256 → Fin 128 → EReal) (v0 v1 v2 v3 : Vec Ideal S256x128 .f32)
    (h0 : ∀ r l, v0 (ix2 r l) = tap (fun r => X r l) r 0) (h1 : ∀ r l, v1 (ix2 r l) = tap (fun r => X r l) r 1)
    (h2 : ∀ r l, v2 (ix2 r l) = tap (fun r => X r l) r 2) (h3 : ∀ r l, v3 (ix2 r l) = tap (fun r => X r l) r 3) (r : Fin 256) (l : Fin 128) :
    k0_pay1102 (k0_pay1097 W) v0 v1 v2 v3 (ix2 r l)
      = act (fun j x => W (ix4 0 0 j x)) X r l := by
  pointwise [k0_pay1097, k0_pay1102]
  simp only [h0, h1, h2, h3]
  rfl

theorem main_query (W : Vec Ideal S1x1x4x128 .f32) (X : Fin 2048 → Fin 128 → EReal) (v0 v1 v2 v3 : Vec Ideal S2048x128 .f32)
    (h0 : ∀ r l, v0 (ix2 r l) = tap (fun r => X r l) r 0) (h1 : ∀ r l, v1 (ix2 r l) = tap (fun r => X r l) r 1)
    (h2 : ∀ r l, v2 (ix2 r l) = tap (fun r => X r l) r 2) (h3 : ∀ r l, v3 (ix2 r l) = tap (fun r => X r l) r 3) (r : Fin 2048) (l : Fin 128) :
    k0_pay1110 (k0_pay1108 (k0_pay1103 W) v0 v1 v2 v3) (k0_pay1109 (k0_pay1103 W) v0 v1 v2 v3) (ix2 r l)
      = unit (act (fun j x => W (ix4 0 0 j x)) X r) l * scale := by
  pointwise [k0_pay1103, k0_pay1108, k0_pay1109, k0_pay1110]
  simp only [h0, h1, h2, h3]
  rfl

theorem main_key (W : Vec Ideal S1x1x4x128 .f32) (X : Fin 2048 → Fin 128 → EReal) (v0 v1 v2 v3 : Vec Ideal S2048x128 .f32)
    (h0 : ∀ r l, v0 (ix2 r l) = tap (fun r => X r l) r 0) (h1 : ∀ r l, v1 (ix2 r l) = tap (fun r => X r l) r 1)
    (h2 : ∀ r l, v2 (ix2 r l) = tap (fun r => X r l) r 2) (h3 : ∀ r l, v3 (ix2 r l) = tap (fun r => X r l) r 3) (r : Fin 2048) (l : Fin 128) :
    k0_pay1117 (k0_pay1111 W) (k0_pay1115 W v0 v1) (k0_pay1116 W) v2 v3 (ix2 r l)
      = unit (act (fun j x => W (ix4 0 0 j x)) X r) l := by
  pointwise [k0_pay1111, k0_pay1115, k0_pay1116, k0_pay1117]
  simp only [h0, h1, h2, h3]
  rfl

theorem main_value (W : Vec Ideal S1x1x4x128 .f32) (X : Fin 2048 → Fin 128 → EReal) (v0 v1 v2 v3 : Vec Ideal S2048x128 .f32)
    (h0 : ∀ r l, v0 (ix2 r l) = tap (fun r => X r l) r 0) (h1 : ∀ r l, v1 (ix2 r l) = tap (fun r => X r l) r 1)
    (h2 : ∀ r l, v2 (ix2 r l) = tap (fun r => X r l) r 2) (h3 : ∀ r l, v3 (ix2 r l) = tap (fun r => X r l) r 3) (r : Fin 2048) (l : Fin 128) :
    k0_pay1122 (k0_pay1118 W) v0 v1 v2 v3 (ix2 r l)
      = act (fun j x => W (ix4 0 0 j x)) X r l := by
  pointwise [k0_pay1118, k0_pay1122]
  simp only [h0, h1, h2, h3]
  rfl

set_option maxHeartbeats 4000000 in
/-- The query array. -/
theorem read_query (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg11 : Memref sig .tc .vmem S1x3x4x128 .f32) (harg11 : arg11.IsWhole) (arg24 : Memref sig .tc .vmem S2432x128 .f32) (x0 : Vec Ideal S1x256x128 .f32) (x1 : Vec Ideal S1x256x128 .f32) (x2 : Vec Ideal S1x256x128 .f32) (x4 : Vec Ideal S1x2048x128 .f32) (x9 : Vec Ideal S1x3x4x128 .f32) (t : Fin 2304) (l : Fin 128) :
    View.canon (kernelRun.sl.HS0_2 (F := Ideal) c arg2 harg2 arg3 harg3 arg4 harg4 arg6 harg6 arg11 harg11 arg24 x0 x1 x2 x4 x9) (ix2 t l)
      = query (fun j x => x9 (ix4 0 0 j x)) (fun r l => x0 (ix3 0 r l)) (fun r l => x4 (ix3 0 r l)) t l := by
  have hW : ∀ j x, View.readAt (Elt Ideal) arg11.view (Rect.unit (s := S1x3x4x128) ![0, 0, 0, 0] S1x1x4x128.size (by decide)).toLoadRect (harg11.unread x9) (ix4 0 0 j x) = x9 (ix4 0 0 j x) := by
    intro j x
    rw [View.readAt_eq_ld, harg11.read_unread]
    refine congrArg x9 ?_
    funext a; apply Fin.ext; fin_cases a <;> simp
  simp only [kernelRun.sl.HS0_2]
  refine (canon_rows 256 _ _ _ t l).trans ?_
  split
  · rename_i h
    simp only [kernelRun.sl.r_6, kernelRun.sl.r_7, kernelRun.sl.r_8]
    refine (main_query _ (fun r l => x4 (ix3 0 r l)) _ _ _ _ ?_ ?_ ?_ ?_ _ l).trans ?_
    · intro r l; simp only [kernelRun.sl.v151, kernelRun.sl.HS8_12]; exact (read_tap 62 2112 0 (by norm_num) rfl rfl (by norm_num) _ _ _ _ _ _ _ (by intro r l; pointwise [k0_pay1107]) (by intro r l; pointwise [k0_pay1105, k0_pay1104]) _ _ r l).trans (congrArg (fun X => tap X r 0) (funext fun r => by pointwise [k0_pay1106]; exact congrFun ((View.readAt_eq_ld _ _ _).trans ((congrArg (fun X => View.ld X _) (harg6.read_unread x4)).trans (View.ld_unit_zero (by decide) _ _))) _))
    · intro r l; simp only [kernelRun.sl.v155, kernelRun.sl.HS8_12]; exact (read_tap 63 2112 1 (by norm_num) rfl rfl (by norm_num) _ _ _ _ _ _ _ (by intro r l; pointwise [k0_pay1107]) (by intro r l; pointwise [k0_pay1105, k0_pay1104]) _ _ r l).trans (congrArg (fun X => tap X r 1) (funext fun r => by pointwise [k0_pay1106]; exact congrFun ((View.readAt_eq_ld _ _ _).trans ((congrArg (fun X => View.ld X _) (harg6.read_unread x4)).trans (View.ld_unit_zero (by decide) _ _))) _))
    · intro r l; simp only [kernelRun.sl.v160, kernelRun.sl.HS8_12]; exact (read_tap 64 2112 2 (by norm_num) rfl rfl (by norm_num) _ _ _ _ _ _ _ (by intro r l; pointwise [k0_pay1107]) (by intro r l; pointwise [k0_pay1105, k0_pay1104]) _ _ r l).trans (congrArg (fun X => tap X r 2) (funext fun r => by pointwise [k0_pay1106]; exact congrFun ((View.readAt_eq_ld _ _ _).trans ((congrArg (fun X => View.ld X _) (harg6.read_unread x4)).trans (View.ld_unit_zero (by decide) _ _))) _))
    · intro r l; simp only [kernelRun.sl.v165, kernelRun.sl.HS8_12]; exact (read_tap 65 2112 3 (by norm_num) rfl rfl (by norm_num) _ _ _ _ _ _ _ (by intro r l; pointwise [k0_pay1107]) (by intro r l; pointwise [k0_pay1105, k0_pay1104]) _ _ r l).trans (congrArg (fun X => tap X r 3) (funext fun r => by pointwise [k0_pay1106]; exact congrFun ((View.readAt_eq_ld _ _ _).trans ((congrArg (fun X => View.ld X _) (harg6.read_unread x4)).trans (View.ld_unit_zero (by decide) _ _))) _))
    · unfold query value joined
      rw [dif_neg (by have := h.1; omega)]
      simp only [hW]
  · rename_i h
    have ht : t.val < 256 := by by_contra h'; exact h ⟨by omega, t.isLt⟩
    refine (canon_rows 0 _ _ _ t l).trans ?_
    rw [dif_pos ⟨Nat.zero_le _, by omega⟩]
    simp only [kernelRun.sl.r, kernelRun.sl.r_1, Nat.sub_zero]
    refine (ctx_query _ (fun r l => x0 (ix3 0 r l)) _ _ _ _ ?_ ?_ ?_ ?_ _ l).trans ?_
    · intro r l; simp only [kernelRun.sl.v16, kernelRun.sl.HS8_3]; exact (read_tap 62 320 0 (by norm_num) rfl rfl (by norm_num) _ _ _ _ _ _ _ (by intro r l; pointwise [k0_pay1087]) (by intro r l; pointwise [k0_pay1085]) _ _ r l).trans (congrArg (fun X => tap X r 0) (funext fun r => by pointwise [k0_pay1086]; exact congrFun ((View.readAt_eq_ld _ _ _).trans ((congrArg (fun X => View.ld X _) (harg2.read_unread x0)).trans (View.ld_unit_zero (by decide) _ _))) _))
    · intro r l; simp only [kernelRun.sl.v20, kernelRun.sl.HS8_3]; exact (read_tap 63 320 1 (by norm_num) rfl rfl (by norm_num) _ _ _ _ _ _ _ (by intro r l; pointwise [k0_pay1087]) (by intro r l; pointwise [k0_pay1085]) _ _ r l).trans (congrArg (fun X => tap X r 1) (funext fun r => by pointwise [k0_pay1086]; exact congrFun ((View.readAt_eq_ld _ _ _).trans ((congrArg (fun X => View.ld X _) (harg2.read_unread x0)).trans (View.ld_unit_zero (by decide) _ _))) _))
    · intro r l; simp only [kernelRun.sl.v25, kernelRun.sl.HS8_3]; exact (read_tap 64 320 2 (by norm_num) rfl rfl (by norm_num) _ _ _ _ _ _ _ (by intro r l; pointwise [k0_pay1087]) (by intro r l; pointwise [k0_pay1085]) _ _ r l).trans (congrArg (fun X => tap X r 2) (funext fun r => by pointwise [k0_pay1086]; exact congrFun ((View.readAt_eq_ld _ _ _).trans ((congrArg (fun X => View.ld X _) (harg2.read_unread x0)).trans (View.ld_unit_zero (by decide) _ _))) _))
    · intro r l; simp only [kernelRun.sl.v30, kernelRun.sl.HS8_3]; exact (read_tap 65 320 3 (by norm_num) rfl rfl (by norm_num) _ _ _ _ _ _ _ (by intro r l; pointwise [k0_pay1087]) (by intro r l; pointwise [k0_pay1085]) _ _ r l).trans (congrArg (fun X => tap X r 3) (funext fun r => by pointwise [k0_pay1086]; exact congrFun ((View.readAt_eq_ld _ _ _).trans ((congrArg (fun X => View.ld X _) (harg2.read_unread x0)).trans (View.ld_unit_zero (by decide) _ _))) _))
    · unfold query value joined
      rw [dif_pos ht]
      simp only [hW]

set_option maxHeartbeats 4000000 in
/-- The key array. -/
theorem read_key (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg11 : Memref sig .tc .vmem S1x3x4x128 .f32) (harg11 : arg11.IsWhole) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x9 : Vec Ideal S1x3x4x128 .f32) (t : Fin 2304) (l : Fin 128) :
    View.canon (kernelRun.sl.HS1_2 (F := Ideal) c arg2 harg2 arg3 harg3 arg4 harg4 arg6 harg6 arg7 harg7 arg11 harg11 arg24 x0 x1 x2 x4 x5 x9) (ix2 t l)
      = key (fun j x => x9 (ix4 0 1 j x)) (fun r l => x1 (ix3 0 r l)) (fun r l => x5 (ix3 0 r l)) t l := by
  have hW : ∀ j x, View.readAt (Elt Ideal) arg11.view (Rect.unit (s := S1x3x4x128) ![0, 1, 0, 0] S1x1x4x128.size (by decide)).toLoadRect (harg11.unread x9) (ix4 0 0 j x) = x9 (ix4 0 1 j x) := by
    intro j x
    rw [View.readAt_eq_ld, harg11.read_unread]
    refine congrArg x9 ?_
    funext a; apply Fin.ext; fin_cases a <;> simp
  simp only [kernelRun.sl.HS1_2]
  refine (canon_rows 256 _ _ _ t l).trans ?_
  split
  · rename_i h
    simp only [kernelRun.sl.r_9, kernelRun.sl.r_10, kernelRun.sl.r_11]
    refine (main_key _ (fun r l => x5 (ix3 0 r l)) _ _ _ _ ?_ ?_ ?_ ?_ _ l).trans ?_
    · intro r l; simp only [kernelRun.sl.v200, kernelRun.sl.HS8_15]; exact (read_tap 62 2112 0 (by norm_num) rfl rfl (by norm_num) _ _ _ _ _ _ _ (by intro r l; pointwise [k0_pay1114]) (by intro r l; pointwise [k0_pay1112]) _ _ r l).trans (congrArg (fun X => tap X r 0) (funext fun r => by pointwise [k0_pay1113]; exact congrFun ((View.readAt_eq_ld _ _ _).trans ((congrArg (fun X => View.ld X _) (harg7.read_unread x5)).trans (View.ld_unit_zero (by decide) _ _))) _))
    · intro r l; simp only [kernelRun.sl.v204, kernelRun.sl.HS8_15]; exact (read_tap 63 2112 1 (by norm_num) rfl rfl (by norm_num) _ _ _ _ _ _ _ (by intro r l; pointwise [k0_pay1114]) (by intro r l; pointwise [k0_pay1112]) _ _ r l).trans (congrArg (fun X => tap X r 1) (funext fun r => by pointwise [k0_pay1113]; exact congrFun ((View.readAt_eq_ld _ _ _).trans ((congrArg (fun X => View.ld X _) (harg7.read_unread x5)).trans (View.ld_unit_zero (by decide) _ _))) _))
    · intro r l; simp only [kernelRun.sl.v209, kernelRun.sl.HS8_15]; exact (read_tap 64 2112 2 (by norm_num) rfl rfl (by norm_num) _ _ _ _ _ _ _ (by intro r l; pointwise [k0_pay1114]) (by intro r l; pointwise [k0_pay1112]) _ _ r l).trans (congrArg (fun X => tap X r 2) (funext fun r => by pointwise [k0_pay1113]; exact congrFun ((View.readAt_eq_ld _ _ _).trans ((congrArg (fun X => View.ld X _) (harg7.read_unread x5)).trans (View.ld_unit_zero (by decide) _ _))) _))
    · intro r l; simp only [kernelRun.sl.v214, kernelRun.sl.HS8_15]; exact (read_tap 65 2112 3 (by norm_num) rfl rfl (by norm_num) _ _ _ _ _ _ _ (by intro r l; pointwise [k0_pay1114]) (by intro r l; pointwise [k0_pay1112]) _ _ r l).trans (congrArg (fun X => tap X r 3) (funext fun r => by pointwise [k0_pay1113]; exact congrFun ((View.readAt_eq_ld _ _ _).trans ((congrArg (fun X => View.ld X _) (harg7.read_unread x5)).trans (View.ld_unit_zero (by decide) _ _))) _))
    · unfold key value joined
      rw [dif_neg (by have := h.1; omega)]
      simp only [hW]
  · rename_i h
    have ht : t.val < 256 := by by_contra h'; exact h ⟨by omega, t.isLt⟩
    refine (canon_rows 0 _ _ _ t l).trans ?_
    rw [dif_pos ⟨Nat.zero_le _, by omega⟩]
    simp only [kernelRun.sl.r_2, kernelRun.sl.r_3, Nat.sub_zero]
    refine (ctx_key _ (fun r l => x1 (ix3 0 r l)) _ _ _ _ ?_ ?_ ?_ ?_ _ l).trans ?_
    · intro r l; simp only [kernelRun.sl.v65, kernelRun.sl.HS8_6]; exact (read_tap 62 320 0 (by norm_num) rfl rfl (by norm_num) _ _ _ _ _ _ _ (by intro r l; pointwise [k0_pay1094]) (by intro r l; pointwise [k0_pay1092]) _ _ r l).trans (congrArg (fun X => tap X r 0) (funext fun r => by pointwise [k0_pay1093]; exact congrFun ((View.readAt_eq_ld _ _ _).trans ((congrArg (fun X => View.ld X _) (harg3.read_unread x1)).trans (View.ld_unit_zero (by decide) _ _))) _))
    · intro r l; simp only [kernelRun.sl.v69, kernelRun.sl.HS8_6]; exact (read_tap 63 320 1 (by norm_num) rfl rfl (by norm_num) _ _ _ _ _ _ _ (by intro r l; pointwise [k0_pay1094]) (by intro r l; pointwise [k0_pay1092]) _ _ r l).trans (congrArg (fun X => tap X r 1) (funext fun r => by pointwise [k0_pay1093]; exact congrFun ((View.readAt_eq_ld _ _ _).trans ((congrArg (fun X => View.ld X _) (harg3.read_unread x1)).trans (View.ld_unit_zero (by decide) _ _))) _))
    · intro r l; simp only [kernelRun.sl.v74, kernelRun.sl.HS8_6]; exact (read_tap 64 320 2 (by norm_num) rfl rfl (by norm_num) _ _ _ _ _ _ _ (by intro r l; pointwise [k0_pay1094]) (by intro r l; pointwise [k0_pay1092]) _ _ r l).trans (congrArg (fun X => tap X r 2) (funext fun r => by pointwise [k0_pay1093]; exact congrFun ((View.readAt_eq_ld _ _ _).trans ((congrArg (fun X => View.ld X _) (harg3.read_unread x1)).trans (View.ld_unit_zero (by decide) _ _))) _))
    · intro r l; simp only [kernelRun.sl.v79, kernelRun.sl.HS8_6]; exact (read_tap 65 320 3 (by norm_num) rfl rfl (by norm_num) _ _ _ _ _ _ _ (by intro r l; pointwise [k0_pay1094]) (by intro r l; pointwise [k0_pay1092]) _ _ r l).trans (congrArg (fun X => tap X r 3) (funext fun r => by pointwise [k0_pay1093]; exact congrFun ((View.readAt_eq_ld _ _ _).trans ((congrArg (fun X => View.ld X _) (harg3.read_unread x1)).trans (View.ld_unit_zero (by decide) _ _))) _))
    · unfold key value joined
      rw [dif_pos ht]
      simp only [hW]

set_option maxHeartbeats 4000000 in
/-- The value array. -/
theorem read_value (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg11 : Memref sig .tc .vmem S1x3x4x128 .f32) (harg11 : arg11.IsWhole) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x9 : Vec Ideal S1x3x4x128 .f32) (t : Fin 2304) (l : Fin 128) :
    View.canon (kernelRun.sl.HS2_2 (F := Ideal) c arg2 harg2 arg3 harg3 arg4 harg4 arg6 harg6 arg7 harg7 arg8 harg8 arg11 harg11 arg24 x0 x1 x2 x4 x5 x6 x9) (ix2 t l)
      = value (fun j x => x9 (ix4 0 2 j x)) (fun r l => x2 (ix3 0 r l)) (fun r l => x6 (ix3 0 r l)) t l := by
  have hW : ∀ j x, View.readAt (Elt Ideal) arg11.view (Rect.unit (s := S1x3x4x128) ![0, 2, 0, 0] S1x1x4x128.size (by decide)).toLoadRect (harg11.unread x9) (ix4 0 0 j x) = x9 (ix4 0 2 j x) := by
    intro j x
    rw [View.readAt_eq_ld, harg11.read_unread]
    refine congrArg x9 ?_
    funext a; apply Fin.ext; fin_cases a <;> simp
  simp only [kernelRun.sl.HS2_2]
  refine (canon_rows 256 _ _ _ t l).trans ?_
  split
  · rename_i h
    simp only [kernelRun.sl.r_12]
    refine (main_value _ (fun r l => x6 (ix3 0 r l)) _ _ _ _ ?_ ?_ ?_ ?_ _ l).trans ?_
    · intro r l; simp only [kernelRun.sl.v247, kernelRun.sl.HS8_18]; exact (read_tap 62 2112 0 (by norm_num) rfl rfl (by norm_num) _ _ _ _ _ _ _ (by intro r l; pointwise [k0_pay1121]) (by intro r l; pointwise [k0_pay1119]) _ _ r l).trans (congrArg (fun X => tap X r 0) (funext fun r => by pointwise [k0_pay1120]; exact congrFun ((View.readAt_eq_ld _ _ _).trans ((congrArg (fun X => View.ld X _) (harg8.read_unread x6)).trans (View.ld_unit_zero (by decide) _ _))) _))
    · intro r l; simp only [kernelRun.sl.v251, kernelRun.sl.HS8_18]; exact (read_tap 63 2112 1 (by norm_num) rfl rfl (by norm_num) _ _ _ _ _ _ _ (by intro r l; pointwise [k0_pay1121]) (by intro r l; pointwise [k0_pay1119]) _ _ r l).trans (congrArg (fun X => tap X r 1) (funext fun r => by pointwise [k0_pay1120]; exact congrFun ((View.readAt_eq_ld _ _ _).trans ((congrArg (fun X => View.ld X _) (harg8.read_unread x6)).trans (View.ld_unit_zero (by decide) _ _))) _))
    · intro r l; simp only [kernelRun.sl.v256, kernelRun.sl.HS8_18]; exact (read_tap 64 2112 2 (by norm_num) rfl rfl (by norm_num) _ _ _ _ _ _ _ (by intro r l; pointwise [k0_pay1121]) (by intro r l; pointwise [k0_pay1119]) _ _ r l).trans (congrArg (fun X => tap X r 2) (funext fun r => by pointwise [k0_pay1120]; exact congrFun ((View.readAt_eq_ld _ _ _).trans ((congrArg (fun X => View.ld X _) (harg8.read_unread x6)).trans (View.ld_unit_zero (by decide) _ _))) _))
    · intro r l; simp only [kernelRun.sl.v261, kernelRun.sl.HS8_18]; exact (read_tap 65 2112 3 (by norm_num) rfl rfl (by norm_num) _ _ _ _ _ _ _ (by intro r l; pointwise [k0_pay1121]) (by intro r l; pointwise [k0_pay1119]) _ _ r l).trans (congrArg (fun X => tap X r 3) (funext fun r => by pointwise [k0_pay1120]; exact congrFun ((View.readAt_eq_ld _ _ _).trans ((congrArg (fun X => View.ld X _) (harg8.read_unread x6)).trans (View.ld_unit_zero (by decide) _ _))) _))
    · unfold value joined
      rw [dif_neg (by have := h.1; omega)]
      simp only [hW]
  · rename_i h
    have ht : t.val < 256 := by by_contra h'; exact h ⟨by omega, t.isLt⟩
    refine (canon_rows 0 _ _ _ t l).trans ?_
    rw [dif_pos ⟨Nat.zero_le _, by omega⟩]
    simp only [kernelRun.sl.r_4, Nat.sub_zero]
    refine (ctx_value _ (fun r l => x2 (ix3 0 r l)) _ _ _ _ ?_ ?_ ?_ ?_ _ l).trans ?_
    · intro r l; simp only [kernelRun.sl.v112, kernelRun.sl.HS8_9, kernelRun.sl.r_5]; exact (read_tap 62 320 0 (by norm_num) rfl rfl (by norm_num) _ _ _ _ _ _ _ (by intro r l; pointwise [k0_pay1101]) (by intro r l; pointwise [k0_pay1098]) _ _ r l).trans (congrArg (fun X => tap X r 0) (funext fun r => by pointwise [k0_pay1099, k0_pay1100]; exact congrFun ((View.readAt_eq_ld _ _ _).trans ((congrArg (fun X => View.ld X _) (harg4.read_unread x2)).trans (View.ld_unit_zero (by decide) _ _))) _))
    · intro r l; simp only [kernelRun.sl.v116, kernelRun.sl.HS8_9, kernelRun.sl.r_5]; exact (read_tap 63 320 1 (by norm_num) rfl rfl (by norm_num) _ _ _ _ _ _ _ (by intro r l; pointwise [k0_pay1101]) (by intro r l; pointwise [k0_pay1098]) _ _ r l).trans (congrArg (fun X => tap X r 1) (funext fun r => by pointwise [k0_pay1099, k0_pay1100]; exact congrFun ((View.readAt_eq_ld _ _ _).trans ((congrArg (fun X => View.ld X _) (harg4.read_unread x2)).trans (View.ld_unit_zero (by decide) _ _))) _))
    · intro r l; simp only [kernelRun.sl.v121, kernelRun.sl.HS8_9, kernelRun.sl.r_5]; exact (read_tap 64 320 2 (by norm_num) rfl rfl (by norm_num) _ _ _ _ _ _ _ (by intro r l; pointwise [k0_pay1101]) (by intro r l; pointwise [k0_pay1098]) _ _ r l).trans (congrArg (fun X => tap X r 2) (funext fun r => by pointwise [k0_pay1099, k0_pay1100]; exact congrFun ((View.readAt_eq_ld _ _ _).trans ((congrArg (fun X => View.ld X _) (harg4.read_unread x2)).trans (View.ld_unit_zero (by decide) _ _))) _))
    · intro r l; simp only [kernelRun.sl.v126, kernelRun.sl.HS8_9, kernelRun.sl.r_5]; exact (read_tap 65 320 3 (by norm_num) rfl rfl (by norm_num) _ _ _ _ _ _ _ (by intro r l; pointwise [k0_pay1101]) (by intro r l; pointwise [k0_pay1098]) _ _ r l).trans (congrArg (fun X => tap X r 3) (funext fun r => by pointwise [k0_pay1099, k0_pay1100]; exact congrFun ((View.readAt_eq_ld _ _ _).trans ((congrArg (fun X => View.ld X _) (harg4.read_unread x2)).trans (View.ld_unit_zero (by decide) _ _))) _))
    · unfold value joined
      rw [dif_pos ht]
      simp only [hW]

end Cert.Delta
end
-- ==== Proof.PrepGates.lean ====
/- The gates the body stores, entry by entry: the write strengths, and the decays summed inside each chunk, up to a
   token or from it on. -/
module

public import proofs.«01_k».proof.Proof.Run
public import proofs.«01_k».proof.Proof.Pads

@[expose] public section

set_option maxRecDepth 16384

noncomputable section

namespace Cert.Delta

open Cert.KernelIdeal Cert.KernelIdeal.Gen
open Idealize.ShloMosaic Idealize.ShloMosaic.TcCoe Idealize.ShloMosaic.Tactic
open Cert.Delta.Spec

theorem forward_decay (x : Vec Ideal S1x1x2304x4 .f32) (p : Vec Ideal S1x8x128 .f32) (r : Fin 2304) (l : Fin 128) :
    k0_pay1131 (k0_pay1123 x) (k0_pay1126 p) (k0_pay1127 p) (ix2 r l)
      = decay (p (ix3 0 0 0)) (p (ix3 0 2 0)) (x (ix4 0 0 r 2)) := by
  pointwise [k0_pay1123, k0_pay1124, k0_pay1126, k0_pay1127, k0_pay1128, k0_pay1131]
  rfl

theorem backward_decay (x : Vec Ideal S1x1x2304x4 .f32) (p : Vec Ideal S1x8x128 .f32) (r : Fin 2304) (l : Fin 128) :
    k0_pay1132 (k0_pay1123 x) (k0_pay1126 p) (k0_pay1127 p) (ix2 r l)
      = decay (p (ix3 0 1 0)) (p (ix3 0 3 0)) (x (ix4 0 0 r 3)) := by
  pointwise [k0_pay1123, k0_pay1124, k0_pay1126, k0_pay1127, k0_pay1128, k0_pay1132]
  rfl

theorem forward_strength (x : Vec Ideal S1x1x2304x4 .f32) (r : Fin 2304) (l : Fin 128) :
    k0_pay1129 (k0_pay1125 x) (ix2 r l) = Ideal.logistic (x (ix4 0 0 r 0)) := by
  pointwise [k0_pay1123, k0_pay1125, k0_pay1129]

theorem backward_strength (x : Vec Ideal S1x1x2304x4 .f32) (r : Fin 2304) (l : Fin 128) :
    k0_pay1130 (k0_pay1125 x) (ix2 r l) = Ideal.logistic (x (ix4 0 0 r 1)) := by
  pointwise [k0_pay1123, k0_pay1125, k0_pay1130]

/-- A function of rows, at any natural number. -/
def extended (f : Fin 2304 → EReal) (r : ℕ) : EReal := if h : r < 2304 then f ⟨r, h⟩ else 0

theorem extended_val (f : Fin 2304 → EReal) (r : Fin 2304) : extended f r.val = f r := by
  unfold extended; rw [dif_pos r.isLt]

set_option maxHeartbeats 4000000 in
theorem read_forward_strength (c : Dev nD) (arg10 : Memref sig .tc .vmem S1x1x2304x4 .f32) (harg10 : arg10.IsWhole) (x8 : Vec Ideal S1x1x2304x4 .f32) (t : Fin 2304) (l : Fin 128) :
    View.canon (kernelRun.sl.HS5_1 (F := Ideal) c arg10 harg10 x8) (ix2 t l) = Ideal.logistic (x8 (ix4 0 0 t 0)) := by
  simp only [kernelRun.sl.HS5_1, kernelRun.sl.r_14]
  refine (canon_rows 0 _ _ _ t l).trans ?_
  rw [dif_pos ⟨Nat.zero_le _, by have := t.isLt; omega⟩]
  refine (forward_strength _ _ l).trans ?_
  simp only [View.readAt_eq_ld, harg10.read_unread]
  refine congrArg Ideal.logistic (congrArg x8 ?_)
  funext a; apply Fin.ext; fin_cases a <;> simp

set_option maxHeartbeats 4000000 in
theorem read_backward_strength (c : Dev nD) (arg10 : Memref sig .tc .vmem S1x1x2304x4 .f32) (harg10 : arg10.IsWhole) (x8 : Vec Ideal S1x1x2304x4 .f32) (t : Fin 2304) (l : Fin 128) :
    View.canon (kernelRun.sl.HS6_1 (F := Ideal) c arg10 harg10 x8) (ix2 t l) = Ideal.logistic (x8 (ix4 0 0 t 1)) := by
  simp only [kernelRun.sl.HS6_1, kernelRun.sl.r_14]
  refine (canon_rows 0 _ _ _ t l).trans ?_
  rw [dif_pos ⟨Nat.zero_le _, by have := t.isLt; omega⟩]
  refine (backward_strength _ _ l).trans ?_
  simp only [View.readAt_eq_ld, harg10.read_unread]
  refine congrArg Ideal.logistic (congrArg x8 ?_)
  funext a; apply Fin.ext; fin_cases a <;> simp

set_option maxHeartbeats 4000000 in
theorem read_v333 (c : Dev nD) (arg10 : Memref sig .tc .vmem S1x1x2304x4 .f32) (harg10 : arg10.IsWhole) (arg12 : Memref sig .tc .vmem S1x8x128 .f32) (harg12 : arg12.IsWhole) (arg19 : Memref sig .tc .vmem S2304x128 .f32) (x8 : Vec Ideal S1x1x2304x4 .f32) (x10 : Vec Ideal S1x8x128 .f32) (r : Fin 2304) (l : Fin 128) :
    kernelRun.sl.v333 (F := Ideal) c arg10 harg10 arg12 harg12 arg19 x8 x10 (ix2 r l) = back (extended fun t => decay (x10 (ix3 0 0 0)) (x10 (ix3 0 2 0)) (x8 (ix4 0 0 t 2))) 1 r.val := by
  rw [back_one, extended_val]
  simp only [kernelRun.sl.v333, kernelRun.sl.HS3_1, View.readCov_cons_toLoadRect, kernelRun.sl.r_13, kernelRun.sl.r_15, kernelRun.sl.r_16]
  refine (forward_decay _ _ r l).trans ?_
  simp only [View.readAt_eq_ld, harg10.read_unread, harg12.read_unread]
  congr 1
  · refine congrArg x10 ?_; funext a; apply Fin.ext; fin_cases a <;> simp
  · refine congrArg x10 ?_; funext a; apply Fin.ext; fin_cases a <;> simp
  · refine congrArg x8 ?_; funext a; apply Fin.ext; fin_cases a <;> simp

set_option maxHeartbeats 4000000 in
theorem read_v347 (c : Dev nD) (arg10 : Memref sig .tc .vmem S1x1x2304x4 .f32) (harg10 : arg10.IsWhole) (arg12 : Memref sig .tc .vmem S1x8x128 .f32) (harg12 : arg12.IsWhole) (arg20 : Memref sig .tc .vmem S2304x128 .f32) (x8 : Vec Ideal S1x1x2304x4 .f32) (x10 : Vec Ideal S1x8x128 .f32) (r : Fin 2304) (l : Fin 128) :
    kernelRun.sl.v347 (F := Ideal) c arg10 harg10 arg12 harg12 arg20 x8 x10 (ix2 r l) = ahead (extended fun t => decay (x10 (ix3 0 1 0)) (x10 (ix3 0 3 0)) (x8 (ix4 0 0 t 3))) 1 r.val := by
  rw [ahead_one, extended_val]
  simp only [kernelRun.sl.v347, kernelRun.sl.HS4_1, View.readCov_cons_toLoadRect, kernelRun.sl.r_13, kernelRun.sl.r_15, kernelRun.sl.r_16]
  refine (backward_decay _ _ r l).trans ?_
  simp only [View.readAt_eq_ld, harg10.read_unread, harg12.read_unread]
  congr 1
  · refine congrArg x10 ?_; funext a; apply Fin.ext; fin_cases a <;> simp
  · refine congrArg x10 ?_; funext a; apply Fin.ext; fin_cases a <;> simp
  · refine congrArg x8 ?_; funext a; apply Fin.ext; fin_cases a <;> simp

set_option maxHeartbeats 4000000 in
theorem read_v361 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v361 (F := Ideal) c arg2 harg2 arg3 harg3 arg4 harg4 arg6 harg6 arg7 harg7 arg8 harg8 arg10 harg10 arg12 harg12 arg19 arg24 x0 x1 x2 x4 x5 x6 x8 x10 (ix2 r l) = back (extended fun t => decay (x10 (ix3 0 0 0)) (x10 (ix3 0 2 0)) (x8 (ix4 0 0 t 2))) 2 r.val := by
  simp only [kernelRun.sl.v361, kernelRun.sl.HS3_2, View.readCov_cons_toLoadRect, kernelRun.sl.r_17, kernelRun.sl.r_18]
  pointwise [k0_pay1133, k0_pay1138]
  refine forward_entry _ 1 (by norm_num) _ (kernelRun.sl.v340 (F := Ideal) c arg2 harg2 arg3 harg3 arg4 harg4 arg6 harg6 arg7 harg7 arg8 harg8 arg10 harg10 arg12 harg12 arg19 arg24 x0 x1 x2 x4 x5 x6 x8 x10) l (fun r => read_v333 c arg10 harg10 arg12 harg12 arg19 x8 x10 r l) (fun r h => ?_) r
  simp only [kernelRun.sl.v340, kernelRun.sl.HS8_21]
  refine (read_up 63 1 rfl _ _ _ _ _ r l h).trans ?_
  pointwise [k0_pay1137]

set_option maxHeartbeats 4000000 in
theorem read_v389 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v389 (F := Ideal) c arg2 harg2 arg3 harg3 arg4 harg4 arg6 harg6 arg7 harg7 arg8 harg8 arg10 harg10 arg12 harg12 arg19 arg20 arg24 x0 x1 x2 x4 x5 x6 x8 x10 (ix2 r l) = back (extended fun t => decay (x10 (ix3 0 0 0)) (x10 (ix3 0 2 0)) (x8 (ix4 0 0 t 2))) 4 r.val := by
  simp only [kernelRun.sl.v389, kernelRun.sl.HS3_3, View.readCov_cons_toLoadRect, kernelRun.sl.r_17, kernelRun.sl.r_18]
  pointwise [k0_pay1133, k0_pay1143]
  refine forward_entry _ 2 (by norm_num) _ (kernelRun.sl.v368 (F := Ideal) c arg2 harg2 arg3 harg3 arg4 harg4 arg6 harg6 arg7 harg7 arg8 harg8 arg10 harg10 arg12 harg12 arg19 arg20 arg24 x0 x1 x2 x4 x5 x6 x8 x10) l (fun r => read_v361 c arg2 harg2 arg3 harg3 arg4 harg4 arg6 harg6 arg7 harg7 arg8 harg8 arg10 harg10 arg12 harg12 arg19 arg24 x0 x1 x2 x4 x5 x6 x8 x10 r l) (fun r h => ?_) r
  simp only [kernelRun.sl.v368, kernelRun.sl.HS8_23]
  refine (read_up 62 2 rfl _ _ _ _ _ r l h).trans ?_
  pointwise [k0_pay1142]

set_option maxHeartbeats 4000000 in
theorem read_v417 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v417 (F := Ideal) c arg2 harg2 arg3 harg3 arg4 harg4 arg6 harg6 arg7 harg7 arg8 harg8 arg10 harg10 arg12 harg12 arg19 arg20 arg24 x0 x1 x2 x4 x5 x6 x8 x10 (ix2 r l) = back (extended fun t => decay (x10 (ix3 0 0 0)) (x10 (ix3 0 2 0)) (x8 (ix4 0 0 t 2))) 8 r.val := by
  simp only [kernelRun.sl.v417, kernelRun.sl.HS3_4, View.readCov_cons_toLoadRect, kernelRun.sl.r_17, kernelRun.sl.r_18]
  pointwise [k0_pay1133, k0_pay1148]
  refine forward_entry _ 4 (by norm_num) _ (kernelRun.sl.v396 (F := Ideal) c arg2 harg2 arg3 harg3 arg4 harg4 arg6 harg6 arg7 harg7 arg8 harg8 arg10 harg10 arg12 harg12 arg19 arg20 arg24 x0 x1 x2 x4 x5 x6 x8 x10) l (fun r => read_v389 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v396, kernelRun.sl.HS8_25]
  refine (read_up 60 4 rfl _ _ _ _ _ r l h).trans ?_
  pointwise [k0_pay1147]

set_option maxHeartbeats 4000000 in
theorem read_v445 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v445 (F := Ideal) c arg2 harg2 arg3 harg3 arg4 harg4 arg6 harg6 arg7 harg7 arg8 harg8 arg10 harg10 arg12 harg12 arg19 arg20 arg24 x0 x1 x2 x4 x5 x6 x8 x10 (ix2 r l) = back (extended fun t => decay (x10 (ix3 0 0 0)) (x10 (ix3 0 2 0)) (x8 (ix4 0 0 t 2))) 16 r.val := by
  simp only [kernelRun.sl.v445, kernelRun.sl.HS3_5, View.readCov_cons_toLoadRect, kernelRun.sl.r_17, kernelRun.sl.r_18]
  pointwise [k0_pay1133, k0_pay1152]
  refine forward_entry _ 8 (by norm_num) _ (kernelRun.sl.v424 (F := Ideal) c arg2 harg2 arg3 harg3 arg4 harg4 arg6 harg6 arg7 harg7 arg8 harg8 arg10 harg10 arg12 harg12 arg19 arg20 arg24 x0 x1 x2 x4 x5 x6 x8 x10) l (fun r => read_v417 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v424, kernelRun.sl.HS8_27]
  refine (read_up 56 8 rfl _ _ _ _ _ r l h).trans ?_
  pointwise [k0_pay1151]

set_option maxHeartbeats 4000000 in
theorem read_v473 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v473 (F := Ideal) c arg2 harg2 arg3 harg3 arg4 harg4 arg6 harg6 arg7 harg7 arg8 harg8 arg10 harg10 arg12 harg12 arg19 arg20 arg24 x0 x1 x2 x4 x5 x6 x8 x10 (ix2 r l) = back (extended fun t => decay (x10 (ix3 0 0 0)) (x10 (ix3 0 2 0)) (x8 (ix4 0 0 t 2))) 32 r.val := by
  simp only [kernelRun.sl.v473, kernelRun.sl.HS3_6, View.readCov_cons_toLoadRect, kernelRun.sl.r_17, kernelRun.sl.r_18]
  pointwise [k0_pay1133, k0_pay1156]
  refine forward_entry _ 16 (by norm_num) _ (kernelRun.sl.v452 (F := Ideal) c arg2 harg2 arg3 harg3 arg4 harg4 arg6 harg6 arg7 harg7 arg8 harg8 arg10 harg10 arg12 harg12 arg19 arg20 arg24 x0 x1 x2 x4 x5 x6 x8 x10) l (fun r => read_v445 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v452, kernelRun.sl.HS8_29]
  refine (read_up 48 16 rfl _ _ _ _ _ r l h).trans ?_
  pointwise [k0_pay1155]

set_option maxHeartbeats 4000000 in
theorem read_forward_sum (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    View.canon (kernelRun.sl.HS3_7 (F := Ideal) c arg2 harg2 arg3 harg3 arg4 harg4 arg6 harg6 arg7 harg7 arg8 harg8 arg10 harg10 arg12 harg12 arg19 arg20 arg24 x0 x1 x2 x4 x5 x6 x8 x10) (ix2 r l) = back (extended fun t => decay (x10 (ix3 0 0 0)) (x10 (ix3 0 2 0)) (x8 (ix4 0 0 t 2))) 64 r.val := by
  simp only [kernelRun.sl.HS3_7]
  refine (canon_rows 0 _ _ _ r l).trans ?_
  rw [dif_pos ⟨Nat.zero_le _, by have := r.isLt; omega⟩]
  pointwise [k0_pay1133, k0_pay1160]
  refine forward_entry _ 32 (by norm_num) _ (kernelRun.sl.v480 (F := Ideal) c arg2 harg2 arg3 harg3 arg4 harg4 arg6 harg6 arg7 harg7 arg8 harg8 arg10 harg10 arg12 harg12 arg19 arg20 arg24 x0 x1 x2 x4 x5 x6 x8 x10) l (fun r => read_v473 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v480, kernelRun.sl.HS8_31]
  refine (read_up 32 32 rfl _ _ _ _ _ r l h).trans ?_
  pointwise [k0_pay1159]

set_option maxHeartbeats 4000000 in
theorem read_v375 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v375 (F := Ideal) c arg2 harg2 arg3 harg3 arg4 harg4 arg6 harg6 arg7 harg7 arg8 harg8 arg10 harg10 arg12 harg12 arg19 arg20 arg24 x0 x1 x2 x4 x5 x6 x8 x10 (ix2 r l) = ahead (extended fun t => decay (x10 (ix3 0 1 0)) (x10 (ix3 0 3 0)) (x8 (ix4 0 0 t 3))) 2 r.val := by
  simp only [kernelRun.sl.v375, kernelRun.sl.HS4_2, View.readCov_cons_toLoadRect, kernelRun.sl.r_17, kernelRun.sl.r_18]
  pointwise [k0_pay1133, k0_pay1141, k0_pay1140]
  refine backward_entry _ 1 63 (by norm_num) (by norm_num) _ (kernelRun.sl.v354 (F := Ideal) c arg2 harg2 arg3 harg3 arg4 harg4 arg6 harg6 arg7 harg7 arg8 harg8 arg10 harg10 arg12 harg12 arg19 arg20 arg24 x0 x1 x2 x4 x5 x6 x8 x10) l (fun r => read_v347 c arg10 harg10 arg12 harg12 arg20 x8 x10 r l) (fun r h => ?_) r
  simp only [kernelRun.sl.v354, kernelRun.sl.HS8_22]
  refine (read_down 65 1 rfl _ _ _ _ _ r l h).trans ?_
  pointwise [k0_pay1139]

set_option maxHeartbeats 4000000 in
theorem read_v403 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v403 (F := Ideal) c arg2 harg2 arg3 harg3 arg4 harg4 arg6 harg6 arg7 harg7 arg8 harg8 arg10 harg10 arg12 harg12 arg19 arg20 arg24 x0 x1 x2 x4 x5 x6 x8 x10 (ix2 r l) = ahead (extended fun t => decay (x10 (ix3 0 1 0)) (x10 (ix3 0 3 0)) (x8 (ix4 0 0 t 3))) 4 r.val := by
  simp only [kernelRun.sl.v403, kernelRun.sl.HS4_3, View.readCov_cons_toLoadRect, kernelRun.sl.r_17, kernelRun.sl.r_18]
  pointwise [k0_pay1133, k0_pay1146, k0_pay1145]
  refine backward_entry _ 2 62 (by norm_num) (by norm_num) _ (kernelRun.sl.v382 (F := Ideal) c arg2 harg2 arg3 harg3 arg4 harg4 arg6 harg6 arg7 harg7 arg8 harg8 arg10 harg10 arg12 harg12 arg19 arg20 arg24 x0 x1 x2 x4 x5 x6 x8 x10) l (fun r => read_v375 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v382, kernelRun.sl.HS8_24]
  refine (read_down 66 2 rfl _ _ _ _ _ r l h).trans ?_
  pointwise [k0_pay1144]

set_option maxHeartbeats 4000000 in
theorem read_v431 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v431 (F := Ideal) c arg2 harg2 arg3 harg3 arg4 harg4 arg6 harg6 arg7 harg7 arg8 harg8 arg10 harg10 arg12 harg12 arg19 arg20 arg24 x0 x1 x2 x4 x5 x6 x8 x10 (ix2 r l) = ahead (extended fun t => decay (x10 (ix3 0 1 0)) (x10 (ix3 0 3 0)) (x8 (ix4 0 0 t 3))) 8 r.val := by
  simp only [kernelRun.sl.v431, kernelRun.sl.HS4_4, View.readCov_cons_toLoadRect, kernelRun.sl.r_17, kernelRun.sl.r_18]
  pointwise [k0_pay1133, k0_pay1150]
  refine backward_entry _ 4 60 (by norm_num) (by norm_num) _ (kernelRun.sl.v410 (F := Ideal) c arg2 harg2 arg3 harg3 arg4 harg4 arg6 harg6 arg7 harg7 arg8 harg8 arg10 harg10 arg12 harg12 arg19 arg20 arg24 x0 x1 x2 x4 x5 x6 x8 x10) l (fun r => read_v403 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v410, kernelRun.sl.HS8_26]
  refine (read_down 68 4 rfl _ _ _ _ _ r l h).trans ?_
  pointwise [k0_pay1149]

set_option maxHeartbeats 4000000 in
theorem read_v459 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v459 (F := Ideal) c arg2 harg2 arg3 harg3 arg4 harg4 arg6 harg6 arg7 harg7 arg8 harg8 arg10 harg10 arg12 harg12 arg19 arg20 arg24 x0 x1 x2 x4 x5 x6 x8 x10 (ix2 r l) = ahead (extended fun t => decay (x10 (ix3 0 1 0)) (x10 (ix3 0 3 0)) (x8 (ix4 0 0 t 3))) 16 r.val := by
  simp only [kernelRun.sl.v459, kernelRun.sl.HS4_5, View.readCov_cons_toLoadRect, kernelRun.sl.r_17, kernelRun.sl.r_18]
  pointwise [k0_pay1133, k0_pay1154]
  refine backward_entry _ 8 56 (by norm_num) (by norm_num) _ (kernelRun.sl.v438 (F := Ideal) c arg2 harg2 arg3 harg3 arg4 harg4 arg6 harg6 arg7 harg7 arg8 harg8 arg10 harg10 arg12 harg12 arg19 arg20 arg24 x0 x1 x2 x4 x5 x6 x8 x10) l (fun r => read_v431 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v438, kernelRun.sl.HS8_28]
  refine (read_down 72 8 rfl _ _ _ _ _ r l h).trans ?_
  pointwise [k0_pay1153]

set_option maxHeartbeats 4000000 in
theorem read_v487 (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    kernelRun.sl.v487 (F := Ideal) c arg2 harg2 arg3 harg3 arg4 harg4 arg6 harg6 arg7 harg7 arg8 harg8 arg10 harg10 arg12 harg12 arg19 arg20 arg24 x0 x1 x2 x4 x5 x6 x8 x10 (ix2 r l) = ahead (extended fun t => decay (x10 (ix3 0 1 0)) (x10 (ix3 0 3 0)) (x8 (ix4 0 0 t 3))) 32 r.val := by
  simp only [kernelRun.sl.v487, kernelRun.sl.HS4_6, View.readCov_cons_toLoadRect, kernelRun.sl.r_17, kernelRun.sl.r_18]
  pointwise [k0_pay1133, k0_pay1158]
  refine backward_entry _ 16 48 (by norm_num) (by norm_num) _ (kernelRun.sl.v466 (F := Ideal) c arg2 harg2 arg3 harg3 arg4 harg4 arg6 harg6 arg7 harg7 arg8 harg8 arg10 harg10 arg12 harg12 arg19 arg20 arg24 x0 x1 x2 x4 x5 x6 x8 x10) l (fun r => read_v459 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v466, kernelRun.sl.HS8_30]
  refine (read_down 80 16 rfl _ _ _ _ _ r l h).trans ?_
  pointwise [k0_pay1157]

set_option maxHeartbeats 4000000 in
theorem read_backward_sum (c : Dev nD) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg10 : Memref sig .tc .vmem S1x1x2304x4 .f32) (harg10 : arg10.IsWhole) (arg12 : Memref sig .tc .vmem S1x8x128 .f32) (harg12 : arg12.IsWhole) (arg19 : Memref sig .tc .vmem S2304x128 .f32) (arg20 : Memref sig .tc .vmem S2304x128 .f32) (arg24 : Memref sig .tc .vmem S2432x128 .f32) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x10 : Vec Ideal S1x8x128 .f32) (r : Fin 2304) (l : Fin 128) :
    View.canon (kernelRun.sl.HS4_7 (F := Ideal) c arg2 harg2 arg3 harg3 arg4 harg4 arg6 harg6 arg7 harg7 arg8 harg8 arg10 harg10 arg12 harg12 arg19 arg20 arg24 x0 x1 x2 x4 x5 x6 x8 x10) (ix2 r l) = ahead (extended fun t => decay (x10 (ix3 0 1 0)) (x10 (ix3 0 3 0)) (x8 (ix4 0 0 t 3))) 64 r.val := by
  simp only [kernelRun.sl.HS4_7]
  refine (canon_rows 0 _ _ _ r l).trans ?_
  rw [dif_pos ⟨Nat.zero_le _, by have := r.isLt; omega⟩]
  pointwise [k0_pay1133, k0_pay1162]
  refine backward_entry _ 32 32 (by norm_num) (by norm_num) _ (kernelRun.sl.v494 (F := Ideal) c arg2 harg2 arg3 harg3 arg4 harg4 arg6 harg6 arg7 harg7 arg8 harg8 arg10 harg10 arg12 harg12 arg19 arg20 arg24 x0 x1 x2 x4 x5 x6 x8 x10) l (fun r => read_v487 c arg2 harg2 arg3 harg3 arg4 harg4 arg6 harg6 arg7 harg7 arg8 harg8 arg10 harg10 arg12 harg12 arg19 arg20 arg24 x0 x1 x2 x4 x5 x6 x8 x10 r l) (fun r h => ?_) r
  simp only [kernelRun.sl.v494, kernelRun.sl.HS8_32]
  refine (read_down 96 32 rfl _ _ _ _ _ r l h).trans ?_
  pointwise [k0_pay1161]

end Cert.Delta
end
-- ==== Proof.Chain.lean ====
/- The chunk stage of the kernel's body: what it computes from the 64 rows of one chunk, in one order of the tokens,
   and the pieces one trip of the chunk loop stores, twelve chunks in each order. -/
module

public import proofs.«01_k».proof.Proof.Gen.KernelIdeal.Loops
public import Idealize.ShloMosaic.Lib.Pipeline.FrameBody

@[expose] public section

set_option maxRecDepth 16384

noncomputable section

namespace Cert.Delta

open Cert.KernelIdeal Cert.KernelIdeal.Gen
open Idealize.ShloMosaic Idealize.ShloMosaic.TcCoe Idealize.ShloMosaic.Tactic

variable {F : FTy → Type} [FloatOps F]

/-- The index patterns of a 64 by 64 matrix the chunk stage selects by: entries up to the diagonal and strictly
    before it in the order of the tokens, the identity, and the six patterns that join the halves of the blocks. -/
structure Patterns (F : FTy → Type) where
  incl : IVec S64x64 1
  strict : IVec S64x64 1
  eye : FVec F S64x64 .f32
  m1 : IVec S64x64 1
  m2 : IVec S64x64 1
  m3 : IVec S64x64 1
  m4 : IVec S64x64 1
  m5 : IVec S64x64 1
  m6 : IVec S64x64 1

/-- The 64 by 64 matrix with every entry zero. -/
def zeros64 : FVec F S64x64 .f32 := broadcast S64x64 (Scalar.ofBits .f32 0x00000000#32)

/-- The product of two 64 by 64 matrices, their entries rounded. -/
def prod64 (a b : FVec F S64x64 .f32) : FVec F S64x64 .f32 :=
  matmul dot_S64x64_S64x64_S64x64_1_0_0_1_n_n none (truncf .bf16 a bitsLt_bf16_f32) (truncf .bf16 b bitsLt_bf16_f32)
    (constant S64x64 .f32 0x00000000#32)

/-- The products of the rows of two blocks of 64 rows. -/
def rowProd (a b : FVec F S64x128 .f32) : FVec F S64x64 .f32 :=
  matmul dot_S64x128_S64x128_S64x64_1_1_0_0_n_n none (truncf .bf16 a bitsLt_bf16_f32) (truncf .bf16 b bitsLt_bf16_f32)
    (constant S64x64 .f32 0x00000000#32)

/-- A 64 by 64 matrix applied to 64 rows of 256 lanes. -/
def onRows (a : FVec F S64x64 .f32) (b : FVec F S64x256 .f32) : FVec F S64x256 .f32 :=
  matmul dot_S64x64_S64x256_S64x256_1_0_0_1_n_n none (truncf .bf16 a bitsLt_bf16_f32) (truncf .bf16 b bitsLt_bf16_f32)
    (constant S64x256 .f32 0x00000000#32)

/-- The decay from each token to each later one: the exponential of the difference of the running logarithms. -/
def decayMat (P : Patterns F) (g : FVec F S64x128 .f32) : FVec F S64x64 .f32 :=
  select P.incl (exp (select P.incl
    (subf (extractStridedSlice S64x64 ![0, 0] g slices_S64x128_o0_0_S64x64)
      (extractStridedSlice S64x64 ![0, 0] (transpose S128x64 [1, 0] g transposes_S64x128_p1_0_S128x64) slices_S128x64_o0_0_S64x64))
    zeros64)) zeros64

/-- The strictly triangular matrix of the chunk. -/
def lowMat (P : Patterns F) (k g b : FVec F S64x128 .f32) : FVec F S64x64 .f32 :=
  select P.strict (mulf (rowProd (mulf k b) k) (decayMat P g)) zeros64

/-- One doubling of the inverted blocks. -/
def doubleMat (m : IVec S64x64 1) (low inv : FVec F S64x64 .f32) : FVec F S64x64 .f32 :=
  subf inv (prod64 (prod64 inv (select m low zeros64)) inv)

/-- The inverse of one plus the strictly triangular matrix, by doubling. -/
def invMat (P : Patterns F) (low : FVec F S64x64 .f32) : FVec F S64x64 .f32 :=
  doubleMat P.m6 low (doubleMat P.m5 low (doubleMat P.m4 low (doubleMat P.m3 low (doubleMat P.m2 low
    (subf P.eye (select P.m1 low zeros64))))))

/-- The inverse applied to the decayed keys and the values, both scaled, side by side. -/
def solMat (P : Patterns F) (k v g b : FVec F S64x128 .f32) : FVec F S64x256 .f32 :=
  onRows (invMat P (lowMat P k g b))
    (concatenate S64x256 1 [⟨S64x128, mulf (mulf k b) (exp g)⟩, ⟨S64x128, mulf v b⟩] concatenates_S64x128_S64x128_S64x256_d1)

/-- The queries against the keys inside the chunk, decayed, applied to the solution. -/
def intraMat (P : Patterns F) (q k v g b : FVec F S64x128 .f32) : FVec F S64x256 .f32 :=
  onRows (select P.incl (mulf (rowProd q k) (decayMat P g)) zeros64) (solMat P k v g b)

/-- The keys decayed to the end of the chunk, transposed, applied to the solution. -/
def tailMat (P : Patterns F) (gl : FVec F S1x128 .f32) (k v g b : FVec F S64x128 .f32) : FVec F S128x256 .f32 :=
  matmul dot_S128x64_S64x256_S128x256_1_0_0_1_n_n none
    (truncf .bf16 (transpose S128x64 [1, 0] (mulf k (exp (subf (broadcastTo S64x128 gl broadcasts_S1x128_S64x128) g)))
      transposes_S64x128_p1_0_S128x64) bitsLt_bf16_f32)
    (truncf .bf16 (solMat P k v g b) bitsLt_bf16_f32) (constant S128x256 .f32 0x00000000#32)

/-- What the chunk stores for the queries, -/
def qePart (P : Patterns F) (q k v g b : FVec F S64x128 .f32) : FVec F S1x64x128 .bf16 :=
  shapeCast S1x64x128 (truncf .bf16 (subf (mulf q (exp g))
    (extractStridedSlice S64x128 ![0, 0] (intraMat P q k v g b) slices_S64x256_o0_0_S64x128)) bitsLt_bf16_f32) shapeCasts_S64x128_S1x64x128

/-- for the outputs that do not read the carried state, -/
def o0Part (P : Patterns F) (q k v g b : FVec F S64x128 .f32) : FVec F S1x64x128 .f32 :=
  shapeCast S1x64x128 (extractStridedSlice S64x128 ![0, 128] (intraMat P q k v g b) slices_S64x256_o0_128_S64x128) shapeCasts_S64x128_S1x64x128

/-- for the part of the next state that reads the carried state, -/
def kwPart (P : Patterns F) (gl : FVec F S1x128 .f32) (k v g b : FVec F S64x128 .f32) : FVec F S1x128x128 .bf16 :=
  shapeCast S1x128x128 (truncf .bf16 (extractStridedSlice S128x128 ![0, 0] (tailMat P gl k v g b) slices_S128x256_o0_0_S128x128)
    bitsLt_bf16_f32) shapeCasts_S128x128_S1x128x128

/-- for the part that does not, -/
def cPart (P : Patterns F) (gl : FVec F S1x128 .f32) (k v g b : FVec F S64x128 .f32) : FVec F S1x128x128 .f32 :=
  shapeCast S1x128x128 (extractStridedSlice S128x128 ![0, 128] (tailMat P gl k v g b) slices_S128x256_o0_128_S128x128) shapeCasts_S128x128_S1x128x128

/-- and for the decay of the carried state over the chunk. -/
def dcPart (gl : FVec F S1x128 .f32) : FVec F S1x8x128 .f32 :=
  shapeCast S1x8x128 (broadcastTo S8x128 (shapeCast S1x128 (exp gl) shapeCasts_S1x128_S1x128) broadcasts_S1x128_S8x128) shapeCasts_S8x128_S1x8x128

/-- The last token's running logarithm, tokens down the rows, -/
def lastF (g : FVec F S64x128 .f32) : FVec F S1x128 .f32 := extractStridedSlice S1x128 ![63, 0] g slices_S64x128_o63_0_S1x128
/-- and up the rows. -/
def lastB (g : FVec F S64x128 .f32) : FVec F S1x128 .f32 := extractStridedSlice S1x128 ![0, 0] g slices_S64x128_o0_0_S1x128

/-- The patterns for tokens down the rows, -/
def patF (v501 v502 : IVec S64x64 32) (v505 : FVec F S64x64 .f32) (v516 v527 v538 v549 v554 : IVec S64x64 1) (v555 : IVec S64x64 32) : Patterns F where
  incl := cmpi .sge v501 v502
  strict := cmpi .sgt v501 v502
  eye := v505
  m1 := v516
  m2 := v527
  m3 := v538
  m4 := v549
  m5 := andi v554 (cmpi .ne (shrsi v501 v555) (shrsi v502 (broadcast S64x64 4#32)))
  m6 := andi (cmpi .eq (shrsi v501 (broadcast S64x64 6#32)) (shrsi v502 (broadcast S64x64 6#32)))
    (cmpi .ne (shrsi v501 (broadcast S64x64 5#32)) (shrsi v502 (broadcast S64x64 5#32)))

/-- and up the rows. -/
def patB (v501 v502 : IVec S64x64 32) (v505 : FVec F S64x64 .f32) (v516 v527 v538 v549 v554 : IVec S64x64 1) (v555 : IVec S64x64 32) : Patterns F :=
  { patF v501 v502 v505 v516 v527 v538 v549 v554 v555 with
    incl := cmpi .sle v501 v502
    strict := cmpi .slt v501 v502 }

/-- The 64 rows of chunk `c` of trip `k` of a buffer of 2304 rows. -/
def chunkRows (A : Vec F S2304x128 .f32) (k : Fin k0_t1_loop.trips) (c : Fin 12) : FVec F S64x128 .f32 :=
  View.ld A (Rect.unit (s := S2304x128) (k0_off1 k (BitVec.ofNat 32 c.val)) S64x128.size (k0_off1_inb k c))

/-- Twelve chunks' pieces, the last stored first. -/
def twelve {α : Type} (f : Fin 12 → List α) : List α :=
  f 11 ++ (f 10 ++ (f 9 ++ (f 8 ++ (f 7 ++ (f 6 ++ (f 5 ++ (f 4 ++ (f 3 ++ (f 2 ++ (f 1 ++ f 0))))))))))

section
variable (PF PB : Patterns F) (A16 A17 A18 A19 A20 A21 A22 : Vec F S2304x128 .f32) (k : Fin k0_t1_loop.trips)

def pieces25 : List (View.Piece (Elt F) S2x4608x128 .bf16) := twelve fun c =>
  [⟨Rect.unit (s := S2x4608x128) (k0_off6 k (BitVec.ofNat 32 c.val)) S1x128x128.size (k0_off6_inb k c),
      kwPart PB (lastB (chunkRows A20 k c)) (chunkRows A17 k c) (chunkRows A18 k c) (chunkRows A20 k c) (chunkRows A22 k c)⟩,
   ⟨Rect.unit (s := S2x4608x128) (k0_off3 k (BitVec.ofNat 32 c.val)) S1x128x128.size (k0_off3_inb k c),
      kwPart PF (lastF (chunkRows A19 k c)) (chunkRows A17 k c) (chunkRows A18 k c) (chunkRows A19 k c) (chunkRows A21 k c)⟩]

def pieces26 : List (View.Piece (Elt F) S2x4608x128 .f32) := twelve fun c =>
  [⟨Rect.unit (s := S2x4608x128) (k0_off6 k (BitVec.ofNat 32 c.val)) S1x128x128.size (k0_off6_inb k c),
      cPart PB (lastB (chunkRows A20 k c)) (chunkRows A17 k c) (chunkRows A18 k c) (chunkRows A20 k c) (chunkRows A22 k c)⟩,
   ⟨Rect.unit (s := S2x4608x128) (k0_off3 k (BitVec.ofNat 32 c.val)) S1x128x128.size (k0_off3_inb k c),
      cPart PF (lastF (chunkRows A19 k c)) (chunkRows A17 k c) (chunkRows A18 k c) (chunkRows A19 k c) (chunkRows A21 k c)⟩]

def pieces27 : List (View.Piece (Elt F) S2x2304x128 .bf16) := twelve fun c =>
  [⟨Rect.unit (s := S2x2304x128) (k0_off5 k (BitVec.ofNat 32 c.val)) S1x64x128.size (k0_off5_inb k c),
      qePart PB (chunkRows A16 k c) (chunkRows A17 k c) (chunkRows A18 k c) (chunkRows A20 k c) (chunkRows A22 k c)⟩,
   ⟨Rect.unit (s := S2x2304x128) (k0_off2 k (BitVec.ofNat 32 c.val)) S1x64x128.size (k0_off2_inb k c),
      qePart PF (chunkRows A16 k c) (chunkRows A17 k c) (chunkRows A18 k c) (chunkRows A19 k c) (chunkRows A21 k c)⟩]

def pieces28 : List (View.Piece (Elt F) S2x2304x128 .f32) := twelve fun c =>
  [⟨Rect.unit (s := S2x2304x128) (k0_off5 k (BitVec.ofNat 32 c.val)) S1x64x128.size (k0_off5_inb k c),
      o0Part PB (chunkRows A16 k c) (chunkRows A17 k c) (chunkRows A18 k c) (chunkRows A20 k c) (chunkRows A22 k c)⟩,
   ⟨Rect.unit (s := S2x2304x128) (k0_off2 k (BitVec.ofNat 32 c.val)) S1x64x128.size (k0_off2_inb k c),
      o0Part PF (chunkRows A16 k c) (chunkRows A17 k c) (chunkRows A18 k c) (chunkRows A19 k c) (chunkRows A21 k c)⟩]

def pieces29 : List (View.Piece (Elt F) S2x288x128 .f32) := twelve fun c =>
  [⟨Rect.unit (s := S2x288x128) (k0_off7 k (BitVec.ofNat 32 c.val)) S1x8x128.size (k0_off7_inb k c),
      dcPart (lastB (chunkRows A20 k c))⟩,
   ⟨Rect.unit (s := S2x288x128) (k0_off4 k (BitVec.ofNat 32 c.val)) S1x8x128.size (k0_off4_inb k c),
      dcPart (lastF (chunkRows A19 k c))⟩]
end

set_option maxHeartbeats 4000000 in
theorem trip_pieces25 (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k).1
      = pieces25 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22) k := by
  unfold trip_k0_t1
  rfl

set_option maxHeartbeats 4000000 in
theorem trip_pieces26 (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k).2.1
      = pieces26 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22) k := by
  unfold trip_k0_t1
  rfl

set_option maxHeartbeats 4000000 in
theorem trip_pieces27 (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k).2.2.1
      = pieces27 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22) k := by
  unfold trip_k0_t1
  rfl

set_option maxHeartbeats 4000000 in
theorem trip_pieces28 (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k).2.2.2.1
      = pieces28 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22) k := by
  unfold trip_k0_t1
  rfl

set_option maxHeartbeats 4000000 in
theorem trip_pieces29 (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) :
    (trip_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k).2.2.2.2.1
      = pieces29  (arg19.view.read (Elt F) X_arg19) (arg20.view.read (Elt F) X_arg20) k := by
  unfold trip_k0_t1
  rfl

end Cert.Delta

end
-- ==== Proof.Math.lean ====
/- The real-number side of the gated delta rule: a unit lower triangular matrix inverted by doubling the size of
   its inverted diagonal blocks, and a chunk of tokens taken at once against the tokens taken one by one. -/
module

public import Mathlib.Data.Matrix.Mul
public import Mathlib.LinearAlgebra.Matrix.NonsingularInverse
public import Mathlib.Analysis.SpecialFunctions.Exp

@[expose] public section

noncomputable section

namespace Cert.Delta.Math

open Finset

/-! ## The inverse by doubling blocks -/

/-- The entries that join the two halves of a block of `2 * n` rows. -/
def cross (n : ℕ) (i j : Fin 64) : Prop := i.val / (2 * n) = j.val / (2 * n) ∧ i.val / n ≠ j.val / n

instance (n : ℕ) (i j : Fin 64) : Decidable (cross n i j) := by unfold cross; infer_instance

/-- `L` on the entries joining the two halves of each block of `2 * n` rows, zero elsewhere. -/
def crossPart (n : ℕ) (L : Matrix (Fin 64) (Fin 64) ℝ) : Matrix (Fin 64) (Fin 64) ℝ :=
  fun i j => if cross n i j then L i j else 0

/-- `L` on the diagonal blocks of `n` rows, zero elsewhere. -/
def blockPart (n : ℕ) (L : Matrix (Fin 64) (Fin 64) ℝ) : Matrix (Fin 64) (Fin 64) ℝ :=
  fun i j => if i.val / n = j.val / n then L i j else 0

/-- One doubling: from the inverse on blocks of `n` rows to the inverse on blocks of `2 * n` rows. -/
def double (n : ℕ) (L T : Matrix (Fin 64) (Fin 64) ℝ) : Matrix (Fin 64) (Fin 64) ℝ :=
  T - T * crossPart n L * T

/-- `T` has entries only inside diagonal blocks of `n` rows and inverts `1 + L` there. -/
def Inverts (n : ℕ) (L T : Matrix (Fin 64) (Fin 64) ℝ) : Prop :=
  (∀ i j, i.val / n ≠ j.val / n → T i j = 0) ∧ (1 + blockPart n L) * T = 1

/-- `L` is strictly triangular, below or above the diagonal. -/
def Strict (L : Matrix (Fin 64) (Fin 64) ℝ) : Prop :=
  (∀ i j, L i j ≠ 0 → j < i) ∨ (∀ i j, L i j ≠ 0 → i < j)

theorem crossPart_ne {n : ℕ} {L : Matrix (Fin 64) (Fin 64) ℝ} {i j : Fin 64} (h : crossPart n L i j ≠ 0) :
    cross n i j ∧ L i j ≠ 0 := by
  unfold crossPart at h; split at h
  · exact ⟨‹_›, h⟩
  · exact absurd rfl h

/-- A block of `2 * n` rows has only two halves: going down (or up) twice leaves it. -/
theorem cross_zero (n : ℕ) (hn : 0 < n) (L T : Matrix (Fin 64) (Fin 64) ℝ) (hL : Strict L)
    (hT : ∀ i j, i.val / n ≠ j.val / n → T i j = 0) : crossPart n L * T * crossPart n L = 0 := by
  ext i l
  rw [Matrix.mul_apply]
  refine Finset.sum_eq_zero fun k _ => ?_
  rw [Matrix.mul_apply, Finset.sum_mul]
  refine Finset.sum_eq_zero fun j _ => ?_
  by_contra h
  have h1 : crossPart n L i j ≠ 0 := fun e => h (by rw [e]; ring)
  have h2 : T j k ≠ 0 := fun e => h (by rw [e]; ring)
  have h3 : crossPart n L k l ≠ 0 := fun e => h (by rw [e]; ring)
  obtain ⟨⟨a1, a2⟩, a3⟩ := crossPart_ne h1
  obtain ⟨⟨b1, b2⟩, b3⟩ := crossPart_ne h3
  have e : j.val / n = k.val / n := by by_contra e; exact h2 (hT _ _ e)
  have d : ∀ x : Fin 64, x.val / (2 * n) = x.val / n / 2 := fun x => by rw [Nat.mul_comm, Nat.div_div_eq_div_mul]
  rw [d, d] at a1 b1
  rcases hL with hL | hL
  · have p := Nat.div_le_div_right (c := n) (le_of_lt (hL _ _ a3))
    have q := Nat.div_le_div_right (c := n) (le_of_lt (hL _ _ b3))
    omega
  · have p := Nat.div_le_div_right (c := n) (le_of_lt (hL _ _ a3))
    have q := Nat.div_le_div_right (c := n) (le_of_lt (hL _ _ b3))
    omega

theorem blockPart_double (n : ℕ) (L : Matrix (Fin 64) (Fin 64) ℝ) :
    blockPart (2 * n) L = blockPart n L + crossPart n L := by
  ext i j
  have d : ∀ x : Fin 64, x.val / (2 * n) = x.val / n / 2 := fun x => by rw [Nat.mul_comm, Nat.div_div_eq_div_mul]
  simp only [Matrix.add_apply, blockPart, crossPart, cross, d]
  by_cases h : i.val / n = j.val / n
  · simp [h]
  · by_cases h' : i.val / n / 2 = j.val / n / 2 <;> simp [h, h']

theorem inverts_double (n : ℕ) (hn : 0 < n) (L T : Matrix (Fin 64) (Fin 64) ℝ) (hL : Strict L)
    (h : Inverts n L T) : Inverts (2 * n) L (double n L T) := by
  refine ⟨fun i j hij => ?_, ?_⟩
  · have d : ∀ x : Fin 64, x.val / (2 * n) = x.val / n / 2 := fun x => by rw [Nat.mul_comm, Nat.div_div_eq_div_mul]
    have h0 : T i j = 0 := h.1 i j fun e => hij (by rw [d, d, e])
    simp only [double, Matrix.sub_apply, h0, zero_sub, neg_eq_zero]
    rw [Matrix.mul_apply]
    refine Finset.sum_eq_zero fun k _ => ?_
    rw [Matrix.mul_apply, Finset.sum_mul]
    refine Finset.sum_eq_zero fun l _ => ?_
    by_contra hh
    have h1 : T i l ≠ 0 := fun e => hh (by rw [e]; ring)
    have h2 : crossPart n L l k ≠ 0 := fun e => hh (by rw [e]; ring)
    have h3 : T k j ≠ 0 := fun e => hh (by rw [e]; ring)
    have e1 : i.val / n = l.val / n := by by_contra e; exact h1 (h.1 _ _ e)
    have e3 : k.val / n = j.val / n := by by_contra e; exact h3 (h.1 _ _ e)
    have e2 := (crossPart_ne h2).1.1
    apply hij
    rw [d, d] at e2 ⊢
    rw [e1, e2, e3]
  · have hz := cross_zero n hn L T hL h.1
    rw [blockPart_double, double]
    have e1 : (1 + (blockPart n L + crossPart n L)) * (T - T * crossPart n L * T)
        = (1 + blockPart n L) * T - ((1 + blockPart n L) * T) * (crossPart n L * T) + crossPart n L * T
          - (crossPart n L * T * crossPart n L) * T := by noncomm_ring
    rw [e1, h.2, hz]
    noncomm_ring

/-- The six doublings from single rows to all 64. -/
def inverse (L : Matrix (Fin 64) (Fin 64) ℝ) : Matrix (Fin 64) (Fin 64) ℝ :=
  double 32 L (double 16 L (double 8 L (double 4 L (double 2 L (1 - crossPart 1 L)))))

theorem inverse_mul (L : Matrix (Fin 64) (Fin 64) ℝ) (hL : Strict L) : (1 + L) * inverse L = 1 := by
  have h0 : Inverts 1 L 1 := by
    refine ⟨fun i j hij => ?_, ?_⟩
    · exact Matrix.one_apply_ne fun e => hij (by rw [e])
    · have : blockPart 1 L = 0 := by
        ext i j
        simp only [blockPart, Nat.div_one, Matrix.zero_apply]
        split
        · rename_i e
          have e' : i = j := Fin.ext e
          subst e'
          by_contra hne
          rcases hL with hL | hL <;> exact absurd (hL _ _ hne) (lt_irrefl _)
        · rfl
      rw [this]; simp
  have h1 : Inverts 2 L (1 - crossPart 1 L) := by
    have := inverts_double 1 one_pos L 1 hL h0
    simpa [double] using this
  have h2 := inverts_double 2 (by norm_num) L _ hL h1
  have h3 := inverts_double 4 (by norm_num) L _ hL h2
  have h4 := inverts_double 8 (by norm_num) L _ hL h3
  have h5 := inverts_double 16 (by norm_num) L _ hL h4
  have h6 := inverts_double 32 (by norm_num) L _ hL h5
  have hb : blockPart (2 * 32) L = L := by
    ext i j
    have hi := i.isLt; have hj := j.isLt
    simp only [blockPart]
    rw [if_pos (by omega)]
  have := h6.2
  rw [hb] at this
  exact this

/-! ## A chunk of 64 tokens at once -/

/-- One token: the state decays by `exp γ`, then moves towards reading the value `v` at the key `k`. -/
def token (γ β : ℝ) (k v : Fin 128 → ℝ) (S : Fin 128 → Fin 128 → ℝ) : Fin 128 → Fin 128 → ℝ :=
  fun d e => S d e * Real.exp γ + β * k d * (v e - ∑ x, k x * (S x e * Real.exp γ))

/-- The state after the first `n` tokens. -/
def tokens (γ β : ℕ → ℝ) (k v : ℕ → Fin 128 → ℝ) (S : Fin 128 → Fin 128 → ℝ) : ℕ → Fin 128 → Fin 128 → ℝ
  | 0 => S
  | n + 1 => token (γ n) (β n) (k n) (v n) (tokens γ β k v S n)

theorem tokens_add (γ β : ℕ → ℝ) (k v : ℕ → Fin 128 → ℝ) (S : Fin 128 → Fin 128 → ℝ) (m n : ℕ) :
    tokens γ β k v S (m + n)
      = tokens (fun t => γ (m + t)) (fun t => β (m + t)) (fun t => k (m + t)) (fun t => v (m + t))
          (tokens γ β k v S m) n := by
  induction n with
  | zero => rfl
  | succ n ih => rw [← Nat.add_assoc]; simp only [tokens]; rw [ih]

/-- If `Δ` solves the triangular system of a chunk, the state after `p` tokens is the decayed starting state plus
    the decayed outer products of the keys with `Δ`. -/
theorem tokens_eq (γ β : ℕ → ℝ) (k v Δ : ℕ → Fin 128 → ℝ) (S : Fin 128 → Fin 128 → ℝ) (G : ℕ → ℝ)
    (hG : ∀ p, G p = ∑ u ∈ range (p + 1), γ u) (N : ℕ)
    (hΔ : ∀ p < N, ∀ e, Δ p e = β p * v p e - β p * Real.exp (G p) * ∑ x, k p x * S x e
        - ∑ u ∈ range p, β p * (∑ x, k p x * k u x) * Real.exp (G p - G u) * Δ u e) :
    ∀ p ≤ N, ∀ d e, tokens γ β k v S p d e
      = Real.exp (∑ u ∈ range p, γ u) * S d e
        + ∑ u ∈ range p, Real.exp ((∑ w ∈ range p, γ w) - G u) * k u d * Δ u e := by
  intro p
  induction p with
  | zero => intro _ d e; simp [tokens]
  | succ p ih =>
    intro hp d e
    have ih' := ih (by omega)
    have hs : ∀ d e, tokens γ β k v S p d e * Real.exp (γ p)
        = Real.exp (G p) * S d e + ∑ u ∈ range p, Real.exp (G p - G u) * k u d * Δ u e := by
      intro d e
      rw [ih', add_mul, Finset.sum_mul, hG p, Finset.sum_range_succ]
      congr 1
      · rw [Real.exp_add]; ring
      · refine Finset.sum_congr rfl fun u _ => ?_
        rw [show (∑ x ∈ range p, γ x) + γ p - G u = ((∑ x ∈ range p, γ x) - G u) + γ p by ring, Real.exp_add]
        ring
    simp only [tokens, token]
    rw [← hG p, Finset.sum_range_succ]
    have hd : β p * (v p e - ∑ x, k p x * (tokens γ β k v S p x e * Real.exp (γ p))) = Δ p e := by
      rw [hΔ p (by omega) e]
      simp only [hs]
      have : ∑ x, k p x * (Real.exp (G p) * S x e + ∑ u ∈ range p, Real.exp (G p - G u) * k u x * Δ u e)
          = Real.exp (G p) * ∑ x, k p x * S x e
            + ∑ u ∈ range p, (∑ x, k p x * k u x) * Real.exp (G p - G u) * Δ u e := by
        simp only [mul_add, Finset.sum_add_distrib, Finset.mul_sum]
        congr 1
        · exact Finset.sum_congr rfl fun x _ => by ring
        · rw [Finset.sum_comm]
          refine Finset.sum_congr rfl fun u _ => ?_
          rw [Finset.sum_mul, Finset.sum_mul]
          exact Finset.sum_congr rfl fun x _ => by ring
      rw [this, mul_sub, mul_add]
      have e2 : ∀ u ∈ range p, β p * ((∑ x, k p x * k u x) * Real.exp (G p - G u) * Δ u e)
          = β p * (∑ x, k p x * k u x) * Real.exp (G p - G u) * Δ u e := fun u _ => by ring
      rw [Finset.mul_sum (range p), Finset.sum_congr rfl e2]
      ring
    rw [hs, mul_comm (β p) (k p d), mul_assoc, hd, sub_self, Real.exp_zero]
    ring

end Cert.Delta.Math

end
-- ==== Proof.Chunk.lean ====
/- One chunk of 64 tokens of the gated delta rule, over the real numbers: the six arrays a chunk computes from its rows,
   and that the two updates they stand for are the 64 updates of the tokens one by one. -/
module

public import proofs.«01_k».proof.Proof.Math

@[expose] public section

noncomputable section

namespace Cert.Delta.Math

open Finset

variable (e : Fin 64 ≃ Fin 64) (q k v : Fin 64 → Fin 128 → ℝ) (G b : Fin 64 → ℝ)

/-- The decay from row `j` to row `i`, zero where `j` comes after `i`; `e p` is the row of the chunk's token `p`. -/
def decayR : Matrix (Fin 64) (Fin 64) ℝ := fun i j => if e.symm j ≤ e.symm i then Real.exp (G i - G j) else 0

/-- The strictly triangular matrix of the chunk. -/
def lowR : Matrix (Fin 64) (Fin 64) ℝ :=
  fun i j => if e.symm j < e.symm i then (∑ x, k i x * b i * k j x) * decayR e G i j else 0

/-- The inverse applied to the decayed keys, -/
def wR : Matrix (Fin 64) (Fin 128) ℝ := fun i d => ∑ j, inverse (lowR e k G b) i j * (k j d * b j * Real.exp (G j))

/-- and to the values. -/
def uR : Matrix (Fin 64) (Fin 128) ℝ := fun i d => ∑ j, inverse (lowR e k G b) i j * (v j d * b j)

/-- The queries against the keys up to each of them. -/
def attR : Matrix (Fin 64) (Fin 64) ℝ :=
  fun i j => if e.symm j ≤ e.symm i then (∑ x, q i x * k j x) * decayR e G i j else 0

/-- What multiplies the carried state in the outputs, -/
def qeR : Matrix (Fin 64) (Fin 128) ℝ := fun i d => q i d * Real.exp (G i) - ∑ j, attR e q k G i j * wR e k G b j d

/-- the rest of the outputs, -/
def o0R : Matrix (Fin 64) (Fin 128) ℝ := fun i d => ∑ j, attR e q k G i j * uR e k v G b j d

/-- what multiplies the carried state in the next state, -/
def kwR (gl : ℝ) : Matrix (Fin 128) (Fin 128) ℝ := fun d d' => ∑ i, k i d * Real.exp (gl - G i) * wR e k G b i d'

/-- and the rest of the next state. -/
def cR (gl : ℝ) : Matrix (Fin 128) (Fin 128) ℝ := fun d d' => ∑ i, k i d * Real.exp (gl - G i) * uR e k v G b i d'

theorem strict_lowR (he : e = Equiv.refl _ ∨ e = Fin.revPerm) : Strict (lowR e k G b) := by
  rcases he with rfl | rfl
  · refine .inl fun i j h => ?_
    unfold lowR at h; split at h
    · rename_i h'; simpa using h'
    · exact absurd rfl h
  · refine .inr fun i j h => ?_
    unfold lowR at h; split at h
    · rename_i h'; exact Fin.rev_lt_rev.mp (by simpa using h')
    · exact absurd rfl h

/-- What the chunk writes into the state for row `i`. -/
def deltaR (S : Fin 128 → Fin 128 → ℝ) : Matrix (Fin 64) (Fin 128) ℝ :=
  fun i x => uR e k v G b i x - ∑ d, wR e k G b i d * S d x

/-- It solves the triangular system of the chunk. -/
theorem deltaR_eq (he : e = Equiv.refl _ ∨ e = Fin.revPerm) (S : Fin 128 → Fin 128 → ℝ) (i : Fin 64) (x : Fin 128) :
    deltaR e k v G b S i x
      = b i * v i x - b i * Real.exp (G i) * ∑ d, k i d * S d x
        - ∑ j, lowR e k G b i j * deltaR e k v G b S j x := by
  have h := inverse_mul _ (strict_lowR e k G b he)
  have hS : deltaR e k v G b S = inverse (lowR e k G b) *
      Matrix.of (fun j x => v j x * b j - ∑ d, (k j d * b j * Real.exp (G j)) * S d x) := by
    ext i x
    rw [Matrix.mul_apply]
    simp only [Matrix.of_apply, deltaR, uR, wR, mul_sub, sum_sub_distrib, sum_mul, mul_sum]
    congr 1
    rw [sum_comm]
    exact sum_congr rfl fun _ _ => sum_congr rfl fun _ _ => by ring
  have h2 : (1 + lowR e k G b) * deltaR e k v G b S
      = Matrix.of (fun j x => v j x * b j - ∑ d, (k j d * b j * Real.exp (G j)) * S d x) := by
    rw [hS, ← Matrix.mul_assoc, h, Matrix.one_mul]
  have h3 := congrFun (congrFun h2 i) x
  rw [Matrix.add_mul, Matrix.one_mul, Matrix.add_apply, Matrix.mul_apply] at h3
  rw [eq_sub_iff_add_eq, h3, mul_sum, Matrix.of_apply]
  congr 1
  · ring
  · exact sum_congr rfl fun _ _ => by ring

theorem sum_rows (e : Fin 64 ≃ Fin 64) (n : ℕ) (hn : n ≤ 64) (f : Fin 64 → ℝ) :
    ∑ j, (if (e.symm j).val < n then f j else 0) = ∑ u ∈ range n, if h : u < 64 then f (e ⟨u, h⟩) else 0 := by
  rw [← Equiv.sum_comp e]
  simp only [Equiv.symm_apply_apply]
  rw [Finset.sum_fin_eq_sum_range, ← Finset.sum_subset (range_mono hn)]
  · refine sum_congr rfl fun u hu => ?_
    have := mem_range.mp hu
    rw [dif_pos (by omega), dif_pos (by omega), if_pos this]
  · intro u hu hu'
    have := mem_range.mp hu
    rw [dif_pos (by omega), if_neg (by simpa using hu')]

/-- The two updates of a chunk are its 64 updates one by one: the state after the chunk, and every output. -/
theorem chunk_tokens (he : e = Equiv.refl _ ∨ e = Fin.revPerm) (γ β : ℕ → ℝ) (kk vv : ℕ → Fin 128 → ℝ)
    (hk : ∀ p : Fin 64, kk p = k (e p)) (hv : ∀ p : Fin 64, vv p = v (e p)) (hβ : ∀ p : Fin 64, β p = b (e p))
    (hG : ∀ p : Fin 64, G (e p) = ∑ u ∈ range (p.val + 1), γ u) (S : Fin 128 → Fin 128 → ℝ) :
    (∀ d x, tokens γ β kk vv S 64 d x
        = S d x * Real.exp (G (e 63)) - ∑ y, kwR e k G b (G (e 63)) d y * S y x + cR e k v G b (G (e 63)) d x)
    ∧ ∀ (p : Fin 64) (x : Fin 128), ∑ d, q (e p) d * tokens γ β kk vv S (p.val + 1) d x
        = ∑ d, qeR e q k G b (e p) d * S d x + o0R e q k v G b (e p) x := by
  set D := deltaR e k v G b S with hD
  have key := tokens_eq γ β kk vv (fun u x => if h : u < 64 then D (e ⟨u, h⟩) x else 0) S
    (fun p => ∑ u ∈ range (p + 1), γ u) (fun _ => rfl) 64 (by
      intro p hp x
      rw [dif_pos hp, hD, deltaR_eq e k v G b he]
      have h1 := hk ⟨p, hp⟩; have h2 := hv ⟨p, hp⟩; have h3 := hβ ⟨p, hp⟩; have h4 := hG ⟨p, hp⟩
      simp only at h1 h2 h3 h4
      rw [h1, h2, h3, ← h4]
      congr 1
      have := sum_rows e p hp.le (fun j => b (e ⟨p, hp⟩) * (∑ x, k (e ⟨p, hp⟩) x * k j x)
        * Real.exp (G (e ⟨p, hp⟩) - G j) * D j x)
      refine Eq.trans ?_ (this.trans (sum_congr rfl fun u hu => ?_))
      · refine sum_congr rfl fun j _ => ?_
        unfold lowR decayR
        rw [Equiv.symm_apply_apply]
        by_cases hj : e.symm j < ⟨p, hp⟩
        · rw [if_pos hj, if_pos hj.le, if_pos (show (e.symm j).val < p from hj), hD, mul_sum]
          congr 2
          exact sum_congr rfl fun _ _ => by ring
        · rw [if_neg hj, if_neg (show ¬(e.symm j).val < p from hj), zero_mul]
      · have hu' : u < 64 := (mem_range.mp hu).trans hp
        have h5 := hk ⟨u, hu'⟩; have h6 := hG ⟨u, hu'⟩
        simp only at h5 h6
        rw [dif_pos hu', dif_pos hu', h5, h6])
  have gen : ∀ (p : Fin 64) (d x : Fin 128), tokens γ β kk vv S (p.val + 1) d x
      = Real.exp (G (e p)) * S d x
        + ∑ j, if e.symm j ≤ p then Real.exp (G (e p) - G j) * k j d * D j x else 0 := by
    intro p d x
    rw [key (p.val + 1) (by omega), ← hG p]
    congr 1
    have := sum_rows e (p.val + 1) (by omega) (fun j => Real.exp (G (e p) - G j) * k j d * D j x)
    refine Eq.trans (sum_congr rfl fun u hu => ?_) (this.symm.trans (sum_congr rfl fun j _ => ?_))
    · have hu' : u < 64 := by have := mem_range.mp hu; omega
      have h5 := hk ⟨u, hu'⟩; have h6 := hG ⟨u, hu'⟩
      simp only at h5 h6
      rw [dif_pos hu', dif_pos hu', h5, h6]
    · refine if_congr ?_ rfl rfl
      rw [Fin.le_def]; omega
  constructor
  · intro d x
    have h := gen 63 d x
    rw [show ((63 : Fin 64).val + 1) = 64 from rfl] at h
    rw [h]
    have : ∀ j, e.symm j ≤ (63 : Fin 64) := fun j => Fin.le_def.mpr (by have := (e.symm j).isLt; show _ ≤ 63; omega)
    simp only [this, if_true]
    simp only [hD, deltaR, kwR, cR, mul_sub, sum_sub_distrib, mul_sum, sum_mul]
    rw [sum_comm (s := (univ : Finset (Fin 128)))]
    have a1 : ∀ j : Fin 64, Real.exp (G (e 63) - G j) * k j d * uR e k v G b j x
        = k j d * Real.exp (G (e 63) - G j) * uR e k v G b j x := fun j => by ring
    have a2 : ∀ (j : Fin 64) (y : Fin 128), Real.exp (G (e 63) - G j) * k j d * (wR e k G b j y * S y x)
        = k j d * Real.exp (G (e 63) - G j) * wR e k G b j y * S y x := fun j y => by ring
    simp only [a1, a2]
    ring
  · intro p x
    simp only [gen]
    simp only [qeR, o0R, mul_add, sum_add_distrib, sub_mul, sum_sub_distrib]
    have hA : ∀ j, (∑ d, q (e p) d * (if e.symm j ≤ p then Real.exp (G (e p) - G j) * k j d * D j x else 0))
        = attR e q k G (e p) j * D j x := by
      intro j
      unfold attR decayR
      rw [Equiv.symm_apply_apply]
      by_cases hj : e.symm j ≤ p
      · simp only [if_pos hj]
        rw [sum_mul, sum_mul]
        exact sum_congr rfl fun _ _ => by ring
      · simp only [if_neg hj, mul_zero, sum_const_zero, zero_mul]
    have hB : ∑ d, q (e p) d * ∑ j, (if e.symm j ≤ p then Real.exp (G (e p) - G j) * k j d * D j x else 0)
        = ∑ j, attR e q k G (e p) j * D j x := by
      simp only [mul_sum]
      rw [sum_comm]
      refine sum_congr rfl fun j _ => ?_
      rw [← hA]
    rw [hB]
    have hC : ∑ j, attR e q k G (e p) j * D j x = ∑ j, attR e q k G (e p) j * uR e k v G b j x
        - ∑ d, (∑ j, attR e q k G (e p) j * wR e k G b j d) * S d x := by
      simp only [hD, deltaR, mul_sub, sum_sub_distrib, mul_sum, sum_mul]
      congr 1
      rw [sum_comm]
      exact sum_congr rfl fun _ _ => sum_congr rfl fun _ _ => by ring
    rw [hC]
    have : ∀ d, q (e p) d * (Real.exp (G (e p)) * S d x) = q (e p) d * Real.exp (G (e p)) * S d x := fun d => by ring
    simp only [this]
    ring

end Cert.Delta.Math

end
-- ==== Proof.ChunkIdeal.lean ====
/- The chunk stage over the extended reals: on rows of real numbers each array it stores holds the real numbers that
   `Chunk` names. -/
module

public import proofs.«01_k».proof.Proof.Chain
public import proofs.«01_k».proof.Proof.Chunk
public import Idealize.ShloMosaic.Lib.Pointwise

@[expose] public section

set_option maxRecDepth 16384

noncomputable section

namespace Cert.Delta

open Cert.KernelIdeal Cert.KernelIdeal.Gen
open Idealize.ShloMosaic Idealize.ShloMosaic.TcCoe Idealize.ShloMosaic.Tactic
open Math

/-- A sum of real numbers among the extended ones. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

theorem select_ite (p : Prop) [Decidable p] (a b : EReal) :
    Scalar.select (if p then 1#1 else 0#1) a b = if p then a else b := by split <;> rfl

/-- The patterns are those of the order in which `e` numbers the rows. -/
structure Fits (P : Patterns Ideal) (e : Fin 64 ≃ Fin 64) : Prop where
  incl : ∀ i j, P.incl (ix2 i j) = if e.symm j ≤ e.symm i then 1#1 else 0#1
  strict : ∀ i j, P.strict (ix2 i j) = if e.symm j < e.symm i then 1#1 else 0#1
  eye : ∀ i j : Fin 64, (P.eye (ix2 i j) : EReal) = (((1 : Matrix (Fin 64) (Fin 64) ℝ) i j : ℝ) : EReal)
  m1 : ∀ i j, P.m1 (ix2 i j) = if cross 1 i j then 1#1 else 0#1
  m2 : ∀ i j, P.m2 (ix2 i j) = if cross 2 i j then 1#1 else 0#1
  m3 : ∀ i j, P.m3 (ix2 i j) = if cross 4 i j then 1#1 else 0#1
  m4 : ∀ i j, P.m4 (ix2 i j) = if cross 8 i j then 1#1 else 0#1
  m5 : ∀ i j, P.m5 (ix2 i j) = if cross 16 i j then 1#1 else 0#1
  m6 : ∀ i j, P.m6 (ix2 i j) = if cross 32 i j then 1#1 else 0#1

/-- A matrix of the kernel holds real numbers. -/
def Holds64 (A : FVec Ideal S64x64 .f32) (M : Matrix (Fin 64) (Fin 64) ℝ) : Prop :=
  ∀ i j, (A (ix2 i j) : EReal) = ((M i j : ℝ) : EReal)

/-- So do its rows of 128 lanes. -/
def HoldsRows (A : FVec Ideal S64x128 .f32) (M : Fin 64 → Fin 128 → ℝ) : Prop :=
  ∀ i j, (A (ix2 i j) : EReal) = ((M i j : ℝ) : EReal)

theorem prod64_holds {A B : FVec Ideal S64x64 .f32} {M N : Matrix (Fin 64) (Fin 64) ℝ} (hA : Holds64 A M) (hB : Holds64 B N) :
    Holds64 (prod64 A B) (M * N) := by
  intro i j
  pointwise [prod64]
  rw [Matrix.mul_apply, ← coe_sum]
  exact Finset.sum_congr rfl fun x _ => by rw [hA, hB, EReal.coe_mul]

theorem doubleMat_holds {m : IVec S64x64 1} {n : ℕ} (hm : ∀ i j, m (ix2 i j) = if cross n i j then 1#1 else 0#1)
    {A B : FVec Ideal S64x64 .f32} {L T : Matrix (Fin 64) (Fin 64) ℝ} (hA : Holds64 A L) (hB : Holds64 B T) :
    Holds64 (doubleMat m A B) (double n L T) := by
  have hc : Holds64 (select m A zeros64) (crossPart n L) := by
    intro i j
    pointwise [zeros64]
    rw [hm, hA, select_ite, crossPart, ← EReal.coe_zero, coe_ite]
  have h := prod64_holds (prod64_holds hB hc) hB
  intro i j
  show (B (ix2 i j) : EReal) - prod64 (prod64 B (select m A zeros64)) B (ix2 i j) = _
  rw [hB, h, ← EReal.coe_sub]
  rfl

variable {P : Patterns Ideal} {e : Fin 64 ≃ Fin 64} (hP : Fits P e)

theorem inv_holds {A : FVec Ideal S64x64 .f32} {L : Matrix (Fin 64) (Fin 64) ℝ} (hP : Fits P e) (hA : Holds64 A L) :
    Holds64 (invMat P A) (inverse L) := by
  have h1 : Holds64 (subf P.eye (select P.m1 A zeros64)) (1 - crossPart 1 L) := by
    intro i j
    pointwise [zeros64]
    rw [hP.m1, hA, hP.eye, select_ite, ← EReal.coe_zero, coe_ite, ← EReal.coe_sub]
    rfl
  exact doubleMat_holds hP.m6 hA (doubleMat_holds hP.m5 hA (doubleMat_holds hP.m4 hA (doubleMat_holds hP.m3 hA
    (doubleMat_holds hP.m2 hA h1))))

variable {q k v g b : FVec Ideal S64x128 .f32} {qr kr vr : Fin 64 → Fin 128 → ℝ} {Gr br : Fin 64 → ℝ}
  (hq : HoldsRows q qr) (hk : HoldsRows k kr) (hv : HoldsRows v vr) (hg : HoldsRows g fun i _ => Gr i)
  (hb : HoldsRows b fun i _ => br i)

include hP hg in
theorem decay_holds : Holds64 (decayMat P g) (decayR e Gr) := by
  intro i j
  pointwise [decayMat, zeros64]
  rw [hP.incl, hg, hg]
  unfold decayR
  by_cases h : e.symm j ≤ e.symm i
  · simp only [if_pos h, ValueIdx.select_one, ← EReal.coe_sub, Ideal.exp_coe]
  · simp only [if_neg h, ValueIdx.select_zero, EReal.coe_zero]

include hP hk hg hb in
theorem low_holds : Holds64 (lowMat P k g b) (lowR e kr Gr br) := by
  intro i j
  have hd := decay_holds hP hg
  pointwise [lowMat, rowProd, zeros64]
  rw [hP.strict, hd, select_ite, lowR, ← coe_ite, EReal.coe_mul, ← coe_sum, EReal.coe_zero]
  refine if_congr Iff.rfl (congrArg (· * _) (Finset.sum_congr rfl fun x _ => ?_)) rfl
  rw [hk, hk, hb, EReal.coe_mul, EReal.coe_mul]

include hP hk hv hg hb in
theorem sol_left (i : Fin 64) (d : Fin 128) :
    (solMat P k v g b (ix2 i ⟨d.val, by omega⟩) : EReal) = ((wR e kr Gr br i d : ℝ) : EReal) := by
  have h := inv_holds hP (low_holds hP hk hg hb)
  pointwise [solMat, onRows]
  unfold wR
  rw [← coe_sum]
  refine Finset.sum_congr rfl fun x _ => ?_
  rw [h, hk, hb, hg, Ideal.exp_coe, EReal.coe_mul, EReal.coe_mul, EReal.coe_mul]

include hP hk hv hg hb in
theorem sol_right (i : Fin 64) (d : Fin 128) :
    (solMat P k v g b (ix2 i ⟨128 + d.val, by omega⟩) : EReal) = ((uR e kr vr Gr br i d : ℝ) : EReal) := by
  have h := inv_holds hP (low_holds hP hk hg hb)
  pointwise [solMat, onRows]
  unfold uR
  rw [← coe_sum]
  refine Finset.sum_congr rfl fun x _ => ?_
  rw [h, hv, hb, EReal.coe_mul, EReal.coe_mul]

include hP hq hk hg in
theorem att_holds : Holds64 (select P.incl (mulf (rowProd q k) (decayMat P g)) zeros64) (attR e qr kr Gr) := by
  intro i j
  have hd := decay_holds hP hg
  pointwise [rowProd, zeros64]
  rw [hP.incl, hd, select_ite, attR, ← coe_ite, EReal.coe_mul, ← coe_sum, EReal.coe_zero]
  refine if_congr Iff.rfl (congrArg (· * _) (Finset.sum_congr rfl fun x _ => ?_)) rfl
  rw [hq, hk, EReal.coe_mul]

include hP hq hk hv hg hb in
theorem qe_holds (i : Fin 64) (d : Fin 128) :
    (qePart P q k v g b (ix3 0 i d) : EReal) = ((qeR e qr kr Gr br i d : ℝ) : EReal) := by
  have ha := att_holds hP hq hk hg
  pointwise [qePart]
  unfold intraMat onRows
  have hm : ∀ (A : FVec Ideal S64x64 .f32) (B : FVec Ideal S64x256 .f32) (j : Fin 256), matmul (F := Ideal) (φ₁ := .bf16) (φ₂ := .bf16) dot_S64x64_S64x256_S64x256_1_0_0_1_n_n none
      (truncf .bf16 A bitsLt_bf16_f32) (truncf .bf16 B bitsLt_bf16_f32) (constant S64x256 .f32 0x00000000#32) (ix2 i j)
      = ∑ x, A (ix2 i x) * B (ix2 x j) := by intro A B j; pointwise
  rw [hm, hq, hg, Ideal.exp_coe]
  unfold qeR
  rw [EReal.coe_sub, EReal.coe_mul, ← coe_sum]
  congr 1
  refine Finset.sum_congr rfl fun x _ => ?_
  rw [ha, sol_left hP hk hv hg hb, EReal.coe_mul]

include hP hq hk hv hg hb in
theorem o0_holds (i : Fin 64) (d : Fin 128) :
    (o0Part P q k v g b (ix3 0 i d) : EReal) = ((o0R e qr kr vr Gr br i d : ℝ) : EReal) := by
  have ha := att_holds hP hq hk hg
  pointwise [o0Part]
  unfold intraMat onRows
  have hm : ∀ (A : FVec Ideal S64x64 .f32) (B : FVec Ideal S64x256 .f32) (j : Fin 256), matmul (F := Ideal) (φ₁ := .bf16) (φ₂ := .bf16) dot_S64x64_S64x256_S64x256_1_0_0_1_n_n none
      (truncf .bf16 A bitsLt_bf16_f32) (truncf .bf16 B bitsLt_bf16_f32) (constant S64x256 .f32 0x00000000#32) (ix2 i j)
      = ∑ x, A (ix2 i x) * B (ix2 x j) := by intro A B j; pointwise
  rw [hm]
  unfold o0R
  rw [← coe_sum]
  refine Finset.sum_congr rfl fun x _ => ?_
  rw [ha, sol_right hP hk hv hg hb, EReal.coe_mul]

variable {gl : FVec Ideal S1x128 .f32} {glr : ℝ} (hgl : ∀ d, (gl (ix2 0 d) : EReal) = ((glr : ℝ) : EReal))

include hP hk hv hg hb hgl in
theorem kw_holds (d d' : Fin 128) :
    (kwPart P gl k v g b (ix3 0 d d') : EReal) = ((kwR e kr Gr br glr d d' : ℝ) : EReal) := by
  pointwise [kwPart, tailMat]
  unfold kwR
  rw [← coe_sum]
  refine Finset.sum_congr rfl fun x _ => ?_
  rw [sol_left hP hk hv hg hb, hk, hgl, hg, ← EReal.coe_sub, Ideal.exp_coe, EReal.coe_mul, EReal.coe_mul]

include hP hk hv hg hb hgl in
theorem c_holds (d d' : Fin 128) :
    (cPart P gl k v g b (ix3 0 d d') : EReal) = ((cR e kr vr Gr br glr d d' : ℝ) : EReal) := by
  pointwise [cPart, tailMat]
  unfold cR
  rw [← coe_sum]
  refine Finset.sum_congr rfl fun x _ => ?_
  rw [sol_right hP hk hv hg hb, hk, hgl, hg, ← EReal.coe_sub, Ideal.exp_coe, EReal.coe_mul, EReal.coe_mul]

include hgl in
theorem dc_holds (r : Fin 8) (d : Fin 128) : (dcPart gl (ix3 0 r d) : EReal) = ((Real.exp glr : ℝ) : EReal) := by
  pointwise [dcPart]
  rw [hgl, Ideal.exp_coe]

/-! ## The patterns the kernel builds -/

/-- The patterns for tokens down the rows, of the row and column numbers the kernel builds, -/
def downPatterns : Patterns Ideal :=
  have v501 := iota Kind.tc S64x64 32 [0] iota_S64x64_d0_w32
  have v502 := iota Kind.tc S64x64 32 [1] iota_S64x64_d1_w32
  patF v501 v502 k0_pay1163 (k0_pay1166 v501 v502 k0_pay1164 k0_pay1165) (k0_pay1167 v501 v502) (k0_pay1168 v501 v502)
    (k0_pay1169 v501 v502) (k0_pay1170 v501 v502) k0_pay1171

/-- and up the rows. -/
def upPatterns : Patterns Ideal :=
  have v501 := iota Kind.tc S64x64 32 [0] iota_S64x64_d0_w32
  have v502 := iota Kind.tc S64x64 32 [1] iota_S64x64_d1_w32
  patB v501 v502 k0_pay1163 (k0_pay1166 v501 v502 k0_pay1164 k0_pay1165) (k0_pay1167 v501 v502) (k0_pay1168 v501 v502)
    (k0_pay1169 v501 v502) (k0_pay1170 v501 v502) k0_pay1171

theorem eye_word : ∀ i j : Fin 64, BitVec.setWidth 32 (IntOp.cmpi CmpIPredicate.eq (BitVec.ofNat 32 i.val) (BitVec.ofNat 32 j.val))
    = if i = j then 1#32 else 0#32 := by decide +kernel

theorem eye_holds (i j : Fin 64) : (k0_pay1163 (F := Ideal) (ix2 i j) : EReal) = (((1 : Matrix (Fin 64) (Fin 64) ℝ) i j : ℝ) : EReal) := by
  pointwise [k0_pay1163]
  rw [eye_word, Matrix.one_apply]
  by_cases h : i = j
  · rw [if_pos h, if_pos h]; simp [FloatOps.sitofp, ScalarOps.sitofp]
  · rw [if_neg h, if_neg h]; simp [FloatOps.sitofp, ScalarOps.sitofp]

theorem sge_word : ∀ i j : Fin 64, IntOp.cmpi CmpIPredicate.sge (BitVec.ofNat 32 i.val) (BitVec.ofNat 32 j.val)
    = if j ≤ i then 1#1 else 0#1 := by decide +kernel
theorem sgt_word : ∀ i j : Fin 64, IntOp.cmpi CmpIPredicate.sgt (BitVec.ofNat 32 i.val) (BitVec.ofNat 32 j.val)
    = if j < i then 1#1 else 0#1 := by decide +kernel
theorem sle_word : ∀ i j : Fin 64, IntOp.cmpi CmpIPredicate.sle (BitVec.ofNat 32 i.val) (BitVec.ofNat 32 j.val)
    = if i ≤ j then 1#1 else 0#1 := by decide +kernel
theorem slt_word : ∀ i j : Fin 64, IntOp.cmpi CmpIPredicate.slt (BitVec.ofNat 32 i.val) (BitVec.ofNat 32 j.val)
    = if i < j then 1#1 else 0#1 := by decide +kernel

/-- Rows and columns in one block of `2 ^ (s + 1)` and two blocks of `2 ^ s`. -/
theorem cross_word : ∀ (s : Fin 6) (i j : Fin 64), IntOp.andi
      (IntOp.cmpi CmpIPredicate.eq (IntOp.shrsi ArithUnit.vector (BitVec.ofNat 32 i.val) (BitVec.ofNat 32 (s.val + 1)))
        (IntOp.shrsi ArithUnit.vector (BitVec.ofNat 32 j.val) (BitVec.ofNat 32 (s.val + 1))))
      (IntOp.cmpi CmpIPredicate.ne (IntOp.shrsi ArithUnit.vector (BitVec.ofNat 32 i.val) (BitVec.ofNat 32 s.val))
        (IntOp.shrsi ArithUnit.vector (BitVec.ofNat 32 j.val) (BitVec.ofNat 32 s.val)))
    = if cross (2 ^ s.val) i j then 1#1 else 0#1 := by decide +kernel

theorem down_fits : Fits downPatterns (Equiv.refl _) where
  incl i j := by pointwise [downPatterns, patF]; exact sge_word i j
  strict i j := by pointwise [downPatterns, patF]; exact sgt_word i j
  eye i j := eye_holds i j
  m1 i j := by pointwise [downPatterns, patF, k0_pay1164, k0_pay1165, k0_pay1166]; exact cross_word 0 i j
  m2 i j := by pointwise [downPatterns, patF, k0_pay1167]; exact cross_word 1 i j
  m3 i j := by pointwise [downPatterns, patF, k0_pay1168]; exact cross_word 2 i j
  m4 i j := by pointwise [downPatterns, patF, k0_pay1169]; exact cross_word 3 i j
  m5 i j := by pointwise [downPatterns, patF, k0_pay1170, k0_pay1171]; exact cross_word 4 i j
  m6 i j := by pointwise [downPatterns, patF]; exact cross_word 5 i j

theorem up_fits : Fits upPatterns Fin.revPerm where
  incl i j := by
    pointwise [upPatterns, patB, patF]
    refine (sle_word i j).trans (if_congr ?_ rfl rfl)
    simp [Fin.rev_le_rev]
  strict i j := by
    pointwise [upPatterns, patB, patF]
    refine (slt_word i j).trans (if_congr ?_ rfl rfl)
    simp [Fin.rev_lt_rev]
  eye i j := eye_holds i j
  m1 := down_fits.m1
  m2 := down_fits.m2
  m3 := down_fits.m3
  m4 := down_fits.m4
  m5 := down_fits.m5
  m6 := down_fits.m6

end Cert.Delta

end
-- ==== Proof.Loop1.lean ====
/- The chunk loop as a whole: after its trips each block of the five arrays it fills holds the chunk stage's value at
   the block's own 64 rows. -/
module

public import proofs.«01_k».proof.Proof.Chain
public import proofs.«01_k».proof.Proof.Pieces

@[expose] public section

set_option maxRecDepth 16384

noncomputable section

namespace Cert.Delta

open Cert.KernelIdeal Cert.KernelIdeal.Gen
open Idealize.ShloMosaic Idealize.ShloMosaic.TcCoe Idealize.ShloMosaic.Tactic

variable {F : FTy → Type} [FloatOps F]

/-- The 64 rows of chunk `n` of a buffer of 2304 rows. -/
def rows {Val : EltTy → Type} {e : EltTy} (A : S2304x128.Idx → Val e) (n : Fin 36) : S64x128.Idx → Val e :=
  View.ld A (Rect.unit (s := S2304x128) ![64 * n.val, 0] S64x128.size (by
    intro a; have := n.isLt; fin_cases a <;> simp <;> omega))

/-- The number of chunk `c` of trip `k`. -/
def chunkNo (k : Fin k0_t1_loop.trips) (c : Fin 12) : Fin 36 :=
  ⟨12 * k.val + c.val, by have h1 := k.isLt; have h2 : k0_t1_loop.trips = 3 := by decide
                          have := c.isLt; omega⟩

theorem off1_eq : ∀ (k : Fin k0_t1_loop.trips) (c : Fin 12), k0_off1 k (BitVec.ofNat 32 c.val) = ![64 * (chunkNo k c).val, 0] := by
  decide +kernel
theorem off2_eq : ∀ (k : Fin k0_t1_loop.trips) (c : Fin 12), k0_off2 k (BitVec.ofNat 32 c.val) = ![(0 : Fin 2).val, 64 * (chunkNo k c).val, 0] := by
  decide +kernel
theorem off3_eq : ∀ (k : Fin k0_t1_loop.trips) (c : Fin 12), k0_off3 k (BitVec.ofNat 32 c.val) = ![(0 : Fin 2).val, 128 * (chunkNo k c).val, 0] := by
  decide +kernel
theorem off4_eq : ∀ (k : Fin k0_t1_loop.trips) (c : Fin 12), k0_off4 k (BitVec.ofNat 32 c.val) = ![(0 : Fin 2).val, 8 * (chunkNo k c).val, 0] := by
  decide +kernel
theorem off5_eq : ∀ (k : Fin k0_t1_loop.trips) (c : Fin 12), k0_off5 k (BitVec.ofNat 32 c.val) = ![(1 : Fin 2).val, 64 * (chunkNo k c).val, 0] := by
  decide +kernel
theorem off6_eq : ∀ (k : Fin k0_t1_loop.trips) (c : Fin 12), k0_off6 k (BitVec.ofNat 32 c.val) = ![(1 : Fin 2).val, 128 * (chunkNo k c).val, 0] := by
  decide +kernel
theorem off7_eq : ∀ (k : Fin k0_t1_loop.trips) (c : Fin 12), k0_off7 k (BitVec.ofNat 32 c.val) = ![(1 : Fin 2).val, 8 * (chunkNo k c).val, 0] := by
  decide +kernel

theorem ld_off {Val : EltTy → Type} {e : EltTy} (A : S2304x128.Idx → Val e) (off : Fin 2 → ℕ) (n : Fin 36) (h : off = ![64 * n.val, 0]) (inb) :
    View.ld A (Rect.unit (s := S2304x128) off S64x128.size inb) = rows A n := by subst h; rfl

theorem chunkRows_eq (A : Vec F S2304x128 .f32) (k : Fin k0_t1_loop.trips) (c : Fin 12) : chunkRows A k c = rows A (chunkNo k c) :=
  ld_off A _ _ (off1_eq k c) _

theorem mem_twelve {α : Type} (f : Fin 12 → List α) (q : α) : q ∈ twelve f ↔ ∃ c, q ∈ f c := by
  constructor
  · intro h
    simp only [twelve, List.mem_append] at h
    rcases h with h | h | h | h | h | h | h | h | h | h | h | h
    exacts [⟨11, h⟩, ⟨10, h⟩, ⟨9, h⟩, ⟨8, h⟩, ⟨7, h⟩, ⟨6, h⟩, ⟨5, h⟩, ⟨4, h⟩, ⟨3, h⟩, ⟨2, h⟩, ⟨1, h⟩, ⟨0, h⟩]
  · rintro ⟨c, h⟩
    simp only [twelve, List.mem_append]
    fin_cases c <;> simp_all

/-- The pieces of the three trips, the last first. -/
def threeTrips {α : Type} (f : Fin k0_t1_loop.trips → List α) : List α :=
  f ⟨2, by decide⟩ ++ (f ⟨1, by decide⟩ ++ (f ⟨0, by decide⟩ ++ []))

theorem mem_threeTrips {α : Type} (f : Fin k0_t1_loop.trips → List α) (q : α) : q ∈ threeTrips f ↔ ∃ k, q ∈ f k := by
  simp only [threeTrips, List.mem_append, List.not_mem_nil, or_false]
  constructor
  · rintro (h | h | h)
    exacts [⟨_, h⟩, ⟨_, h⟩, ⟨_, h⟩]
  · rintro ⟨⟨k, hk⟩, h⟩
    have hk' : k < 3 := lt_of_lt_of_eq hk (by decide)
    interval_cases k
    exacts [Or.inr (Or.inr h), Or.inr (Or.inl h), Or.inl h]

/-- The pieces of one trip, block by block. -/
def tripBlocks {Val : EltTy → Type} [∀ e, Nonempty (Val e)] {e : EltTy} {R M : ℕ} (hM : M = 36 * R)
    (pay : Fin 2 → Fin 36 → (⟨3, ![1, R, 128]⟩ : Shape).Idx → Val e) (k : Fin k0_t1_loop.trips) : List (View.Piece Val ⟨3, ![2, M, 128]⟩ e) :=
  twelve fun c => [blockPiece R M hM 1 (chunkNo k c) (pay 1 (chunkNo k c)), blockPiece R M hM 0 (chunkNo k c) (pay 0 (chunkNo k c))]

theorem ld_three {Val : EltTy → Type} [∀ e, Nonempty (Val e)] {e : EltTy} {sg : RefSig} {κ : Kind} {sp : Space} {R M : ℕ} (hM : M = 36 * R)
    (v : View sg κ sp ⟨3, ![2, M, 128]⟩ e) (f : v.ty.Contents Val)
    (pay : Fin 2 → Fin 36 → (⟨3, ![1, R, 128]⟩ : Shape).Idx → Val e)
    (T : Fin k0_t1_loop.trips → List (View.Piece Val ⟨3, ![2, M, 128]⟩ e)) (hT : ∀ k, T k = tripBlocks hM pay k) (p : Fin 2) (n : Fin 36) :
    View.ld (v.read Val (v.writes Val f (threeTrips T))) (blockRect R M hM p n) = pay p n := by
  refine ld_read_blocks hM v f _ pay (fun q hq => ?_) p n ?_
  · obtain ⟨k, hk⟩ := (mem_threeTrips _ _).mp hq
    rw [hT k] at hk
    obtain ⟨c, hc⟩ := (mem_twelve _ _).mp hk
    rcases List.mem_cons.mp hc with h | h
    · exact ⟨_, _, h⟩
    · exact ⟨_, _, List.mem_singleton.mp h⟩
  · have hn := n.isLt
    refine (mem_threeTrips _ _).mpr ⟨⟨n.val / 12, by rw [show k0_t1_loop.trips = 3 from by decide]; omega⟩, ?_⟩
    rw [hT]
    refine (mem_twelve _ _).mpr ⟨⟨n.val % 12, by omega⟩, ?_⟩
    have hcn : chunkNo ⟨n.val / 12, by rw [show k0_t1_loop.trips = 3 from by decide]; omega⟩ ⟨n.val % 12, by omega⟩ = n :=
      Fin.ext (by show 12 * (n.val / 12) + n.val % 12 = n.val; omega)
    rw [hcn]
    have hp := p.isLt
    rcases p with ⟨p, hp⟩
    interval_cases p
    · exact List.mem_cons_of_mem _ (List.mem_singleton.mpr rfl)
    · exact List.mem_cons_self

section
variable (PF PB : Patterns F) (A16 A17 A18 A19 A20 A21 A22 : Vec F S2304x128 .f32)

/-- The values of the chunk stage by plane and chunk: plane 0 takes the tokens down the rows, plane 1 up the rows. -/
def pay25 (p : Fin 2) (n : Fin 36) : FVec F S1x128x128 .bf16 := if p = 0 then
    kwPart PF (lastF (rows A19 n)) (rows A17 n) (rows A18 n) (rows A19 n) (rows A21 n)
  else kwPart PB (lastB (rows A20 n)) (rows A17 n) (rows A18 n) (rows A20 n) (rows A22 n)
def pay26 (p : Fin 2) (n : Fin 36) : FVec F S1x128x128 .f32 := if p = 0 then
    cPart PF (lastF (rows A19 n)) (rows A17 n) (rows A18 n) (rows A19 n) (rows A21 n)
  else cPart PB (lastB (rows A20 n)) (rows A17 n) (rows A18 n) (rows A20 n) (rows A22 n)
def pay27 (p : Fin 2) (n : Fin 36) : FVec F S1x64x128 .bf16 := if p = 0 then
    qePart PF (rows A16 n) (rows A17 n) (rows A18 n) (rows A19 n) (rows A21 n)
  else qePart PB (rows A16 n) (rows A17 n) (rows A18 n) (rows A20 n) (rows A22 n)
def pay28 (p : Fin 2) (n : Fin 36) : FVec F S1x64x128 .f32 := if p = 0 then
    o0Part PF (rows A16 n) (rows A17 n) (rows A18 n) (rows A19 n) (rows A21 n)
  else o0Part PB (rows A16 n) (rows A17 n) (rows A18 n) (rows A20 n) (rows A22 n)
def pay29 (p : Fin 2) (n : Fin 36) : FVec F S1x8x128 .f32 := if p = 0 then dcPart (lastF (rows A19 n)) else dcPart (lastB (rows A20 n))

theorem pieces25_eq (k : Fin k0_t1_loop.trips) :
    pieces25 PF PB A17 A18 A19 A20 A21 A22 k = tripBlocks (Val := Elt F) (R := 128) (M := 4608) rfl (pay25 PF PB A17 A18 A19 A20 A21 A22) k := by
  unfold pieces25 tripBlocks
  refine congrArg twelve (funext fun c => ?_)
  simp only [chunkRows_eq]
  have hB := piece_block (Val := Elt F) (e := .bf16) (R := 128) (M := 4608) rfl 1 (chunkNo k c) (off6_eq k c) (k0_off6_inb k c) (pay25 PF PB A17 A18 A19 A20 A21 A22 1 (chunkNo k c))
  have hF := piece_block (Val := Elt F) (e := .bf16) (R := 128) (M := 4608) rfl 0 (chunkNo k c) (off3_eq k c) (k0_off3_inb k c) (pay25 PF PB A17 A18 A19 A20 A21 A22 0 (chunkNo k c))
  rw [← hB, ← hF]
  rfl

theorem pieces26_eq (k : Fin k0_t1_loop.trips) :
    pieces26 PF PB A17 A18 A19 A20 A21 A22 k = tripBlocks (Val := Elt F) (R := 128) (M := 4608) rfl (pay26 PF PB A17 A18 A19 A20 A21 A22) k := by
  unfold pieces26 tripBlocks
  refine congrArg twelve (funext fun c => ?_)
  simp only [chunkRows_eq]
  have hB := piece_block (Val := Elt F) (e := .f32) (R := 128) (M := 4608) rfl 1 (chunkNo k c) (off6_eq k c) (k0_off6_inb k c) (pay26 PF PB A17 A18 A19 A20 A21 A22 1 (chunkNo k c))
  have hF := piece_block (Val := Elt F) (e := .f32) (R := 128) (M := 4608) rfl 0 (chunkNo k c) (off3_eq k c) (k0_off3_inb k c) (pay26 PF PB A17 A18 A19 A20 A21 A22 0 (chunkNo k c))
  rw [← hB, ← hF]
  rfl

theorem pieces27_eq (k : Fin k0_t1_loop.trips) :
    pieces27 PF PB A16 A17 A18 A19 A20 A21 A22 k = tripBlocks (Val := Elt F) (R := 64) (M := 2304) rfl (pay27 PF PB A16 A17 A18 A19 A20 A21 A22) k := by
  unfold pieces27 tripBlocks
  refine congrArg twelve (funext fun c => ?_)
  simp only [chunkRows_eq]
  have hB := piece_block (Val := Elt F) (e := .bf16) (R := 64) (M := 2304) rfl 1 (chunkNo k c) (off5_eq k c) (k0_off5_inb k c) (pay27 PF PB A16 A17 A18 A19 A20 A21 A22 1 (chunkNo k c))
  have hF := piece_block (Val := Elt F) (e := .bf16) (R := 64) (M := 2304) rfl 0 (chunkNo k c) (off2_eq k c) (k0_off2_inb k c) (pay27 PF PB A16 A17 A18 A19 A20 A21 A22 0 (chunkNo k c))
  rw [← hB, ← hF]
  rfl

theorem pieces28_eq (k : Fin k0_t1_loop.trips) :
    pieces28 PF PB A16 A17 A18 A19 A20 A21 A22 k = tripBlocks (Val := Elt F) (R := 64) (M := 2304) rfl (pay28 PF PB A16 A17 A18 A19 A20 A21 A22) k := by
  unfold pieces28 tripBlocks
  refine congrArg twelve (funext fun c => ?_)
  simp only [chunkRows_eq]
  have hB := piece_block (Val := Elt F) (e := .f32) (R := 64) (M := 2304) rfl 1 (chunkNo k c) (off5_eq k c) (k0_off5_inb k c) (pay28 PF PB A16 A17 A18 A19 A20 A21 A22 1 (chunkNo k c))
  have hF := piece_block (Val := Elt F) (e := .f32) (R := 64) (M := 2304) rfl 0 (chunkNo k c) (off2_eq k c) (k0_off2_inb k c) (pay28 PF PB A16 A17 A18 A19 A20 A21 A22 0 (chunkNo k c))
  rw [← hB, ← hF]
  rfl

theorem pieces29_eq (k : Fin k0_t1_loop.trips) :
    pieces29 A19 A20 k = tripBlocks (Val := Elt F) (R := 8) (M := 288) rfl (pay29 A19 A20) k := by
  unfold pieces29 tripBlocks
  refine congrArg twelve (funext fun c => ?_)
  simp only [chunkRows_eq]
  have hB := piece_block (Val := Elt F) (e := .f32) (R := 8) (M := 288) rfl 1 (chunkNo k c) (off7_eq k c) (k0_off7_inb k c) (pay29 A19 A20 1 (chunkNo k c))
  have hF := piece_block (Val := Elt F) (e := .f32) (R := 8) (M := 288) rfl 0 (chunkNo k c) (off4_eq k c) (k0_off4_inb k c) (pay29 A19 A20 0 (chunkNo k c))
  rw [← hB, ← hF]
  rfl

end

section
variable (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty)

set_option maxHeartbeats 4000000 in
/-- All the pieces of the chunk loop. -/
theorem loop1_pieces :
    pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k0_t1_loop.trips
      = (threeTrips (pieces25 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)), threeTrips (pieces26 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)), threeTrips (pieces27 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)), threeTrips (pieces28 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)), threeTrips (pieces29 (arg19.view.read (Elt F) X_arg19) (arg20.view.read (Elt F) X_arg20))) := by
  have e2 := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 ⟨2, by decide⟩
  have e1 := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 ⟨1, by decide⟩
  have e0 := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 ⟨0, by decide⟩
  dsimp only [tripL_k0_t1] at e2 e1 e0
  simp only [trip_pieces25, trip_pieces26, trip_pieces27, trip_pieces28, trip_pieces29] at e2 e1 e0
  rw [show k0_t1_loop.trips = 2 + 1 from by decide]
  refine e2.trans ?_
  rw [show pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 2 = _ from e1, show pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 1 = _ from e0]
  rfl

/-- What the chunk loop leaves in each block of its array number 1. -/
theorem loop1_block25 (f : BufTy.Contents (Elt F) arg25.view.ty) (p : Fin 2) (n : Fin 36) :
    View.ld (arg25.view.read (Elt F) (arg25.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k0_t1_loop.trips).1))
        (blockRect 128 4608 rfl p n)
      = pay25 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22) p n := by
  rw [loop1_pieces]
  exact ld_three (Val := Elt F) (R := 128) (M := 4608) rfl _ f (pay25 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces25 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces25_eq (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)) p n

/-- What the chunk loop leaves in each block of its array number 2. -/
theorem loop1_block26 (f : BufTy.Contents (Elt F) arg26.view.ty) (p : Fin 2) (n : Fin 36) :
    View.ld (arg26.view.read (Elt F) (arg26.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k0_t1_loop.trips).2.1))
        (blockRect 128 4608 rfl p n)
      = pay26 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22) p n := by
  rw [loop1_pieces]
  exact ld_three (Val := Elt F) (R := 128) (M := 4608) rfl _ f (pay26 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces26 (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces26_eq (patF v501 v502 v505 v516 v527 v538 v549 v554 v555) (patB v501 v502 v505 v516 v527 v538 v549 v554 v555) (arg17.view.read (Elt F) X_arg17) (arg18.view.read (Elt F) X_arg18) (arg19.view.read (Elt F) X_arg19) (arg20.view.read (Elt F) X_arg20) (arg21.view.read (Elt F) X_arg21) (arg22.view.read (Elt F) X_arg22)) p n

/-- What the chunk loop leaves in each block of its array number 3. -/
theorem loop1_block27 (f : BufTy.Contents (Elt F) arg27.view.ty) (p : Fin 2) (n : Fin 36) :
    View.ld (arg27.view.read (Elt F) (arg27.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k0_t1_loop.trips).2.2.1))
        (blockRect 64 2304 rfl p n)
      = pay27 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22) p n := by
  rw [loop1_pieces]
  exact ld_three (Val := Elt F) (R := 64) (M := 2304) rfl _ f (pay27 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces27 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces27_eq (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)) p n

/-- What the chunk loop leaves in each block of its array number 4. -/
theorem loop1_block28 (f : BufTy.Contents (Elt F) arg28.view.ty) (p : Fin 2) (n : Fin 36) :
    View.ld (arg28.view.read (Elt F) (arg28.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k0_t1_loop.trips).2.2.2.1))
        (blockRect 64 2304 rfl p n)
      = pay28 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22) p n := by
  rw [loop1_pieces]
  exact ld_three (Val := Elt F) (R := 64) (M := 2304) rfl _ f (pay28 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces28 (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)) (pieces28_eq (patF v501 v502 v505 v516 v527 v538 v549 v554 v555) (patB v501 v502 v505 v516 v527 v538 v549 v554 v555) (arg16.view.read (Elt F) X_arg16) (arg17.view.read (Elt F) X_arg17) (arg18.view.read (Elt F) X_arg18) (arg19.view.read (Elt F) X_arg19) (arg20.view.read (Elt F) X_arg20) (arg21.view.read (Elt F) X_arg21) (arg22.view.read (Elt F) X_arg22)) p n

/-- What the chunk loop leaves in each block of its array number 5. -/
theorem loop1_block29 (f : BufTy.Contents (Elt F) arg29.view.ty) (p : Fin 2) (n : Fin 36) :
    View.ld (arg29.view.read (Elt F) (arg29.view.writes (Elt F) f (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg16 X_arg17 X_arg18 X_arg19 X_arg20 X_arg21 X_arg22 k0_t1_loop.trips).2.2.2.2))
        (blockRect 8 288 rfl p n)
      = pay29 (arg19.view.read (Elt F) X_arg19) (arg20.view.read (Elt F) X_arg20) p n := by
  rw [loop1_pieces]
  exact ld_three (Val := Elt F) (R := 8) (M := 288) rfl _ f (pay29 (arg19.view.read (Elt F) X_arg19) (arg20.view.read (Elt F) X_arg20)) (pieces29 (arg19.view.read (Elt F) X_arg19) (arg20.view.read (Elt F) X_arg20)) (pieces29_eq (arg19.view.read (Elt F) X_arg19) (arg20.view.read (Elt F) X_arg20)) p n

end

end Cert.Delta

end
-- ==== Proof.Loop2.lean ====
/- The recurrence over the chunks as a whole: the state carried from chunk to chunk in each direction, and the block of
   outputs each chunk stores. -/
module

public import proofs.«01_k».proof.Proof.Loop1

@[expose] public section

set_option maxRecDepth 16384

noncomputable section

namespace Cert.Delta

open Cert.KernelIdeal Cert.KernelIdeal.Gen
open Idealize.ShloMosaic Idealize.ShloMosaic.TcCoe Idealize.ShloMosaic.Tactic

variable {F : FTy → Type} [FloatOps F]

/-- The chunk taken at step `j`: plane 0 takes the chunks in order; plane 1 takes the first four from the last to the
    first, then the others likewise. -/
def chunkAt (p : Fin 2) (j : Fin 36) : Fin 36 :=
  if p = 0 then j else if h : j.val < 4 then ⟨3 - j.val, by omega⟩ else ⟨39 - j.val, by have := j.isLt; omega⟩

theorem chunkAt_chunkAt : ∀ (p : Fin 2) (j : Fin 36), chunkAt p (chunkAt p j) = j := by decide +kernel

theorem off8_eq : ∀ k : Fin k0_t2_loop.trips, k0_off8 k = ![(0 : Fin 2).val, 64 * (chunkAt 0 (k.cast (by decide))).val, 0] := by decide +kernel
theorem off9_eq : ∀ k : Fin k0_t2_loop.trips, k0_off9 k = ![(0 : Fin 2).val, 8 * (chunkAt 0 (k.cast (by decide))).val, 0] := by decide +kernel
theorem off10_eq : ∀ k : Fin k0_t2_loop.trips, k0_off10 k = ![(0 : Fin 2).val, 128 * (chunkAt 0 (k.cast (by decide))).val, 0] := by decide +kernel
theorem off11_eq : ∀ k : Fin k0_t2_loop.trips, k0_off11 k = ![(1 : Fin 2).val, 64 * (chunkAt 1 (k.cast (by decide))).val, 0] := by decide +kernel
theorem off12_eq : ∀ k : Fin k0_t2_loop.trips, k0_off12 k = ![(1 : Fin 2).val, 8 * (chunkAt 1 (k.cast (by decide))).val, 0] := by decide +kernel
theorem off13_eq : ∀ k : Fin k0_t2_loop.trips, k0_off13 k = ![(1 : Fin 2).val, 128 * (chunkAt 1 (k.cast (by decide))).val, 0] := by decide +kernel

/-- The first row of a block of eight. -/
theorem ld_row {Val : EltTy → Type} {e : EltTy} (A : S2x288x128.Idx → Val e) (p : Fin 2) (n : Fin 36) (off : Fin 3 → ℕ)
    (h : off = ![p.val, 8 * n.val, 0]) (inb) :
    View.ld A (Rect.unit (s := S2x288x128) off S1x1x128.size inb)
      = fun x => View.ld A (blockRect 8 288 rfl p n) (ix3 0 0 (x 2)) := by
  subst h
  funext x
  refine congrArg A (funext fun a => Fin.ext ?_)
  have h0 : (x 0 : ℕ) < 1 := (x 0).isLt
  have h1 : (x 1 : ℕ) < 1 := (x 1).isLt
  simp only [Rect.idx_unit_val]
  fin_cases a
  · show p.val + (x 0 : ℕ) = p.val + 0; omega
  · show 8 * n.val + (x 1 : ℕ) = 8 * n.val + 0; omega
  · rfl

section
variable (kw : Fin 2 → Fin 36 → FVec F S1x128x128 .bf16) (cc : Fin 2 → Fin 36 → FVec F S1x128x128 .f32)
  (qe : Fin 2 → Fin 36 → FVec F S1x64x128 .bf16) (oo : Fin 2 → Fin 36 → FVec F S1x64x128 .f32)
  (dd : Fin 2 → Fin 36 → FVec F S1x8x128 .f32)

/-- The state carried into step `j`. -/
def carry (p : Fin 2) : ℕ → FVec F S128x128 .f32
  | 0 => k0_pay1175
  | j + 1 => if h : j < 36 then
      k0_pay1083 (carry p j) (fun x => dd p (chunkAt p ⟨j, h⟩) (ix3 0 0 (x 2))) (kw p (chunkAt p ⟨j, h⟩)) (cc p (chunkAt p ⟨j, h⟩))
    else carry p j

/-- The block of outputs of chunk `n`. -/
def outBlock (p : Fin 2) (n : Fin 36) : FVec F S1x64x128 .f32 :=
  k0_pay1082 (carry kw cc dd p (chunkAt p n).val) (qe p n) (oo p n)
end

section
variable (𝒱 : Variants) (c : Dev nD) (bd : Option 𝒱.V) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (v501 : IVec S64x64 32) (v502 : IVec S64x64 32) (v505 : FVec F S64x64 .f32) (v516 : IVec S64x64 1) (v527 : IVec S64x64 1) (v538 : IVec S64x64 1) (v549 : IVec S64x64 1) (v554 : IVec S64x64 1) (v555 : IVec S64x64 32) (X_arg25 : BufTy.Contents (Elt F) arg25.view.ty) (X_arg26 : BufTy.Contents (Elt F) arg26.view.ty) (X_arg27 : BufTy.Contents (Elt F) arg27.view.ty) (X_arg28 : BufTy.Contents (Elt F) arg28.view.ty) (X_arg29 : BufTy.Contents (Elt F) arg29.view.ty)

set_option maxHeartbeats 4000000 in
theorem trip2_state (k : Fin k0_t2_loop.trips) (acc : FVec F S128x128 .f32 × FVec F S128x128 .f32) :
    (trip_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 k).1 acc
      = (k0_pay1083 acc.1 (View.ld (arg29.view.read (Elt F) X_arg29) (Rect.unit (s := S2x288x128) (k0_off9 k) S1x1x128.size (k0_off9_inb k))) (View.ld (arg25.view.read (Elt F) X_arg25) (Rect.unit (s := S2x4608x128) (k0_off10 k) S1x128x128.size (k0_off10_inb k))) (View.ld (arg26.view.read (Elt F) X_arg26) (Rect.unit (s := S2x4608x128) (k0_off10 k) S1x128x128.size (k0_off10_inb k))),
         k0_pay1178 acc.2 (View.ld (arg29.view.read (Elt F) X_arg29) (Rect.unit (s := S2x288x128) (k0_off12 k) S1x1x128.size (k0_off12_inb k))) (View.ld (arg25.view.read (Elt F) X_arg25) (Rect.unit (s := S2x4608x128) (k0_off13 k) S1x128x128.size (k0_off13_inb k))) (View.ld (arg26.view.read (Elt F) X_arg26) (Rect.unit (s := S2x4608x128) (k0_off13 k) S1x128x128.size (k0_off13_inb k)))) := by
  unfold trip_k0_t2
  rfl

set_option maxHeartbeats 4000000 in
theorem trip2_pieces (k : Fin k0_t2_loop.trips) (acc : FVec F S128x128 .f32 × FVec F S128x128 .f32) :
    (trip_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 k).2.1 acc
      = [⟨Rect.unit (s := S2x2304x128) (k0_off11 k) S1x64x128.size (k0_off11_inb k), k0_pay1177 acc.2 (View.ld (arg27.view.read (Elt F) X_arg27) (Rect.unit (s := S2x2304x128) (k0_off11 k) S1x64x128.size (k0_off11_inb k))) (View.ld (arg28.view.read (Elt F) X_arg28) (Rect.unit (s := S2x2304x128) (k0_off11 k) S1x64x128.size (k0_off11_inb k)))⟩,
         ⟨Rect.unit (s := S2x2304x128) (k0_off8 k) S1x64x128.size (k0_off8_inb k), k0_pay1082 acc.1 (View.ld (arg27.view.read (Elt F) X_arg27) (Rect.unit (s := S2x2304x128) (k0_off8 k) S1x64x128.size (k0_off8_inb k))) (View.ld (arg28.view.read (Elt F) X_arg28) (Rect.unit (s := S2x2304x128) (k0_off8 k) S1x64x128.size (k0_off8_inb k)))⟩] := by
  unfold trip_k0_t2
  rfl

variable (kw : Fin 2 → Fin 36 → FVec F S1x128x128 .bf16) (cc : Fin 2 → Fin 36 → FVec F S1x128x128 .f32)
  (qe : Fin 2 → Fin 36 → FVec F S1x64x128 .bf16) (oo : Fin 2 → Fin 36 → FVec F S1x64x128 .f32)
  (dd : Fin 2 → Fin 36 → FVec F S1x8x128 .f32)
  (h25 : ∀ p n, View.ld (arg25.view.read (Elt F) X_arg25) (blockRect 128 4608 rfl p n) = kw p n)
  (h26 : ∀ p n, View.ld (arg26.view.read (Elt F) X_arg26) (blockRect 128 4608 rfl p n) = cc p n)
  (h27 : ∀ p n, View.ld (arg27.view.read (Elt F) X_arg27) (blockRect 64 2304 rfl p n) = qe p n)
  (h28 : ∀ p n, View.ld (arg28.view.read (Elt F) X_arg28) (blockRect 64 2304 rfl p n) = oo p n)
  (h29 : ∀ p n, View.ld (arg29.view.read (Elt F) X_arg29) (blockRect 8 288 rfl p n) = dd p n)
include h25 h26 h27 h28 h29

set_option maxHeartbeats 4000000 in
/-- After `j` steps: the carried states, and the pieces stored, each a block of outputs. -/
theorem loop2_state (j : ℕ) (hj : j ≤ 36) :
    (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 (k0_pay1175, k0_pay1175) j).1 = (carry kw cc dd 0 j, carry kw cc dd 1 j)
      ∧ (∀ q ∈ (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 (k0_pay1175, k0_pay1175) j).2,
          ∃ p n, q = blockPiece (Val := Elt F) (e := .f32) 64 2304 rfl p n (outBlock kw cc qe oo dd p n))
      ∧ ∀ (p : Fin 2) (t : Fin 36), t.val < j → blockPiece (Val := Elt F) (e := .f32) 64 2304 rfl p (chunkAt p t) (outBlock kw cc qe oo dd p (chunkAt p t))
          ∈ (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 (k0_pay1175, k0_pay1175) j).2 := by
  induction j with
  | zero => exact ⟨rfl, fun q hq => absurd hq List.not_mem_nil, fun p t h => absurd h (by omega)⟩
  | succ j ih =>
    obtain ⟨ih1, ih2, ih3⟩ := ih (by omega)
    have hs := st_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 (k0_pay1175, k0_pay1175) ⟨j, lt_of_lt_of_eq (by omega : j < 36) (by decide)⟩
    dsimp only [tripR_k0_t2, tripL_k0_t2] at hs
    rw [hs, ih1, trip2_state, trip2_pieces]
    have hB := piece_block (Val := Elt F) (e := .f32) (R := 64) (M := 2304) rfl 1 (chunkAt 1 ⟨j, by omega⟩) (off11_eq ⟨j, lt_of_lt_of_eq (by omega : j < 36) (by decide)⟩) (k0_off11_inb _) (outBlock kw cc qe oo dd 1 (chunkAt 1 ⟨j, by omega⟩))
    have hF := piece_block (Val := Elt F) (e := .f32) (R := 64) (M := 2304) rfl 0 (chunkAt 0 ⟨j, by omega⟩) (off8_eq ⟨j, lt_of_lt_of_eq (by omega : j < 36) (by decide)⟩) (k0_off8_inb _) (outBlock kw cc qe oo dd 0 (chunkAt 0 ⟨j, by omega⟩))
    rw [ld_row _ 0 (chunkAt 0 ⟨j, by omega⟩) _ (off9_eq _), ld_row _ 1 (chunkAt 1 ⟨j, by omega⟩) _ (off12_eq _),
      ld_block (Val := Elt F) (off := k0_off10 _) (R := 128) (M := 4608) rfl 0 (chunkAt 0 ⟨j, by omega⟩) (off10_eq _) _ (arg25.view.read (Elt F) X_arg25), ld_block (Val := Elt F) (off := k0_off10 _) (R := 128) (M := 4608) rfl 0 (chunkAt 0 ⟨j, by omega⟩) (off10_eq _) _ (arg26.view.read (Elt F) X_arg26),
      ld_block (Val := Elt F) (off := k0_off13 _) (R := 128) (M := 4608) rfl 1 (chunkAt 1 ⟨j, by omega⟩) (off13_eq _) _ (arg25.view.read (Elt F) X_arg25), ld_block (Val := Elt F) (off := k0_off13 _) (R := 128) (M := 4608) rfl 1 (chunkAt 1 ⟨j, by omega⟩) (off13_eq _) _ (arg26.view.read (Elt F) X_arg26),
      ld_block (Val := Elt F) (off := k0_off8 _) (R := 64) (M := 2304) rfl 0 (chunkAt 0 ⟨j, by omega⟩) (off8_eq _) _ (arg27.view.read (Elt F) X_arg27), ld_block (Val := Elt F) (off := k0_off8 _) (R := 64) (M := 2304) rfl 0 (chunkAt 0 ⟨j, by omega⟩) (off8_eq _) _ (arg28.view.read (Elt F) X_arg28),
      ld_block (Val := Elt F) (off := k0_off11 _) (R := 64) (M := 2304) rfl 1 (chunkAt 1 ⟨j, by omega⟩) (off11_eq _) _ (arg27.view.read (Elt F) X_arg27), ld_block (Val := Elt F) (off := k0_off11 _) (R := 64) (M := 2304) rfl 1 (chunkAt 1 ⟨j, by omega⟩) (off11_eq _) _ (arg28.view.read (Elt F) X_arg28),
      h25 0 (chunkAt 0 ⟨j, by omega⟩), h25 1 (chunkAt 1 ⟨j, by omega⟩), h26 0 (chunkAt 0 ⟨j, by omega⟩), h26 1 (chunkAt 1 ⟨j, by omega⟩), h27 0 (chunkAt 0 ⟨j, by omega⟩), h27 1 (chunkAt 1 ⟨j, by omega⟩), h28 0 (chunkAt 0 ⟨j, by omega⟩), h28 1 (chunkAt 1 ⟨j, by omega⟩), h29 0 (chunkAt 0 ⟨j, by omega⟩), h29 1 (chunkAt 1 ⟨j, by omega⟩)]
    have eB : k0_pay1177 (carry kw cc dd 1 j) (qe 1 (chunkAt 1 ⟨j, by omega⟩)) (oo 1 (chunkAt 1 ⟨j, by omega⟩)) = outBlock kw cc qe oo dd 1 (chunkAt 1 ⟨j, by omega⟩) := by
      unfold outBlock; rw [chunkAt_chunkAt]; rfl
    have eF : k0_pay1082 (carry kw cc dd 0 j) (qe 0 (chunkAt 0 ⟨j, by omega⟩)) (oo 0 (chunkAt 0 ⟨j, by omega⟩)) = outBlock kw cc qe oo dd 0 (chunkAt 0 ⟨j, by omega⟩) := by
      unfold outBlock; rw [chunkAt_chunkAt]
    have hpc : ∀ (p : Fin 2), carry kw cc dd p (j + 1) = k0_pay1083 (carry kw cc dd p j) (fun x => dd p (chunkAt p ⟨j, by omega⟩) (ix3 0 0 (x 2))) (kw p (chunkAt p ⟨j, by omega⟩)) (cc p (chunkAt p ⟨j, by omega⟩)) :=
      fun p => dif_pos (show j < 36 by omega)
    dsimp only
    rw [eB, eF]
    refine ⟨?_, ?_, ?_⟩
    · rw [hpc, hpc]; rfl
    · intro q hq
      rcases List.mem_append.mp hq with hq | hq
      · rcases List.mem_cons.mp hq with hq | hq
        · exact ⟨1, _, hq.trans hB⟩
        · exact ⟨0, _, (List.mem_singleton.mp hq).trans hF⟩
      · exact ih2 q hq
    · intro p t hi
      rcases Nat.lt_succ_iff_lt_or_eq.mp hi with h | h
      · exact List.mem_append_right _ (ih3 p t h)
      · obtain rfl : t = ⟨j, Nat.lt_of_succ_le hj⟩ := Fin.ext h
        refine List.mem_append_left _ ?_
        rcases p with ⟨p, hp⟩
        interval_cases p
        · exact List.mem_cons_of_mem _ (List.mem_singleton.mpr hF.symm)
        · exact List.mem_cons.mpr (Or.inl hB.symm)

/-- What the recurrence leaves in each block of its outputs. -/
theorem loop2_block (f : BufTy.Contents (Elt F) arg23.view.ty) (p : Fin 2) (n : Fin 36) :
    View.ld (arg23.view.read (Elt F) (arg23.view.writes (Elt F) f (st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 (k0_pay1175, k0_pay1175) k0_t2_loop.trips).2))
        (blockRect 64 2304 rfl p n)
      = outBlock kw cc qe oo dd p n := by
  obtain ⟨-, h2, h3⟩ := loop2_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v501 v502 v505 v516 v527 v538 v549 v554 v555 X_arg25 X_arg26 X_arg27 X_arg28 X_arg29 kw cc qe oo dd h25 h26 h27 h28 h29 36 le_rfl
  rw [show k0_t2_loop.trips = 36 from by decide]
  refine ld_read_blocks (Val := Elt F) (R := 64) (M := 2304) rfl _ f _ (outBlock kw cc qe oo dd) h2 p n ?_
  have := h3 p (chunkAt p n) (chunkAt p n).isLt
  rwa [chunkAt_chunkAt] at this

end

end Cert.Delta

end
-- ==== Proof.Planes.lean ====
/- What the body leaves in its two output windows, of its windows' contents alone: the two planes of the recurrence's
   output added, normalised and gated. -/
module

public import proofs.«01_k».proof.Proof.PrepRows
public import proofs.«01_k».proof.Proof.PrepGates
public import proofs.«01_k».proof.Proof.ChunkIdeal
public import proofs.«01_k».proof.Proof.Loop1
public import proofs.«01_k».proof.Proof.Loop2

@[expose] public section

set_option maxRecDepth 16384

noncomputable section

namespace Cert.Delta

open Cert.KernelIdeal Cert.KernelIdeal.Gen
open Idealize.ShloMosaic Idealize.ShloMosaic.TcCoe Idealize.ShloMosaic.Tactic
open Cert.Delta.Spec

theorem cover_window {R : ℕ} (inb) (y : (⟨3, ![1, R, 128]⟩ : Shape).Idx) :
    y ∈ (Rect.unit (s := ⟨3, ![1, R, 128]⟩) ![0, 0, 0] ![1, R, 128] inb).set := by
  refine (Rect.mem_set_unit (inb := inb)).mpr fun a => ?_
  have := (y a).isLt
  fin_cases a
  · exact ⟨Nat.zero_le _, by simpa using this⟩
  · exact ⟨Nat.zero_le _, by simpa using this⟩
  · exact ⟨Nat.zero_le _, by simpa using this⟩

/-- An array of one row of 128 per token. -/
def arr (f : Fin 2304 → Fin 128 → EReal) : Vec Ideal S2304x128 .f32 := fun y => f (y 0) (y 1)

theorem eq_arr (A : Vec Ideal S2304x128 .f32) (f : Fin 2304 → Fin 128 → EReal) (h : ∀ t l, A (ix2 t l) = f t l) : A = arr f := by
  funext y
  exact (congrArg A (show y = ix2 (y 0) (y 1) from by funext a; fin_cases a <;> rfl)).trans ((h (y 0) (y 1)).trans rfl)

section
variable (x0 x1 x2 : Vec Ideal S1x256x128 .f32) (x4 x5 x6 : Vec Ideal S1x2048x128 .f32) (x8 : Vec Ideal S1x1x2304x4 .f32)
  (x9 : Vec Ideal S1x3x4x128 .f32) (x10 : Vec Ideal S1x8x128 .f32)

def queries : Fin 2304 → Fin 128 → EReal := query (fun j x => x9 (ix4 0 0 j x)) (fun r l => x0 (ix3 0 r l)) (fun r l => x4 (ix3 0 r l))
def keys : Fin 2304 → Fin 128 → EReal := key (fun j x => x9 (ix4 0 1 j x)) (fun r l => x1 (ix3 0 r l)) (fun r l => x5 (ix3 0 r l))
def values : Fin 2304 → Fin 128 → EReal := value (fun j x => x9 (ix4 0 2 j x)) (fun r l => x2 (ix3 0 r l)) (fun r l => x6 (ix3 0 r l))
/-- A token's log decay, and its write strength, in direction 0 (down the rows) or 1. -/
def decays (p : Fin 2) (t : Fin 2304) : EReal :=
  if p = 0 then decay (x10 (ix3 0 0 0)) (x10 (ix3 0 2 0)) (x8 (ix4 0 0 t 2))
  else decay (x10 (ix3 0 1 0)) (x10 (ix3 0 3 0)) (x8 (ix4 0 0 t 3))
def strengths (p : Fin 2) (t : Fin 2304) : EReal := if p = 0 then Ideal.logistic (x8 (ix4 0 0 t 0)) else Ideal.logistic (x8 (ix4 0 0 t 1))
end

/-- Row `t` of plane `p` of the recurrence's output, from the prepared tokens. -/
def scanOut (q k v : Fin 2304 → Fin 128 → EReal) (g b : Fin 2 → Fin 2304 → EReal) (p : Fin 2) (t : Fin 2304) (l : Fin 128) : EReal :=
  outBlock
    (pay25 downPatterns upPatterns (arr k) (arr v) (arr fun t _ => back (extended (g 0)) 64 t.val) (arr fun t _ => ahead (extended (g 1)) 64 t.val) (arr fun t _ => b 0 t) (arr fun t _ => b 1 t))
    (pay26 downPatterns upPatterns (arr k) (arr v) (arr fun t _ => back (extended (g 0)) 64 t.val) (arr fun t _ => ahead (extended (g 1)) 64 t.val) (arr fun t _ => b 0 t) (arr fun t _ => b 1 t))
    (pay27 downPatterns upPatterns (arr q) (arr k) (arr v) (arr fun t _ => back (extended (g 0)) 64 t.val) (arr fun t _ => ahead (extended (g 1)) 64 t.val) (arr fun t _ => b 0 t) (arr fun t _ => b 1 t))
    (pay28 downPatterns upPatterns (arr q) (arr k) (arr v) (arr fun t _ => back (extended (g 0)) 64 t.val) (arr fun t _ => ahead (extended (g 1)) 64 t.val) (arr fun t _ => b 0 t) (arr fun t _ => b 1 t))
    (pay29 (arr fun t _ => back (extended (g 0)) 64 t.val) (arr fun t _ => ahead (extended (g 1)) 64 t.val))
    p ⟨t.val / 64, by have := t.isLt; omega⟩ (ix3 0 ⟨t.val % 64, by omega⟩ l)

/-- The whole output row before its gate: both directions added and brought to unit mean square. -/
def mixed (q k v : Fin 2304 → Fin 128 → EReal) (g b : Fin 2 → Fin 2304 → EReal) (t : Fin 2304) (l : Fin 128) : EReal :=
  normed (fun l => scanOut q k v g b 0 t l + scanOut q k v g b 1 t l) l

theorem cover_whole (w : (⟨2, ![2304, 128]⟩ : Shape).Idx → Elt Ideal .f32) (inb) (L : List (View.Piece (Elt Ideal) S2304x128 .f32)) (y : S2304x128.Idx) :
    ∃ p ∈ (⟨Rect.unit (s := S2304x128) ![0, 0] ![2304, 128] inb, w⟩ :: L : List (View.Piece (Elt Ideal) S2304x128 .f32)), y ∈ p.1.set := by
  refine ⟨_, List.mem_cons_self, (Rect.mem_set_unit (inb := inb)).mpr fun a => ?_⟩
  have := (y a).isLt
  fin_cases a
  · exact ⟨Nat.zero_le _, by simpa using this⟩
  · exact ⟨Nat.zero_le _, by simpa using this⟩

theorem cover_two (w1 : (⟨2, ![2048, 128]⟩ : Shape).Idx → Elt Ideal .f32) (w2 : (⟨2, ![256, 128]⟩ : Shape).Idx → Elt Ideal .f32) (inb1) (inb2) (y : S2304x128.Idx) :
    ∃ p ∈ ([⟨Rect.unit (s := S2304x128) ![256, 0] ![2048, 128] inb1, w1⟩, ⟨Rect.unit (s := S2304x128) ![0, 0] ![256, 128] inb2, w2⟩] : List (View.Piece (Elt Ideal) S2304x128 .f32)), y ∈ p.1.set := by
  have h0 : (y 0).val < 2304 := (y 0).isLt
  have h1 : (y 1).val < 128 := (y 1).isLt
  by_cases h : (y 0).val < 256
  · refine ⟨_, List.mem_cons_of_mem _ List.mem_cons_self, (Rect.mem_set_unit (inb := inb2)).mpr fun a => ?_⟩
    fin_cases a
    · exact ⟨Nat.zero_le _, by simpa using h⟩
    · exact ⟨Nat.zero_le _, by simpa using h1⟩
  · refine ⟨_, List.mem_cons_self, (Rect.mem_set_unit (inb := inb1)).mpr fun a => ?_⟩
    fin_cases a
    · exact ⟨by simpa using h, by simpa using h0⟩
    · exact ⟨Nat.zero_le _, by simpa using h1⟩

/-- A row of a plane, read with the whole plane or with its block. -/
theorem plane_rows (X : Vec Ideal S2x2304x128 .f32) (p : Fin 2) (inb) (t : Fin 2304) (l : Fin 128) (h1) (h2) :
    View.ld X (Rect.unit (s := S2x2304x128) ![p.val, 0, 0] S1x2304x128.size inb) (ix3 0 t l)
      = View.ld X (blockRect 64 2304 rfl p ⟨t.val / 64, h1⟩) (ix3 0 ⟨t.val % 64, h2⟩ l) := by
  refine congrArg X ?_
  funext a; apply Fin.ext
  fin_cases a
  · rfl
  · show 0 + 1 * t.val = 64 * (t.val / 64) + 1 * (t.val % 64)
    omega
  · rfl

section
set_option maxHeartbeats 8000000 in
/-- The two loops, from whatever buffers hold the prepared tokens: a row of a plane of the output array. -/
theorem scan_of (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole)
    (X_arg16 : BufTy.Contents (Elt Ideal) arg16.view.ty) (X_arg17 : BufTy.Contents (Elt Ideal) arg17.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty)
    (f23 : BufTy.Contents (Elt Ideal) arg23.view.ty) (f25 : BufTy.Contents (Elt Ideal) arg25.view.ty) (f26 : BufTy.Contents (Elt Ideal) arg26.view.ty) (f27 : BufTy.Contents (Elt Ideal) arg27.view.ty) (f28 : BufTy.Contents (Elt Ideal) arg28.view.ty) (f29 : BufTy.Contents (Elt Ideal) arg29.view.ty)
    (q k v : Fin 2304 → Fin 128 → EReal) (g b : Fin 2 → Fin 2304 → EReal)
    (hA16 : arg16.view.read (Elt Ideal) X_arg16 = arr q) (hA17 : arg17.view.read (Elt Ideal) X_arg17 = arr k) (hA18 : arg18.view.read (Elt Ideal) X_arg18 = arr v)
    (hA19 : arg19.view.read (Elt Ideal) X_arg19 = arr fun t _ => back (extended (g 0)) 64 t.val) (hA20 : arg20.view.read (Elt Ideal) X_arg20 = arr fun t _ => ahead (extended (g 1)) 64 t.val)
    (hA21 : arg21.view.read (Elt Ideal) X_arg21 = arr fun t _ => b 0 t) (hA22 : arg22.view.read (Elt Ideal) X_arg22 = arr fun t _ => b 1 t)
    (p : Fin 2) (inb) (t : Fin 2304) (l : Fin 128) :
    View.ld (arg23.view.read (Elt Ideal) (arg23.view.writes (Elt Ideal) f23 (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 (arg25.view.writes (Elt Ideal) f25 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).1) (arg26.view.writes (Elt Ideal) f26 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.1) (arg27.view.writes (Elt Ideal) f27 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.2.1) (arg28.view.writes (Elt Ideal) f28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.2.2.1) (arg29.view.writes (Elt Ideal) f29 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.2.2.2) (k0_pay1175, k0_pay1175) k0_t2_loop.trips).2))
      (Rect.unit (s := S2x2304x128) ![p.val, 0, 0] S1x2304x128.size inb) (ix3 0 t l) = scanOut q k v g b p t l := by
  have ht := t.isLt
  refine Eq.trans ?_ (congrFun (loop2_block (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 (arg25.view.writes (Elt Ideal) f25 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).1) (arg26.view.writes (Elt Ideal) f26 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.1) (arg27.view.writes (Elt Ideal) f27 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.2.1) (arg28.view.writes (Elt Ideal) f28 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.2.2.1) (arg29.view.writes (Elt Ideal) f29 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 k0_t1_loop.trips).2.2.2.2)
    (pay25 downPatterns upPatterns (arr k) (arr v) (arr fun t _ => back (extended (g 0)) 64 t.val) (arr fun t _ => ahead (extended (g 1)) 64 t.val) (arr fun t _ => b 0 t) (arr fun t _ => b 1 t))
    (pay26 downPatterns upPatterns (arr k) (arr v) (arr fun t _ => back (extended (g 0)) 64 t.val) (arr fun t _ => ahead (extended (g 1)) 64 t.val) (arr fun t _ => b 0 t) (arr fun t _ => b 1 t))
    (pay27 downPatterns upPatterns (arr q) (arr k) (arr v) (arr fun t _ => back (extended (g 0)) 64 t.val) (arr fun t _ => ahead (extended (g 1)) 64 t.val) (arr fun t _ => b 0 t) (arr fun t _ => b 1 t))
    (pay28 downPatterns upPatterns (arr q) (arr k) (arr v) (arr fun t _ => back (extended (g 0)) 64 t.val) (arr fun t _ => ahead (extended (g 1)) 64 t.val) (arr fun t _ => b 0 t) (arr fun t _ => b 1 t))
    (pay29 (arr fun t _ => back (extended (g 0)) 64 t.val) (arr fun t _ => ahead (extended (g 1)) 64 t.val))
    (fun p n => (loop1_block25 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 f25 p n).trans (by rw [hA17, hA18, hA19, hA20, hA21, hA22]; rfl))
    (fun p n => (loop1_block26 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 f26 p n).trans (by rw [hA17, hA18, hA19, hA20, hA21, hA22]; rfl))
    (fun p n => (loop1_block27 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 f27 p n).trans (by rw [hA16, hA17, hA18, hA19, hA20, hA21, hA22]; rfl))
    (fun p n => (loop1_block28 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 f28 p n).trans (by rw [hA16, hA17, hA18, hA19, hA20, hA21, hA22]; rfl))
    (fun p n => (loop1_block29 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 kernelRun.sl.v501 kernelRun.sl.v502 k0_pay1163 (k0_pay1166 kernelRun.sl.v501 kernelRun.sl.v502 k0_pay1164 k0_pay1165) (k0_pay1167 kernelRun.sl.v501 kernelRun.sl.v502) (k0_pay1168 kernelRun.sl.v501 kernelRun.sl.v502) (k0_pay1169 kernelRun.sl.v501 kernelRun.sl.v502) (k0_pay1170 kernelRun.sl.v501 kernelRun.sl.v502) k0_pay1171 X_arg16 X_arg17 X_arg18 X_arg19 X_arg20 X_arg21 X_arg22 f29 p n).trans (by rw [hA19, hA20]))
    f23 p ⟨t.val / 64, by omega⟩) (ix3 0 ⟨t.val % 64, by omega⟩ l))
  exact plane_rows _ p inb t l _ _
end

set_option maxHeartbeats 8000000 in
/-- Plane 0 of the recurrence's output array. -/
theorem read_plane0 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x9 : Vec Ideal S1x3x4x128 .f32) (x10 : Vec Ideal S1x8x128 .f32) (s7 : Vec Ideal S2x2304x128 .f32) (s9 : Vec Ideal S2x4608x128 .bf16) (s10 : Vec Ideal S2x4608x128 .f32) (s11 : Vec Ideal S2x2304x128 .bf16) (s12 : Vec Ideal S2x2304x128 .f32) (s13 : Vec Ideal S2x288x128 .f32) (t : Fin 2304) (l : Fin 128) :
    kernelRun.sl.v576 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x4 x5 x6 x8 x9 x10 s7 s9 s10 s11 s12 s13 (ix3 0 t l)
      = scanOut (queries x0 x4 x9) (keys x1 x5 x9) (values x2 x6 x9) (decays x8 x10) (strengths x8) 0 t l := by
  have h16 : arg16.view.read (Elt Ideal) (arg16.view.writes (Elt Ideal) arg16.view.junk (kernelRun.sl.HS0_2 (F := Ideal) c arg2 harg2 arg3 harg3 arg4 harg4 arg6 harg6 arg11 harg11 arg24 x0 x1 x2 x4 x9)) = arr (queries x0 x4 x9) :=
    (View.read_writes_eq_canon _ _ _ (by intro y; simp only [kernelRun.sl.HS0_2]; exact cover_two _ _ _ _ _)).trans (eq_arr _ _ fun t l => read_query c arg2 harg2 arg3 harg3 arg4 harg4 arg6 harg6 arg11 harg11 arg24 x0 x1 x2 x4 x9 t l)
  have h17 : arg17.view.read (Elt Ideal) (arg17.view.writes (Elt Ideal) arg17.view.junk (kernelRun.sl.HS1_2 (F := Ideal) c arg2 harg2 arg3 harg3 arg4 harg4 arg6 harg6 arg7 harg7 arg11 harg11 arg24 x0 x1 x2 x4 x5 x9)) = arr (keys x1 x5 x9) :=
    (View.read_writes_eq_canon _ _ _ (by intro y; simp only [kernelRun.sl.HS1_2]; exact cover_two _ _ _ _ _)).trans (eq_arr _ _ fun t l => read_key c arg2 harg2 arg3 harg3 arg4 harg4 arg6 harg6 arg7 harg7 arg11 harg11 arg24 x0 x1 x2 x4 x5 x9 t l)
  have h18 : arg18.view.read (Elt Ideal) (arg18.view.writes (Elt Ideal) arg18.view.junk (kernelRun.sl.HS2_2 (F := Ideal) c arg2 harg2 arg3 harg3 arg4 harg4 arg6 harg6 arg7 harg7 arg8 harg8 arg11 harg11 arg24 x0 x1 x2 x4 x5 x6 x9)) = arr (values x2 x6 x9) :=
    (View.read_writes_eq_canon _ _ _ (by intro y; simp only [kernelRun.sl.HS2_2]; exact cover_two _ _ _ _ _)).trans (eq_arr _ _ fun t l => read_value c arg2 harg2 arg3 harg3 arg4 harg4 arg6 harg6 arg7 harg7 arg8 harg8 arg11 harg11 arg24 x0 x1 x2 x4 x5 x6 x9 t l)
  have h19 : arg19.view.read (Elt Ideal) (arg19.view.writes (Elt Ideal) arg19.view.junk (kernelRun.sl.HS3_7 (F := Ideal) c arg2 harg2 arg3 harg3 arg4 harg4 arg6 harg6 arg7 harg7 arg8 harg8 arg10 harg10 arg12 harg12 arg19 arg20 arg24 x0 x1 x2 x4 x5 x6 x8 x10)) = arr (fun t _ => back (extended (decays x8 x10 0)) 64 t.val) :=
    (View.read_writes_eq_canon _ _ _ (by intro y; simp only [kernelRun.sl.HS3_7]; exact cover_whole _ _ _ y)).trans (eq_arr _ _ fun t l => read_forward_sum c arg2 harg2 arg3 harg3 arg4 harg4 arg6 harg6 arg7 harg7 arg8 harg8 arg10 harg10 arg12 harg12 arg19 arg20 arg24 x0 x1 x2 x4 x5 x6 x8 x10 t l)
  have h20 : arg20.view.read (Elt Ideal) (arg20.view.writes (Elt Ideal) arg20.view.junk (kernelRun.sl.HS4_7 (F := Ideal) c arg2 harg2 arg3 harg3 arg4 harg4 arg6 harg6 arg7 harg7 arg8 harg8 arg10 harg10 arg12 harg12 arg19 arg20 arg24 x0 x1 x2 x4 x5 x6 x8 x10)) = arr (fun t _ => ahead (extended (decays x8 x10 1)) 64 t.val) :=
    (View.read_writes_eq_canon _ _ _ (by intro y; simp only [kernelRun.sl.HS4_7]; exact cover_whole _ _ _ y)).trans (eq_arr _ _ fun t l => read_backward_sum c arg2 harg2 arg3 harg3 arg4 harg4 arg6 harg6 arg7 harg7 arg8 harg8 arg10 harg10 arg12 harg12 arg19 arg20 arg24 x0 x1 x2 x4 x5 x6 x8 x10 t l)
  have h21 : arg21.view.read (Elt Ideal) (arg21.view.writes (Elt Ideal) arg21.view.junk (kernelRun.sl.HS5_1 (F := Ideal) c arg10 harg10 x8)) = arr (fun t _ => strengths x8 0 t) :=
    (View.read_writes_eq_canon _ _ _ (by intro y; simp only [kernelRun.sl.HS5_1]; exact cover_whole _ _ _ y)).trans (eq_arr _ _ fun t l => read_forward_strength c arg10 harg10 x8 t l)
  have h22 : arg22.view.read (Elt Ideal) (arg22.view.writes (Elt Ideal) arg22.view.junk (kernelRun.sl.HS6_1 (F := Ideal) c arg10 harg10 x8)) = arr (fun t _ => strengths x8 1 t) :=
    (View.read_writes_eq_canon _ _ _ (by intro y; simp only [kernelRun.sl.HS6_1]; exact cover_whole _ _ _ y)).trans (eq_arr _ _ fun t l => read_backward_strength c arg10 harg10 x8 t l)
  unfold kernelRun.sl.v576
  rw [View.readAt_eq_ld]
  exact scan_of (hA16 := h16) (hA17 := h17) (hA18 := h18) (hA19 := h19) (hA20 := h20) (hA21 := h21) (hA22 := h22) (p := 0) (t := t) (l := l) ..

set_option maxHeartbeats 8000000 in
/-- Plane 1 of the recurrence's output array. -/
theorem read_plane1 (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x9 : Vec Ideal S1x3x4x128 .f32) (x10 : Vec Ideal S1x8x128 .f32) (s7 : Vec Ideal S2x2304x128 .f32) (s9 : Vec Ideal S2x4608x128 .bf16) (s10 : Vec Ideal S2x4608x128 .f32) (s11 : Vec Ideal S2x2304x128 .bf16) (s12 : Vec Ideal S2x2304x128 .f32) (s13 : Vec Ideal S2x288x128 .f32) (t : Fin 2304) (l : Fin 128) :
    kernelRun.sl.v578 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x4 x5 x6 x8 x9 x10 s7 s9 s10 s11 s12 s13 (ix3 0 t l)
      = scanOut (queries x0 x4 x9) (keys x1 x5 x9) (values x2 x6 x9) (decays x8 x10) (strengths x8) 1 t l := by
  have h16 : arg16.view.read (Elt Ideal) (arg16.view.writes (Elt Ideal) arg16.view.junk (kernelRun.sl.HS0_2 (F := Ideal) c arg2 harg2 arg3 harg3 arg4 harg4 arg6 harg6 arg11 harg11 arg24 x0 x1 x2 x4 x9)) = arr (queries x0 x4 x9) :=
    (View.read_writes_eq_canon _ _ _ (by intro y; simp only [kernelRun.sl.HS0_2]; exact cover_two _ _ _ _ _)).trans (eq_arr _ _ fun t l => read_query c arg2 harg2 arg3 harg3 arg4 harg4 arg6 harg6 arg11 harg11 arg24 x0 x1 x2 x4 x9 t l)
  have h17 : arg17.view.read (Elt Ideal) (arg17.view.writes (Elt Ideal) arg17.view.junk (kernelRun.sl.HS1_2 (F := Ideal) c arg2 harg2 arg3 harg3 arg4 harg4 arg6 harg6 arg7 harg7 arg11 harg11 arg24 x0 x1 x2 x4 x5 x9)) = arr (keys x1 x5 x9) :=
    (View.read_writes_eq_canon _ _ _ (by intro y; simp only [kernelRun.sl.HS1_2]; exact cover_two _ _ _ _ _)).trans (eq_arr _ _ fun t l => read_key c arg2 harg2 arg3 harg3 arg4 harg4 arg6 harg6 arg7 harg7 arg11 harg11 arg24 x0 x1 x2 x4 x5 x9 t l)
  have h18 : arg18.view.read (Elt Ideal) (arg18.view.writes (Elt Ideal) arg18.view.junk (kernelRun.sl.HS2_2 (F := Ideal) c arg2 harg2 arg3 harg3 arg4 harg4 arg6 harg6 arg7 harg7 arg8 harg8 arg11 harg11 arg24 x0 x1 x2 x4 x5 x6 x9)) = arr (values x2 x6 x9) :=
    (View.read_writes_eq_canon _ _ _ (by intro y; simp only [kernelRun.sl.HS2_2]; exact cover_two _ _ _ _ _)).trans (eq_arr _ _ fun t l => read_value c arg2 harg2 arg3 harg3 arg4 harg4 arg6 harg6 arg7 harg7 arg8 harg8 arg11 harg11 arg24 x0 x1 x2 x4 x5 x6 x9 t l)
  have h19 : arg19.view.read (Elt Ideal) (arg19.view.writes (Elt Ideal) arg19.view.junk (kernelRun.sl.HS3_7 (F := Ideal) c arg2 harg2 arg3 harg3 arg4 harg4 arg6 harg6 arg7 harg7 arg8 harg8 arg10 harg10 arg12 harg12 arg19 arg20 arg24 x0 x1 x2 x4 x5 x6 x8 x10)) = arr (fun t _ => back (extended (decays x8 x10 0)) 64 t.val) :=
    (View.read_writes_eq_canon _ _ _ (by intro y; simp only [kernelRun.sl.HS3_7]; exact cover_whole _ _ _ y)).trans (eq_arr _ _ fun t l => read_forward_sum c arg2 harg2 arg3 harg3 arg4 harg4 arg6 harg6 arg7 harg7 arg8 harg8 arg10 harg10 arg12 harg12 arg19 arg20 arg24 x0 x1 x2 x4 x5 x6 x8 x10 t l)
  have h20 : arg20.view.read (Elt Ideal) (arg20.view.writes (Elt Ideal) arg20.view.junk (kernelRun.sl.HS4_7 (F := Ideal) c arg2 harg2 arg3 harg3 arg4 harg4 arg6 harg6 arg7 harg7 arg8 harg8 arg10 harg10 arg12 harg12 arg19 arg20 arg24 x0 x1 x2 x4 x5 x6 x8 x10)) = arr (fun t _ => ahead (extended (decays x8 x10 1)) 64 t.val) :=
    (View.read_writes_eq_canon _ _ _ (by intro y; simp only [kernelRun.sl.HS4_7]; exact cover_whole _ _ _ y)).trans (eq_arr _ _ fun t l => read_backward_sum c arg2 harg2 arg3 harg3 arg4 harg4 arg6 harg6 arg7 harg7 arg8 harg8 arg10 harg10 arg12 harg12 arg19 arg20 arg24 x0 x1 x2 x4 x5 x6 x8 x10 t l)
  have h21 : arg21.view.read (Elt Ideal) (arg21.view.writes (Elt Ideal) arg21.view.junk (kernelRun.sl.HS5_1 (F := Ideal) c arg10 harg10 x8)) = arr (fun t _ => strengths x8 0 t) :=
    (View.read_writes_eq_canon _ _ _ (by intro y; simp only [kernelRun.sl.HS5_1]; exact cover_whole _ _ _ y)).trans (eq_arr _ _ fun t l => read_forward_strength c arg10 harg10 x8 t l)
  have h22 : arg22.view.read (Elt Ideal) (arg22.view.writes (Elt Ideal) arg22.view.junk (kernelRun.sl.HS6_1 (F := Ideal) c arg10 harg10 x8)) = arr (fun t _ => strengths x8 1 t) :=
    (View.read_writes_eq_canon _ _ _ (by intro y; simp only [kernelRun.sl.HS6_1]; exact cover_whole _ _ _ y)).trans (eq_arr _ _ fun t l => read_backward_strength c arg10 harg10 x8 t l)
  unfold kernelRun.sl.v578
  rw [View.readAt_eq_ld]
  exact scan_of (hA16 := h16) (hA17 := h17) (hA18 := h18) (hA19 := h19) (hA20 := h20) (hA21 := h21) (hA22 := h22) (p := 1) (t := t) (l := l) ..

end Cert.Delta
end
-- ==== Proof.Args.lean ====
/- The prepared tokens of one batch element and one head, from the argument arrays. -/
module

public import proofs.«01_k».proof.Proof.Planes

@[expose] public section

set_option maxRecDepth 16384

noncomputable section

namespace Cert.Delta.Args

open Idealize.ShloMosaic Idealize.ShloMosaic.TcCoe
open Cert.Delta.Spec

/-- The projections of the 256 context rows and of the 2048 others, the convolution's taps, the decay's two
    parameters per direction and head, and the output's scale. -/
structure Arrays where
  z : Vec Ideal ⟨3, ![8, 256, 2688]⟩ .f32
  x : Vec Ideal ⟨3, ![8, 2048, 2688]⟩ .f32
  w : Vec Ideal ⟨2, ![4, 1536]⟩ .f32
  a : Vec Ideal ⟨2, ![2, 4]⟩ .f32
  d : Vec Ideal ⟨2, ![2, 4]⟩ .f32
  n : Vec Ideal ⟨1, ![128]⟩ .f32

variable (A : Arrays) (b : Fin 8) (h : Fin 4)

/-- The column of lane `l` of head `h` in part `p` (query, key, value, gate) of a projected row. -/
def lane (p : Fin 4) (h : Fin 4) (l : Fin 128) : Fin 2688 :=
  ⟨512 * p.val + 128 * h.val + l.val, by have := p.isLt; have := h.isLt; have := l.isLt; omega⟩

/-- The convolution's taps for part `p`. -/
def taps (p : Fin 3) (j : Fin 4) (l : Fin 128) : EReal :=
  A.w (ix2 j ⟨512 * p.val + 128 * h.val + l.val, by have := p.isLt; have := h.isLt; have := l.isLt; omega⟩)

def ctx (p : Fin 4) (r : Fin 256) (l : Fin 128) : EReal := A.z (ix3 b r (lane p h l))
def lat (p : Fin 4) (r : Fin 2048) (l : Fin 128) : EReal := A.x (ix3 b r (lane p h l))

def q : Fin 2304 → Fin 128 → EReal := query (taps A h 0) (ctx A b h 0) (lat A b h 0)
def k : Fin 2304 → Fin 128 → EReal := key (taps A h 1) (ctx A b h 1) (lat A b h 1)
def v : Fin 2304 → Fin 128 → EReal := value (taps A h 2) (ctx A b h 2) (lat A b h 2)

/-- The column of a token's gate of kind `i` (0 the write strength, 1 the decay) in direction `p`. -/
def gateCol (i p : Fin 2) (h : Fin 4) : Fin 2688 :=
  ⟨2560 + 8 * i.val + 4 * p.val + h.val, by have := p.isLt; have := h.isLt; have := i.isLt; omega⟩

def gate (i p : Fin 2) : Fin 2304 → EReal :=
  joined (fun r => A.z (ix3 b r (gateCol i p h))) (fun r => A.x (ix3 b r (gateCol i p h)))

def g (p : Fin 2) (t : Fin 2304) : EReal := decay (A.a (ix2 p h)) (A.d (ix2 p h)) (gate A b h 1 p t)
def s (p : Fin 2) (t : Fin 2304) : EReal := Ideal.logistic (gate A b h 0 p t)

/-- The kernel's output rows before the gate. -/
def out (t : Fin 2304) (l : Fin 128) : EReal := mixed (q A b h) (k A b h) (v A b h) (g A b h) (s A b h) t l

/-- The gated outputs. -/
def latOut (r : Fin 2048) (l : Fin 128) : EReal :=
  out A b h ⟨256 + r.val, by have := r.isLt; omega⟩ l * A.n (ix1 l) * silu (lat A b h 3 r l)
def ctxOut (r : Fin 256) (l : Fin 128) : EReal :=
  out A b h ⟨r.val, by have := r.isLt; omega⟩ l * A.n (ix1 l) * silu (ctx A b h 3 r l)

end Cert.Delta.Args

end
-- ==== Proof.ProjSpec.lean ====
/- The modulated norm and the input projection of a row, as formulas. -/
module

public import proofs.«01_k».proof.Proof.Args

@[expose] public section

set_option maxRecDepth 16384

noncomputable section

namespace Cert.Proj

open Idealize.ShloMosaic Idealize.ShloMosaic.TcCoe

/-- The rows, the modulation (six parts of 1024 per batch element), the norm's scale and the projection. -/
structure Arrays where
  x : Vec Ideal ⟨3, ![8, 2048, 1024]⟩ .f32
  d : Vec Ideal ⟨2, ![16, 6144]⟩ .f32
  n : Vec Ideal ⟨1, ![1024]⟩ .f32
  w : Vec Ideal ⟨2, ![1024, 2576]⟩ .f32

variable (A : Arrays)

/-- A row over the root of its mean square, scaled. -/
def normed (x n : Fin 1024 → EReal) (k : Fin 1024) : EReal :=
  x k * Ideal.rsqrt (Ideal.div (∑ y : Fin 1024, x y * x y) (Ideal.ofBits .f32 0x44800000#32) + Ideal.ofBits .f32 0x358637BD#32) * n k

/-- Entry `k` of part `p` of batch element `b`'s modulation. -/
def part (b : Fin 8) (p : Fin 6) (k : Fin 1024) : EReal :=
  A.d (ix2 ⟨b.val, by have := b.isLt; omega⟩ ⟨1024 * p.val + k.val, by have := p.isLt; have := k.isLt; omega⟩)

/-- The row that is projected. -/
def row (b : Fin 8) (r : Fin 2048) (k : Fin 1024) : EReal :=
  normed (fun k => A.x (ix3 b r k)) (fun k => A.n (ix1 k)) k * (1 + part A b 1 k) + part A b 0 k

/-- The projection's columns in the order of the results: the first 1536, the last 1024, the 16 between, and zeros. -/
def col (k : Fin 1024) (y : Fin 2688) : EReal :=
  if h : y.val < 1536 then A.w (ix2 k ⟨y.val, by omega⟩)
  else if h : y.val < 2560 then A.w (ix2 k ⟨y.val + 16, by omega⟩)
  else if h : y.val < 2576 then A.w (ix2 k ⟨y.val - 1024, by omega⟩)
  else 0

/-- The projected row at a column of the results. -/
def ordered (b : Fin 8) (r : Fin 2048) (y : Fin 2688) : EReal := ∑ k : Fin 1024, row A b r k * col A k y

/-- The column of the projection that a column of the results shows, where it shows one. -/
theorem ordered_first (b : Fin 8) (r : Fin 2048) (y : Fin 2688) (h : y.val < 1536) :
    ordered A b r y = ∑ k : Fin 1024, row A b r k * A.w (ix2 k ⟨y.val, by omega⟩) :=
  Finset.sum_congr rfl fun k _ => congrArg _ (dif_pos h)
theorem ordered_last (b : Fin 8) (r : Fin 2048) (y : Fin 2688) (h : ¬ y.val < 1536) (h' : y.val < 2560) :
    ordered A b r y = ∑ k : Fin 1024, row A b r k * A.w (ix2 k ⟨y.val + 16, by omega⟩) :=
  Finset.sum_congr rfl fun k _ => congrArg _ ((dif_neg h).trans (dif_pos h'))
theorem ordered_between (b : Fin 8) (r : Fin 2048) (y : Fin 2688) (h : ¬ y.val < 2560) (h' : y.val < 2576) :
    ordered A b r y = ∑ k : Fin 1024, row A b r k * A.w (ix2 k ⟨y.val - 1024, by omega⟩) :=
  Finset.sum_congr rfl fun k _ => congrArg _ ((dif_neg (by omega)).trans ((dif_neg h).trans (dif_pos h')))
theorem ordered_zero (b : Fin 8) (r : Fin 2048) (y : Fin 2688) (h : ¬ y.val < 2576) : ordered A b r y = 0 :=
  Finset.sum_eq_zero fun k _ => by
    rw [show col A k y = 0 from (dif_neg (by omega)).trans ((dif_neg (by omega)).trans (dif_neg h)), mul_zero]

def result (A : Arrays) : Vec Ideal ⟨3, ![8, 2048, 2688]⟩ .f32 := fun y => ordered A (y 0) (y 1) (y 2)
def gates (A : Arrays) : Vec Ideal ⟨3, ![8, 2048, 128]⟩ .f32 :=
  fun y => ordered A (y 0) (y 1) ⟨2560 + (y 2).val, by have : (y 2).val < 128 := (y 2).isLt; omega⟩

end Cert.Proj

end
-- ==== Proof.Proj.lean ====
/- The projection kernel's two results, from its arguments. -/
module

public import proofs.«01_k».proof.Proof.ProjSpec
public import proofs.«01_k».proof.Proof.Gen.Kernel2Ideal.Value
public import Idealize.ShloMosaic.Lib.Pointwise

@[expose] public section

set_option maxRecDepth 16384
noncomputable section
namespace Cert.Proj
open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The kernel's arguments as launched. -/
def arrays : Arrays where
  x := m ((c.tc : Thread nD τ).loc main_arg0)
  d := m ((c.tc : Thread nD τ).loc main_arg1)
  n := m ((c.tc : Thread nD τ).loc main_arg2)
  w := m ((c.tc : Thread nD τ).loc main_arg3)

/-- The body's product at an entry. -/
theorem pay_at (v0 : Vec Ideal S1x512x1024 .f32) (v2 : Vec Ideal S1x1024 .f32) (v4 v6 : Vec Ideal S1x1x1024 .f32)
    (w : Vec Ideal S1024x2688 .bf16) (r : Fin 512) (y : Fin 2688) :
    k0_pay2 v0 v2 v4 v6 w (ix2 r y) = ∑ k : Fin 1024,
      (normed (fun k => v0 (ix3 0 r k)) (fun k => v2 (ix2 0 k)) k * (1 + v6 (ix3 0 0 k)) + v4 (ix3 0 0 k))
        * w (ix2 k y) := by
  pointwise [k0_pay2]
  rfl

/-- The weight's columns as the call takes them. -/
theorem V18 (k : Fin 1024) (y : Fin 2688) : V m c main_v18 (ix2 k y) = col (arrays m c) k y := by
  simp only [V]
  after_results_simp <;> (try dsimp only [Matrix.cons_val]) <;> (try after_results_simp)
  pointwise
  unfold col
  after_results_simp
  pointwise
  split_ifs
  all_goals first
    | rfl
    | (exfalso; rename_i h; exact h rfl)
    | (exfalso; omega)
    | (rw [dif_pos (show y.val < 2560 by omega)]
       exact congrArg (fun y => (arrays m c).w (ix2 k y)) (Fin.ext (by dsimp only; omega)))
    | (rw [dif_neg (show ¬ y.val < 2560 by omega), dif_pos (show y.val < 2576 by omega)]
       exact congrArg (fun y => (arrays m c).w (ix2 k y)) (Fin.ext (by dsimp only; omega)))
    | rw [dif_neg (show ¬ y.val < 2560 by omega), dif_neg (show ¬ y.val < 2576 by omega)]

theorem V19 (k : Fin 1024) : V m c main_v19 (ix2 0 k) = (arrays m c).n (ix1 k) := by
  simp only [V]
  after_results
  pointwise
  rfl

/-- The rows picked by their numbers: entry `(b, p, k)` is the picked row's. -/
theorem gather_at (x : Vec Ideal S16x6x1024 .f32) (idx : IVec S8x1 32) (b : Fin 8) (p : Fin 6) (k : Fin 1024) (n : Fin 16)
    (hn : (idx (ix2 b 0)).toInt.toNat = n.val) :
    Host.gather gather_S16x6x1024_S8x1_S8x6x1024_12_0_n_n_0_1_161024 x idx (ix3 b p k) = x (ix3 n p k) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x6x1024_S8x1_S8x6x1024_12_0_n_n_0_1_161024.startIndexMap from List.mem_singleton.mpr rfl)]
    have hsi : gather_S16x6x1024_S8x1_S8x6x1024_12_0_n_n_0_1_161024.siIdx (ix3 b p k)
        ⟨List.idxOf (0 : Fin 3) gather_S16x6x1024_S8x1_S8x6x1024_12_0_n_n_0_1_161024.startIndexMap,
          List.idxOf_lt_length_iff.2 (List.mem_singleton.mpr rfl)⟩ = ix2 b 0 := by
      funext d; refine Fin.ext ?_
      match d with
      | ⟨0, _⟩ => rfl
      | ⟨1, _⟩ => rfl
    rw [hsi, hn]
    show min n.val 15 = n.val
    have := n.isLt
    omega
  · unfold GatherDims.start
    rw [dif_neg (show (1 : Fin 3) ∉ gather_S16x6x1024_S8x1_S8x6x1024_12_0_n_n_0_1_161024.startIndexMap by decide), Nat.zero_add]
    rfl
  · unfold GatherDims.start
    rw [dif_neg (show (2 : Fin 3) ∉ gather_S16x6x1024_S8x1_S8x6x1024_12_0_n_n_0_1_161024.startIndexMap by decide), Nat.zero_add]
    rfl

theorem rowOf : ∀ b : Fin 8, ((broadcastInDim S8x1 ![0] bcast_S8_S8x1_0
    (select (cmpi CmpIPredicate.slt (iotaInDim S8 32 0) (broadcastInDim S8 ![] bcast_S_S8 (constantI S_ 32 0#32)))
      (addi (iotaInDim S8 32 0) (broadcastInDim S8 ![] bcast_S_S8 (constantI S_ 32 16#32))) (iotaInDim S8 32 0))) (ix2 b 0)).toInt.toNat = b.val := by
  intro b
  fin_cases b <;> rfl

/-- The modulation's parts. -/
theorem V10 (b : Fin 8) (p : Fin 8) (hp : p.val < 6) (k : Fin 1024) : V m c main_v10 (ix3 b p k) = part (arrays m c) b ⟨p.val, hp⟩ k := by
  simp only [V]
  after_results
  pointwise
  rw [dif_pos hp, gather_at _ _ b ⟨p.val, hp⟩ k ⟨b.val, by have := b.isLt; omega⟩ (rowOf b)]
  unfold part
  exact congrArg (fun y => (arrays m c).d (ix2 _ y)) (Fin.ext (by show p.val * 1024 + k.val = 1024 * p.val + k.val; omega))

theorem index0 : ∀ t : Fin grid0.N, win0_0.index t = ![(grid0.coords t 0).val, (grid0.coords t 1).val, 0] := by decide +kernel
theorem index1 : ∀ t : Fin grid0.N, win0_1.index t = ![(grid0.coords t 0).val, 0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![(grid0.coords t 0).val, (grid0.coords t 1).val, 0] := by decide +kernel
theorem index5 : ∀ t : Fin grid0.N, win0_5.index t = ![(grid0.coords t 0).val, (grid0.coords t 1).val, 0] := by decide +kernel

variable (t : Fin cfg0.N)

/-- A grid point's batch element, and the row of a tile's row. -/
abbrev atB (t : Fin cfg0.N) : Fin 8 := grid0.coords t 0
def atR (t : Fin cfg0.N) (r : Fin 512) : Fin 2048 :=
  ⟨(grid0.coords t 1).val * 512 + r.val, by have h : (grid0.coords t 1).val < 4 := (grid0.coords t 1).isLt; have := r.isLt; omega⟩

theorem iblk0 (r : Fin 512) (k : Fin 1024) : iblk m c 0 t (ix3 0 r k) = (arrays m c).x (ix3 (atB t) (atR t r) k) := by
  blk_simp [iblk]
  rw [V_main_arg0]
  refine congrArg (m ((c.tc : Thread nD τ).loc main_arg0)) ?_
  blk_ext [index0] <;> rfl
theorem iblk1 (p : Fin 8) (hp : p.val < 6) (k : Fin 1024) : iblk m c 1 t (ix3 0 p k) = part (arrays m c) (atB t) ⟨p.val, hp⟩ k := by
  refine Eq.trans ?_ (V10 m c (atB t) p hp k)
  blk_simp [iblk]
  refine congrArg _ ?_
  blk_ext [index1] <;> rfl
theorem iblk2 (k : Fin 1024) : iblk m c 2 t (ix2 0 k) = (arrays m c).n (ix1 k) := by
  refine Eq.trans ?_ (V19 m c k)
  blk_simp [iblk]
  refine congrArg _ ?_
  blk_ext [index2] <;> rfl
theorem iblk3 (k : Fin 1024) (y : Fin 2688) : iblk m c 3 t (ix2 k y) = V m c main_v18 (ix2 k y) := by
  blk_simp [iblk]
  refine congrArg _ ?_
  blk_ext [index3] <;> rfl

/-- The product of a tile at an entry, in the order of the results. -/
theorem tile_at (r : Fin 512) (y : Fin 2688) :
    k0_pay2 (View.ld (iblk m c 0 t) r0_0) (View.ld (iblk m c 2 t) r0_1) (View.ld (iblk m c 1 t) r0_2) (View.ld (iblk m c 1 t) r0_3)
      (View.ld (iblk m c 3 t) r0_4) (ix2 r y) = ordered (arrays m c) (atB t) (atR t r) y := by
  have e0 : View.ld (iblk m c 0 t) r0_0 = iblk m c 0 t := View.ld_unit_zero (funext fun a => by fin_cases a <;> rfl) _ _
  have e1 : View.ld (iblk m c 2 t) r0_1 = iblk m c 2 t := View.ld_unit_zero (funext fun a => by fin_cases a <;> rfl) _ _
  have e4 : View.ld (iblk m c 3 t) r0_4 = iblk m c 3 t := View.ld_unit_zero (funext fun a => by fin_cases a <;> rfl) _ _
  have e2 : ∀ k : Fin 1024, View.ld (iblk m c 1 t) r0_2 (ix3 0 0 k) = part (arrays m c) (atB t) 0 k := fun k =>
    Eq.trans (congrArg (iblk m c 1 t) (by
      funext a; refine Fin.ext ?_
      match a with
      | ⟨0, _⟩ => rfl
      | ⟨1, _⟩ => rfl
      | ⟨2, _⟩ => show 0 + 1 * k.val = k.val; omega)) (iblk1 m c t 0 (by decide) k)
  have e3 : ∀ k : Fin 1024, View.ld (iblk m c 1 t) r0_3 (ix3 0 0 k) = part (arrays m c) (atB t) 1 k := fun k =>
    Eq.trans (congrArg (iblk m c 1 t) (by
      funext a; refine Fin.ext ?_
      match a with
      | ⟨0, _⟩ => rfl
      | ⟨1, _⟩ => rfl
      | ⟨2, _⟩ => show 0 + 1 * k.val = k.val; omega)) (iblk1 m c t 1 (by decide) k)
  rw [pay_at, e0, e1, e4]
  unfold ordered
  refine Finset.sum_congr rfl fun k _ => ?_
  rw [e2, e3, iblk3, V18]
  unfold row
  simp only [iblk0, iblk2]

theorem block_idx {R C : ℕ} (y : (⟨3, ![1, R, C]⟩ : Shape).Idx) : ∃ (r : Fin R) (l : Fin C), y = ix3 0 r l :=
  ⟨y 1, y 2, funext fun a => by
    fin_cases a
    · exact Subsingleton.elim (α := Fin 1) _ _
    · rfl
    · rfl⟩

/-- What a point leaves in a block of the projection, and in a block of its last 128 columns. -/
theorem block4 (r : Fin 512) (y : Fin 2688) :
    out0_4 (iblk m c 0 t) (iblk m c 1 t) (iblk m c 2 t) (iblk m c 3 t) (ix3 0 r y) = ordered (arrays m c) (atB t) (atR t r) y := by
  unfold out0_4
  rw [Value.canon4_eq]
  have e : Value.ix4_0 (ix3 0 r y) = ix2 r y := by
    funext a; refine Fin.ext ?_
    match a with
    | ⟨0, _⟩ => rfl
    | ⟨1, _⟩ => rfl
  dsimp only [Value.E4]
  rw [e]
  exact tile_at m c t r y
theorem block5 (r : Fin 512) (y : Fin 128) :
    out0_5 (iblk m c 0 t) (iblk m c 1 t) (iblk m c 2 t) (iblk m c 3 t) (ix3 0 r y)
      = ordered (arrays m c) (atB t) (atR t r) ⟨y.val + 2560, by have := y.isLt; omega⟩ := by
  unfold out0_5
  rw [Value.canon5_eq]
  have e : Value.ix5_0 (ix3 0 r y) = ix2 r ⟨y.val + 2560, by have := y.isLt; omega⟩ := by
    funext a; refine Fin.ext ?_
    match a with
    | ⟨0, _⟩ => rfl
    | ⟨1, _⟩ => rfl
  dsimp only [Value.E5]
  rw [e]
  exact tile_at m c t r _

/-- The two results whole. -/
theorem final_result : (dats m 0 c).arrAt 4 cfg0.N = result (arrays m c) := by
  refine (dats m 0 c).arrAt_eq_of_covers 4 _ (by decide +kernel) fun t hf y => ?_
  obtain ⟨r, l, rfl⟩ := block_idx (R := 512) (C := 2688) y
  blk_simp
  rw [after0_4, block4]
  unfold result
  have h1 : atB t = (((cfg0.win 4).blk t).view.emb (ix3 0 r l)) 0 := Fin.ext (by blk_simp [index4] <;> rfl)
  have h2 : atR t r = (((cfg0.win 4).blk t).view.emb (ix3 0 r l)) 1 := Fin.ext (by blk_simp [index4] <;> rfl)
  have h3 : l = (((cfg0.win 4).blk t).view.emb (ix3 0 r l)) 2 := Fin.ext (by blk_simp [index4] <;> omega)
  exact congr (congr (congrArg (ordered (arrays m c)) h1) h2) h3

theorem final_gates : (dats m 0 c).arrAt 5 cfg0.N = gates (arrays m c) := by
  refine (dats m 0 c).arrAt_eq_of_covers 5 _ (by decide +kernel) fun t hf y => ?_
  obtain ⟨r, l, rfl⟩ := block_idx (R := 512) (C := 128) y
  blk_simp
  rw [after0_5, block5]
  unfold gates
  have h1 : atB t = (((cfg0.win 5).blk t).view.emb (ix3 0 r l)) 0 := Fin.ext (by blk_simp [index5] <;> rfl)
  have h2 : atR t r = (((cfg0.win 5).blk t).view.emb (ix3 0 r l)) 1 := Fin.ext (by blk_simp [index5] <;> rfl)
  have h3 : ((((cfg0.win 5).blk t).view.emb (ix3 0 r l)) 2).val = l.val := by blk_simp [index5] <;> omega
  exact congr (congr (congrArg (ordered (arrays m c)) h1) h2) (Fin.ext (by show l.val + 2560 = 2560 + _; rw [h3]; omega))

end Cert.Proj
end
-- ==== Proof.ProjRef.lean ====
/- The projection reference's two results, from its arguments. -/
module

public import proofs.«01_k».proof.Proof.ProjSpec
public import proofs.«01_k».proof.Proof.Gen.Reference2Ideal
public import proofs.«01_k».proof.Proof.Gen.Reference2Ideal.Run
public import Idealize.ShloMosaic.Lib.Pointwise

@[expose] public section

set_option maxRecDepth 16384
noncomputable section
namespace Cert.Proj
open Cert.Reference2Ideal Cert.Reference2Ideal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The reference's arguments as launched. -/
def refArrays : Arrays where
  x := m ((c.tc : Thread nD τ).loc main_arg0)
  d := m ((c.tc : Thread nD τ).loc main_arg1)
  n := m ((c.tc : Thread nD τ).loc main_arg2)
  w := m ((c.tc : Thread nD τ).loc main_arg3)

theorem row_eq (A : Arrays) (b : Fin 8) (r : Fin 2048) (k : Fin 1024) :
    row A b r k = A.x (ix3 b r k)
        * Ideal.rsqrt (Ideal.div (∑ y : Fin 1024, A.x (ix3 b r y) * A.x (ix3 b r y)) (Ideal.ofBits .f32 0x44800000#32) + Ideal.ofBits .f32 0x358637BD#32)
        * A.n (ix1 k)
        * (1 + A.d (ix2 ⟨b.val, by have := b.isLt; omega⟩ ⟨1024 + k.val, by have := k.isLt; omega⟩))
      + A.d (ix2 ⟨b.val, by have := b.isLt; omega⟩ ⟨k.val, by have := k.isLt; omega⟩) := by
  unfold row normed part
  have h1 : (⟨1024 * (1 : Fin 6).val + k.val, by have := k.isLt; show 1024 * 1 + k.val < 6144; omega⟩ : Fin 6144) = ⟨1024 + k.val, by have := k.isLt; omega⟩ :=
    Fin.ext (by show 1024 * 1 + k.val = 1024 + k.val; omega)
  have h0 : (⟨1024 * (0 : Fin 6).val + k.val, by have := k.isLt; show 1024 * 0 + k.val < 6144; omega⟩ : Fin 6144) = ⟨k.val, by have := k.isLt; omega⟩ :=
    Fin.ext (by show 1024 * 0 + k.val = k.val; omega)
  rw [h1, h0]

/-- The reference's first result at an entry: its columns are the projection's, the zeros last. -/
theorem ref_result_at (b : Fin 8) (r : Fin 2048) (y : Fin 2688) :
    Value.res_main_v33 m c (ix3 b r y) = ordered (refArrays m c) b r y := by
  unfold Value.res_main_v33
  pointwise
  change @Eq EReal _ _
  by_cases h0 : y.val < 1536
  · rw [dif_pos h0, ordered_first _ _ _ _ h0]
    refine Finset.sum_congr rfl fun k _ => ?_
    rw [row_eq]
    dsimp only [refArrays]
  · rw [dif_neg h0]
    by_cases h1 : y.val < 2560
    · rw [dif_pos (by omega), ordered_last _ _ _ _ h0 h1]
      refine Finset.sum_congr rfl fun k _ => ?_
      rw [row_eq]
      dsimp only [refArrays]
      rw [show (⟨1552 + (y.val - 1536), by omega⟩ : Fin 2576) = ⟨y.val + 16, by omega⟩ from Fin.ext (by dsimp only; omega)]
    · rw [dif_neg (by omega)]
      by_cases h2 : y.val < 2576
      · rw [dif_pos (by omega), ordered_between _ _ _ _ h1 h2]
        refine Finset.sum_congr rfl fun k _ => ?_
        rw [row_eq]
        dsimp only [refArrays]
        rw [show (⟨1536 + (y.val - 1536 - 1024), by omega⟩ : Fin 2576) = ⟨y.val - 1024, by omega⟩ from Fin.ext (by dsimp only; omega)]
      · rw [dif_neg (by omega), ordered_zero _ _ _ _ h2]

theorem array_idx {B R C : ℕ} (y : (⟨3, ![B, R, C]⟩ : Shape).Idx) : ∃ (b : Fin B) (r : Fin R) (l : Fin C), y = ix3 b r l :=
  ⟨y 0, y 1, y 2, funext fun a => by fin_cases a <;> rfl⟩

/-- What the reference's run leaves in its two results and its arguments. -/
theorem ref_run : θ_run (defs (F := Ideal)) (onTc (τ := τ) (main (F := Ideal))) ⟨m, fun _ => 0, ρ⟩ fun r => ∀ c : Dev nD,
    r.2.mem ((c.tc : Thread nD τ).loc main_v33) = result (refArrays m c)
    ∧ r.2.mem ((c.tc : Thread nD τ).loc main_v30) = gates (refArrays m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · funext y
    obtain ⟨b, r, l, rfl⟩ := array_idx (B := 8) (R := 2048) (C := 2688) y
    exact ref_result_at m c b r l
  · funext y
    obtain ⟨b, r, l, rfl⟩ := array_idx (B := 8) (R := 2048) (C := 128) y
    show _ = ordered (refArrays m c) b r ⟨2560 + l.val, by have := l.isLt; omega⟩
    have hl := l.isLt
    pointwise
    change @Eq EReal _ _
    by_cases h2 : l.val < 16
    · rw [dif_pos h2, ordered_between _ _ _ _ (by dsimp only; omega) (by dsimp only; omega)]
      refine Finset.sum_congr rfl fun k _ => ?_
      rw [row_eq]
      dsimp only [refArrays]
      rw [show (⟨2560 + l.val - 1024, by omega⟩ : Fin 2576) = ⟨1536 + l.val, by omega⟩ from Fin.ext (by dsimp only; omega)]
    · rw [dif_neg h2, ordered_zero _ _ _ _ (by dsimp only; omega)]

/-- The reference's arguments end unchanged and every counter at zero. -/
theorem ref_frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0 :=
  (θ_run defs _ _).mono (fun r h => ⟨fun c => (h c).2.2, sem_eq_zero_of_no_sems (by decide) r.2⟩) (ref_run m ρ)

end Cert.Proj
end
-- ==== Proof.MixSpec.lean ====
/- The pooling mixer, the output projection and the gated residual, as formulas. -/
module

public import proofs.«01_k».proof.Proof.Args

@[expose] public section

set_option maxRecDepth 16384

noncomputable section

namespace Cert.Mix

open Idealize.ShloMosaic Idealize.ShloMosaic.TcCoe

/-- The rows, the delta rule's result, the projected rows, the Fourier mixer's result, the modulation (six parts of 1024 per batch
    element), the pooling mixer's weights and scale, and the output projection. -/
structure Arrays where
  x : Vec Ideal ⟨3, ![8, 2048, 1024]⟩ .f32
  d : Vec Ideal ⟨3, ![8, 2048, 512]⟩ .f32
  p : Vec Ideal ⟨3, ![8, 2048, 2688]⟩ .f32
  f : Vec Ideal ⟨3, ![8, 2048, 256]⟩ .f32
  g : Vec Ideal ⟨2, ![16, 6144]⟩ .f32
  w : Vec Ideal ⟨3, ![4, 64, 64]⟩ .f32
  s : Vec Ideal ⟨1, ![256]⟩ .f32
  o : Vec Ideal ⟨2, ![1024, 1024]⟩ .f32

/-- Half the window of a group of columns: 1, 2, 4 and 8. -/
def half (g : Fin 4) : ℕ := 2 ^ g.val

/-- Position `j` of a segment is in the window of half-width `h` about position `s`. -/
def near (h s j : ℕ) : Prop := s ≤ j + h ∧ j < s + h

instance (h s j : ℕ) : Decidable (near h s j) := inferInstanceAs (Decidable (_ ∧ _))

/-- How many of a segment's 64 positions are in the window. -/
def count (h s : ℕ) : ℕ := min (s + h) 64 - (s - h)

/-- The sum of a segment's entries in the window. -/
def total (h s : ℕ) (f : Fin 64 → EReal) : EReal := ∑ j : Fin 64, if near h s j.val then f j else 0

variable (A : Arrays)

/-- Entry `j` of segment `q`'s column `e` of group `g`. -/
def entry (b : Fin 8) (q : Fin 32) (g : Fin 4) (e : Fin 64) (j : Fin 64) : EReal :=
  A.p (ix3 b ⟨64 * q.val + j.val, by have := q.isLt; have := j.isLt; omega⟩
    ⟨2048 + (64 * g.val + e.val), by have := g.isLt; have := e.isLt; omega⟩)

/-- The window's mean less the entry itself. -/
def centred (b : Fin 8) (q : Fin 32) (s : Fin 64) (g : Fin 4) (e : Fin 64) : EReal :=
  Ideal.div (total (half g) s.val (entry A b q g e)) (((count (half g) s.val : ℕ) : ℝ) : EReal) - entry A b q g e s

/-- The pooling mixer's row: each group through its own weights, and scaled. -/
def pooled (b : Fin 8) (r : Fin 2048) (k : Fin 256) : EReal :=
  (∑ e : Fin 64, centred A b ⟨r.val / 64, by have := r.isLt; omega⟩ ⟨r.val % 64, by omega⟩ ⟨k.val / 64, by have := k.isLt; omega⟩ e
      * A.w (ix3 ⟨k.val / 64, by have := k.isLt; omega⟩ e ⟨k.val % 64, by omega⟩)) * A.s (ix1 k)

/-- The three mixers' rows, side by side, through the output projection. -/
def projected (b : Fin 8) (r : Fin 2048) (y : Fin 1024) : EReal :=
  (∑ k : Fin 512, A.d (ix3 b r k) * A.o (ix2 ⟨k.val, by have := k.isLt; omega⟩ y))
    + (∑ k : Fin 256, pooled A b r k * A.o (ix2 ⟨512 + k.val, by have := k.isLt; omega⟩ y))
    + ∑ k : Fin 256, A.f (ix3 b r k) * A.o (ix2 ⟨768 + k.val, by have := k.isLt; omega⟩ y)

/-- The gated residual. -/
def mixed (b : Fin 8) (r : Fin 2048) (y : Fin 1024) : EReal :=
  A.x (ix3 b r y) + A.g (ix2 ⟨b.val, by have := b.isLt; omega⟩ ⟨2048 + y.val, by have := y.isLt; omega⟩) * projected A b r y

/-- The call's result. -/
def result : Vec Ideal ⟨3, ![8, 2048, 1024]⟩ .f32 := fun y => mixed A (y 0) (y 1) (y 2)

/-- A sum over 256 places whose only terms of weight one are those of the window, in the place's own segment of 64. -/
theorem band_sum (h : ℕ) (i : Fin 256) (f : Fin 256 → EReal) :
    (∑ j : Fin 256, (if j.val / 64 = i.val / 64 ∧ near h (i.val % 64) (j.val % 64) then (1 : EReal) else 0) * f j)
      = total h (i.val % 64) fun j => f ⟨64 * (i.val / 64) + j.val, by have := i.isLt; have := j.isLt; omega⟩ := by
  unfold total
  rw [← Equiv.sum_comp (finProdFinEquiv (m := 4) (n := 64)), Fintype.sum_prod_type]
  rw [Finset.sum_eq_single (⟨i.val / 64, by have := i.isLt; omega⟩ : Fin 4)]
  · refine Finset.sum_congr rfl fun j _ => ?_
    have e : finProdFinEquiv ((⟨i.val / 64, by have := i.isLt; omega⟩ : Fin 4), j)
        = (⟨64 * (i.val / 64) + j.val, by have := i.isLt; have := j.isLt; omega⟩ : Fin 256) :=
      Fin.ext (by show j.val + 64 * (i.val / 64) = 64 * (i.val / 64) + j.val; omega)
    have hj := j.isLt
    rw [e]
    have e1 : (64 * (i.val / 64) + j.val) / 64 = i.val / 64 := by omega
    have e2 : (64 * (i.val / 64) + j.val) % 64 = j.val := by omega
    dsimp only
    rw [e1, e2]
    by_cases hn : near h (i.val % 64) j.val
    · rw [if_pos ⟨rfl, hn⟩, if_pos hn, one_mul]
    · rw [if_neg fun q => hn q.2, if_neg hn, zero_mul]
  · intro q _ hq
    refine Finset.sum_eq_zero fun j _ => ?_
    rw [if_neg, zero_mul]
    rintro ⟨q1, -⟩
    refine hq (Fin.ext ?_)
    have hj := j.isLt
    have : (finProdFinEquiv (q, j)).val = j.val + 64 * q.val := rfl
    rw [this] at q1
    dsimp only
    omega
  · intro q
    exact (q (Finset.mem_univ _)).elim

/-- The window's sum as a sum of shifted entries, zero outside the segment. -/
theorem shift_sum (h s : ℕ) (f : Fin 64 → EReal) :
    (∑ o : Fin (2 * h), if q : h ≤ s + o.val ∧ s + o.val - h < 64 then f ⟨s + o.val - h, q.2⟩ else 0) = total h s f := by
  unfold total
  have key : ∀ o : Fin (2 * h), (if q : h ≤ s + o.val ∧ s + o.val - h < 64 then f ⟨s + o.val - h, q.2⟩ else 0)
      = ∑ j : Fin 64, if s + o.val = j.val + h then f j else 0 := by
    intro o
    split_ifs with q
    · rw [Finset.sum_eq_single (⟨s + o.val - h, q.2⟩ : Fin 64)]
      · rw [if_pos (by dsimp only; omega)]
      · intro j _ hj
        exact if_neg fun e => hj (Fin.ext (by dsimp only; omega))
      · intro e
        exact (e (Finset.mem_univ _)).elim
    · refine (Finset.sum_eq_zero fun j _ => if_neg fun e => q ?_).symm
      have := j.isLt
      omega
  rw [Finset.sum_congr rfl fun o _ => key o, Finset.sum_comm]
  refine Finset.sum_congr rfl fun j _ => ?_
  by_cases hn : near h s j.val
  · rw [if_pos hn]
    have hn' := hn
    unfold near at hn'
    rw [Finset.sum_eq_single (⟨j.val + h - s, by omega⟩ : Fin (2 * h))]
    · rw [if_pos (by dsimp only; omega)]
    · intro o _ ho
      exact if_neg fun e => ho (Fin.ext (by dsimp only; omega))
    · intro e
      exact (e (Finset.mem_univ _)).elim
  · rw [if_neg hn]
    refine Finset.sum_eq_zero fun o _ => if_neg fun e => hn ?_
    have := o.isLt
    unfold near
    omega

/-- Entry `t - h`, zero outside the segment. -/
def shifted (h t : ℕ) (f : Fin 64 → EReal) : EReal := if q : h ≤ t ∧ t - h < 64 then f ⟨t - h, q.2⟩ else 0

theorem range_sum (h s n : ℕ) (hn : n = 2 * h) (f : Fin 64 → EReal) : (∑ o ∈ Finset.range n, shifted h (o + s) f) = total h s f := by
  subst hn
  rw [← shift_sum, Finset.sum_range]
  refine Finset.sum_congr rfl fun o _ => ?_
  rw [Nat.add_comm o.val s]
  rfl

/-- A sum over 256 rows of weights that are zero outside one block of 64. -/
theorem block_sum (k : Fin 256) (f g : Fin 256 → EReal) (hg : ∀ j : Fin 256, j.val / 64 ≠ k.val / 64 → g j = 0) :
    (∑ j : Fin 256, f j * g j) = ∑ e : Fin 64, f ⟨64 * (k.val / 64) + e.val, by have := k.isLt; have := e.isLt; omega⟩
      * g ⟨64 * (k.val / 64) + e.val, by have := k.isLt; have := e.isLt; omega⟩ := by
  rw [← Equiv.sum_comp (finProdFinEquiv (m := 4) (n := 64)), Fintype.sum_prod_type]
  rw [Finset.sum_eq_single (⟨k.val / 64, by have := k.isLt; omega⟩ : Fin 4)]
  · refine Finset.sum_congr rfl fun j _ => ?_
    have e : finProdFinEquiv ((⟨k.val / 64, by have := k.isLt; omega⟩ : Fin 4), j)
        = (⟨64 * (k.val / 64) + j.val, by have := k.isLt; have := j.isLt; omega⟩ : Fin 256) :=
      Fin.ext (by show j.val + 64 * (k.val / 64) = 64 * (k.val / 64) + j.val; omega)
    rw [e]
  · intro q _ hq
    refine Finset.sum_eq_zero fun j _ => ?_
    rw [hg, mul_zero]
    intro q1
    refine hq (Fin.ext ?_)
    have hj := j.isLt
    have : (finProdFinEquiv (q, j)).val = j.val + 64 * q.val := rfl
    rw [this] at q1
    dsimp only
    omega
  · intro q
    exact (q (Finset.mem_univ _)).elim

/-- A sum over the 1024 rows of the projection, mixer by mixer. -/
theorem split_sum (f : Fin 1024 → EReal) :
    (∑ k : Fin 1024, f k) = (∑ k : Fin 512, f ⟨k.val, by have := k.isLt; omega⟩)
      + (∑ k : Fin 256, f ⟨512 + k.val, by have := k.isLt; omega⟩) + ∑ k : Fin 256, f ⟨768 + k.val, by have := k.isLt; omega⟩ := by
  have h1 := Fin.sum_univ_add (a := 768) (b := 256) f
  have h2 := Fin.sum_univ_add (a := 512) (b := 256) fun k => f (Fin.castAdd 256 k)
  rw [h1, h2]
  rfl

end Cert.Mix
end
-- ==== Proof.MixWords.lean ====
/- The window's ends and length as 32-bit words. -/
module

public import proofs.«01_k».proof.Proof.MixSpec
public import Idealize.ShloMosaic.Lib.Pointwise

@[expose] public section

set_option maxRecDepth 16384
noncomputable section
namespace Cert.Mix
open Idealize.ShloMosaic

theorem div_word : ∀ i : Fin 256, IntOp.divsi ArithUnit.host (BitVec.ofNat 32 i.val) 64#32 = BitVec.ofNat 32 (i.val / 64) := by decide +kernel
theorem rem_word : ∀ i : Fin 256, IntOp.remsi ArithUnit.host (BitVec.ofNat 32 i.val) 64#32 = BitVec.ofNat 32 (i.val % 64) := by decide +kernel

theorem low_word : ∀ (g : Fin 4) (s : Fin 64), IntOp.maxsi (IntOp.subi (BitVec.ofNat 32 s.val) (BitVec.ofNat 32 (2 ^ g.val))) 0#32
    = BitVec.ofNat 32 (s.val - 2 ^ g.val) := by decide +kernel
theorem high_word : ∀ (g : Fin 4) (s : Fin 64), IntOp.minsi (IntOp.addi (BitVec.ofNat 32 s.val) (BitVec.ofNat 32 (2 ^ g.val))) 64#32
    = BitVec.ofNat 32 (min (s.val + 2 ^ g.val) 64) := by decide +kernel
theorem high_word' : ∀ (g : Fin 4) (s : Fin 64),
    IntOp.minsi (IntOp.addi (IntOp.addi (BitVec.ofNat 32 s.val) (BitVec.ofNat 32 (2 ^ g.val - 1))) 1#32) 64#32
      = BitVec.ofNat 32 (min (s.val + 2 ^ g.val) 64) := by decide +kernel
theorem count_word : ∀ (g : Fin 4) (s : Fin 64),
    (IntOp.subi (BitVec.ofNat 32 (min (s.val + 2 ^ g.val) 64)) (BitVec.ofNat 32 (s.val - 2 ^ g.val))).toInt = ((count (2 ^ g.val) s.val : ℕ) : ℤ) := by
  unfold count
  decide +kernel
theorem count_pos : ∀ (g : Fin 4) (s : Fin 64), count (half g) s.val ≠ 0 := by
  unfold count half
  decide +kernel

theorem eq_word : ∀ a b : Fin 4, IntOp.cmpi CmpIPredicate.eq (BitVec.ofNat 32 a.val) (BitVec.ofNat 32 b.val) = if b.val = a.val then 1#1 else 0#1 := by
  decide +kernel
theorem ge_word : ∀ a b : Fin 64, IntOp.cmpi CmpIPredicate.sge (BitVec.ofNat 32 a.val) (BitVec.ofNat 32 b.val) = if b.val ≤ a.val then 1#1 else 0#1 := by
  decide +kernel
theorem lt_word : ∀ (a : Fin 64) (b : Fin 65), IntOp.cmpi CmpIPredicate.slt (BitVec.ofNat 32 a.val) (BitVec.ofNat 32 b.val) = if a.val < b.val then 1#1 else 0#1 := by
  decide +kernel

/-- The window's indicator, as the words compute it. -/
theorem band_word (g : Fin 4) (i j : Fin 256) :
    IntOp.andi
      (IntOp.andi
        (IntOp.cmpi CmpIPredicate.eq (IntOp.divsi ArithUnit.host (BitVec.ofNat 32 i.val) 64#32) (IntOp.divsi ArithUnit.host (BitVec.ofNat 32 j.val) 64#32))
        (IntOp.cmpi CmpIPredicate.sge (IntOp.remsi ArithUnit.host (BitVec.ofNat 32 j.val) 64#32)
          (IntOp.maxsi (IntOp.subi (IntOp.remsi ArithUnit.host (BitVec.ofNat 32 i.val) 64#32) (BitVec.ofNat 32 (2 ^ g.val))) 0#32)))
      (IntOp.cmpi CmpIPredicate.slt (IntOp.remsi ArithUnit.host (BitVec.ofNat 32 j.val) 64#32)
        (IntOp.minsi (IntOp.addi (IntOp.remsi ArithUnit.host (BitVec.ofNat 32 i.val) 64#32) (BitVec.ofNat 32 (2 ^ g.val))) 64#32))
    = if j.val / 64 = i.val / 64 ∧ near (half g) (i.val % 64) (j.val % 64) then 1#1 else 0#1 := by
  have hi := i.isLt
  have hj := j.isLt
  rw [div_word, div_word, rem_word, rem_word]
  have e1 := low_word g ⟨i.val % 64, by omega⟩
  have e2 := high_word g ⟨i.val % 64, by omega⟩
  have e3 := eq_word ⟨i.val / 64, by omega⟩ ⟨j.val / 64, by omega⟩
  have e4 := ge_word ⟨j.val % 64, by omega⟩ ⟨i.val % 64 - 2 ^ g.val, Nat.lt_of_le_of_lt (Nat.sub_le _ _) (Nat.mod_lt _ (by decide))⟩
  have e5 := lt_word ⟨j.val % 64, by omega⟩ ⟨min (i.val % 64 + 2 ^ g.val) 64, by omega⟩
  dsimp only at e1 e2 e3 e4 e5
  rw [e1, e2, e3, e4, e5]
  have ec : (j.val / 64 = i.val / 64 ∧ near (half g) (i.val % 64) (j.val % 64))
      ↔ (j.val / 64 = i.val / 64 ∧ i.val % 64 - 2 ^ g.val ≤ j.val % 64 ∧ j.val % 64 < min (i.val % 64 + 2 ^ g.val) 64) := by
    unfold near half
    generalize 2 ^ g.val = p
    omega
  simp only [ec]
  split_ifs <;> first | rfl | (exfalso; tauto)

/-- The word's value, 1 or 0, as a real. -/
theorem band_real (p : Prop) [Decidable p] : (FloatOps.uitofp (F := Ideal) FTy.f32 (if p then 1#1 else 0#1) : EReal) = if p then 1 else 0 := by
  split_ifs
  · show (((1#1).toNat : ℝ) : EReal) = 1
    norm_num
  · show (((0#1).toNat : ℝ) : EReal) = 0
    norm_num

/-- The window's length as a real, from the kernel's words and from the reference's. -/
theorem count_real (g : Fin 4) (s : Fin 64) :
    (FloatOps.sitofp (F := Ideal) FTy.f32
      (IntOp.subi (IntOp.minsi (IntOp.addi (BitVec.ofNat 32 s.val) (BitVec.ofNat 32 (2 ^ g.val))) 64#32)
        (IntOp.maxsi (IntOp.subi (BitVec.ofNat 32 s.val) (BitVec.ofNat 32 (2 ^ g.val))) 0#32)) : EReal) = (((count (half g) s.val : ℕ) : ℝ) : EReal) := by
  rw [high_word, low_word]
  show (((IntOp.subi (BitVec.ofNat 32 (min (s.val + 2 ^ g.val) 64)) (BitVec.ofNat 32 (s.val - 2 ^ g.val))).toInt : ℝ) : EReal) = _
  rw [count_word]
  unfold half
  norm_cast
theorem count_real' (g : Fin 4) (s : Fin 64) :
    (FloatOps.sitofp (F := Ideal) FTy.f32
      (IntOp.subi (IntOp.minsi (IntOp.addi (IntOp.addi (BitVec.ofNat 32 s.val) (BitVec.ofNat 32 (2 ^ g.val - 1))) 1#32) 64#32)
        (IntOp.maxsi (IntOp.subi (BitVec.ofNat 32 s.val) (BitVec.ofNat 32 (2 ^ g.val))) 0#32)) : EReal) = (((count (half g) s.val : ℕ) : ℝ) : EReal) := by
  rw [high_word', low_word]
  show (((IntOp.subi (BitVec.ofNat 32 (min (s.val + 2 ^ g.val) 64)) (BitVec.ofNat 32 (s.val - 2 ^ g.val))).toInt : ℝ) : EReal) = _
  rw [count_word]
  unfold half
  norm_cast

/-- Times one over the length is over the length. -/
theorem mul_one_div (x : EReal) (n : ℕ) (hn : n ≠ 0) : x * Ideal.div 1 ((n : ℝ) : EReal) = Ideal.div x ((n : ℝ) : EReal) := by
  have h : (n : ℝ) ≠ 0 := by exact_mod_cast hn
  rw [Ideal.div_coe h, Ideal.div_coe h, one_mul]

end Cert.Mix
end
-- ==== Proof.MixTables.lean ====
/- The arrays the pooling kernel's call takes, from its arguments. -/
module

public import proofs.«01_k».proof.Proof.MixWords
public import proofs.«01_k».proof.Proof.Gen.Kernel3Ideal.Value
public import Idealize.ShloMosaic.Lib.Pointwise
public import Idealize.ShloMosaic.Lib.Routing.OpsOne
public import Idealize.ShloMosaic.Lib.Routing.OpsSet

@[expose] public section

set_option maxRecDepth 16384
noncomputable section
namespace Cert.Mix
open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The kernel's arguments as launched. -/
def arrays : Arrays where
  x := m ((c.tc : Thread nD τ).loc main_arg0)
  d := m ((c.tc : Thread nD τ).loc main_arg1)
  p := m ((c.tc : Thread nD τ).loc main_arg2)
  f := m ((c.tc : Thread nD τ).loc main_arg3)
  g := m ((c.tc : Thread nD τ).loc main_arg4)
  w := m ((c.tc : Thread nD τ).loc main_arg5)
  s := m ((c.tc : Thread nD τ).loc main_arg6)
  o := m ((c.tc : Thread nD τ).loc main_arg7)

theorem V38 (k : Fin 256) : V m c main_v38 (ix2 0 k) = (arrays m c).s (ix1 k) := by
  simp only [V]
  after_results
  pointwise
  rfl

theorem V37 (k y : Fin 1024) : V m c main_v37 (ix2 k y) = (arrays m c).o (ix2 k y) := by
  simp only [V]
  after_results
  pointwise
  rfl

/-- Where a 64 by 64 block's entry lands when the block is set in a larger array. -/
theorem lands_block {w : ℕ} (idx : IVec S2 w) (k l : Fin 64) (r y : Fin 256) :
    scatter_S256x256_S2_S64x64_01_n_01_0.resultIdx? (ix2 k l) idx = some (ix2 r y)
      ↔ (idx (ix1 (0 : Fin 2))).toInt + (k.val : Int) = r.val ∧ (idx (ix1 (1 : Fin 2))).toInt + (l.val : Int) = y.val := by
  have hwin0 : scatter_S256x256_S2_S64x64_01_n_01_0.window (ix2 k l) 0 = k.val := by
    unfold ScatterDims.window
    rw [dif_pos (by decide)]
    rfl
  have hwin1 : scatter_S256x256_S2_S64x64_01_n_01_0.window (ix2 k l) 1 = l.val := by
    unfold ScatterDims.window
    rw [dif_pos (by decide)]
    rfl
  refine (Routing.resultIdx?_ix2 (R := 256) (C := 256) _ _ _ _ _).trans ?_
  have s0 := Routing.start_pair (R := 256) (C := 256) scatter_S256x256_S2_S64x64_01_n_01_0 rfl rfl idx (ix2 k l) 0
  have s1 := Routing.start_pair (R := 256) (C := 256) scatter_S256x256_S2_S64x64_01_n_01_0 rfl rfl idx (ix2 k l) 1
  rw [s0, s1, hwin0, hwin1]
  exact Iff.rfl

/-- An array with a block set in it. -/
theorem set_block {α : Type} (d : S256x256.Idx → α) (idx : IVec S2 32) (u : S64x64.Idx → α) (n : ℕ) (hn : ∀ a : Fin 2, (idx (ix1 a)).toInt = 64 * (n : Int)) (i l : Fin 256) :
    Host.scatter scatter_S256x256_S2_S64x64_01_n_01_0 (fun _ b => b) d idx u (ix2 i l)
      = if i.val / 64 = n ∧ l.val / 64 = n then u (ix2 ⟨i.val % 64, Nat.mod_lt _ (by decide)⟩ ⟨l.val % 64, Nat.mod_lt _ (by decide)⟩) else d (ix2 i l) := by
  split_ifs with h
  · refine Routing.scatter_set_hit _ _ _ _ _ _ (fun k hk => ?_) (ix2 ⟨i.val % 64, Nat.mod_lt _ (by decide)⟩ ⟨l.val % 64, Nat.mod_lt _ (by decide)⟩) ?_
    · obtain ⟨a, b, rfl⟩ : ∃ (a b : Fin 64), k = ix2 a b := ⟨k 0, k 1, funext fun a => by fin_cases a <;> rfl⟩
      rw [lands_block, hn, hn] at hk
      exact congrArg u (congrArg₂ ix2 (Fin.ext (by dsimp only; omega)) (Fin.ext (by dsimp only; omega)))
    · rw [lands_block, hn, hn]
      dsimp only
      omega
  · refine Routing.scatter_set_miss _ _ _ _ _ (fun k hk => h ?_)
    obtain ⟨a, b, rfl⟩ : ∃ (a b : Fin 64), k = ix2 a b := ⟨k 0, k 1, funext fun a => by fin_cases a <;> rfl⟩
    rw [lands_block, hn, hn] at hk
    omega

theorem V36' (i j : Fin 256) : V m c main_v36 (ix2 i j) = V m c main_v35 (ix2 i j) := by
  simp only [V]
  after_results
  rfl
theorem V11 (i j : Fin 256) : @Eq EReal (V m c main_v11 (ix2 i j)) 0 := by
  simp only [V]
  after_results
  pointwise
theorem V35 : V m c main_v35 = Host.scatter scatter_S256x256_S2_S64x64_01_n_01_0 (fun _ b => b) (V m c main_v29) (V m c main_v34) (V m c main_v31) := by
  simp only [V]
  after_results
  rfl
theorem V34 (a : Fin 2) : V m c main_v34 (ix1 a) = BitVec.ofNat 32 192 := by
  simp only [V]
  after_results_simp <;> (try dsimp only [Matrix.cons_val]) <;> (try after_results_simp)
  fin_cases a <;> rfl
theorem V31 (i j : Fin 64) : V m c main_v31 (ix2 i j) = (arrays m c).w (ix3 3 i j) := by
  simp only [V]
  after_results
  pointwise
  rfl
theorem V29 : V m c main_v29 = Host.scatter scatter_S256x256_S2_S64x64_01_n_01_0 (fun _ b => b) (V m c main_v23) (V m c main_v28) (V m c main_v25) := by
  simp only [V]
  after_results
  rfl
theorem V28 (a : Fin 2) : V m c main_v28 (ix1 a) = BitVec.ofNat 32 128 := by
  simp only [V]
  after_results_simp <;> (try dsimp only [Matrix.cons_val]) <;> (try after_results_simp)
  fin_cases a <;> rfl
theorem V25 (i j : Fin 64) : V m c main_v25 (ix2 i j) = (arrays m c).w (ix3 2 i j) := by
  simp only [V]
  after_results
  pointwise
  rfl
theorem V23 : V m c main_v23 = Host.scatter scatter_S256x256_S2_S64x64_01_n_01_0 (fun _ b => b) (V m c main_v17) (V m c main_v22) (V m c main_v19) := by
  simp only [V]
  after_results
  rfl
theorem V22 (a : Fin 2) : V m c main_v22 (ix1 a) = BitVec.ofNat 32 64 := by
  simp only [V]
  after_results_simp <;> (try dsimp only [Matrix.cons_val]) <;> (try after_results_simp)
  fin_cases a <;> rfl
theorem V19 (i j : Fin 64) : V m c main_v19 (ix2 i j) = (arrays m c).w (ix3 1 i j) := by
  simp only [V]
  after_results
  pointwise
  rfl
theorem V17 : V m c main_v17 = Host.scatter scatter_S256x256_S2_S64x64_01_n_01_0 (fun _ b => b) (V m c main_v11) (V m c main_v16) (V m c main_v13) := by
  simp only [V]
  after_results
  rfl
theorem V16 (a : Fin 2) : V m c main_v16 (ix1 a) = BitVec.ofNat 32 0 := by
  simp only [V]
  after_results_simp <;> (try dsimp only [Matrix.cons_val]) <;> (try after_results_simp)
  fin_cases a <;> rfl
theorem V13 (i j : Fin 64) : V m c main_v13 (ix2 i j) = (arrays m c).w (ix3 0 i j) := by
  simp only [V]
  after_results
  pointwise
  rfl

/-- The groups' weights, one block to a group. -/
theorem V36 (i l : Fin 256) :
    @Eq EReal (V m c main_v36 (ix2 i l)) (if i.val / 64 = l.val / 64 then (arrays m c).w (ix3 ⟨l.val / 64, by have := l.isLt; omega⟩ ⟨i.val % 64, Nat.mod_lt _ (by decide)⟩ ⟨l.val % 64, Nat.mod_lt _ (by decide)⟩) else (0 : EReal)) := by
  rw [V36', V35, set_block _ _ _ 3 (fun a => by rw [V34]; decide), V29, set_block _ _ _ 2 (fun a => by rw [V28]; decide),
    V23, set_block _ _ _ 1 (fun a => by rw [V22]; decide), V17, set_block _ _ _ 0 (fun a => by rw [V16]; decide), V31, V25, V19, V13]
  rw [V11]
  have hl := l.isLt
  have hi := i.isLt
  by_cases h : i.val / 64 = l.val / 64
  · rw [if_pos h]
    have hc : l.val / 64 = 0 ∨ l.val / 64 = 1 ∨ l.val / 64 = 2 ∨ l.val / 64 = 3 := by omega
    have e : ∀ n : Fin 4, l.val / 64 = n.val → (⟨l.val / 64, by omega⟩ : Fin 4) = n := fun n hn => Fin.ext hn
    rcases hc with hc | hc | hc | hc
    · rw [e 0 hc, if_neg (by omega), if_neg (by omega), if_neg (by omega), if_pos (by omega)]
    · rw [e 1 hc, if_neg (by omega), if_neg (by omega), if_pos (by omega)]
    · rw [e 2 hc, if_neg (by omega), if_pos (by omega)]
    · rw [e 3 hc, if_pos (by omega)]
  · rw [if_neg h, if_neg (by omega), if_neg (by omega), if_neg (by omega), if_neg (by omega)]

/-- The rows picked by their numbers: entry `(b, p, k)` is the picked row's. -/
theorem gather_at (x : Vec Ideal S16x6x1024 .f32) (idx : IVec S8x1 32) (b : Fin 8) (p : Fin 6) (k : Fin 1024) (n : Fin 16)
    (hn : (idx (ix2 b 0)).toInt.toNat = n.val) :
    Host.gather gather_S16x6x1024_S8x1_S8x6x1024_12_0_n_n_0_1_161024 x idx (ix3 b p k) = x (ix3 n p k) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x6x1024_S8x1_S8x6x1024_12_0_n_n_0_1_161024.startIndexMap from List.mem_singleton.mpr rfl)]
    have hsi : gather_S16x6x1024_S8x1_S8x6x1024_12_0_n_n_0_1_161024.siIdx (ix3 b p k)
        ⟨List.idxOf (0 : Fin 3) gather_S16x6x1024_S8x1_S8x6x1024_12_0_n_n_0_1_161024.startIndexMap,
          List.idxOf_lt_length_iff.2 (List.mem_singleton.mpr rfl)⟩ = ix2 b 0 := by
      funext d; refine Fin.ext ?_
      match d with
      | ⟨0, _⟩ => rfl
      | ⟨1, _⟩ => rfl
    rw [hsi, hn]
    show min n.val 15 = n.val
    have := n.isLt
    omega
  · unfold GatherDims.start
    rw [dif_neg (show (1 : Fin 3) ∉ gather_S16x6x1024_S8x1_S8x6x1024_12_0_n_n_0_1_161024.startIndexMap by decide), Nat.zero_add]
    rfl
  · unfold GatherDims.start
    rw [dif_neg (show (2 : Fin 3) ∉ gather_S16x6x1024_S8x1_S8x6x1024_12_0_n_n_0_1_161024.startIndexMap by decide), Nat.zero_add]
    rfl

theorem rowOf : ∀ b : Fin 8, ((broadcastInDim S8x1 ![0] bcast_S8_S8x1_0
    (select (cmpi CmpIPredicate.slt (iotaInDim S8 32 0) (broadcastInDim S8 ![] bcast_S_S8 (constantI S_ 32 0#32)))
      (addi (iotaInDim S8 32 0) (broadcastInDim S8 ![] bcast_S_S8 (constantI S_ 32 16#32))) (iotaInDim S8 32 0))) (ix2 b 0)).toInt.toNat = b.val := by
  intro b
  fin_cases b <;> rfl

/-- The modulation's third part. -/
theorem V10 (b : Fin 8) (k : Fin 1024) : V m c main_v10 (ix3 b 2 k) = (arrays m c).g (ix2 ⟨b.val, by have := b.isLt; omega⟩ ⟨2048 + k.val, by have := k.isLt; omega⟩) := by
  simp only [V]
  after_results
  pointwise
  rw [gather_at _ _ b 2 k ⟨b.val, by have := b.isLt; omega⟩ (rowOf b)]
  exact congrArg (fun y => (arrays m c).g (ix2 _ y)) (Fin.ext (by show 2 * 1024 + k.val = 2048 + k.val; omega))

/-- Which rows of a tile a group's window takes. -/
theorem V178 (g : Fin 4) (i j : Fin 256) : @Eq EReal (V m c main_v178 (ix3 g i j)) (if j.val / 64 = i.val / 64 ∧ near (half g) (i.val % 64) (j.val % 64) then 1 else 0) := by
  simp only [V]
  after_results_simp <;> (try dsimp only [Matrix.cons_val]) <;> (try after_results_simp)
  pointwise
  after_results_simp
  pointwise
  fin_cases g
  · exact (congrArg _ (band_word 0 i j)).trans (band_real _)
  · exact (congrArg _ (band_word 1 i j)).trans (band_real _)
  · exact (congrArg _ (band_word 2 i j)).trans (band_real _)
  · exact (congrArg _ (band_word 3 i j)).trans (band_real _)

/-- The windows' sizes, inverted. -/
theorem V179 (i l : Fin 256) : @Eq EReal (V m c main_v179 (ix2 i l)) (Ideal.div 1 ((count (half ⟨l.val / 64, by have := l.isLt; omega⟩) (i.val % 64) : ℝ) : EReal)) := by
  simp only [V]
  after_results_simp <;> (try dsimp only [Matrix.cons_val]) <;> (try after_results_simp)
  pointwise
  have hl := l.isLt
  have e : ∀ n : Fin 4, l.val / 64 = n.val → (⟨l.val / 64, by omega⟩ : Fin 4) = n := fun n hn => Fin.ext hn
  have hr : ∀ n : Fin 4, _ := fun n => count_real n ⟨i.val % 64, Nat.mod_lt _ (by decide)⟩
  by_cases h0 : l.val < 64
  · rw [dif_pos h0, e 0 (by show l.val / 64 = 0; omega), rem_word]
    exact congrArg (Ideal.div 1) (hr 0)
  rw [dif_neg h0]
  by_cases h1 : l.val - 64 < 64
  · rw [dif_pos h1, e 1 (by show l.val / 64 = 1; omega), rem_word]
    exact congrArg (Ideal.div 1) (hr 1)
  rw [dif_neg h1]
  by_cases h2 : l.val - 64 - 64 < 64
  · rw [dif_pos h2, e 2 (by show l.val / 64 = 2; omega), rem_word]
    exact congrArg (Ideal.div 1) (hr 2)
  rw [dif_neg h2, e 3 (by show l.val / 64 = 3; omega), rem_word]
  exact congrArg (Ideal.div 1) (hr 3)

end Cert.Mix
end
-- ==== Proof.Mix.lean ====
/- The pooling kernel's result, from its arguments. -/
module

public import proofs.«01_k».proof.Proof.MixTables

@[expose] public section

set_option maxRecDepth 16384
noncomputable section
namespace Cert.Mix
open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The body's result at an entry. -/
theorem pay1_at (v75 : FVec Ideal S256x256 .f32) (v76 : Vec Ideal S1x256x512 .f32) (v78 : Vec Ideal S512x1024 .bf16) (v82 : Vec Ideal S256x1024 .bf16)
    (v87 : Vec Ideal S1x256x256 .f32) (v89 : Vec Ideal S256x1024 .bf16) (v94 : Vec Ideal S1x256x1024 .f32) (v96 : Vec Ideal S1x1x1024 .f32) (r : Fin 256) (y : Fin 1024) :
    @Eq EReal (k0_pay1 v75 v76 v78 v82 v87 v89 v94 v96 (ix3 0 r y))
      (v94 (ix3 0 r y) + v96 (ix3 0 0 y) * ((∑ x : Fin 512, v76 (ix3 0 r x) * v78 (ix2 x y)) + (∑ x : Fin 256, v75 (ix2 r x) * v82 (ix2 x y))
        + ∑ x : Fin 256, v87 (ix3 0 r x) * v89 (ix2 x y))) := by
  pointwise [k0_pay1]

theorem pay2_at (v0 : Vec Ideal S1x256x256 .f32) (r l : Fin 256) : k0_pay2 v0 (ix2 r l) = v0 (ix3 0 r l) := by
  pointwise [k0_pay2]

/-- The group of a column, as the body counts it. -/
theorem group_word : ∀ l : Fin 256, Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32) = BitVec.ofNat 32 (l.val / 64) := by decide +kernel

theorem pay3_at (x l : Fin 256) : k0_pay3 (ix2 x l) = BitVec.ofNat 32 (l.val / 64) := by
  pointwise [k0_pay3]
  exact group_word l

/-- A choice by a column's group. -/
theorem chosen (n : Fin 4) (l : Fin 256) (a : EReal) :
    Scalar.select (IntOp.cmpi CmpIPredicate.eq (BitVec.ofNat 32 (l.val / 64)) (BitVec.ofNat 32 n.val)) a 0 = if l.val / 64 = n.val then a else 0 := by
  have h := eq_word ⟨l.val / 64, by have := l.isLt; omega⟩ n
  dsimp only at h
  rw [h]
  by_cases e : l.val / 64 = n.val
  · rw [if_pos e, if_pos e.symm]; rfl
  · rw [if_neg e, if_neg fun q => e q.symm]; rfl

theorem pay4_at (v0 : Vec Ideal S1x256x256 .f32) (v28 : Vec Ideal S1x256x256 .bf16) (r l : Fin 256) :
    @Eq EReal (k0_pay4 v0 v28 (ix2 r l)) (if l.val / 64 = 0 then ∑ x : Fin 256, v28 (ix3 0 r x) * v0 (ix3 0 x l) else 0) := by
  pointwise [k0_pay4, k0_pay2]
  change @Eq EReal _ _
  simp only [pay3_at]
  refine (Finset.sum_congr rfl fun x _ => chosen 0 l _).trans ?_
  by_cases e : l.val / 64 = 0
  · rw [if_pos e]
    exact Finset.sum_congr rfl fun x _ => if_pos e
  · rw [if_neg e]
    exact Finset.sum_eq_zero fun x _ => if_neg e

/-- One group's sum, zero outside the group's columns. -/
theorem masked (n : Fin 4) (l : Fin 256) (f : Fin 256 → EReal) :
    (∑ x : Fin 256, Scalar.select (IntOp.cmpi CmpIPredicate.eq (BitVec.ofNat 32 (l.val / 64)) (BitVec.ofNat 32 n.val)) (f x) 0)
      = if l.val / 64 = n.val then ∑ x : Fin 256, f x else 0 := by
  refine (Finset.sum_congr rfl fun x _ => chosen n l _).trans ?_
  by_cases e : l.val / 64 = n.val
  · rw [if_pos e]
    exact Finset.sum_congr rfl fun x _ => if_pos e
  · rw [if_neg e]
    exact Finset.sum_eq_zero fun x _ => if_neg e

theorem pay5_at (v1 : FVec Ideal S256x256 .f32) (v36 : FVec Ideal S256x256 .f32) (v37 v46 v55 : Vec Ideal S1x256x256 .bf16) (v64 : Vec Ideal S256x256 .f32)
    (v68 : Vec Ideal S256x256 .bf16) (v72 : Vec Ideal S1x256 .f32) (r l : Fin 256) :
    @Eq EReal (k0_pay5 v1 k0_pay3 v36 v37 v46 v55 v64 v68 v72 (ix2 r l))
      ((∑ x : Fin 256, ((((v36 (ix2 r x) + (if x.val / 64 = 1 then ∑ j : Fin 256, v37 (ix3 0 r j) * v1 (ix2 j x) else (0 : EReal)))
          + (if x.val / 64 = 2 then ∑ j : Fin 256, v46 (ix3 0 r j) * v1 (ix2 j x) else (0 : EReal)))
          + (if x.val / 64 = 3 then ∑ j : Fin 256, v55 (ix3 0 r j) * v1 (ix2 j x) else (0 : EReal))) * v64 (ix2 r x) - v1 (ix2 r x)) * v68 (ix2 x l)) * v72 (ix2 0 l)) := by
  pointwise [k0_pay5]
  change @Eq EReal _ _
  simp only [pay3_at]
  refine congrArg₂ (· * ·) (Finset.sum_congr rfl fun x _ => ?_) rfl
  have e1 := masked 1 x fun j => v37 (ix3 0 r j) * v1 (ix2 j x)
  have e2 := masked 2 x fun j => v46 (ix3 0 r j) * v1 (ix2 j x)
  have e3 := masked 3 x fun j => v55 (ix3 0 r j) * v1 (ix2 j x)
  refine congrArg₂ (· * ·) (congrArg₂ (· - ·) (congrArg₂ (· * ·) (congrArg₂ (· + ·) (congrArg₂ (· + ·) (congrArg₂ (· + ·) rfl ?_) ?_) ?_) rfl) rfl) rfl
  · exact e1
  · exact e2
  · exact e3

theorem index0 : ∀ t : Fin grid0.N, win0_0.index t = ![(grid0.coords t 0).val, (grid0.coords t 1).val, 0] := by decide +kernel
theorem index1 : ∀ t : Fin grid0.N, win0_1.index t = ![(grid0.coords t 0).val, (grid0.coords t 1).val, 0] := by decide +kernel
theorem index2 : ∀ t : Fin grid0.N, win0_2.index t = ![(grid0.coords t 0).val, (grid0.coords t 1).val, 8] := by decide +kernel
theorem index3 : ∀ t : Fin grid0.N, win0_3.index t = ![(grid0.coords t 0).val, (grid0.coords t 1).val, 0] := by decide +kernel
theorem index4 : ∀ t : Fin grid0.N, win0_4.index t = ![0, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![(grid0.coords t 0).val, 0, 0] := by decide +kernel
theorem index10 : ∀ t : Fin grid0.N, win0_10.index t = ![(grid0.coords t 0).val, (grid0.coords t 1).val, 0] := by decide +kernel

variable (t : Fin cfg0.N)

/-- A grid point's batch element, and the row of a tile's row. -/
abbrev atB (t : Fin cfg0.N) : Fin 8 := grid0.coords t 0
def atR (t : Fin cfg0.N) (r : Fin 256) : Fin 2048 :=
  ⟨(grid0.coords t 1).val * 256 + r.val, by have h : (grid0.coords t 1).val < 8 := (grid0.coords t 1).isLt; have := r.isLt; omega⟩

theorem iblk0 (r : Fin 256) (k : Fin 1024) : iblk m c 0 t (ix3 0 r k) = (arrays m c).x (ix3 (atB t) (atR t r) k) := by
  blk_simp [iblk]
  rw [V_main_arg0]
  refine congrArg (m ((c.tc : Thread nD τ).loc main_arg0)) ?_
  blk_ext [index0] <;> rfl
theorem iblk1 (r : Fin 256) (k : Fin 512) : iblk m c 1 t (ix3 0 r k) = (arrays m c).d (ix3 (atB t) (atR t r) k) := by
  blk_simp [iblk]
  rw [V_main_arg1]
  refine congrArg (m ((c.tc : Thread nD τ).loc main_arg1)) ?_
  blk_ext [index1] <;> rfl
theorem blk2 (r : Fin 256) (k : Fin 256) :
    X0_2 m c t (ix3 0 r k) = (arrays m c).p (ix3 (atB t) (atR t r) ⟨2048 + k.val, by have := k.isLt; omega⟩) := by
  unfold X0_2 Pipeline.Window.fill
  rw [dif_pos (moved0_2 t _)]
  blk_simp [iblk]
  rw [V_main_arg2]
  refine congrArg (m ((c.tc : Thread nD τ).loc main_arg2)) ?_
  blk_ext [index2] <;> rfl
theorem iblk3 (r : Fin 256) (k : Fin 256) : iblk m c 3 t (ix3 0 r k) = (arrays m c).f (ix3 (atB t) (atR t r) k) := by
  blk_simp [iblk]
  rw [V_main_arg3]
  refine congrArg (m ((c.tc : Thread nD τ).loc main_arg3)) ?_
  blk_ext [index3] <;> rfl
theorem iblk4 (g : Fin 4) (i j : Fin 256) : iblk m c 4 t (ix3 g i j) = V m c main_v178 (ix3 g i j) := by
  blk_simp [iblk]
  refine congrArg _ ?_
  blk_ext [index4] <;> rfl
theorem iblk5 (i l : Fin 256) : iblk m c 5 t (ix2 i l) = V m c main_v179 (ix2 i l) := by
  blk_simp [iblk]
  refine congrArg _ ?_
  blk_ext [index5] <;> rfl
theorem iblk6 (i l : Fin 256) : iblk m c 6 t (ix2 i l) = V m c main_v36 (ix2 i l) := by
  blk_simp [iblk]
  refine congrArg _ ?_
  blk_ext [index6] <;> rfl
theorem iblk7 (k : Fin 256) : iblk m c 7 t (ix2 0 k) = (arrays m c).s (ix1 k) := by
  refine Eq.trans ?_ (V38 m c k)
  blk_simp [iblk]
  refine congrArg _ ?_
  blk_ext [index7] <;> rfl
theorem iblk8 (k y : Fin 1024) : iblk m c 8 t (ix2 k y) = (arrays m c).o (ix2 k y) := by
  refine Eq.trans ?_ (V37 m c k y)
  blk_simp [iblk]
  refine congrArg _ ?_
  blk_ext [index8] <;> rfl
theorem iblk9 (k : Fin 1024) : iblk m c 9 t (ix3 0 2 k) = (arrays m c).g (ix2 ⟨(atB t).val, by have := (atB t).isLt; omega⟩ ⟨2048 + k.val, by have := k.isLt; omega⟩) := by
  refine Eq.trans ?_ (V10 m c (atB t) k)
  blk_simp [iblk]
  refine congrArg _ ?_
  blk_ext [index9] <;> rfl

/-- The slices a body loads of the windows' arrays. -/
theorem band_slice (g : Fin 4) (inb : ∀ a, (![g.val, 0, 0] : Fin 3 → ℕ) a + (![1, 256, 256] : Fin 3 → ℕ) a ≤ S4x256x256.size a) (i j : Fin 256) :
    @Eq EReal (View.ld (iblk m c 4 t) (Rect.unit (s := S4x256x256) ![g.val, 0, 0] ![1, 256, 256] inb) (ix3 0 i j))
      (if j.val / 64 = i.val / 64 ∧ near (half g) (i.val % 64) (j.val % 64) then 1 else 0) := by
  rw [← V178 m c g i j, ← iblk4 m c t g i j]
  refine congrArg (iblk m c 4 t) ?_
  funext a; refine Fin.ext ?_
  match a with
  | ⟨0, _⟩ => rfl
  | ⟨1, _⟩ => show 0 + 1 * i.val = i.val; omega
  | ⟨2, _⟩ => show 0 + 1 * j.val = j.val; omega
theorem out_slice (n o : ℕ) (h : o + n ≤ 1024) (inb : ∀ a, (![o, 0] : Fin 2 → ℕ) a + (![n, 1024] : Fin 2 → ℕ) a ≤ S1024x1024.size a) (k : Fin n) (y : Fin 1024) :
    @Eq EReal (View.ld (iblk m c 8 t) (Rect.unit (s := S1024x1024) ![o, 0] ![n, 1024] inb) (ix2 k y))
      ((arrays m c).o (ix2 ⟨o + k.val, by have := k.isLt; omega⟩ y)) := by
  rw [← iblk8 m c t _ y]
  refine congrArg (iblk m c 8 t) ?_
  funext a; refine Fin.ext ?_
  match a with
  | ⟨0, _⟩ => show o + 1 * k.val = o + k.val; omega
  | ⟨1, _⟩ => show 0 + 1 * y.val = y.val; omega
theorem gate_slice (inb : ∀ a, (![0, 2, 0] : Fin 3 → ℕ) a + (![1, 1, 1024] : Fin 3 → ℕ) a ≤ S1x8x1024.size a) (y : Fin 1024) :
    @Eq EReal (View.ld (iblk m c 9 t) (Rect.unit (s := S1x8x1024) ![0, 2, 0] ![1, 1, 1024] inb) (ix3 0 0 y))
      ((arrays m c).g (ix2 ⟨(atB t).val, by have := (atB t).isLt; omega⟩ ⟨2048 + y.val, by have := y.isLt; omega⟩)) := by
  rw [← iblk9 m c t y]
  refine congrArg (iblk m c 9 t) ?_
  funext a; refine Fin.ext ?_
  match a with
  | ⟨0, _⟩ => rfl
  | ⟨1, _⟩ => rfl
  | ⟨2, _⟩ => show 0 + 1 * y.val = y.val; omega

/-- One group's window, summed over a tile's rows. -/
theorem window_sum (g : Fin 4) (r x : Fin 256) (hg : x.val / 64 = g.val)
    (inb : ∀ a, (![g.val, 0, 0] : Fin 3 → ℕ) a + (![1, 256, 256] : Fin 3 → ℕ) a ≤ S4x256x256.size a) :
    @Eq EReal (∑ j : Fin 256, @HMul.hMul EReal EReal EReal _ (View.ld (iblk m c 4 t) (Rect.unit (s := S4x256x256) ![g.val, 0, 0] ![1, 256, 256] inb) (ix3 0 r j)) (X0_2 m c t (ix3 0 j x)))
      (total (half g) ((atR t r).val % 64) (entry (arrays m c) (atB t) ⟨(atR t r).val / 64, by have := (atR t r).isLt; omega⟩ g ⟨x.val % 64, by omega⟩)) := by
  refine (Finset.sum_congr rfl fun j _ => congrArg₂ (fun a b : EReal => a * b) (band_slice m c t g inb r j) (blk2 m c t j x)).trans ?_
  refine (band_sum (half g) r fun j => (arrays m c).p (ix3 (atB t) (atR t j) ⟨2048 + x.val, by have := x.isLt; omega⟩)).trans ?_
  have hr : (atR t r).val = (grid0.coords t 1).val * 256 + r.val := rfl
  have e : (atR t r).val % 64 = r.val % 64 := by omega
  rw [e]
  refine congrArg (total (half g) (r.val % 64)) (funext fun j => ?_)
  unfold entry
  refine congrArg (arrays m c).p (congrArg₂ (ix3 (atB t)) (Fin.ext ?_) (Fin.ext ?_))
  · show (grid0.coords t 1).val * 256 + (64 * (r.val / 64) + j.val) = 64 * ((atR t r).val / 64) + j.val
    omega
  · show 2048 + x.val = 2048 + (64 * g.val + x.val % 64)
    omega

/-- The pooled row of a tile's row. -/
theorem pooled_at (r l : Fin 256) :
    @Eq EReal (k0_pay5 (k0_pay2 (X0_2 m c t)) k0_pay3
        (k0_pay4 (X0_2 m c t) (View.ld (iblk m c 4 t) (Rect.unit ![0, 0, 0] ![1, 256, 256] inb_S4x256x256_S1x256x256_0_0_0)))
        (View.ld (iblk m c 4 t) (Rect.unit ![1, 0, 0] ![1, 256, 256] inb_S4x256x256_S1x256x256_1_0_0))
        (View.ld (iblk m c 4 t) (Rect.unit ![2, 0, 0] ![1, 256, 256] inb_S4x256x256_S1x256x256_2_0_0))
        (View.ld (iblk m c 4 t) (Rect.unit ![3, 0, 0] ![1, 256, 256] inb_S4x256x256_S1x256x256_3_0_0)) (iblk m c 5 t)
        (iblk m c 6 t) (iblk m c 7 t) (ix2 r l)) (pooled (arrays m c) (atB t) (atR t r) l) := by
  have hr : (atR t r).val = (grid0.coords t 1).val * 256 + r.val := rfl
  have hl := l.isLt
  rw [pay5_at]
  unfold pooled
  refine congrArg₂ (· * ·) ?_ (iblk7 m c t l)
  have key : ∀ x : Fin 256, @Eq EReal _ _ := fun x => (iblk6 m c t x l).trans (V36 m c x l)
  refine (Finset.sum_congr rfl fun x _ => congrArg₂ (fun a b : EReal => a * b)
    (y' := if x.val / 64 = l.val / 64 then (arrays m c).w (ix3 ⟨l.val / 64, by omega⟩ ⟨x.val % 64, Nat.mod_lt _ (by decide)⟩ ⟨l.val % 64, Nat.mod_lt _ (by decide)⟩) else (0 : EReal))
    (x' := centred (arrays m c) (atB t) ⟨(atR t r).val / 64, by have := (atR t r).isLt; omega⟩ ⟨(atR t r).val % 64, by omega⟩ ⟨x.val / 64, by have := x.isLt; omega⟩ ⟨x.val % 64, by omega⟩)
    ?_ (key x)).trans ?_
  · have hx := x.isLt
    unfold centred
    refine congrArg₂ (· - ·) ?_ ?_
    · rw [← mul_one_div _ _ (count_pos ⟨x.val / 64, by omega⟩ ⟨(atR t r).val % 64, by omega⟩)]
      refine congrArg₂ (· * ·) ?_ ?_
      · rw [pay4_at]
        simp only [pay2_at]
        have e : ∀ n : Fin 4, x.val / 64 = n.val → (⟨x.val / 64, by omega⟩ : Fin 4) = n := fun n hn => Fin.ext hn
        have hc : x.val / 64 = 0 ∨ x.val / 64 = 1 ∨ x.val / 64 = 2 ∨ x.val / 64 = 3 := by omega
        rcases hc with hc | hc | hc | hc
        · rw [if_pos hc, if_neg (by omega), if_neg (by omega), if_neg (by omega), add_zero, add_zero, add_zero, e 0 hc]
          exact window_sum m c t 0 r x hc _
        · rw [if_neg (by omega), if_pos hc, if_neg (by omega), if_neg (by omega), zero_add, add_zero, add_zero, e 1 hc]
          exact window_sum m c t 1 r x hc _
        · rw [if_neg (by omega), if_neg (by omega), if_pos hc, if_neg (by omega), add_zero, zero_add, zero_add, e 2 hc]
          exact window_sum m c t 2 r x hc _
        · rw [if_neg (by omega), if_neg (by omega), if_neg (by omega), if_pos hc, add_zero, add_zero, zero_add, e 3 hc]
          exact window_sum m c t 3 r x hc _
      · refine ((iblk5 m c t r x).trans (V179 m c r x)).trans ?_
        have e : (atR t r).val % 64 = r.val % 64 := by omega
        dsimp only
        rw [e]
    · rw [pay2_at, blk2]
      unfold entry
      refine congrArg (arrays m c).p (congrArg₂ (ix3 (atB t)) (Fin.ext ?_) (Fin.ext ?_))
      · show (atR t r).val = 64 * ((atR t r).val / 64) + (atR t r).val % 64
        omega
      · show 2048 + x.val = 2048 + (64 * (x.val / 64) + x.val % 64)
        omega
  · refine (block_sum l _ _ fun j hj => if_neg hj).trans ?_
    refine Finset.sum_congr rfl fun e _ => ?_
    have he := e.isLt
    have e1 : (64 * (l.val / 64) + e.val) / 64 = l.val / 64 := by omega
    have e2 : (64 * (l.val / 64) + e.val) % 64 = e.val := by omega
    simp only [e1, e2, if_true]

/-- What a point leaves in its block of the result. -/
theorem out_at (r : Fin 256) (y : Fin 1024) : @Eq EReal (outsAt0 m c t (ix3 0 r y)) (mixed (arrays m c) (atB t) (atR t r) y) := by
  unfold outsAt0
  frame_out
  rw [pay1_at]
  unfold mixed projected
  refine congrArg₂ (· + ·) (iblk0 m c t r y) (congrArg₂ (· * ·) (gate_slice m c t _ y) (congrArg₂ (· + ·) (congrArg₂ (· + ·) ?_ ?_) ?_))
  · refine Finset.sum_congr rfl fun k _ => congrArg₂ (· * ·) (iblk1 m c t r k) ((out_slice m c t 512 0 (by decide) _ k y).trans ?_)
    exact congrArg (fun k => (arrays m c).o (ix2 k y)) (Fin.ext (by dsimp only; omega))
  · exact Finset.sum_congr rfl fun k _ => congrArg₂ (· * ·) (pooled_at m c t r k) (out_slice m c t 256 512 (by decide) _ k y)
  · exact Finset.sum_congr rfl fun k _ => congrArg₂ (· * ·) (iblk3 m c t r k) (out_slice m c t 256 768 (by decide) _ k y)

theorem block_idx {R C : ℕ} (y : (⟨3, ![1, R, C]⟩ : Shape).Idx) : ∃ (r : Fin R) (l : Fin C), y = ix3 0 r l :=
  ⟨y 1, y 2, funext fun a => by
    fin_cases a
    · exact Subsingleton.elim (α := Fin 1) _ _
    · rfl
    · rfl⟩

/-- The result whole. -/
theorem final_result : (dats m 0 c).arrAt 10 cfg0.N = result (arrays m c) := by
  refine (dats m 0 c).arrAt_eq_of_covers 10 _ (by decide +kernel) fun t hf y => ?_
  obtain ⟨r, l, rfl⟩ := block_idx (R := 256) (C := 1024) y
  blk_simp
  rw [after0_10]
  refine (out_at m c t r l).trans ?_
  unfold result
  have h1 : atB t = (((cfg0.win 10).blk t).view.emb (ix3 0 r l)) 0 := Fin.ext (by blk_simp [index10] <;> rfl)
  have h2 : atR t r = (((cfg0.win 10).blk t).view.emb (ix3 0 r l)) 1 := Fin.ext (by blk_simp [index10] <;> rfl)
  have h3 : l = (((cfg0.win 10).blk t).view.emb (ix3 0 r l)) 2 := Fin.ext (by blk_simp [index10] <;> omega)
  exact congr (congr (congrArg (mixed (arrays m c)) h1) h2) h3

end Cert.Mix
end
-- ==== Proof.MixRef.lean ====
/- The pooling reference's result, from its arguments. -/
module

public import proofs.«01_k».proof.Proof.MixWords
public import proofs.«01_k».proof.Proof.Gen.Reference3Ideal
public import proofs.«01_k».proof.Proof.Gen.Reference3Ideal.Run
public import Idealize.ShloMosaic.Lib.Pointwise

@[expose] public section

set_option maxRecDepth 16384
noncomputable section
namespace Cert.Mix
open Cert.Reference3Ideal Cert.Reference3Ideal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The reference's arguments as launched. -/
def refArrays : Arrays where
  x := m ((c.tc : Thread nD τ).loc main_arg0)
  d := m ((c.tc : Thread nD τ).loc main_arg1)
  p := m ((c.tc : Thread nD τ).loc main_arg2)
  f := m ((c.tc : Thread nD τ).loc main_arg3)
  g := m ((c.tc : Thread nD τ).loc main_arg4)
  w := m ((c.tc : Thread nD τ).loc main_arg5)
  s := m ((c.tc : Thread nD τ).loc main_arg6)
  o := m ((c.tc : Thread nD τ).loc main_arg7)

variable (b : Fin 8) (q : Fin 32)

theorem v9_at (s : Fin 64) (g : Fin 4) (e : Fin 64) :
    @Eq EReal (Value.res_main_v9 (StableHlo.launchContents m c) (ix5 b q s g e)) (entry (refArrays m c) b q g e s) := by
  unfold Value.res_main_v9
  pointwise
  unfold entry
  refine congrArg (m ((c.tc : Thread nD τ).loc main_arg2)) ?_
  exact congrArg₂ (ix3 b) (Fin.ext (by dsimp only; omega)) (Fin.ext (by dsimp only; omega))

theorem zero_word : (FloatOps.sitofp (F := Ideal) FTy.f32 (0#32) : EReal) = 0 := by
  show (((0#32).toInt : ℝ) : EReal) = 0
  norm_num

/-- The padded segments. -/
theorem v12_at (s : Fin 65) (e : Fin 64) :
    @Eq EReal (Value.res_main_v12 (StableHlo.launchContents m c) (ix4 b q s e)) (shifted 1 s.val (entry (refArrays m c) b q 0 e)) := by
  unfold Value.res_main_v12 shifted
  pointwise
  simp only [v9_at, zero_word]
theorem v40_at (s : Fin 67) (e : Fin 64) :
    @Eq EReal (Value.res_main_v40 (StableHlo.launchContents m c) (ix4 b q s e)) (shifted 2 s.val (entry (refArrays m c) b q 1 e)) := by
  unfold Value.res_main_v40 shifted
  pointwise
  simp only [v9_at, zero_word]
theorem v72_at (s : Fin 71) (e : Fin 64) :
    @Eq EReal (Value.res_main_v72 (StableHlo.launchContents m c) (ix4 b q s e)) (shifted 4 s.val (entry (refArrays m c) b q 2 e)) := by
  unfold Value.res_main_v72 shifted
  pointwise
  simp only [v9_at, zero_word]
theorem v112_at (s : Fin 79) (e : Fin 64) :
    @Eq EReal (Value.res_main_v112 (StableHlo.launchContents m c) (ix4 b q s e)) (shifted 8 s.val (entry (refArrays m c) b q 3 e)) := by
  unfold Value.res_main_v112 shifted
  pointwise
  simp only [v9_at, zero_word]

/-- The mean less the entry, group by group. -/
theorem centred_0 (s e : Fin 64) :
    @Eq EReal (Value.res_main_v170 (StableHlo.launchContents m c) (ix5 b q s 0 e)) (centred (refArrays m c) b q s 0 e) := by
  unfold Value.res_main_v170 centred
  pointwise
  simp only [v12_at, v9_at]
  rw [← count_real' 0 s, ← range_sum (half 0) s.val 2 rfl (entry (refArrays m c) b q 0 e)]
  simp only [Finset.sum_range_succ, Finset.sum_range_zero, zero_add]
  rfl
theorem centred_1 (s e : Fin 64) :
    @Eq EReal (Value.res_main_v170 (StableHlo.launchContents m c) (ix5 b q s 1 e)) (centred (refArrays m c) b q s 1 e) := by
  unfold Value.res_main_v170 centred
  pointwise
  simp only [v40_at, v9_at]
  rw [← count_real' 1 s, ← range_sum (half 1) s.val 4 rfl (entry (refArrays m c) b q 1 e)]
  simp only [Finset.sum_range_succ, Finset.sum_range_zero, zero_add]
  rfl
theorem centred_2 (s e : Fin 64) :
    @Eq EReal (Value.res_main_v170 (StableHlo.launchContents m c) (ix5 b q s 2 e)) (centred (refArrays m c) b q s 2 e) := by
  unfold Value.res_main_v170 centred
  pointwise
  simp only [v72_at, v9_at]
  rw [← count_real' 2 s, ← range_sum (half 2) s.val 8 rfl (entry (refArrays m c) b q 2 e)]
  simp only [Finset.sum_range_succ, Finset.sum_range_zero, zero_add]
  rfl
theorem centred_3 (s e : Fin 64) :
    @Eq EReal (Value.res_main_v170 (StableHlo.launchContents m c) (ix5 b q s 3 e)) (centred (refArrays m c) b q s 3 e) := by
  unfold Value.res_main_v170 centred
  pointwise
  simp only [v112_at, v9_at]
  rw [← count_real' 3 s, ← range_sum (half 3) s.val 16 rfl (entry (refArrays m c) b q 3 e)]
  simp only [Finset.sum_range_succ, Finset.sum_range_zero, zero_add]
  rfl
theorem centred_at (s : Fin 64) (g : Fin 4) (e : Fin 64) :
    @Eq EReal (Value.res_main_v170 (StableHlo.launchContents m c) (ix5 b q s g e)) (centred (refArrays m c) b q s g e) := by
  fin_cases g
  · exact centred_0 m c b q s e
  · exact centred_1 m c b q s e
  · exact centred_2 m c b q s e
  · exact centred_3 m c b q s e

/-- What the reference's run leaves in its result and its arguments. -/
theorem ref_run : θ_run (defs (F := Ideal)) (onTc (τ := τ) (main (F := Ideal))) ⟨m, fun _ => 0, ρ⟩ fun r => ∀ c : Dev nD,
    r.2.mem ((c.tc : Thread nD τ).loc main_v181) = result (refArrays m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono (fun r h c => ⟨(h c).1.trans ?_, (h c).2⟩) (Value.run m ρ)
  funext y
  obtain ⟨b, r, l, rfl⟩ : ∃ (b : Fin 8) (r : Fin 2048) (l : Fin 1024), y = ix3 b r l := ⟨y 0, y 1, y 2, funext fun a => by fin_cases a <;> rfl⟩
  clear h
  pointwise [Value.res_main_v1]
  change @Eq EReal _ _
  show _ = mixed (refArrays m c) b r l
  unfold mixed projected
  rw [split_sum]
  refine congrArg₂ (· + ·) rfl (congrArg₂ (· * ·) rfl (congrArg₂ (· + ·) (congrArg₂ (· + ·) ?_ ?_) ?_))
  · refine Finset.sum_congr rfl fun k _ => ?_
    have hk := k.isLt
    rw [dif_pos (show (⟨k.val, by omega⟩ : Fin 1024).val < 512 from hk)]
    rfl
  · refine Finset.sum_congr rfl fun k _ => ?_
    have hk := k.isLt
    rw [dif_neg (show ¬ (⟨512 + k.val, by omega⟩ : Fin 1024).val < 512 by dsimp only; omega), dif_pos (show (⟨512 + k.val, by omega⟩ : Fin 1024).val - 512 < 256 by dsimp only; omega)]
    refine congrArg₂ (· * ·) ?_ rfl
    simp only [Nat.add_sub_cancel_left]
    unfold pooled
    refine congrArg₂ (· * ·) (Finset.sum_congr rfl fun e _ => ?_) rfl
    rw [mul_comm]
    exact congrArg₂ (· * ·) (centred_at m c b _ _ _ e) rfl
  · refine Finset.sum_congr rfl fun k _ => ?_
    have hk := k.isLt
    rw [dif_neg (show ¬ (⟨768 + k.val, by omega⟩ : Fin 1024).val < 512 by dsimp only; omega), dif_neg (show ¬ (⟨768 + k.val, by omega⟩ : Fin 1024).val - 512 < 256 by dsimp only; omega)]
    refine congrArg₂ (· * ·) (congrArg (m ((c.tc : Thread nD τ).loc main_arg3)) ?_) rfl
    exact congrArg (ix3 b r) (Fin.ext (by dsimp only; omega))

/-- The reference's arguments end unchanged and every counter at zero. -/
theorem ref_frame : θ_run (defs (F := Ideal)) (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7))
    ∧ r.2.sem = fun _ => 0 :=
  (θ_run defs _ _).mono (fun r h => ⟨fun c => (h c).2, sem_eq_zero_of_no_sems (by decide) r.2⟩) (ref_run m ρ)

end Cert.Mix
end
-- ==== Proof.RefRun.lean ====
/- The reference's run stated over the step of its token loop: what holds of the buffers before a trip holds after it
   with the next state, and the results are read from the state after the last trip. -/
module

public import proofs.«01_k».proof.Proof.Gen.ReferenceIdeal.Run
public import proofs.«01_k».proof.Proof.Gen.ReferenceIdeal.Step

@[expose] public section

noncomputable section

namespace Cert.Delta.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v222_6) = s.main_v222_6
  f_7 : V0 (Proc.devRef .tc main_v222_7) = s.main_v222_7
  f_0 : V0 (Proc.devRef .tc main_v222_0) = s.main_v222_0
  f_1 : V0 (Proc.devRef .tc main_v222_1) = s.main_v222_1
  f_2 : V0 (Proc.devRef .tc main_v222_2) = s.main_v222_2
  f_3 : V0 (Proc.devRef .tc main_v222_3) = s.main_v222_3
  f_4 : V0 (Proc.devRef .tc main_v222_4) = s.main_v222_4
  n_5 : V0 (Proc.devRef .tc main_v222_5) = constantI S_ 32 (BitVec.ofNat 32 j)

variable {V0 s j}

set_option maxRecDepth 8192 in
theorem al_0 (h : Holds V0 s j) : (constantI S_ 32 0#32 : (Proc.devRef .tc main_while0b_call16_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call16_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call16_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call16_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x8x4x128 (V0 (Proc.devRef .tc main_v222_0)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128 : (Proc.devRef .tc main_while0b_call16_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S2x8x4x128 (Host.dynamicSlice S1x2x8x4x128 (V0 (Proc.devRef .tc main_v222_0)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128 : (Proc.devRef .tc main_while0b_v276 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call17_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call17_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call17_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call17_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x8x4x128 (V0 (Proc.devRef .tc main_v222_1)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128 : (Proc.devRef .tc main_while0b_call17_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v277 V0 : (Proc.devRef .tc main_while0b_v277 : DevRef τ sig).ty.Contents (Elt F)) = Cert.ReferenceIdeal.Step.b11 j s := by
  unfold res_main_while0b_v277 Cert.ReferenceIdeal.Step.b11
  rw [← al_10 h]
  try rfl
set_option maxRecDepth 8192 in
theorem al_12 (h : Holds V0 s j) : (constantI S_ 32 0#32 : (Proc.devRef .tc main_while0b_call18_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call18_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call18_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call18_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x8x4x128 (V0 (Proc.devRef .tc main_v222_2)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128 : (Proc.devRef .tc main_while0b_call18_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (shapeCast S2x8x4x128 (Host.dynamicSlice S1x2x8x4x128 (V0 (Proc.devRef .tc main_v222_2)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128 : (Proc.devRef .tc main_while0b_v278 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call19_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call19_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call19_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x2x8x4 (V0 (Proc.devRef .tc main_v222_3)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4 : (Proc.devRef .tc main_while0b_call19_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (shapeCast S2x8x4 (Host.dynamicSlice S1x2x8x4 (V0 (Proc.devRef .tc main_v222_3)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4 : (Proc.devRef .tc main_while0b_v279 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call20_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call20_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call20_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4 : (Proc.devRef .tc main_while0b_call20_v0 : DevRef τ sig).ty.Contents (Elt F)) = Cert.ReferenceIdeal.Step.b26 j s := by
  unfold Cert.ReferenceIdeal.Step.b26
  rw [← al_23 h, ← al_24 h, ← al_25 h, h.f_4, h.n_5]
  try rfl
set_option maxRecDepth 8192 in
theorem al_27 (h : Holds V0 s j) : (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4 : (Proc.devRef .tc main_while0b_v280 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (Host.exp (shapeCast S2x8x4 (Host.dynamicSlice S1x2x8x4 (V0 (Proc.devRef .tc main_v222_3)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4) : (Proc.devRef .tc main_while0b_v281 : DevRef τ sig).ty.Contents (Elt F)) = Cert.ReferenceIdeal.Step.b28 j s := by
  unfold Cert.ReferenceIdeal.Step.b28
  rw [← al_22 h]
  try rfl
set_option maxRecDepth 8192 in
theorem al_29 (h : Holds V0 s j) : (broadcastInDim S2x8x4x1x1 ![0, 1, 2] bcast_S2x8x4_S2x8x4x1x1_0_1_2 (Host.exp (shapeCast S2x8x4 (Host.dynamicSlice S1x2x8x4 (V0 (Proc.devRef .tc main_v222_3)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4)) : (Proc.devRef .tc main_while0b_v282 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (broadcastInDim S2x8x4x128x128 ![0, 1, 2, 3, 4] bcast_S2x8x4x1x1_S2x8x4x128x128_0_1_2_3_4 (broadcastInDim S2x8x4x1x1 ![0, 1, 2] bcast_S2x8x4_S2x8x4x1x1_0_1_2 (Host.exp (shapeCast S2x8x4 (Host.dynamicSlice S1x2x8x4 (V0 (Proc.devRef .tc main_v222_3)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4))) : (Proc.devRef .tc main_while0b_v283 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (res_main_while0b_v284 V0 : (Proc.devRef .tc main_while0b_v284 : DevRef τ sig).ty.Contents (Elt F)) = Cert.ReferenceIdeal.Step.b31 j s := by
  unfold res_main_while0b_v284 Cert.ReferenceIdeal.Step.b31
  rw [← al_30 h, h.f_6]
  try rfl
set_option maxRecDepth 8192 in
theorem al_32 (h : Holds V0 s j) : (Host.dotGeneral dot_S2x8x4x128_S2x8x4x128x128_S2x8x4x128_3_3_n_4_012_012 none (res_main_while0b_v277 V0) (res_main_while0b_v284 V0) : (Proc.devRef .tc main_while0b_v285 : DevRef τ sig).ty.Contents (Elt F)) = Cert.ReferenceIdeal.Step.b32 j s := by
  unfold Cert.ReferenceIdeal.Step.b32
  rw [← al_11 h, ← al_31 h]
  try rfl
set_option maxRecDepth 8192 in
theorem al_33 (h : Holds V0 s j) : (subf (shapeCast S2x8x4x128 (Host.dynamicSlice S1x2x8x4x128 (V0 (Proc.devRef .tc main_v222_2)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (Host.dotGeneral dot_S2x8x4x128_S2x8x4x128x128_S2x8x4x128_3_3_n_4_012_012 none (res_main_while0b_v277 V0) (res_main_while0b_v284 V0)) : (Proc.devRef .tc main_while0b_v286 : DevRef τ sig).ty.Contents (Elt F)) = Cert.ReferenceIdeal.Step.b33 j s := by
  unfold Cert.ReferenceIdeal.Step.b33
  rw [← al_17 h, ← al_32 h]
  try rfl
set_option maxRecDepth 8192 in
theorem al_34 (h : Holds V0 s j) : (broadcastInDim S2x8x4x1 ![0, 1, 2] bcast_S2x8x4_S2x8x4x1_0_1_2 (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4) : (Proc.devRef .tc main_while0b_v287 : DevRef τ sig).ty.Contents (Elt F)) = Cert.ReferenceIdeal.Step.b34 j s := by
  unfold Cert.ReferenceIdeal.Step.b34
  rw [← al_27 h]
  try rfl
set_option maxRecDepth 8192 in
theorem al_35 (h : Holds V0 s j) : (broadcastInDim S2x8x4x128 ![0, 1, 2, 3] bcast_S2x8x4x1_S2x8x4x128_0_1_2_3 (broadcastInDim S2x8x4x1 ![0, 1, 2] bcast_S2x8x4_S2x8x4x1_0_1_2 (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4)) : (Proc.devRef .tc main_while0b_v288 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (broadcastInDim S2x8x4x128 ![0, 1, 2, 3] bcast_S2x8x4x1_S2x8x4x128_0_1_2_3 (broadcastInDim S2x8x4x1 ![0, 1, 2] bcast_S2x8x4_S2x8x4x1_0_1_2 (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4))) (res_main_while0b_v277 V0) : (Proc.devRef .tc main_while0b_v289 : DevRef τ sig).ty.Contents (Elt F)) = Cert.ReferenceIdeal.Step.b36 j s := by
  unfold Cert.ReferenceIdeal.Step.b36
  rw [← al_35 h, ← al_11 h]
  try rfl
set_option maxRecDepth 8192 in
theorem al_37 (h : Holds V0 s j) : (broadcastInDim S2x8x4x128x1 ![0, 1, 2, 3] bcast_S2x8x4x128_S2x8x4x128x1_0_1_2_3 (mulf (broadcastInDim S2x8x4x128 ![0, 1, 2, 3] bcast_S2x8x4x1_S2x8x4x128_0_1_2_3 (broadcastInDim S2x8x4x1 ![0, 1, 2] bcast_S2x8x4_S2x8x4x1_0_1_2 (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4))) (res_main_while0b_v277 V0)) : (Proc.devRef .tc main_while0b_v290 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (broadcastInDim S2x8x4x1x128 ![0, 1, 2, 4] bcast_S2x8x4x128_S2x8x4x1x128_0_1_2_4 (subf (shapeCast S2x8x4x128 (Host.dynamicSlice S1x2x8x4x128 (V0 (Proc.devRef .tc main_v222_2)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (Host.dotGeneral dot_S2x8x4x128_S2x8x4x128x128_S2x8x4x128_3_3_n_4_012_012 none (res_main_while0b_v277 V0) (res_main_while0b_v284 V0))) : (Proc.devRef .tc main_while0b_v291 : DevRef τ sig).ty.Contents (Elt F)) = Cert.ReferenceIdeal.Step.b38 j s := by
  unfold Cert.ReferenceIdeal.Step.b38
  rw [← al_33 h]
  try rfl
set_option maxRecDepth 8192 in
theorem al_39 (h : Holds V0 s j) : (broadcastInDim S2x8x4x128x128 ![0, 1, 2, 3, 4] bcast_S2x8x4x128x1_S2x8x4x128x128_0_1_2_3_4 (broadcastInDim S2x8x4x128x1 ![0, 1, 2, 3] bcast_S2x8x4x128_S2x8x4x128x1_0_1_2_3 (mulf (broadcastInDim S2x8x4x128 ![0, 1, 2, 3] bcast_S2x8x4x1_S2x8x4x128_0_1_2_3 (broadcastInDim S2x8x4x1 ![0, 1, 2] bcast_S2x8x4_S2x8x4x1_0_1_2 (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4))) (res_main_while0b_v277 V0))) : (Proc.devRef .tc main_while0b_v292 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (subf (shapeCast S2x8x4x128 (Host.dynamicSlice S1x2x8x4x128 (V0 (Proc.devRef .tc main_v222_2)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (Host.dotGeneral dot_S2x8x4x128_S2x8x4x128x128_S2x8x4x128_3_3_n_4_012_012 none (res_main_while0b_v277 V0) (res_main_while0b_v284 V0)))) : (Proc.devRef .tc main_while0b_v293 : DevRef τ sig).ty.Contents (Elt F)) = Cert.ReferenceIdeal.Step.b40 j s := by
  unfold Cert.ReferenceIdeal.Step.b40
  rw [← al_38 h]
  try rfl
set_option maxRecDepth 8192 in
theorem al_41 (h : Holds V0 s j) : (mulf (broadcastInDim S2x8x4x128x128 ![0, 1, 2, 3, 4] bcast_S2x8x4x128x1_S2x8x4x128x128_0_1_2_3_4 (broadcastInDim S2x8x4x128x1 ![0, 1, 2, 3] bcast_S2x8x4x128_S2x8x4x128x1_0_1_2_3 (mulf (broadcastInDim S2x8x4x128 ![0, 1, 2, 3] bcast_S2x8x4x1_S2x8x4x128_0_1_2_3 (broadcastInDim S2x8x4x1 ![0, 1, 2] bcast_S2x8x4_S2x8x4x1_0_1_2 (shapeCast S2x8x4 (Host.dynamicSlice S1x2x8x4 (V0 (Proc.devRef .tc main_v222_4)) (fun k => (((![V0 (Proc.devRef .tc main_v222_5), constantI S_ 32 0#32, constantI S_ 32 0#32, constantI S_ 32 0#32] : Fin 4 → (⟨S_, .i32⟩ : BufTy).Contents (Elt F))) k (Shape.Idx.first h_S_)).toInt) sliceFits_S2304x2x8x4_S1x2x8x4) shapeCasts_S1x2x8x4_S2x8x4))) (res_main_while0b_v277 V0)))) (broadcastInDim S2x8x4x128x128 ![0, 1, 2, 3, 4] bcast_S2x8x4x1x128_S2x8x4x128x128_0_1_2_3_4 (broadcastInDim S2x8x4x1x128 ![0, 1, 2, 4] bcast_S2x8x4x128_S2x8x4x1x128_0_1_2_4 (subf (shapeCast S2x8x4x128 (Host.dynamicSlice S1x2x8x4x128 (V0 (Proc.devRef .tc main_v222_2)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (Host.dotGeneral dot_S2x8x4x128_S2x8x4x128x128_S2x8x4x128_3_3_n_4_012_012 none (res_main_while0b_v277 V0) (res_main_while0b_v284 V0))))) : (Proc.devRef .tc main_while0b_v294 : DevRef τ sig).ty.Contents (Elt F)) = Cert.ReferenceIdeal.Step.b41 j s := by
  unfold Cert.ReferenceIdeal.Step.b41
  rw [← al_39 h, ← al_40 h]
  try rfl
set_option maxRecDepth 8192 in
theorem al_42 (h : Holds V0 s j) : (res_main_while0b_v295 V0 : (Proc.devRef .tc main_while0b_v295 : DevRef τ sig).ty.Contents (Elt F)) = Cert.ReferenceIdeal.Step.b42 j s := by
  unfold res_main_while0b_v295 Cert.ReferenceIdeal.Step.b42
  rw [← al_31 h, ← al_41 h]
  try rfl
set_option maxRecDepth 8192 in
theorem al_43 (h : Holds V0 s j) : (Host.dotGeneral dot_S2x8x4x128_S2x8x4x128x128_S2x8x4x128_3_3_n_4_012_012 none (shapeCast S2x8x4x128 (Host.dynamicSlice S1x2x8x4x128 (V0 (Proc.devRef .tc main_v222_0)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (res_main_while0b_v295 V0) : (Proc.devRef .tc main_while0b_v296 : DevRef τ sig).ty.Contents (Elt F)) = Cert.ReferenceIdeal.Step.b43 j s := by
  unfold Cert.ReferenceIdeal.Step.b43
  rw [← al_5 h, ← al_42 h]
  try rfl
set_option maxRecDepth 8192 in
theorem al_44 (h : Holds V0 s j) : (broadcastInDim S1x2x8x4x128 ![1, 2, 3, 4] bcast_S2x8x4x128_S1x2x8x4x128_1_2_3_4 (Host.dotGeneral dot_S2x8x4x128_S2x8x4x128x128_S2x8x4x128_3_3_n_4_012_012 none (shapeCast S2x8x4x128 (Host.dynamicSlice S1x2x8x4x128 (V0 (Proc.devRef .tc main_v222_0)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (res_main_while0b_v295 V0)) : (Proc.devRef .tc main_while0b_call21_v0 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (constantI S_ 32 0#32 : (Proc.devRef .tc main_while0b_call21_c : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call21_c_0 : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call21_c_1 : DevRef τ sig).ty.Contents (Elt F)) = Cert.ReferenceIdeal.Step.b47 j s := by
  unfold Cert.ReferenceIdeal.Step.b47
  rfl
set_option maxRecDepth 8192 in
theorem al_48 (h : Holds V0 s j) : (constantI S_ 32 0#32 : (Proc.devRef .tc main_while0b_call21_c_2 : DevRef τ sig).ty.Contents (Elt F)) = Cert.ReferenceIdeal.Step.b48 j s := by
  unfold Cert.ReferenceIdeal.Step.b48
  rfl
set_option maxRecDepth 8192 in
theorem al_49 (h : Holds V0 s j) : (Host.dynamicUpdateSlice (V0 (Proc.devRef .tc main_v222_7)) (broadcastInDim S1x2x8x4x128 ![1, 2, 3, 4] bcast_S2x8x4x128_S1x2x8x4x128_1_2_3_4 (Host.dotGeneral dot_S2x8x4x128_S2x8x4x128x128_S2x8x4x128_3_3_n_4_012_012 none (shapeCast S2x8x4x128 (Host.dynamicSlice S1x2x8x4x128 (V0 (Proc.devRef .tc main_v222_0)) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) sliceFits_S2304x2x8x4x128_S1x2x8x4x128) shapeCasts_S1x2x8x4x128_S2x8x4x128) (res_main_while0b_v295 V0))) (fun k => (((![V0 (Proc.devRef .tc main_v222_5), constantI S_ 32 0#32, constantI S_ 32 0#32, constantI S_ 32 0#32, constantI S_ 32 0#32] : Fin 5 → (⟨S_, .i32⟩ : BufTy).Contents (Elt F))) k (Shape.Idx.first h_S_)).toInt) updateFits_S2304x2x8x4x128_S1x2x8x4x128 : (Proc.devRef .tc main_while0b_v297 : DevRef τ sig).ty.Contents (Elt F)) = Cert.ReferenceIdeal.Step.b49 j s := by
  unfold Cert.ReferenceIdeal.Step.b49
  rw [← al_44 h, ← al_45 h, ← al_46 h, ← al_47 h, ← al_48 h, h.f_7, h.n_5]
  try rfl

/-! One trip's step of the carried values is `step`, field by field; a counter steps to the next number. -/

theorem step_6 (h : Holds V0 s j) : step_main_v222_6 V0 = (step j s).main_v222_6 := by
  unfold step_main_v222_6 Cert.ReferenceIdeal.Step.step
  show id (res_main_while0b_v295 V0) = _
  rw [al_42 h]
  try rfl
theorem step_7 (h : Holds V0 s j) : step_main_v222_7 V0 = (step j s).main_v222_7 := by
  unfold step_main_v222_7 Cert.ReferenceIdeal.Step.step
  exact al_49 h
theorem step_5 (h : Holds V0 s j) : step_main_v222_5 V0 = constantI S_ 32 (BitVec.ofNat 32 (j + 1)) := by
  unfold step_main_v222_5
  rw [h.n_5]
  funext i
  show BitVec.ofNat 32 j + 1#32 = BitVec.ofNat 32 (j + 1)
  simp only [BitVec.ofNat_add]

set_option maxRecDepth 8192 in
theorem out_main_v256_holds (h : Holds V0 s j) {x_main_arg1 : (⟨S8x2048x2688, .f32⟩ : BufTy).Contents (Elt F)} (h_main_arg1 : V0 (Proc.devRef .tc main_arg1) = x_main_arg1) {x_main_arg5 : (⟨S128, .f32⟩ : BufTy).Contents (Elt F)} (h_main_arg5 : V0 (Proc.devRef .tc main_arg5) = x_main_arg5) : out_main_v256 V0 = Cert.ReferenceIdeal.Step.R_main_v256 s x_main_arg1 x_main_arg5 := by
  unfold out_main_v256 Cert.ReferenceIdeal.Step.R_main_v256
  rw [h.f_7, h_main_arg1, h_main_arg5]
  try rfl

set_option maxRecDepth 8192 in
theorem out_main_v275_holds (h : Holds V0 s j) {x_main_arg0 : (⟨S8x256x2688, .f32⟩ : BufTy).Contents (Elt F)} (h_main_arg0 : V0 (Proc.devRef .tc main_arg0) = x_main_arg0) {x_main_arg5 : (⟨S128, .f32⟩ : BufTy).Contents (Elt F)} (h_main_arg5 : V0 (Proc.devRef .tc main_arg5) = x_main_arg5) : out_main_v275 V0 = Cert.ReferenceIdeal.Step.R_main_v275 s x_main_arg0 x_main_arg5 := by
  unfold out_main_v275 Cert.ReferenceIdeal.Step.R_main_v275
  rw [h.f_7, h_main_arg0, h_main_arg5]
  try rfl

/-- One trip keeps the valuation holding: `step` of the state, the same set-up values, the next number. -/
theorem holds_step (h : Holds V0 s j) : Holds (STEP V0) (step j s) (j + 1) where
  f_6 := (STEP_main_v222_6 V0).trans (step_6 h)
  f_7 := (STEP_main_v222_7 V0).trans (step_7 h)
  n_5 := (STEP_main_v222_5 V0).trans (step_5 h)
  f_0 := (STEP_main_v222_0 V0).trans h.f_0
  f_1 := (STEP_main_v222_1 V0).trans h.f_1
  f_2 := (STEP_main_v222_2 V0).trans h.f_2
  f_3 := (STEP_main_v222_3 V0).trans h.f_3
  f_4 := (STEP_main_v222_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

/-- The concatenation of two arrays. -/
def cat2 {α : Type} {s₁ s₂ : Shape} (t : Shape) (a : Fin t.rank) (x₁ : s₁.Idx → α) (x₂ : s₂.Idx → α) (h : Shape.Concatenates [s₁, s₂] t a) :
    t.Idx → α := concatenate t a [⟨s₁, x₁⟩, ⟨s₂, x₂⟩] h

theorem cat2_eq {α : Type} {s₁ s₂ : Shape} (t : Shape) (a : Fin t.rank) (x₁ : s₁.Idx → α) (x₂ : s₂.Idx → α) (h : Shape.Concatenates [s₁, s₂] t a) :
    concatenate t a [⟨s₁, x₁⟩, ⟨s₂, x₂⟩] h = cat2 t a x₁ x₂ h := rfl

set_option maxRecDepth 65536 in
set_option maxHeartbeats 4000000 in
theorem entry_f_6 : entryContents preI m c (Proc.devRef .tc main_v222_6) = (initState m c).main_v222_6 := by
  simp only [entryContents, afterL_cons, afterL_nil]; after_reads_simp; rfl

set_option maxRecDepth 65536 in
set_option maxHeartbeats 4000000 in
theorem entry_f_7 : entryContents preI m c (Proc.devRef .tc main_v222_7) = (initState m c).main_v222_7 := by
  simp only [entryContents, afterL_cons, afterL_nil]; after_reads_simp; rfl

set_option maxRecDepth 65536 in
set_option maxHeartbeats 4000000 in
theorem entry_f_0 : entryContents preI m c (Proc.devRef .tc main_v222_0) = (initState m c).main_v222_0 := by
  simp only [entryContents, afterL_cons, afterL_nil]; after_reads_simp [cat2_eq]; rfl

set_option maxRecDepth 65536 in
set_option maxHeartbeats 4000000 in
theorem entry_f_1 : entryContents preI m c (Proc.devRef .tc main_v222_1) = (initState m c).main_v222_1 := by
  simp only [entryContents, afterL_cons, afterL_nil]; after_reads_simp [cat2_eq]; rfl

set_option maxRecDepth 65536 in
set_option maxHeartbeats 4000000 in
theorem entry_f_2 : entryContents preI m c (Proc.devRef .tc main_v222_2) = (initState m c).main_v222_2 := by
  simp only [entryContents, afterL_cons, afterL_nil]; after_reads_simp [cat2_eq]; rfl

set_option maxRecDepth 65536 in
set_option maxHeartbeats 4000000 in
theorem entry_f_3 : entryContents preI m c (Proc.devRef .tc main_v222_3) = (initState m c).main_v222_3 := by
  simp only [entryContents, afterL_cons, afterL_nil]; after_reads_simp [cat2_eq]; rfl

set_option maxRecDepth 65536 in
set_option maxHeartbeats 4000000 in
theorem entry_f_4 : entryContents preI m c (Proc.devRef .tc main_v222_4) = (initState m c).main_v222_4 := by
  simp only [entryContents, afterL_cons, afterL_nil]; after_reads_simp [cat2_eq]; rfl

set_option maxRecDepth 65536 in
set_option maxHeartbeats 4000000 in
theorem entry_n_5 : entryContents preI m c (Proc.devRef .tc main_v222_5) = constantI S_ 32 (BitVec.ofNat 32 0) := by
  simp only [entryContents, afterL_cons, afterL_nil]; after_reads_simp [cat2_eq]; rfl

/-- What the operations before the loop leave: the set-up values, number 0, the initial state. -/
theorem entry_holds : Holds (entryContents preI m c) (initState m c) 0 :=
  ⟨entry_f_6 m c, entry_f_7 m c, entry_f_0 m c, entry_f_1 m c, entry_f_2 m c, entry_f_3 m c, entry_f_4 m c, entry_n_5 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2304 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v256) = Cert.ReferenceIdeal.Step.R_main_v256 (it c 2304) (m ((c.tc : Thread nD τ).loc main_arg1)) (m ((c.tc : Thread nD τ).loc main_arg5))
      ∧ r.2.mem ((c.tc : Thread nD τ).loc main_v275) = Cert.ReferenceIdeal.Step.R_main_v275 (it c 2304) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 2304
    ⟨(h c).1.trans (out_main_v256_holds hk (iter_main_arg1 m c 2304) (iter_main_arg5 m c 2304)), (h c).2.1.trans (out_main_v275_holds hk (iter_main_arg0 m c 2304) (iter_main_arg5 m c 2304)), (h c).2.2.1, (h c).2.2.2.1, (h c).2.2.2.2.1, (h c).2.2.2.2.2.1, (h c).2.2.2.2.2.2.1, (h c).2.2.2.2.2.2.2⟩) (Value.run m ρ)

end Cert.Delta.RefRun

end
-- ==== Proof.Turn.lean ====
/- The order in which each direction goes through the rows, and the gated delta rule run token by token in it: the state
   after any number of tokens and what each row's query reads. -/
module

public import proofs.«01_k».proof.Proof.Math

@[expose] public section

noncomputable section

namespace Cert.Delta

open Math

/-- The row a direction reads at step `t`: down the rows, or up the context's rows and then up the others'. -/
def turn (p : Fin 2) (t : Fin 2304) : Fin 2304 :=
  if p = 0 then t else if h : t.val < 256 then ⟨255 - t.val, by omega⟩ else ⟨2559 - t.val, by have := t.isLt; omega⟩

theorem turn_zero (t : Fin 2304) : turn 0 t = t := if_pos rfl

theorem turn_low (t : Fin 2304) (h : t.val < 256) : (turn 1 t).val = 255 - t.val := by
  unfold turn; rw [if_neg (by decide), dif_pos h]

theorem turn_high (t : Fin 2304) (h : ¬ t.val < 256) : (turn 1 t).val = 2559 - t.val := by
  unfold turn; rw [if_neg (by decide), dif_neg h]

theorem turn_turn (p : Fin 2) (t : Fin 2304) : turn p (turn p t) = t := by
  obtain rfl | rfl : p = 0 ∨ p = 1 := by omega
  · rw [turn_zero, turn_zero]
  · have ht := t.isLt
    apply Fin.ext
    by_cases h : t.val < 256
    · have e := turn_low t h
      rw [turn_low _ (by omega), e]; omega
    · have e := turn_high t h
      rw [turn_high _ (by omega), e]; omega

/-- What direction `p` meets at step `n`, of a value per row. -/
def along {α : Type} [Zero α] (p : Fin 2) (f : Fin 2304 → α) (n : ℕ) : α := if h : n < 2304 then f (turn p ⟨n, h⟩) else 0

section
variable (q k v : Fin 2304 → Fin 128 → ℝ) (g b : Fin 2 → Fin 2304 → ℝ)

/-- The state of direction `p` after `n` tokens. -/
def stateR (p : Fin 2) (n : ℕ) : Fin 128 → Fin 128 → ℝ :=
  tokens (along p (g p)) (along p (b p)) (along p k) (along p v) (fun _ _ => 0) n

/-- What row `t`'s query reads from the state of direction `p` just after its token. -/
def outR (p : Fin 2) (t : Fin 2304) (l : Fin 128) : ℝ := ∑ d, q t d * stateR k v g b p ((turn p t).val + 1) d l
end

end Cert.Delta

end
-- ==== Proof.RefPrep.lean ====
/- What the reference prepares before its loop, read row by row: the same tokens as the kernel's. -/
module

public import proofs.«01_k».proof.Proof.Args
public import proofs.«01_k».proof.Proof.Gen.ReferenceIdeal.Step
public import Idealize.ShloMosaic.Lib.Pointwise

public import proofs.«01_k».proof.Proof.Turn

@[expose] public section

set_option maxRecDepth 16384

noncomputable section

namespace Cert.Delta.RefPrep

open Idealize.ShloMosaic Idealize.ShloMosaic.TcCoe
open Cert.ReferenceIdeal Cert.ReferenceIdeal.Gen Cert.ReferenceIdeal.Step
open Cert.Delta.Spec

variable (A : Args.Arrays)

theorem zero_word : (FloatOps.sitofp (F := Ideal) FTy.f32 (0#32) : EReal) = 0 := by
  show (((0#32).toInt : ℝ) : EReal) = 0
  simp

theorem softplus_form (a x : EReal) :
    -Ideal.exp a * (if x ≠ x then x else max x 0 + Ideal.log1p (Ideal.exp (-FloatOps.absf (F := Ideal) (φ := FTy.f32) x)))
      = (0 - Ideal.exp a) * (max x 0 + Ideal.log1p (Ideal.exp (0 - FloatOps.absf (F := Ideal) (φ := FTy.f32) x))) := by
  rw [if_neg (fun h => h rfl), zero_sub, zero_sub]

/-! ## The 2048 rows of `lat` -/

theorem pad_lat (b : Fin 8) (r : Fin 2048) (j : ℕ) (r' : Fin 2051) (hr : r'.val = j + r.val) (y : Fin 1536) :
    A_main_v3 A.z A.x A.w A.a A.d (ix3 b r' y) = tap (fun r => A.x (ix3 b r ⟨y.val, by have := y.isLt; omega⟩)) r j := by
  pointwise [A_main_v3, K_main_call0_v0, K_main_c, A_main_v0]
  rw [zero_word]
  unfold tap
  by_cases h : 2 ≤ r.val + j ∧ r.val + j < 2048 + 2
  · rw [dif_pos h, dif_pos (by omega)]
    exact congrArg (fun r => A.x (ix3 b r ⟨y.val, _⟩)) (Fin.ext (by show r'.val - 2 = r.val + j - 2; omega))
  · rw [dif_neg h, dif_neg (by omega)]

theorem conv_lat (b : Fin 8) (r : Fin 2048) (y : Fin 1536) :
    A_main_v30 A.z A.x A.w A.a A.d (ix3 b r y) = conv (fun j => A.w (ix2 j y)) (fun r => A.x (ix3 b r ⟨y.val, by have := y.isLt; omega⟩)) r := by
  pointwise [A_main_v30, A_main_v29, A_main_v26, A_main_v28, A_main_v27, A_main_v25, A_main_v24, A_main_v23, A_main_v22, A_main_v19, A_main_v21, A_main_v20, A_main_v18, A_main_v17, A_main_v16, A_main_v15, A_main_v12, A_main_v14, A_main_v13, A_main_v11, A_main_v10, A_main_v9, A_main_v6, A_main_v8, A_main_v7, A_main_v5, A_main_v4]
  rw [pad_lat A b r 0 _ (by show r.val = 0 + r.val; omega), pad_lat A b r 1 _ rfl, pad_lat A b r 2 _ rfl, pad_lat A b r 3 _ rfl]
  rfl

theorem act_lat (b : Fin 8) (h : Fin 4) (p : Fin 3) (p' : Fin 4) (hp : p'.val = p.val) (r : Fin 2048) (l : Fin 128) (y : Fin 1536)
    (hy : y.val = 512 * p.val + 128 * h.val + l.val) :
    A_main_v31 A.z A.x A.w A.a A.d (ix3 b r y) = act (Args.taps A h p) (Args.lat A b h p') r l := by
  obtain ⟨yv, hyv⟩ := y
  dsimp only at hy
  subst hy
  have e : conv (fun j => Args.taps A h p j l) (fun r => Args.lat A b h p' r l) r
      = A_main_v30 A.z A.x A.w A.a A.d (ix3 b r ⟨512 * p.val + 128 * h.val + l.val, by have := p.isLt; have := h.isLt; have := l.isLt; omega⟩) := by
    rw [conv_lat]
    refine congrArg (fun X => conv _ X r) (funext fun r => congrArg (fun y => A.x (ix3 b r y)) (Fin.ext ?_))
    show 512 * p'.val + 128 * h.val + l.val = 512 * p.val + 128 * h.val + l.val
    rw [hp]
  unfold act
  rw [e]
  pointwise [A_main_v31, A_main_call1_v5, A_main_call1_v3, A_main_call1_v1, A_main_call1_v0, K_main_call1_v2, K_main_call1_cst, K_main_call1_v4, K_main_call1_cst_0]
  rfl

theorem part0_lat (b : Fin 8) (h : Fin 4) (r : Fin 2048) (l : Fin 128) :
    A_main_v35 A.z A.x A.w A.a A.d (ix4 b h r l) = act (Args.taps A h 0) (Args.lat A b h 0) r l := by
  pointwise [A_main_v35, A_main_v34, A_main_v33, A_main_v32]
  exact act_lat A b h 0 0 rfl r l _ (by show _ = 512 * 0 + 128 * h.val + l.val; dsimp only; omega)

theorem part1_lat (b : Fin 8) (h : Fin 4) (r : Fin 2048) (l : Fin 128) :
    A_main_v47 A.z A.x A.w A.a A.d (ix4 b h r l) = act (Args.taps A h 1) (Args.lat A b h 1) r l := by
  pointwise [A_main_v47, A_main_v46, A_main_v33, A_main_v32]
  exact act_lat A b h 1 1 rfl r l _ (by show _ = 512 * 1 + 128 * h.val + l.val; dsimp only; omega)

theorem part2_lat (b : Fin 8) (h : Fin 4) (r : Fin 2048) (l : Fin 128) :
    A_main_v57 A.z A.x A.w A.a A.d (ix4 b h r l) = act (Args.taps A h 2) (Args.lat A b h 2) r l := by
  pointwise [A_main_v57, A_main_v56, A_main_v33, A_main_v32]
  exact act_lat A b h 2 2 rfl r l _ (by show _ = 512 * 2 + 128 * h.val + l.val; dsimp only; omega)

theorem query_lat (b : Fin 8) (h : Fin 4) (r : Fin 2048) (l : Fin 128) :
    A_main_v45 A.z A.x A.w A.a A.d (ix4 b h r l) = unit (act (Args.taps A h 0) (Args.lat A b h 0) r) l * scale := by
  pointwise [A_main_v45, K_main_v44, K_main_cst_1, A_main_v43, A_main_v42, A_main_v41, A_main_v40, K_main_v39, K_main_cst_0, A_main_v38, A_main_v37, K_main_cst, A_main_v36]
  simp only [part0_lat]
  rfl

theorem key_lat (b : Fin 8) (h : Fin 4) (r : Fin 2048) (l : Fin 128) :
    A_main_v55 A.z A.x A.w A.a A.d (ix4 b h r l) = unit (act (Args.taps A h 1) (Args.lat A b h 1) r) l := by
  pointwise [A_main_v55, A_main_v54, A_main_v53, A_main_v52, K_main_v51, K_main_cst_3, A_main_v50, A_main_v49, K_main_cst_2, A_main_v48]
  simp only [part1_lat]
  rfl

theorem decay_lat (b : Fin 8) (h : Fin 4) (p : Fin 2) (r : Fin 2048) :
    A_main_v76 A.z A.x A.w A.a A.d (ix4 p b h r) = decay (A.a (ix2 p h)) (A.d (ix2 p h)) (A.x (ix3 b r (Args.gateCol 1 p h))) := by
  have e : (⟨2568 + (p.val * 4 + h.val), by have := p.isLt; have := h.isLt; omega⟩ : Fin 2688) = Args.gateCol 1 p h :=
    Fin.ext (by show 2568 + (p.val * 4 + h.val) = 2560 + 8 * 1 + 4 * p.val + h.val; omega)
  pointwise [A_main_v76, A_main_v74, A_main_call2_v11, A_main_call2_v10, A_main_call2_v9, A_main_call2_v8, A_main_call2_v7, A_main_call2_v3, K_main_call2_v2, K_main_call2_cst, A_main_v73, A_main_v72, A_main_v71, A_main_v67, A_main_v66, A_main_v2, A_main_call2_v1, K_main_call2_v0, A_main_call2_v6, K_main_call2_v5, A_main_call2_v4, A_main_v75, A_main_v70, A_main_v69, A_main_v68]
  rw [e]
  exact softplus_form _ _

theorem strength_lat (b : Fin 8) (h : Fin 4) (p : Fin 2) (r : Fin 2048) :
    A_main_v65 A.z A.x A.w A.a A.d (ix4 p b h r) = Ideal.logistic (A.x (ix3 b r (Args.gateCol 0 p h))) := by
  have e : (⟨2560 + (p.val * 4 + h.val), by have := p.isLt; have := h.isLt; omega⟩ : Fin 2688) = Args.gateCol 0 p h :=
    Fin.ext (by show 2560 + (p.val * 4 + h.val) = 2560 + 8 * 0 + 4 * p.val + h.val; omega)
  pointwise [A_main_v65, A_main_v64, A_main_v63, A_main_v61, A_main_v59, A_main_v58, A_main_v1, K_main_v60, K_main_cst_4, K_main_v62, K_main_cst_5]
  rw [e]
  rfl

/-! ## The 256 rows of `ctx` -/

theorem pad_ctx (b : Fin 8) (r : Fin 256) (j : ℕ) (r' : Fin 259) (hr : r'.val = j + r.val) (y : Fin 1536) :
    A_main_v80 A.z A.x A.w A.a A.d (ix3 b r' y) = tap (fun r => A.z (ix3 b r ⟨y.val, by have := y.isLt; omega⟩)) r j := by
  pointwise [A_main_v80, K_main_call3_v0, K_main_c_6, A_main_v77]
  rw [zero_word]
  unfold tap
  by_cases h : 2 ≤ r.val + j ∧ r.val + j < 256 + 2
  · rw [dif_pos h, dif_pos (by omega)]
    exact congrArg (fun r => A.z (ix3 b r ⟨y.val, _⟩)) (Fin.ext (by show r'.val - 2 = r.val + j - 2; omega))
  · rw [dif_neg h, dif_neg (by omega)]

theorem conv_ctx (b : Fin 8) (r : Fin 256) (y : Fin 1536) :
    A_main_v107 A.z A.x A.w A.a A.d (ix3 b r y) = conv (fun j => A.w (ix2 j y)) (fun r => A.z (ix3 b r ⟨y.val, by have := y.isLt; omega⟩)) r := by
  pointwise [A_main_v107, A_main_v106, A_main_v103, A_main_v105, A_main_v104, A_main_v102, A_main_v101, A_main_v100, A_main_v99, A_main_v96, A_main_v98, A_main_v97, A_main_v95, A_main_v94, A_main_v93, A_main_v92, A_main_v89, A_main_v91, A_main_v90, A_main_v88, A_main_v87, A_main_v86, A_main_v83, A_main_v85, A_main_v84, A_main_v82, A_main_v81]
  rw [pad_ctx A b r 0 _ (by show r.val = 0 + r.val; omega), pad_ctx A b r 1 _ rfl, pad_ctx A b r 2 _ rfl, pad_ctx A b r 3 _ rfl]
  rfl

theorem act_ctx (b : Fin 8) (h : Fin 4) (p : Fin 3) (p' : Fin 4) (hp : p'.val = p.val) (r : Fin 256) (l : Fin 128) (y : Fin 1536)
    (hy : y.val = 512 * p.val + 128 * h.val + l.val) :
    A_main_v108 A.z A.x A.w A.a A.d (ix3 b r y) = act (Args.taps A h p) (Args.ctx A b h p') r l := by
  obtain ⟨yv, hyv⟩ := y
  dsimp only at hy
  subst hy
  have e : conv (fun j => Args.taps A h p j l) (fun r => Args.ctx A b h p' r l) r
      = A_main_v107 A.z A.x A.w A.a A.d (ix3 b r ⟨512 * p.val + 128 * h.val + l.val, by have := p.isLt; have := h.isLt; have := l.isLt; omega⟩) := by
    rw [conv_ctx]
    refine congrArg (fun X => conv _ X r) (funext fun r => congrArg (fun y => A.z (ix3 b r y)) (Fin.ext ?_))
    show 512 * p'.val + 128 * h.val + l.val = 512 * p.val + 128 * h.val + l.val
    rw [hp]
  unfold act
  rw [e]
  pointwise [A_main_v108, A_main_call4_v5, A_main_call4_v3, A_main_call4_v1, A_main_call4_v0, K_main_call4_v2, K_main_call4_cst, K_main_call4_v4, K_main_call4_cst_0]
  rfl

theorem part0_ctx (b : Fin 8) (h : Fin 4) (r : Fin 256) (l : Fin 128) :
    A_main_v112 A.z A.x A.w A.a A.d (ix4 b h r l) = act (Args.taps A h 0) (Args.ctx A b h 0) r l := by
  pointwise [A_main_v112, A_main_v111, A_main_v110, A_main_v109]
  exact act_ctx A b h 0 0 rfl r l _ (by show _ = 512 * 0 + 128 * h.val + l.val; dsimp only; omega)

theorem part1_ctx (b : Fin 8) (h : Fin 4) (r : Fin 256) (l : Fin 128) :
    A_main_v124 A.z A.x A.w A.a A.d (ix4 b h r l) = act (Args.taps A h 1) (Args.ctx A b h 1) r l := by
  pointwise [A_main_v124, A_main_v123, A_main_v110, A_main_v109]
  exact act_ctx A b h 1 1 rfl r l _ (by show _ = 512 * 1 + 128 * h.val + l.val; dsimp only; omega)

theorem part2_ctx (b : Fin 8) (h : Fin 4) (r : Fin 256) (l : Fin 128) :
    A_main_v134 A.z A.x A.w A.a A.d (ix4 b h r l) = act (Args.taps A h 2) (Args.ctx A b h 2) r l := by
  pointwise [A_main_v134, A_main_v133, A_main_v110, A_main_v109]
  exact act_ctx A b h 2 2 rfl r l _ (by show _ = 512 * 2 + 128 * h.val + l.val; dsimp only; omega)

theorem query_ctx (b : Fin 8) (h : Fin 4) (r : Fin 256) (l : Fin 128) :
    A_main_v122 A.z A.x A.w A.a A.d (ix4 b h r l) = unit (act (Args.taps A h 0) (Args.ctx A b h 0) r) l * scale := by
  pointwise [A_main_v122, K_main_v121, K_main_cst_9, A_main_v120, A_main_v119, A_main_v118, A_main_v117, K_main_v116, K_main_cst_8, A_main_v115, A_main_v114, K_main_cst_7, A_main_v113]
  simp only [part0_ctx]
  rfl

theorem key_ctx (b : Fin 8) (h : Fin 4) (r : Fin 256) (l : Fin 128) :
    A_main_v132 A.z A.x A.w A.a A.d (ix4 b h r l) = unit (act (Args.taps A h 1) (Args.ctx A b h 1) r) l := by
  pointwise [A_main_v132, A_main_v131, A_main_v130, A_main_v129, K_main_v128, K_main_cst_11, A_main_v127, A_main_v126, K_main_cst_10, A_main_v125]
  simp only [part1_ctx]
  rfl

theorem decay_ctx (b : Fin 8) (h : Fin 4) (p : Fin 2) (r : Fin 256) :
    A_main_v153 A.z A.x A.w A.a A.d (ix4 p b h r) = decay (A.a (ix2 p h)) (A.d (ix2 p h)) (A.z (ix3 b r (Args.gateCol 1 p h))) := by
  have e : (⟨2568 + (p.val * 4 + h.val), by have := p.isLt; have := h.isLt; omega⟩ : Fin 2688) = Args.gateCol 1 p h :=
    Fin.ext (by show 2568 + (p.val * 4 + h.val) = 2560 + 8 * 1 + 4 * p.val + h.val; omega)
  pointwise [A_main_v153, A_main_v151, A_main_call5_v11, A_main_call5_v10, A_main_call5_v9, A_main_call5_v8, A_main_call5_v7, A_main_call5_v3, K_main_call5_v2, K_main_call5_cst, A_main_v150, A_main_v149, A_main_v148, A_main_v144, A_main_v143, A_main_v79, A_main_call5_v1, K_main_call5_v0, A_main_call5_v6, K_main_call5_v5, A_main_call5_v4, A_main_v152, A_main_v147, A_main_v146, A_main_v145]
  rw [e]
  exact softplus_form _ _

theorem strength_ctx (b : Fin 8) (h : Fin 4) (p : Fin 2) (r : Fin 256) :
    A_main_v142 A.z A.x A.w A.a A.d (ix4 p b h r) = Ideal.logistic (A.z (ix3 b r (Args.gateCol 0 p h))) := by
  have e : (⟨2560 + (p.val * 4 + h.val), by have := p.isLt; have := h.isLt; omega⟩ : Fin 2688) = Args.gateCol 0 p h :=
    Fin.ext (by show 2560 + (p.val * 4 + h.val) = 2560 + 8 * 0 + 4 * p.val + h.val; omega)
  pointwise [A_main_v142, A_main_v141, A_main_v140, A_main_v138, A_main_v136, A_main_v135, A_main_v78, K_main_v137, K_main_cst_12, K_main_v139, K_main_cst_13]
  rw [e]
  rfl

/-! ## Both directions, time first -/

theorem two_ways (C : Fin 2 → Fin 256 → EReal) (L : Fin 2 → Fin 2048 → EReal) (p : Fin 2) (t : Fin 2304) :
    (if h : t.val < 256 then (if _ : p.val < 1 then C 0 ⟨t.val, h⟩ else C 1 (⟨t.val, h⟩ : Fin 256).rev)
      else if _ : p.val < 1 then L 0 ⟨t.val - 256, by have := t.isLt; omega⟩
        else L 1 (⟨t.val - 256, by have := t.isLt; omega⟩ : Fin 2048).rev) = joined (C p) (L p) (turn p t) := by
  unfold turn joined
  obtain rfl | rfl : p = 0 ∨ p = 1 := by omega
  · rw [if_pos rfl]
    by_cases ht : t.val < 256
    · rw [dif_pos ht, dif_pos ht, dif_pos (by decide)]
    · rw [dif_neg ht, dif_neg ht, dif_pos (by decide)]
  · rw [if_neg (by decide)]
    by_cases ht : t.val < 256
    · rw [dif_pos ht, dif_pos ht, dif_neg (by decide), dif_pos (show 255 - t.val < 256 by omega)]
      exact congrArg (C 1) (Fin.ext (by rw [Fin.val_rev]; show 256 - (t.val + 1) = 255 - t.val; omega))
    · rw [dif_neg ht, dif_neg ht, dif_neg (by decide), dif_neg (show ¬ 2559 - t.val < 256 by have := t.isLt; omega)]
      exact congrArg (L 1) (Fin.ext (by rw [Fin.val_rev]; show 2048 - (t.val - 256 + 1) = 2559 - t.val - 256; have := t.isLt; omega))

/-- A function of a token's row, read of the joined rows. -/
theorem joined_map {α : Type} (f : α → EReal) (c : Fin 256 → α) (x : Fin 2048 → α) (t : Fin 2304) :
    joined (fun r => f (c r)) (fun r => f (x r)) t = f (joined c x t) := by
  unfold joined; split <;> rfl

theorem ref_q (b : Fin 8) (h : Fin 4) (p : Fin 2) (t : Fin 2304) (l : Fin 128) :
    A_main_v216 A.z A.x A.w A.a A.d (ix5 t p b h l) = Args.q A b h (turn p t) l := by
  have e : A_main_v216 A.z A.x A.w A.a A.d (ix5 t p b h l)
      = joined ((fun (p : Fin 2) (r : Fin 256) => A_main_v122 A.z A.x A.w A.a A.d (ix4 b h r l)) p) ((fun (p : Fin 2) (r : Fin 2048) => A_main_v45 A.z A.x A.w A.a A.d (ix4 b h r l)) p) (turn p t) := by
    refine Eq.trans ?_ (two_ways (fun (p : Fin 2) (r : Fin 256) => A_main_v122 A.z A.x A.w A.a A.d (ix4 b h r l)) (fun (p : Fin 2) (r : Fin 2048) => A_main_v45 A.z A.x A.w A.a A.d (ix4 b h r l)) p t)
    pointwise [A_main_v216, A_main_v163, A_main_v162, A_main_v161, A_main_v159, A_main_v160, A_main_v158, A_main_v157, A_main_v155, A_main_v156]
    rfl
  rw [e]
  simp only [query_lat, query_ctx]
  exact joined_map (fun (u : Fin 128 → EReal) => unit u l * scale) (act (Args.taps A h 0) (Args.ctx A b h 0)) (act (Args.taps A h 0) (Args.lat A b h 0)) _

theorem ref_k (b : Fin 8) (h : Fin 4) (p : Fin 2) (t : Fin 2304) (l : Fin 128) :
    A_main_v217 A.z A.x A.w A.a A.d (ix5 t p b h l) = Args.k A b h (turn p t) l := by
  have e : A_main_v217 A.z A.x A.w A.a A.d (ix5 t p b h l)
      = joined ((fun (p : Fin 2) (r : Fin 256) => A_main_v132 A.z A.x A.w A.a A.d (ix4 b h r l)) p) ((fun (p : Fin 2) (r : Fin 2048) => A_main_v55 A.z A.x A.w A.a A.d (ix4 b h r l)) p) (turn p t) := by
    refine Eq.trans ?_ (two_ways (fun (p : Fin 2) (r : Fin 256) => A_main_v132 A.z A.x A.w A.a A.d (ix4 b h r l)) (fun (p : Fin 2) (r : Fin 2048) => A_main_v55 A.z A.x A.w A.a A.d (ix4 b h r l)) p t)
    pointwise [A_main_v217, A_main_v172, A_main_v171, A_main_v170, A_main_v168, A_main_v169, A_main_v167, A_main_v166, A_main_v164, A_main_v165]
    rfl
  rw [e]
  simp only [key_lat, key_ctx]
  exact joined_map (fun (u : Fin 128 → EReal) => unit u l) (act (Args.taps A h 1) (Args.ctx A b h 1)) (act (Args.taps A h 1) (Args.lat A b h 1)) _

theorem ref_v (b : Fin 8) (h : Fin 4) (p : Fin 2) (t : Fin 2304) (l : Fin 128) :
    A_main_v218 A.z A.x A.w A.a A.d (ix5 t p b h l) = Args.v A b h (turn p t) l := by
  have e : A_main_v218 A.z A.x A.w A.a A.d (ix5 t p b h l)
      = joined ((fun (p : Fin 2) (r : Fin 256) => A_main_v134 A.z A.x A.w A.a A.d (ix4 b h r l)) p) ((fun (p : Fin 2) (r : Fin 2048) => A_main_v57 A.z A.x A.w A.a A.d (ix4 b h r l)) p) (turn p t) := by
    refine Eq.trans ?_ (two_ways (fun (p : Fin 2) (r : Fin 256) => A_main_v134 A.z A.x A.w A.a A.d (ix4 b h r l)) (fun (p : Fin 2) (r : Fin 2048) => A_main_v57 A.z A.x A.w A.a A.d (ix4 b h r l)) p t)
    pointwise [A_main_v218, A_main_v181, A_main_v180, A_main_v179, A_main_v177, A_main_v178, A_main_v176, A_main_v175, A_main_v173, A_main_v174]
    rfl
  rw [e]
  simp only [part2_lat, part2_ctx]
  exact joined_map (fun (u : Fin 128 → EReal) => u l) (act (Args.taps A h 2) (Args.ctx A b h 2)) (act (Args.taps A h 2) (Args.lat A b h 2)) _

theorem ref_g (b : Fin 8) (h : Fin 4) (p : Fin 2) (t : Fin 2304) :
    A_main_v219 A.z A.x A.w A.a A.d (ix4 t p b h) = Args.g A b h p (turn p t) := by
  have e : A_main_v219 A.z A.x A.w A.a A.d (ix4 t p b h)
      = joined ((fun (p : Fin 2) (r : Fin 256) => A_main_v153 A.z A.x A.w A.a A.d (ix4 p b h r)) p) ((fun (p : Fin 2) (r : Fin 2048) => A_main_v76 A.z A.x A.w A.a A.d (ix4 p b h r)) p) (turn p t) := by
    refine Eq.trans ?_ (two_ways (fun (p : Fin 2) (r : Fin 256) => A_main_v153 A.z A.x A.w A.a A.d (ix4 p b h r)) (fun (p : Fin 2) (r : Fin 2048) => A_main_v76 A.z A.x A.w A.a A.d (ix4 p b h r)) p t)
    pointwise [A_main_v219, A_main_v198, A_main_v197, A_main_v196, A_main_v194, A_main_v193, A_main_v192, A_main_v195, A_main_v191, A_main_v190, A_main_v189, A_main_v188, A_main_v186, A_main_v185, A_main_v184, A_main_v187, A_main_v183, A_main_v182]
    rfl
  rw [e]
  simp only [decay_lat, decay_ctx]
  exact joined_map (decay (A.a (ix2 p h)) (A.d (ix2 p h))) (fun r => A.z (ix3 b r (Args.gateCol 1 p h))) (fun r => A.x (ix3 b r (Args.gateCol 1 p h))) _

theorem ref_s (b : Fin 8) (h : Fin 4) (p : Fin 2) (t : Fin 2304) :
    A_main_v220 A.z A.x A.w A.a A.d (ix4 t p b h) = Args.s A b h p (turn p t) := by
  have e : A_main_v220 A.z A.x A.w A.a A.d (ix4 t p b h)
      = joined ((fun (p : Fin 2) (r : Fin 256) => A_main_v142 A.z A.x A.w A.a A.d (ix4 p b h r)) p) ((fun (p : Fin 2) (r : Fin 2048) => A_main_v65 A.z A.x A.w A.a A.d (ix4 p b h r)) p) (turn p t) := by
    refine Eq.trans ?_ (two_ways (fun (p : Fin 2) (r : Fin 256) => A_main_v142 A.z A.x A.w A.a A.d (ix4 p b h r)) (fun (p : Fin 2) (r : Fin 2048) => A_main_v65 A.z A.x A.w A.a A.d (ix4 p b h r)) p t)
    pointwise [A_main_v220, A_main_v215, A_main_v214, A_main_v213, A_main_v211, A_main_v210, A_main_v209, A_main_v212, A_main_v208, A_main_v207, A_main_v206, A_main_v205, A_main_v203, A_main_v202, A_main_v201, A_main_v204, A_main_v200, A_main_v199]
    rfl
  rw [e]
  simp only [strength_lat, strength_ctx]
  exact joined_map (Ideal.logistic) (fun r => A.z (ix3 b r (Args.gateCol 0 p h))) (fun r => A.x (ix3 b r (Args.gateCol 0 p h))) _

end Cert.Delta.RefPrep

end
-- ==== Proof.Tokens.lean ====
/- The kernel's recurrence over chunks is the gated delta rule token by token: on prepared tokens that are real numbers
   the carried state after each chunk, and every output row, are those of `Turn`. -/
module

public import proofs.«01_k».proof.Proof.Turn
public import proofs.«01_k».proof.Proof.Planes

@[expose] public section

set_option maxRecDepth 16384

noncomputable section

namespace Cert.Delta

open Cert.KernelIdeal Cert.KernelIdeal.Gen
open Idealize.ShloMosaic Idealize.ShloMosaic.TcCoe Idealize.ShloMosaic.Tactic
open Cert.Delta.Spec Math
open Finset (range)

/-- Row `i` of chunk `n`. -/
def row (n : Fin 36) (i : Fin 64) : Fin 2304 := ⟨64 * n.val + i.val, by have := n.isLt; have := i.isLt; omega⟩

/-- The order of the tokens of a chunk in each direction. -/
def order : Fin 2 → (Fin 64 ≃ Fin 64)
  | 0 => Equiv.refl _
  | 1 => Fin.revPerm

theorem order_or (p : Fin 2) : order p = Equiv.refl _ ∨ order p = Fin.revPerm := by
  obtain rfl | rfl : p = 0 ∨ p = 1 := by omega
  · exact Or.inl rfl
  · exact Or.inr rfl

theorem step_lt (j : Fin 36) (u : Fin 64) : 64 * j.val + u.val < 2304 := by have := j.isLt; have := u.isLt; omega

theorem turn_row (p : Fin 2) (j : Fin 36) (u : Fin 64) : turn p ⟨64 * j.val + u.val, step_lt j u⟩ = row (chunkAt p j) (order p u) := by
  have hj := j.isLt
  have hu := u.isLt
  obtain rfl | rfl : p = 0 ∨ p = 1 := by omega
  · rw [turn_zero]; rfl
  · apply Fin.ext
    show _ = 64 * (chunkAt 1 j).val + (Fin.rev u).val
    rw [Fin.val_rev]
    unfold chunkAt
    rw [if_neg (by decide)]
    by_cases h : j.val < 4
    · rw [dif_pos h, turn_low _ (by show 64 * j.val + u.val < 256; omega)]
      show 255 - (64 * j.val + u.val) = 64 * (3 - j.val) + (64 - (u.val + 1))
      omega
    · rw [dif_neg h, turn_high _ (by show ¬ 64 * j.val + u.val < 256; omega)]
      show 2559 - (64 * j.val + u.val) = 64 * (39 - j.val) + (64 - (u.val + 1))
      omega

theorem along_row {α : Type} [Zero α] (p : Fin 2) (f : Fin 2304 → α) (n : Fin 36) (u : Fin 64) :
    along p f (64 * (chunkAt p n).val + u.val) = f (row n (order p u)) := by
  unfold along
  rw [dif_pos (step_lt _ u), turn_row, chunkAt_chunkAt]

theorem rows_arr (f : Fin 2304 → Fin 128 → EReal) (n : Fin 36) (i : Fin 64) (d : Fin 128) :
    rows (arr f) n (ix2 i d) = f (row n i) d :=
  congrArg₂ f (Fin.ext (by show 64 * n.val + 1 * i.val = 64 * n.val + i.val; omega)) (Fin.ext (by show 0 + 1 * d.val = d.val; omega))

/-- One chunk of the carried state, -/
theorem step_at (S : FVec Ideal S128x128 .f32) (dc : FVec Ideal S1x1x128 .f32) (kw : FVec Ideal S1x128x128 .bf16)
    (c : FVec Ideal S1x128x128 .f32) (d x : Fin 128) :
    (k0_pay1083 S dc kw c (ix2 d x) : EReal)
      = S (ix2 d x) * dc (ix3 0 0 x) - ∑ y : Fin 128, kw (ix3 0 d y) * S (ix2 y x) + c (ix3 0 d x) := by
  pointwise [k0_pay1083, k0_pay1081]

/-- and of the outputs. -/
theorem out_at (S : FVec Ideal S128x128 .f32) (qe : FVec Ideal S1x64x128 .bf16) (oo : FVec Ideal S1x64x128 .f32) (i : Fin 64) (x : Fin 128) :
    (k0_pay1082 S qe oo (ix3 0 i x) : EReal) = ∑ d : Fin 128, qe (ix3 0 i d) * S (ix2 d x) + oo (ix3 0 i x) := by
  pointwise [k0_pay1082, k0_pay1081]

section
variable (q k v : Fin 2304 → Fin 128 → ℝ) (g b : Fin 2 → Fin 2304 → ℝ)

/-- The running logarithms of chunk `n`. -/
def sums (p : Fin 2) (n : Fin 36) (i : Fin 64) : ℝ :=
  ∑ u ∈ range (((order p).symm i).val + 1), along p (g p) (64 * (chunkAt p n).val + u)

theorem chunk_sum (p : Fin 2) (n : Fin 36) (u : ℕ) (hu : u < 64) :
    extended (fun t => ((g p t : ℝ) : EReal)) (row n (order p ⟨u, hu⟩)).val = ((along p (g p) (64 * (chunkAt p n).val + u) : ℝ) : EReal) := by
  rw [extended_val]
  exact congrArg _ (along_row p (g p) n ⟨u, hu⟩).symm

theorem back_sums (n : Fin 36) (i : Fin 64) :
    back (extended fun t => ((g 0 t : ℝ) : EReal)) 64 (row n i).val = ((sums g 0 n i : ℝ) : EReal) := by
  have hi := i.isLt
  refine (back_chunk _ n.val i.val hi).trans ?_
  unfold sums
  rw [← coe_sum]
  refine Finset.sum_congr rfl fun u hu => ?_
  have hu' : u < i.val + 1 := Finset.mem_range.mp hu
  exact chunk_sum g 0 n u (by omega)

theorem ahead_sums (n : Fin 36) (i : Fin 64) :
    ahead (extended fun t => ((g 1 t : ℝ) : EReal)) 64 (row n i).val = ((sums g 1 n i : ℝ) : EReal) := by
  have hi := i.isLt
  have e : (row n i).val = 64 * n.val + (63 - (63 - i.val)) := by show 64 * n.val + i.val = _; omega
  rw [e]
  refine (ahead_chunk _ n.val (63 - i.val) (by omega)).trans ?_
  unfold sums
  rw [← coe_sum]
  have e2 : ((order 1).symm i).val = 63 - i.val := by show (Fin.rev i).val = _; rw [Fin.val_rev]; omega
  rw [e2]
  refine Finset.sum_congr rfl fun u hu => ?_
  have hu' : u < 63 - i.val + 1 := Finset.mem_range.mp hu
  refine Eq.trans (congrArg _ ?_) (chunk_sum g 1 n u (by omega))
  show _ = 64 * n.val + (Fin.rev (⟨u, _⟩ : Fin 64)).val
  rw [Fin.val_rev]
  show 64 * n.val + (63 - u) = 64 * n.val + (64 - (u + 1))
  omega

/-- The prepared tokens as arrays. -/
abbrev reals (f : Fin 2304 → Fin 128 → ℝ) : Vec Ideal S2304x128 .f32 := arr fun t d => ((f t d : ℝ) : EReal)
abbrev downs : Vec Ideal S2304x128 .f32 := arr fun t _ => back (extended fun t => ((g 0 t : ℝ) : EReal)) 64 t.val
abbrev ups : Vec Ideal S2304x128 .f32 := arr fun t _ => ahead (extended fun t => ((g 1 t : ℝ) : EReal)) 64 t.val
abbrev writes (p : Fin 2) : Vec Ideal S2304x128 .f32 := arr fun t _ => ((b p t : ℝ) : EReal)

theorem hold_rows (f : Fin 2304 → Fin 128 → ℝ) (n : Fin 36) : HoldsRows (rows (reals f) n) fun i d => f (row n i) d :=
  fun i d => rows_arr _ n i d
theorem hold_downs (n : Fin 36) : HoldsRows (rows (downs g) n) fun i _ => sums g 0 n i :=
  fun i d => (rows_arr _ n i d).trans (back_sums g n i)
theorem hold_ups (n : Fin 36) : HoldsRows (rows (ups g) n) fun i _ => sums g 1 n i :=
  fun i d => (rows_arr _ n i d).trans (ahead_sums g n i)
theorem hold_writes (p : Fin 2) (n : Fin 36) : HoldsRows (rows (writes b p) n) fun i _ => b p (row n i) :=
  fun i d => rows_arr _ n i d

theorem last_down (A : FVec Ideal S64x128 .f32) (G : Fin 64 → ℝ) (h : HoldsRows A fun i _ => G i) (d : Fin 128) :
    (lastF A (ix2 0 d) : EReal) = ((G (order 0 63) : ℝ) : EReal) := by
  refine Eq.trans ?_ (h 63 d)
  pointwise [lastF]
theorem last_up (A : FVec Ideal S64x128 .f32) (G : Fin 64 → ℝ) (h : HoldsRows A fun i _ => G i) (d : Fin 128) :
    (lastB A (ix2 0 d) : EReal) = ((G (order 1 63) : ℝ) : EReal) := by
  refine Eq.trans ?_ (h 0 d)
  pointwise [lastB]

abbrev kws := pay25 downPatterns upPatterns (reals k) (reals v) (downs g) (ups g) (writes b 0) (writes b 1)
abbrev cs := pay26 downPatterns upPatterns (reals k) (reals v) (downs g) (ups g) (writes b 0) (writes b 1)
abbrev qes := pay27 downPatterns upPatterns (reals q) (reals k) (reals v) (downs g) (ups g) (writes b 0) (writes b 1)
abbrev o0s := pay28 downPatterns upPatterns (reals q) (reals k) (reals v) (downs g) (ups g) (writes b 0) (writes b 1)
abbrev dcs := pay29 (F := Ideal) (downs g) (ups g)

theorem kws_at (p : Fin 2) (n : Fin 36) (d x : Fin 128) : (kws k v g b p n (ix3 0 d x) : EReal)
    = ((kwR (order p) (fun i => k (row n i)) (sums g p n) (fun i => b p (row n i)) (sums g p n (order p 63)) d x : ℝ) : EReal) := by
  obtain rfl | rfl : p = 0 ∨ p = 1 := by omega
  · exact kw_holds down_fits (hold_rows k n) (hold_rows v n) (hold_downs g n) (hold_writes b 0 n) (last_down _ _ (hold_downs g n)) d x
  · exact kw_holds up_fits (hold_rows k n) (hold_rows v n) (hold_ups g n) (hold_writes b 1 n) (last_up _ _ (hold_ups g n)) d x

theorem cs_at (p : Fin 2) (n : Fin 36) (d x : Fin 128) : (cs k v g b p n (ix3 0 d x) : EReal)
    = ((cR (order p) (fun i => k (row n i)) (fun i => v (row n i)) (sums g p n) (fun i => b p (row n i)) (sums g p n (order p 63)) d x : ℝ) : EReal) := by
  obtain rfl | rfl : p = 0 ∨ p = 1 := by omega
  · exact c_holds down_fits (hold_rows k n) (hold_rows v n) (hold_downs g n) (hold_writes b 0 n) (last_down _ _ (hold_downs g n)) d x
  · exact c_holds up_fits (hold_rows k n) (hold_rows v n) (hold_ups g n) (hold_writes b 1 n) (last_up _ _ (hold_ups g n)) d x

theorem qes_at (p : Fin 2) (n : Fin 36) (i : Fin 64) (d : Fin 128) : (qes q k v g b p n (ix3 0 i d) : EReal)
    = ((qeR (order p) (fun i => q (row n i)) (fun i => k (row n i)) (sums g p n) (fun i => b p (row n i)) i d : ℝ) : EReal) := by
  obtain rfl | rfl : p = 0 ∨ p = 1 := by omega
  · exact qe_holds down_fits (hold_rows q n) (hold_rows k n) (hold_rows v n) (hold_downs g n) (hold_writes b 0 n) i d
  · exact qe_holds up_fits (hold_rows q n) (hold_rows k n) (hold_rows v n) (hold_ups g n) (hold_writes b 1 n) i d

theorem o0s_at (p : Fin 2) (n : Fin 36) (i : Fin 64) (d : Fin 128) : (o0s q k v g b p n (ix3 0 i d) : EReal)
    = ((o0R (order p) (fun i => q (row n i)) (fun i => k (row n i)) (fun i => v (row n i)) (sums g p n) (fun i => b p (row n i)) i d : ℝ) : EReal) := by
  obtain rfl | rfl : p = 0 ∨ p = 1 := by omega
  · exact o0_holds down_fits (hold_rows q n) (hold_rows k n) (hold_rows v n) (hold_downs g n) (hold_writes b 0 n) i d
  · exact o0_holds up_fits (hold_rows q n) (hold_rows k n) (hold_rows v n) (hold_ups g n) (hold_writes b 1 n) i d

theorem dcs_at (p : Fin 2) (n : Fin 36) (r : Fin 8) (x : Fin 128) : (dcs g p n (ix3 0 r x) : EReal)
    = ((Real.exp (sums g p n (order p 63)) : ℝ) : EReal) := by
  obtain rfl | rfl : p = 0 ∨ p = 1 := by omega
  · exact dc_holds (last_down _ _ (hold_downs g n)) r x
  · exact dc_holds (last_up _ _ (hold_ups g n)) r x

/-- The real numbers of chunk `n`, and the tokens it holds. -/
theorem chunk_facts (p : Fin 2) (n : Fin 36) (S : Fin 128 → Fin 128 → ℝ) :
    (∀ d x, tokens (fun u => along p (g p) (64 * (chunkAt p n).val + u)) (fun u => along p (b p) (64 * (chunkAt p n).val + u))
          (fun u => along p k (64 * (chunkAt p n).val + u)) (fun u => along p v (64 * (chunkAt p n).val + u)) S 64 d x
        = S d x * Real.exp (sums g p n (order p 63))
          - ∑ y, kwR (order p) (fun i => k (row n i)) (sums g p n) (fun i => b p (row n i)) (sums g p n (order p 63)) d y * S y x
          + cR (order p) (fun i => k (row n i)) (fun i => v (row n i)) (sums g p n) (fun i => b p (row n i)) (sums g p n (order p 63)) d x)
    ∧ ∀ (u : Fin 64) (x : Fin 128), ∑ d, q (row n (order p u)) d * tokens (fun u => along p (g p) (64 * (chunkAt p n).val + u))
          (fun u => along p (b p) (64 * (chunkAt p n).val + u)) (fun u => along p k (64 * (chunkAt p n).val + u))
          (fun u => along p v (64 * (chunkAt p n).val + u)) S (u.val + 1) d x
        = ∑ d, qeR (order p) (fun i => q (row n i)) (fun i => k (row n i)) (sums g p n) (fun i => b p (row n i)) (order p u) d * S d x
          + o0R (order p) (fun i => q (row n i)) (fun i => k (row n i)) (fun i => v (row n i)) (sums g p n) (fun i => b p (row n i)) (order p u) x :=
  chunk_tokens (order p) (fun i => q (row n i)) (fun i => k (row n i)) (fun i => v (row n i))
    (sums g p n) (fun i => b p (row n i)) (order_or p) (fun u => along p (g p) (64 * (chunkAt p n).val + u))
    (fun u => along p (b p) (64 * (chunkAt p n).val + u)) (fun u => along p k (64 * (chunkAt p n).val + u))
    (fun u => along p v (64 * (chunkAt p n).val + u)) (fun u => along_row p k n u) (fun u => along_row p v n u)
    (fun u => along_row p (b p) n u) (fun u => by unfold sums; rw [Equiv.symm_apply_apply]) S

theorem state_add (p : Fin 2) (m n : ℕ) : stateR k v g b p (m + n)
    = tokens (fun u => along p (g p) (m + u)) (fun u => along p (b p) (m + u)) (fun u => along p k (m + u)) (fun u => along p v (m + u))
        (stateR k v g b p m) n := tokens_add _ _ _ _ _ m n

/-- The carried state after `j` chunks. -/
theorem carry_at (p : Fin 2) (j : ℕ) (hj : j ≤ 36) (d x : Fin 128) :
    (carry (kws k v g b) (cs k v g b) (dcs g) p j (ix2 d x) : EReal) = ((stateR k v g b p (64 * j) d x : ℝ) : EReal) := by
  induction j generalizing d x with
  | zero =>
    show (k0_pay1175 (F := Ideal) (ix2 d x) : EReal) = (((0 : ℝ)) : EReal)
    pointwise [k0_pay1175]
    rfl
  | succ j ih =>
    have hj' : j < 36 := by omega
    have e : carry (kws k v g b) (cs k v g b) (dcs g) p (j + 1)
        = k0_pay1083 (carry (kws k v g b) (cs k v g b) (dcs g) p j) (fun x => dcs g p (chunkAt p ⟨j, hj'⟩) (ix3 0 0 (x 2)))
            (kws k v g b p (chunkAt p ⟨j, hj'⟩)) (cs k v g b p (chunkAt p ⟨j, hj'⟩)) := dif_pos hj'
    have hc : chunkAt p (chunkAt p ⟨j, hj'⟩) = ⟨j, hj'⟩ := chunkAt_chunkAt p _
    have h := (chunk_facts k k v g b p (chunkAt p ⟨j, hj'⟩) (stateR k v g b p (64 * j))).1 d x
    rw [hc] at h
    rw [e, show 64 * (j + 1) = 64 * j + 64 by ring, state_add, h]
    refine (step_at _ _ _ _ d x).trans ?_
    refine Eq.trans (congrArg₂ (· + ·) (congrArg₂ (· - ·) (congrArg₂ (· * ·) (ih (by omega) d x) (dcs_at g p _ 0 x))
      (Finset.sum_congr rfl fun y _ => congrArg₂ (· * ·) (kws_at k v g b p _ d y) (ih (by omega) y x))) (cs_at k v g b p _ d x)) ?_
    rw [EReal.coe_add, EReal.coe_sub, EReal.coe_mul, ← coe_sum]
    simp only [EReal.coe_mul]

/-- Every output row of each direction. -/
theorem scanOut_real (p : Fin 2) (t : Fin 2304) (l : Fin 128) :
    scanOut (fun t d => ((q t d : ℝ) : EReal)) (fun t d => ((k t d : ℝ) : EReal)) (fun t d => ((v t d : ℝ) : EReal))
      (fun p t => ((g p t : ℝ) : EReal)) (fun p t => ((b p t : ℝ) : EReal)) p t l = ((outR q k v g b p t l : ℝ) : EReal) := by
  have ht := t.isLt
  generalize hn : (⟨t.val / 64, by omega⟩ : Fin 36) = n
  generalize hi : (⟨t.val % 64, by omega⟩ : Fin 64) = i
  have hrow : row n i = t := by subst hn hi; apply Fin.ext; show 64 * (t.val / 64) + t.val % 64 = t.val; omega
  have e1 : scanOut (fun t d => ((q t d : ℝ) : EReal)) (fun t d => ((k t d : ℝ) : EReal)) (fun t d => ((v t d : ℝ) : EReal))
      (fun p t => ((g p t : ℝ) : EReal)) (fun p t => ((b p t : ℝ) : EReal)) p t l
      = k0_pay1082 (carry (kws k v g b) (cs k v g b) (dcs g) p (chunkAt p n).val) (qes q k v g b p n) (o0s q k v g b p n) (ix3 0 i l) := by
    subst hn hi; rfl
  have hu : order p ((order p).symm i) = i := Equiv.apply_symm_apply _ _
  have hturn : (turn p t).val = 64 * (chunkAt p n).val + ((order p).symm i).val := by
    have h2 := turn_row p (chunkAt p n) ((order p).symm i)
    rw [hu, chunkAt_chunkAt, hrow] at h2
    rw [← h2, turn_turn]
  have h := (chunk_facts q k v g b p n (stateR k v g b p (64 * (chunkAt p n).val))).2 ((order p).symm i) l
  rw [hu] at h
  rw [e1]
  refine (out_at _ _ _ i l).trans ?_
  refine Eq.trans (congrArg₂ (· + ·) (Finset.sum_congr rfl fun d _ => congrArg₂ (· * ·) (qes_at q k v g b p n i d)
    (carry_at k v g b p _ (Nat.le_of_lt (chunkAt p n).isLt) d l)) (o0s_at q k v g b p n i l)) ?_
  simp only [← EReal.coe_mul]
  rw [coe_sum, ← EReal.coe_add, ← h]
  unfold outR
  rw [hturn, Nat.add_assoc, state_add, hrow]

end

end Cert.Delta

end
-- ==== Proof.RefScan.lean ====
/- The reference's token loop: its state and its outputs are those of `Turn` on the prepared tokens. -/
module

public import proofs.«01_k».proof.Proof.RefPrep
public import proofs.«01_k».proof.Proof.Tokens

@[expose] public section

set_option maxRecDepth 16384

noncomputable section

namespace Cert.Delta.RefScan

open Idealize.ShloMosaic Idealize.ShloMosaic.TcCoe
open Cert.ReferenceIdeal Cert.ReferenceIdeal.Gen Cert.ReferenceIdeal.Step
open Cert.Delta.Spec Cert.Delta.RefPrep Cert.Delta.Math

/-! ## What one trip reads -/

theorem word_int : ∀ j : Fin 2304, (BitVec.ofNat 32 j.val).toInt = (j.val : ℤ) := by
  intro j
  have := j.isLt
  rw [BitVec.toInt_eq_toNat_cond, BitVec.toNat_ofNat, Nat.mod_eq_of_lt (by omega), if_pos (by omega)]

theorem start_eq (j : Fin 2304) : (min (max (BitVec.ofNat 32 j.val).toInt 0) ((2304 - 1 : ℕ) : ℤ)).toNat = j.val := by
  have := j.isLt
  rw [word_int]
  omega

theorem slice5 (X : Vec Ideal S2304x2x8x4x128 .f32) (j : Fin 2304) (st : Fin 5 → ℤ) (h0 : st 0 = (BitVec.ofNat 32 j.val).toInt)
    (h1 : st 1 = 0) (h2 : st 2 = 0) (h3 : st 3 = 0) (h4 : st 4 = 0) (hs) (p : Fin 2) (b : Fin 8) (h : Fin 4) (l : Fin 128) :
    Host.dynamicSlice (s := S2304x2x8x4x128) S1x2x8x4x128 X st hs (ix5 0 p b h l) = X (ix5 j p b h l) := by
  unfold Host.dynamicSlice extractStridedSlice
  refine congrArg X (funext fun a => Fin.ext ?_)
  match a with
  | ⟨0, _⟩ => show (min (max (st 0) 0) ((2304 - 1 : ℕ) : ℤ)).toNat + 0 = j.val; rw [h0, start_eq]; rfl
  | ⟨1, _⟩ => show (min (max (st 1) 0) ((2 - 2 : ℕ) : ℤ)).toNat + p.val = p.val; rw [h1]; simp
  | ⟨2, _⟩ => show (min (max (st 2) 0) ((8 - 8 : ℕ) : ℤ)).toNat + b.val = b.val; rw [h2]; simp
  | ⟨3, _⟩ => show (min (max (st 3) 0) ((4 - 4 : ℕ) : ℤ)).toNat + h.val = h.val; rw [h3]; simp
  | ⟨4, _⟩ => show (min (max (st 4) 0) ((128 - 128 : ℕ) : ℤ)).toNat + l.val = l.val; rw [h4]; simp

theorem slice4 (X : Vec Ideal S2304x2x8x4 .f32) (j : Fin 2304) (st : Fin 4 → ℤ) (h0 : st 0 = (BitVec.ofNat 32 j.val).toInt)
    (h1 : st 1 = 0) (h2 : st 2 = 0) (h3 : st 3 = 0) (hs) (p : Fin 2) (b : Fin 8) (h : Fin 4) :
    Host.dynamicSlice (s := S2304x2x8x4) S1x2x8x4 X st hs (ix4 0 p b h) = X (ix4 j p b h) := by
  unfold Host.dynamicSlice extractStridedSlice
  refine congrArg X (funext fun a => Fin.ext ?_)
  match a with
  | ⟨0, _⟩ => show (min (max (st 0) 0) ((2304 - 1 : ℕ) : ℤ)).toNat + 0 = j.val; rw [h0, start_eq]; rfl
  | ⟨1, _⟩ => show (min (max (st 1) 0) ((2 - 2 : ℕ) : ℤ)).toNat + p.val = p.val; rw [h1]; simp
  | ⟨2, _⟩ => show (min (max (st 2) 0) ((8 - 8 : ℕ) : ℤ)).toNat + b.val = b.val; rw [h2]; simp
  | ⟨3, _⟩ => show (min (max (st 3) 0) ((4 - 4 : ℕ) : ℤ)).toNat + h.val = h.val; rw [h3]; simp

theorem update5 (X : Vec Ideal S2304x2x8x4x128 .f32) (U : Vec Ideal S1x2x8x4x128 .f32) (j : Fin 2304) (st : Fin 5 → ℤ)
    (h0 : st 0 = (BitVec.ofNat 32 j.val).toInt) (h1 : st 1 = 0) (h2 : st 2 = 0) (h3 : st 3 = 0) (h4 : st 4 = 0) (hs)
    (t : Fin 2304) (p : Fin 2) (b : Fin 8) (h : Fin 4) (l : Fin 128) :
    Host.dynamicUpdateSlice (s := S2304x2x8x4x128) (u := S1x2x8x4x128) X U st hs (ix5 t p b h l)
      = if t = j then U (ix5 0 p b h l) else X (ix5 t p b h l) := by
  have e0 : (min (max (st 0) 0) ((2304 - 1 : ℕ) : ℤ)).toNat = j.val := by rw [h0]; exact start_eq j
  have e1 : (min (max (st 1) 0) ((2 - 2 : ℕ) : ℤ)).toNat = 0 := by rw [h1]; rfl
  have e2 : (min (max (st 2) 0) ((8 - 8 : ℕ) : ℤ)).toNat = 0 := by rw [h2]; rfl
  have e3 : (min (max (st 3) 0) ((4 - 4 : ℕ) : ℤ)).toNat = 0 := by rw [h3]; rfl
  have e4 : (min (max (st 4) 0) ((128 - 128 : ℕ) : ℤ)).toNat = 0 := by rw [h4]; rfl
  unfold Host.dynamicUpdateSlice updateSlice
  split
  · rename_i hin
    have ha : (min (max (st 0) 0) ((2304 - 1 : ℕ) : ℤ)).toNat ≤ t.val ∧ t.val < (min (max (st 0) 0) ((2304 - 1 : ℕ) : ℤ)).toNat + 1 := hin 0
    rw [e0] at ha
    rw [if_pos (Fin.ext (by omega))]
    refine congrArg U (funext fun a => Fin.ext ?_)
    match a with
    | ⟨0, _⟩ => show t.val - (min (max (st 0) 0) ((2304 - 1 : ℕ) : ℤ)).toNat = 0; rw [e0]; omega
    | ⟨1, _⟩ => show p.val - (min (max (st 1) 0) ((2 - 2 : ℕ) : ℤ)).toNat = p.val; rw [e1]; rfl
    | ⟨2, _⟩ => show b.val - (min (max (st 2) 0) ((8 - 8 : ℕ) : ℤ)).toNat = b.val; rw [e2]; rfl
    | ⟨3, _⟩ => show h.val - (min (max (st 3) 0) ((4 - 4 : ℕ) : ℤ)).toNat = h.val; rw [e3]; rfl
    | ⟨4, _⟩ => show l.val - (min (max (st 4) 0) ((128 - 128 : ℕ) : ℤ)).toNat = l.val; rw [e4]; rfl
  · rename_i hout
    refine (if_neg fun htj => hout fun a => ?_).symm
    subst htj
    have := p.isLt; have := b.isLt; have := h.isLt; have := l.isLt
    match a with
    | ⟨0, _⟩ => show (min (max (st 0) 0) ((2304 - 1 : ℕ) : ℤ)).toNat ≤ t.val ∧ t.val < (min (max (st 0) 0) ((2304 - 1 : ℕ) : ℤ)).toNat + 1; rw [e0]; omega
    | ⟨1, _⟩ => show (min (max (st 1) 0) ((2 - 2 : ℕ) : ℤ)).toNat ≤ p.val ∧ p.val < (min (max (st 1) 0) ((2 - 2 : ℕ) : ℤ)).toNat + 2; rw [e1]; omega
    | ⟨2, _⟩ => show (min (max (st 2) 0) ((8 - 8 : ℕ) : ℤ)).toNat ≤ b.val ∧ b.val < (min (max (st 2) 0) ((8 - 8 : ℕ) : ℤ)).toNat + 8; rw [e2]; omega
    | ⟨3, _⟩ => show (min (max (st 3) 0) ((4 - 4 : ℕ) : ℤ)).toNat ≤ h.val ∧ h.val < (min (max (st 3) 0) ((4 - 4 : ℕ) : ℤ)).toNat + 4; rw [e3]; omega
    | ⟨4, _⟩ => show (min (max (st 4) 0) ((128 - 128 : ℕ) : ℤ)).toNat ≤ l.val ∧ l.val < (min (max (st 4) 0) ((128 - 128 : ℕ) : ℤ)).toNat + 128; rw [e4]; omega

section
variable (s : State Ideal) (j : Fin 2304) (p : Fin 2) (b : Fin 8) (h : Fin 4)

theorem read_q (l : Fin 128) : b5 j.val s (ix4 p b h l) = s.main_v222_0 (ix5 j p b h l) := by
  pointwise [b5]; exact slice5 _ j _ rfl rfl rfl rfl rfl _ p b h l
theorem read_k (l : Fin 128) : b11 j.val s (ix4 p b h l) = s.main_v222_1 (ix5 j p b h l) := by
  pointwise [b11]; exact slice5 _ j _ rfl rfl rfl rfl rfl _ p b h l
theorem read_v (l : Fin 128) : b17 j.val s (ix4 p b h l) = s.main_v222_2 (ix5 j p b h l) := by
  pointwise [b17]; exact slice5 _ j _ rfl rfl rfl rfl rfl _ p b h l
theorem read_g : b22 j.val s (ix3 p b h) = s.main_v222_3 (ix4 j p b h) := by
  pointwise [b22]; exact slice4 _ j _ rfl rfl rfl rfl _ p b h
theorem read_s : b27 j.val s (ix3 p b h) = s.main_v222_4 (ix4 j p b h) := by
  pointwise [b27]; exact slice4 _ j _ rfl rfl rfl rfl _ p b h

/-- The new state, -/
theorem new_state (d l : Fin 128) : (b42 j.val s (ix5 p b h d l) : EReal)
    = s.main_v222_6 (ix5 p b h d l) * Ideal.exp (s.main_v222_3 (ix4 j p b h))
      + s.main_v222_4 (ix4 j p b h) * s.main_v222_1 (ix5 j p b h d)
        * (s.main_v222_2 (ix5 j p b h l) - ∑ x : Fin 128, s.main_v222_1 (ix5 j p b h x)
            * (s.main_v222_6 (ix5 p b h x l) * Ideal.exp (s.main_v222_3 (ix4 j p b h)))) := by
  pointwise [b42, b41, b40, b39, b38, b37, b36, b35, b34, b33, b32, b31, b30, b29, b28]
  simp only [read_k, read_v, read_g, read_s]

/-- and the outputs with the trip's row stored. -/
theorem new_out (t : Fin 2304) (l : Fin 128) : (b49 j.val s (ix5 t p b h l) : EReal)
    = if t = j then ∑ x : Fin 128, s.main_v222_0 (ix5 j p b h x) * b42 j.val s (ix5 p b h x l) else s.main_v222_7 (ix5 t p b h l) := by
  unfold b49
  refine (update5 _ _ j _ rfl rfl rfl rfl rfl _ t p b h l).trans ?_
  refine if_congr Iff.rfl ?_ rfl
  pointwise [b44, b43]
  simp only [read_q]
end

/-! ## The states in turn -/

variable (A : Args.Arrays)

def it : ℕ → State Ideal
  | 0 => init A.z A.x A.w A.a A.d
  | n + 1 => step n (it n)

theorem it_q (n : ℕ) : (it A n).main_v222_0 = A_main_v216 A.z A.x A.w A.a A.d := by
  induction n with | zero => rfl | succ n ih => exact ih
theorem it_k (n : ℕ) : (it A n).main_v222_1 = A_main_v217 A.z A.x A.w A.a A.d := by
  induction n with | zero => rfl | succ n ih => exact ih
theorem it_v (n : ℕ) : (it A n).main_v222_2 = A_main_v218 A.z A.x A.w A.a A.d := by
  induction n with | zero => rfl | succ n ih => exact ih
theorem it_g (n : ℕ) : (it A n).main_v222_3 = A_main_v219 A.z A.x A.w A.a A.d := by
  induction n with | zero => rfl | succ n ih => exact ih
theorem it_s (n : ℕ) : (it A n).main_v222_4 = A_main_v220 A.z A.x A.w A.a A.d := by
  induction n with | zero => rfl | succ n ih => exact ih

section
variable (b : Fin 8) (h : Fin 4) (q k v : Fin 2304 → Fin 128 → ℝ) (g s : Fin 2 → Fin 2304 → ℝ)
  (hq : ∀ t l, Args.q A b h t l = ((q t l : ℝ) : EReal)) (hk : ∀ t l, Args.k A b h t l = ((k t l : ℝ) : EReal))
  (hv : ∀ t l, Args.v A b h t l = ((v t l : ℝ) : EReal)) (hg : ∀ p t, Args.g A b h p t = ((g p t : ℝ) : EReal))
  (hs : ∀ p t, Args.s A b h p t = ((s p t : ℝ) : EReal))

theorem along_at {α : Type} [Zero α] (p : Fin 2) (f : Fin 2304 → α) (j : Fin 2304) : along p f j.val = f (turn p j) := by
  unfold along; rw [dif_pos j.isLt]

include hk hv hg hs in
theorem it_state (p : Fin 2) (n : ℕ) (hn : n ≤ 2304) (d l : Fin 128) :
    ((it A n).main_v222_6 (ix5 p b h d l) : EReal) = ((stateR k v g s p n d l : ℝ) : EReal) := by
  induction n generalizing d l with
  | zero =>
    show (K_main_v154 (F := Ideal) (ix5 p b h d l) : EReal) = ((0 : ℝ) : EReal)
    pointwise [K_main_v154, K_main_cst_14]
    rfl
  | succ n ih =>
    obtain ⟨j, rfl⟩ : ∃ j : Fin 2304, j.val = n := ⟨⟨n, by omega⟩, rfl⟩
    have e : stateR k v g s p (j.val + 1) d l = token (g p (turn p j)) (s p (turn p j)) (k (turn p j)) (v (turn p j)) (stateR k v g s p j.val) d l := by
      show token (along p (g p) j.val) (along p (s p) j.val) (along p k j.val) (along p v j.val) (stateR k v g s p j.val) d l = _
      rw [along_at, along_at, along_at, along_at]
    rw [e]
    refine (new_state (it A j.val) j p b h d l).trans ?_
    rw [it_k, it_v, it_g, it_s, ref_g, ref_s]
    simp only [ref_k, ref_v, hk, hv, hg, hs, ih (by omega), Ideal.exp_coe]
    unfold token
    rw [EReal.coe_add, EReal.coe_mul, EReal.coe_mul, EReal.coe_mul, EReal.coe_sub, ← coe_sum]
    simp only [EReal.coe_mul]

include hq hk hv hg hs in
theorem it_out (p : Fin 2) (n : ℕ) (hn : n ≤ 2304) (t : Fin 2304) (ht : t.val < n) (l : Fin 128) :
    ((it A n).main_v222_7 (ix5 t p b h l) : EReal) = ((outR q k v g s p (turn p t) l : ℝ) : EReal) := by
  induction n with
  | zero => exact absurd ht (Nat.not_lt_zero _)
  | succ n ih =>
    obtain ⟨j, rfl⟩ : ∃ j : Fin 2304, j.val = n := ⟨⟨n, by omega⟩, rfl⟩
    refine (new_out (it A j.val) j p b h t l).trans ?_
    by_cases e : t = j
    · subst e
      rw [if_pos rfl]
      have hS : ∀ x, (b42 t.val (it A t.val) (ix5 p b h x l) : EReal) = ((stateR k v g s p (t.val + 1) x l : ℝ) : EReal) :=
        fun x => it_state A b h k v g s hk hv hg hs p (t.val + 1) hn x l
      simp only [hS, it_q, ref_q, hq]
      unfold outR
      rw [turn_turn, ← coe_sum]
      simp only [EReal.coe_mul]
    · rw [if_neg e]
      exact ih (by omega) (by have : t.val ≠ j.val := fun he => e (Fin.ext he); omega)
end

end Cert.Delta.RefScan

end
-- ==== Proof.Finite.lean ====
/- The precondition read: every argument entry is a real number, and then so is everything the tokens are prepared
   from. -/
module

public import proofs.«01_k».proof.Proof.Args
public import proofs.«01_k».proof.Proof.Gen.Pre_finite
public import Idealize.ShloMosaic.Lib.ReduceAll

@[expose] public section

set_option maxRecDepth 16384

noncomputable section

namespace Cert.Delta.Finite

open Idealize.ShloMosaic Idealize.ShloMosaic.TcCoe
open Cert.Delta.Spec

/-- A real number among the extended ones. -/
def Real' (x : EReal) : Prop := ∃ r : ℝ, x = (r : EReal)

theorem Real'.coe (r : ℝ) : Real' (r : EReal) := ⟨r, rfl⟩
theorem Real'.zero : Real' 0 := ⟨0, rfl⟩
theorem Real'.add {x y : EReal} : Real' x → Real' y → Real' (x + y) := fun ⟨a, ha⟩ ⟨b, hb⟩ => ⟨a + b, by rw [ha, hb, EReal.coe_add]⟩
theorem Real'.mul {x y : EReal} : Real' x → Real' y → Real' (x * y) := fun ⟨a, ha⟩ ⟨b, hb⟩ => ⟨a * b, by rw [ha, hb, EReal.coe_mul]⟩
theorem Real'.sub {x y : EReal} : Real' x → Real' y → Real' (x - y) := fun ⟨a, ha⟩ ⟨b, hb⟩ => ⟨a - b, by rw [ha, hb, EReal.coe_sub]⟩
theorem Real'.max {x y : EReal} (hx : Real' x) (hy : Real' y) : Real' (Max.max x y) := by
  rcases max_choice x y with h | h <;> rw [h] <;> assumption
theorem Real'.exp {x : EReal} : Real' x → Real' (Ideal.exp x) := fun ⟨a, ha⟩ => ⟨Real.exp a, by rw [ha, Ideal.exp_coe]⟩
theorem Real'.logistic {x : EReal} : Real' x → Real' (Ideal.logistic x) := fun ⟨a, ha⟩ => ⟨_, by rw [ha, Ideal.logistic_coe]⟩

theorem Real'.log1p_exp {x : EReal} : Real' x → Real' (Ideal.log1p (Ideal.exp x)) := fun ⟨a, ha⟩ => by
  refine ⟨Real.log (1 + Real.exp a), ?_⟩
  rw [ha, Ideal.exp_coe]
  unfold Ideal.log1p
  rw [← EReal.coe_one, ← EReal.coe_add, Ideal.log_coe, if_neg (by have := Real.exp_pos a; linarith)]

theorem Real'.abs {x : EReal} (hx : Real' x) : Real' (FloatOps.absf (F := Ideal) (φ := FTy.f32) x : EReal) := by
  obtain ⟨a, rfl⟩ := hx
  show Real' (Max.max (a : EReal) (-(a : EReal)))
  exact (Real'.coe a).max ⟨-a, by rw [EReal.coe_neg]⟩

theorem eps_pos : ∃ e : ℝ, 0 < e ∧ eps = (e : EReal) := by
  refine ⟨_, ?_, by unfold eps; simp [Ideal.ofBits, Ideal.ieee]; rfl⟩
  norm_num

theorem scale_real : Real' scale := by
  refine ⟨_, by unfold scale; simp [Ideal.ofBits, Ideal.ieee]; rfl⟩

theorem unit_real (f : Fin 128 → EReal) (hf : ∀ l, Real' (f l)) (l : Fin 128) : Real' (unit f l) := by
  choose r hr using hf
  obtain ⟨e, he, hee⟩ := eps_pos
  have hs : ∑ x, f x * f x + eps = ((∑ x, r x * r x + e : ℝ) : EReal) := by
    rw [hee, EReal.coe_add, ← coe_sum]
    refine congrArg (· + _) (Finset.sum_congr rfl fun x _ => ?_)
    rw [hr, EReal.coe_mul]
  have hp : 0 < ∑ x, r x * r x + e := add_pos_of_nonneg_of_pos (Finset.sum_nonneg fun x _ => mul_self_nonneg (r x)) he
  unfold unit
  rw [hs, Ideal.rsqrt_coe, if_neg (by linarith), if_neg (by linarith), hr]
  exact (Real'.coe _).mul (Real'.coe _)

theorem tap_real {n : ℕ} (X : Fin n → EReal) (hX : ∀ r, Real' (X r)) (r : Fin n) (j : ℕ) : Real' (tap X r j) := by
  unfold tap; split
  · exact hX _
  · exact Real'.zero

theorem act_real {n : ℕ} (w : Fin 4 → Fin 128 → EReal) (X : Fin n → Fin 128 → EReal) (hw : ∀ j l, Real' (w j l))
    (hX : ∀ r l, Real' (X r l)) (r : Fin n) (l : Fin 128) : Real' (act w X r l) := by
  have hc : Real' (conv (fun j => w j l) (fun r => X r l) r) := by
    unfold conv
    exact ((((hw 0 l).mul (tap_real _ (fun r => hX r l) r 0)).add ((hw 1 l).mul (tap_real _ (fun r => hX r l) r 1))).add
      ((hw 2 l).mul (tap_real _ (fun r => hX r l) r 2))).add ((hw 3 l).mul (tap_real _ (fun r => hX r l) r 3))
  unfold act silu
  exact hc.mul hc.logistic

theorem joined_real {c : Fin 256 → EReal} {x : Fin 2048 → EReal} (hc : ∀ r, Real' (c r)) (hx : ∀ r, Real' (x r)) (t : Fin 2304) :
    Real' (joined c x t) := by
  unfold joined; split
  · exact hc _
  · exact hx _

theorem value_real (w : Fin 4 → Fin 128 → EReal) (c : Fin 256 → Fin 128 → EReal) (x : Fin 2048 → Fin 128 → EReal) (hw : ∀ j l, Real' (w j l))
    (hc : ∀ r l, Real' (c r l)) (hx : ∀ r l, Real' (x r l)) (t : Fin 2304) (l : Fin 128) : Real' (value w c x t l) := by
  unfold value joined; split
  · exact act_real w c hw hc _ l
  · exact act_real w x hw hx _ l

theorem decay_real {a d x : EReal} (ha : Real' a) (hd : Real' d) (hx : Real' x) : Real' (decay a d x) := by
  unfold decay
  exact (Real'.zero.sub ha.exp).mul (((hx.add hd).max Real'.zero).add (Real'.zero.sub (hx.add hd).abs).log1p_exp)

/-! ## The arguments -/

/-- Every argument entry the tokens are prepared from is a real number. -/
structure AllReal (A : Args.Arrays) : Prop where
  z : ∀ i, Real' (A.z i)
  x : ∀ i, Real' (A.x i)
  w : ∀ i, Real' (A.w i)
  a : ∀ i, Real' (A.a i)
  d : ∀ i, Real' (A.d i)

section
variable {A : Args.Arrays} (hA : AllReal A) (b : Fin 8) (h : Fin 4)
include hA

theorem q_real (t : Fin 2304) (l : Fin 128) : Real' (Args.q A b h t l) :=
  (unit_real _ (value_real _ _ _ (fun _ _ => hA.w _) (fun _ _ => hA.z _) (fun _ _ => hA.x _) t) l).mul scale_real
theorem k_real (t : Fin 2304) (l : Fin 128) : Real' (Args.k A b h t l) :=
  unit_real _ (value_real _ _ _ (fun _ _ => hA.w _) (fun _ _ => hA.z _) (fun _ _ => hA.x _) t) l
theorem v_real (t : Fin 2304) (l : Fin 128) : Real' (Args.v A b h t l) :=
  value_real _ _ _ (fun _ _ => hA.w _) (fun _ _ => hA.z _) (fun _ _ => hA.x _) t l
theorem g_real (p : Fin 2) (t : Fin 2304) : Real' (Args.g A b h p t) :=
  decay_real (hA.a _) (hA.d _) (joined_real (fun _ => hA.z _) (fun _ => hA.x _) t)
theorem s_real (p : Fin 2) (t : Fin 2304) : Real' (Args.s A b h p t) :=
  (joined_real (fun _ => hA.z _) (fun _ => hA.x _) t).logistic
end

/-- What the comparison of an absolute value with infinity says. -/
theorem real_of_lt {x : EReal} (h : FloatOps.cmpf (F := Ideal) (φ := FTy.f32) .olt (FloatOps.absf (F := Ideal) (φ := FTy.f32) x) (FloatOps.ofBits (F := Ideal) FTy.f32 0x7F800000#32) = 1#1) :
    Real' x := by
  have hinf : (FloatOps.ofBits (F := Ideal) FTy.f32 0x7F800000#32 : EReal) = ⊤ := by
    show Ideal.ofBits FTy.f32 0x7F800000#32 = ⊤
    simp [Ideal.ofBits, Ideal.ieee]
  rw [hinf] at h
  induction x using EReal.rec with
  | bot => exact absurd h (by simp [FloatOps.cmpf, FloatOps.absf, ScalarOps.cmpf, ScalarOps.absf, Ideal.cmp])
  | top => exact absurd h (by simp [FloatOps.cmpf, FloatOps.absf, ScalarOps.cmpf, ScalarOps.absf, Ideal.cmp])
  | coe r => exact Real'.coe r

theorem all_real (A : Args.Arrays) (hpre : Cert.Pre_finite.fn (F := Ideal) A.z A.x A.w A.a A.d A.n = (fun _ => 1#1)) : AllReal A := by
  have h := congrFun hpre (fun a => a.elim0)
  unfold Cert.Pre_finite.fn Cert.Pre_finite.fn_part1 at h
  dsimp only at h
  obtain ⟨h, -⟩ := IntOp.andi_eq_one.1 h
  obtain ⟨h, hd⟩ := IntOp.andi_eq_one.1 h
  obtain ⟨h, ha⟩ := IntOp.andi_eq_one.1 h
  obtain ⟨h, hw⟩ := IntOp.andi_eq_one.1 h
  obtain ⟨hz, hx⟩ := IntOp.andi_eq_one.1 h
  exact ⟨fun i => real_of_lt (Host.reduce_andi_all _ _ _ _ _ hz i), fun i => real_of_lt (Host.reduce_andi_all _ _ _ _ _ hx i),
    fun i => real_of_lt (Host.reduce_andi_all _ _ _ _ _ hw i), fun i => real_of_lt (Host.reduce_andi_all _ _ _ _ _ ha i),
    fun i => real_of_lt (Host.reduce_andi_all _ _ _ _ _ hd i)⟩

end Cert.Delta.Finite

end
-- ==== Proof.Body.lean ====
/- What the body leaves in its two output windows, of its windows' contents alone. -/
module

public import proofs.«01_k».proof.Proof.Planes

@[expose] public section

set_option maxRecDepth 16384

noncomputable section

namespace Cert.Delta

open Cert.KernelIdeal Cert.KernelIdeal.Gen
open Idealize.ShloMosaic Idealize.ShloMosaic.TcCoe Idealize.ShloMosaic.Tactic
open Cert.Delta.Spec

set_option maxHeartbeats 4000000 in
theorem read_mixed (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (x0 : Vec Ideal S1x256x128 .f32) (x1 : Vec Ideal S1x256x128 .f32) (x2 : Vec Ideal S1x256x128 .f32) (x4 : Vec Ideal S1x2048x128 .f32) (x5 : Vec Ideal S1x2048x128 .f32) (x6 : Vec Ideal S1x2048x128 .f32) (x8 : Vec Ideal S1x1x2304x4 .f32) (x9 : Vec Ideal S1x3x4x128 .f32) (x10 : Vec Ideal S1x8x128 .f32) (s7 : Vec Ideal S2x2304x128 .f32) (s9 : Vec Ideal S2x4608x128 .bf16) (s10 : Vec Ideal S2x4608x128 .f32) (s11 : Vec Ideal S2x2304x128 .bf16) (s12 : Vec Ideal S2x2304x128 .f32) (s13 : Vec Ideal S2x288x128 .f32) (t : Fin 2304) (l : Fin 128) :
    kernelRun.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x4 x5 x6 x8 x9 x10 s7 s9 s10 s11 s12 s13 (ix2 t l)
      = mixed (queries x0 x4 x9) (keys x1 x5 x9) (values x2 x6 x9) (decays x8 x10) (strengths x8) t l := by
  simp only [kernelRun.sl.r_19]
  pointwise [k0_pay1179]
  simp only [read_plane0, read_plane1]
  rfl

/-- The gated output of the 2048 rows after the context's, and of the context's. -/
def outX (x0 x1 x2 : Vec Ideal S1x256x128 .f32) (x4 x5 x6 x7 : Vec Ideal S1x2048x128 .f32) (x8 : Vec Ideal S1x1x2304x4 .f32)
    (x9 : Vec Ideal S1x3x4x128 .f32) (x10 : Vec Ideal S1x8x128 .f32) (x11 : Vec Ideal S1x128 .f32) : Vec Ideal S1x2048x128 .f32 :=
  fun y => mixed (queries x0 x4 x9) (keys x1 x5 x9) (values x2 x6 x9) (decays x8 x10) (strengths x8)
    ⟨256 + (y 1).val, by have : (y 1).val < 2048 := (y 1).isLt; omega⟩ (y 2) * x11 (ix2 0 (y 2)) * silu (x7 (ix3 0 (y 1) (y 2)))

def outZ (x0 x1 x2 x3 : Vec Ideal S1x256x128 .f32) (x4 x5 x6 : Vec Ideal S1x2048x128 .f32) (x8 : Vec Ideal S1x1x2304x4 .f32)
    (x9 : Vec Ideal S1x3x4x128 .f32) (x10 : Vec Ideal S1x8x128 .f32) (x11 : Vec Ideal S1x128 .f32) : Vec Ideal S1x256x128 .f32 :=
  fun y => mixed (queries x0 x4 x9) (keys x1 x5 x9) (values x2 x6 x9) (decays x8 x10) (strengths x8)
    ⟨(y 1).val, by have : (y 1).val < 256 := (y 1).isLt; omega⟩ (y 2) * x11 (ix2 0 (y 2)) * silu (x3 (ix3 0 (y 1) (y 2)))

theorem pay3_read (V : FVec Ideal S2304x128 .f32) (w : Vec Ideal S1x128 .f32) (x : Vec Ideal S1x2048x128 .f32) (r : Fin 2048) (l : Fin 128) :
    k0_pay3 V w x (ix3 0 r l) = V (ix2 ⟨256 + r.val, by have := r.isLt; omega⟩ l) * w (ix2 0 l) * silu (x (ix3 0 r l)) := by
  pointwise [k0_pay1, k0_pay3]
  rfl

theorem pay2_read (V : FVec Ideal S2304x128 .f32) (w : Vec Ideal S1x128 .f32) (x : Vec Ideal S1x256x128 .f32) (r : Fin 256) (l : Fin 128) :
    k0_pay2 V w x (ix3 0 r l) = V (ix2 ⟨r.val, by have := r.isLt; omega⟩ l) * w (ix2 0 l) * silu (x (ix3 0 r l)) := by
  pointwise [k0_pay1, k0_pay2]
  rfl

theorem window_idx {R : ℕ} (y : (⟨3, ![1, R, 128]⟩ : Shape).Idx) : ∃ (r : Fin R) (l : Fin 128), y = ix3 0 r l := by
  refine ⟨y 1, y 2, ?_⟩
  funext a
  fin_cases a
  · exact Subsingleton.elim (α := Fin 1) _ _
  · rfl
  · rfl

set_option maxHeartbeats 8000000 in
/-- The output window of 2048 rows after the body, whatever it and the scratch buffers held. -/
theorem body_outX (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (x0 : Vec Ideal S1x256x128 .f32) (x1 : Vec Ideal S1x256x128 .f32) (x2 : Vec Ideal S1x256x128 .f32) (x3 : Vec Ideal S1x256x128 .f32) (x4 : Vec Ideal S1x2048x128 .f32) (x5 : Vec Ideal S1x2048x128 .f32) (x6 : Vec Ideal S1x2048x128 .f32) (x7 : Vec Ideal S1x2048x128 .f32) (x8 : Vec Ideal S1x1x2304x4 .f32) (x9 : Vec Ideal S1x3x4x128 .f32) (x10 : Vec Ideal S1x8x128 .f32) (x11 : Vec Ideal S1x128 .f32) (x12 : Vec Ideal S1x2048x128 .f32) (x13 : Vec Ideal S1x256x128 .f32) (s0 : Vec Ideal S2304x128 .f32) (s1 : Vec Ideal S2304x128 .f32) (s2 : Vec Ideal S2304x128 .f32) (s3 : Vec Ideal S2304x128 .f32) (s4 : Vec Ideal S2304x128 .f32) (s5 : Vec Ideal S2304x128 .f32) (s6 : Vec Ideal S2304x128 .f32) (s7 : Vec Ideal S2x2304x128 .f32) (s8 : Vec Ideal S2432x128 .f32) (s9 : Vec Ideal S2x4608x128 .bf16) (s10 : Vec Ideal S2x4608x128 .f32) (s11 : Vec Ideal S2x2304x128 .bf16) (s12 : Vec Ideal S2x2304x128 .f32) (s13 : Vec Ideal S2x288x128 .f32) :
    arg14.view.read (Elt Ideal) (arg14.view.writes (Elt Ideal) (harg14.unread x12) (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 s0 s1 s2 s3 s4 s5 s6 s7 s8 s9 s10 s11 s12 s13).1)
      = outX x0 x1 x2 x4 x5 x6 x7 x8 x9 x10 x11 := by
  have hw : View.readAt (Elt Ideal) arg13.view (Rect.unit (s := S1x128) ![0, 0] S1x128.size (by decide)).toLoadRect (harg13.unread x11) = x11 :=
    (View.readAt_eq_ld _ _ _).trans ((congrArg (fun X => View.ld X _) (harg13.read_unread x11)).trans (View.ld_unit_zero (by decide) _ _))
  have hz : View.readAt (Elt Ideal) arg9.view (Rect.unit (s := S1x2048x128) ![0, 0, 0] S1x2048x128.size (by decide)).toLoadRect (harg9.unread x7) = x7 :=
    (View.readAt_eq_ld _ _ _).trans ((congrArg (fun X => View.ld X _) (harg9.read_unread x7)).trans (View.ld_unit_zero (by decide) _ _))
  unfold kernelRun
  dsimp only
  refine (View.read_writes_eq_canon _ _ _ (fun y => ⟨_, List.mem_cons_self, cover_window (R := 2048) (by decide) y⟩)).trans ?_
  refine (View.canon_unit_zero (by decide) _ _).trans ?_
  funext y
  obtain ⟨r, l, rfl⟩ := window_idx (R := 2048) y
  refine (pay3_read _ _ _ r l).trans ?_
  rw [read_mixed]
  exact congr (congrArg HMul.hMul (congrArg (_ * ·) (congrFun hw _))) (congrArg silu (congrFun hz _))

set_option maxHeartbeats 8000000 in
/-- The output window of 256 rows after the body, whatever it and the scratch buffers held. -/
theorem body_outZ (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole) (x0 : Vec Ideal S1x256x128 .f32) (x1 : Vec Ideal S1x256x128 .f32) (x2 : Vec Ideal S1x256x128 .f32) (x3 : Vec Ideal S1x256x128 .f32) (x4 : Vec Ideal S1x2048x128 .f32) (x5 : Vec Ideal S1x2048x128 .f32) (x6 : Vec Ideal S1x2048x128 .f32) (x7 : Vec Ideal S1x2048x128 .f32) (x8 : Vec Ideal S1x1x2304x4 .f32) (x9 : Vec Ideal S1x3x4x128 .f32) (x10 : Vec Ideal S1x8x128 .f32) (x11 : Vec Ideal S1x128 .f32) (x12 : Vec Ideal S1x2048x128 .f32) (x13 : Vec Ideal S1x256x128 .f32) (s0 : Vec Ideal S2304x128 .f32) (s1 : Vec Ideal S2304x128 .f32) (s2 : Vec Ideal S2304x128 .f32) (s3 : Vec Ideal S2304x128 .f32) (s4 : Vec Ideal S2304x128 .f32) (s5 : Vec Ideal S2304x128 .f32) (s6 : Vec Ideal S2304x128 .f32) (s7 : Vec Ideal S2x2304x128 .f32) (s8 : Vec Ideal S2432x128 .f32) (s9 : Vec Ideal S2x4608x128 .bf16) (s10 : Vec Ideal S2x4608x128 .f32) (s11 : Vec Ideal S2x2304x128 .bf16) (s12 : Vec Ideal S2x2304x128 .f32) (s13 : Vec Ideal S2x288x128 .f32) :
    arg15.view.read (Elt Ideal) (arg15.view.writes (Elt Ideal) (harg15.unread x13) (kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 s0 s1 s2 s3 s4 s5 s6 s7 s8 s9 s10 s11 s12 s13).2.1)
      = outZ x0 x1 x2 x3 x4 x5 x6 x8 x9 x10 x11 := by
  have hw : View.readAt (Elt Ideal) arg13.view (Rect.unit (s := S1x128) ![0, 0] S1x128.size (by decide)).toLoadRect (harg13.unread x11) = x11 :=
    (View.readAt_eq_ld _ _ _).trans ((congrArg (fun X => View.ld X _) (harg13.read_unread x11)).trans (View.ld_unit_zero (by decide) _ _))
  have hz : View.readAt (Elt Ideal) arg5.view (Rect.unit (s := S1x256x128) ![0, 0, 0] S1x256x128.size (by decide)).toLoadRect (harg5.unread x3) = x3 :=
    (View.readAt_eq_ld _ _ _).trans ((congrArg (fun X => View.ld X _) (harg5.read_unread x3)).trans (View.ld_unit_zero (by decide) _ _))
  unfold kernelRun
  dsimp only
  refine (View.read_writes_eq_canon _ _ _ (fun y => ⟨_, List.mem_cons_self, cover_window (R := 256) (by decide) y⟩)).trans ?_
  refine (View.canon_unit_zero (by decide) _ _).trans ?_
  funext y
  obtain ⟨r, l, rfl⟩ := window_idx (R := 256) y
  refine (pay2_read _ _ _ r l).trans ?_
  rw [read_mixed]
  exact congr (congrArg HMul.hMul (congrArg (_ * ·) (congrFun hw _))) (congrArg silu (congrFun hz _))

end Cert.Delta
end
-- ==== Proof.Launch.lean ====
/- The launch: at every grid point the body leaves the closed values in its two output windows, so the two result
   arrays end at those values, and the arguments unchanged. -/
module

public import proofs.«01_k».proof.Proof.Body
public import Idealize.ShloMosaic.Lib.Pipeline.ValueKit

@[expose] public section

set_option maxRecDepth 16384

noncomputable section

namespace Cert.Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
/-- The body on whole buffers: the outputs end at their closed values, the scratch buffers at something. -/
theorem body_run  (c : Dev nD) (i : grid0.Coords) (arg2 : Memref sig .tc .vmem S1x256x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1x2304x4 .f32) (harg10 : arg10.IsWhole) (arg11 : Memref sig .tc .vmem S1x3x4x128 .f32) (harg11 : arg11.IsWhole) (arg12 : Memref sig .tc .vmem S1x8x128 .f32) (harg12 : arg12.IsWhole) (arg13 : Memref sig .tc .vmem S1x128 .f32) (harg13 : arg13.IsWhole) (arg14 : Memref sig .tc .vmem S1x2048x128 .f32) (harg14 : arg14.IsWhole) (arg15 : Memref sig .tc .vmem S1x256x128 .f32) (harg15 : arg15.IsWhole) (arg16 : Memref sig .tc .vmem S2304x128 .f32) (harg16 : arg16.IsWhole) (arg17 : Memref sig .tc .vmem S2304x128 .f32) (harg17 : arg17.IsWhole) (arg18 : Memref sig .tc .vmem S2304x128 .f32) (harg18 : arg18.IsWhole) (arg19 : Memref sig .tc .vmem S2304x128 .f32) (harg19 : arg19.IsWhole) (arg20 : Memref sig .tc .vmem S2304x128 .f32) (harg20 : arg20.IsWhole) (arg21 : Memref sig .tc .vmem S2304x128 .f32) (harg21 : arg21.IsWhole) (arg22 : Memref sig .tc .vmem S2304x128 .f32) (harg22 : arg22.IsWhole) (arg23 : Memref sig .tc .vmem S2x2304x128 .f32) (harg23 : arg23.IsWhole) (arg24 : Memref sig .tc .vmem S2432x128 .f32) (harg24 : arg24.IsWhole) (arg25 : Memref sig .tc .vmem S2x4608x128 .bf16) (harg25 : arg25.IsWhole) (arg26 : Memref sig .tc .vmem S2x4608x128 .f32) (harg26 : arg26.IsWhole) (arg27 : Memref sig .tc .vmem S2x2304x128 .bf16) (harg27 : arg27.IsWhole) (arg28 : Memref sig .tc .vmem S2x2304x128 .f32) (harg28 : arg28.IsWhole) (arg29 : Memref sig .tc .vmem S2x288x128 .f32) (harg29 : arg29.IsWhole)
    (x0 : Vec Ideal S1x256x128 .f32) (x1 : Vec Ideal S1x256x128 .f32) (x2 : Vec Ideal S1x256x128 .f32) (x3 : Vec Ideal S1x256x128 .f32) (x4 : Vec Ideal S1x2048x128 .f32) (x5 : Vec Ideal S1x2048x128 .f32) (x6 : Vec Ideal S1x2048x128 .f32) (x7 : Vec Ideal S1x2048x128 .f32) (x8 : Vec Ideal S1x1x2304x4 .f32) (x9 : Vec Ideal S1x3x4x128 .f32) (x10 : Vec Ideal S1x8x128 .f32) (x11 : Vec Ideal S1x128 .f32) (x12 : Vec Ideal S1x2048x128 .f32) (x13 : Vec Ideal S1x256x128 .f32) (s0 : Vec Ideal S2304x128 .f32) (s1 : Vec Ideal S2304x128 .f32) (s2 : Vec Ideal S2304x128 .f32) (s3 : Vec Ideal S2304x128 .f32) (s4 : Vec Ideal S2304x128 .f32) (s5 : Vec Ideal S2304x128 .f32) (s6 : Vec Ideal S2304x128 .f32) (s7 : Vec Ideal S2x2304x128 .f32) (s8 : Vec Ideal S2432x128 .f32) (s9 : Vec Ideal S2x4608x128 .bf16) (s10 : Vec Ideal S2x4608x128 .f32) (s11 : Vec Ideal S2x2304x128 .bf16) (s12 : Vec Ideal S2x2304x128 .f32) (s13 : Vec Ideal S2x288x128 .f32) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5 ∗ owns (c : Thread nD τ) arg22 fullShare s6 ∗ owns (c : Thread nD τ) arg23 fullShare s7 ∗ owns (c : Thread nD τ) arg24 fullShare s8 ∗ owns (c : Thread nD τ) arg25 fullShare s9 ∗ owns (c : Thread nD τ) arg26 fullShare s10 ∗ owns (c : Thread nD τ) arg27 fullShare s11 ∗ owns (c : Thread nD τ) arg28 fullShare s12 ∗ owns (c : Thread nD τ) arg29 fullShare s13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outX x0 x1 x2 x4 x5 x6 x7 x8 x9 x10 x11) ∗ owns (c : Thread nD τ) arg15 fullShare (outZ x0 x1 x2 x3 x4 x5 x6 x8 x9 x10 x11) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩)) ⊢ wp frame (wpE (defs₀ (F := Ideal)) Variants.none c none) E (cc0_delta i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K  := by
  have hX := body_outX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 s0 s1 s2 s3 s4 s5 s6 s7 s8 s9 s10 s11 s12 s13
  have hZ := body_outZ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 s0 s1 s2 s3 s4 s5 s6 s7 s8 s9 s10 s11 s12 s13
  revert hX hZ
  generalize kernelRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 s0 s1 s2 s3 s4 s5 s6 s7 s8 s9 s10 s11 s12 s13 = R
  intro hX hZ
  obtain ⟨L12, L13, h⟩ := R
  have h := h E K
  dsimp only at hX hZ
  rw [hX, hZ] at h
  exact h

/-! ## The pipeline's buffers -/

abbrev ms0_0 (t : Fin cfg0.N) : Memref sig .tc .vmem S1x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2304x4 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x4x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x128 .f32 := win0_13.stage (cfg0.slots t 13)
abbrev hs0_13 (t : Fin cfg0.N) : (ms0_13 t).IsWhole := hstage0_13 ((cfg0.slots t 13).cast nbuf0_13)
abbrev scM0_0 : Memref sig .tc .vmem S2304x128 .f32 := Memref.whole cc0_scratch0
abbrev scM0_1 : Memref sig .tc .vmem S2304x128 .f32 := Memref.whole cc0_scratch1
abbrev scM0_2 : Memref sig .tc .vmem S2304x128 .f32 := Memref.whole cc0_scratch2
abbrev scM0_3 : Memref sig .tc .vmem S2304x128 .f32 := Memref.whole cc0_scratch3
abbrev scM0_4 : Memref sig .tc .vmem S2304x128 .f32 := Memref.whole cc0_scratch4
abbrev scM0_5 : Memref sig .tc .vmem S2304x128 .f32 := Memref.whole cc0_scratch5
abbrev scM0_6 : Memref sig .tc .vmem S2304x128 .f32 := Memref.whole cc0_scratch6
abbrev scM0_7 : Memref sig .tc .vmem S2x2304x128 .f32 := Memref.whole cc0_scratch7
abbrev scM0_8 : Memref sig .tc .vmem S2432x128 .f32 := Memref.whole cc0_scratch8
abbrev scM0_9 : Memref sig .tc .vmem S2x4608x128 .bf16 := Memref.whole cc0_scratch9
abbrev scM0_10 : Memref sig .tc .vmem S2x4608x128 .f32 := Memref.whole cc0_scratch10
abbrev scM0_11 : Memref sig .tc .vmem S2x2304x128 .bf16 := Memref.whole cc0_scratch11
abbrev scM0_12 : Memref sig .tc .vmem S2x2304x128 .f32 := Memref.whole cc0_scratch12
abbrev scM0_13 : Memref sig .tc .vmem S2x288x128 .f32 := Memref.whole cc0_scratch13

/-- The invariant: the scratch buffers and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

/-- The pipeline's proof data: every input window keeps its block, the outputs end at the closed values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outX (iblk m c 0 t) (iblk m c 1 t) (iblk m c 2 t) (iblk m c 4 t) (iblk m c 5 t) (iblk m c 6 t) (iblk m c 7 t) (iblk m c 8 t) (iblk m c 9 t) (iblk m c 10 t) (iblk m c 11 t)
    | ⟨13, _⟩ => outZ (iblk m c 0 t) (iblk m c 1 t) (iblk m c 2 t) (iblk m c 3 t) (iblk m c 4 t) (iblk m c 5 t) (iblk m c 6 t) (iblk m c 8 t) (iblk m c 9 t) (iblk m c 10 t) (iblk m c 11 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outX (iblk m c 0 t) (iblk m c 1 t) (iblk m c 2 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = outZ (iblk m c 0 t) (iblk m c 1 t) (iblk m c 2 t) (iblk m c 3 t) (iblk m c 4 t) (iblk m c 5 t) (iblk m c 6 t) (iblk m c 8 t) (iblk m c 9 t) (iblk m c 10 t) (iblk m c 11 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 8000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩, ⟨%e10, HS10⟩, ⟨%e11, HS11⟩, ⟨%e12, HS12⟩, ⟨%e13, HS13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ e0 e1 e2 e3 e4 e5 e6 e7 e8 e9 e10 e11 e12 e13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and every counter at zero. -/
def unchanged := θ_run_and (frame_of m ρ (dats m) (A_eq m) (run_main m ρ)) ((θ_run defs _ _).mono (fun _ h => h.2) (run_main_quiescent m ρ))

end Cert.Delta

end
-- ==== Proof.Result.lean ====
/- The kernel's two results, from its arguments. -/
module

public import proofs.«01_k».proof.Proof.Launch
public import proofs.«01_k».proof.Proof.Args
public import Idealize.ShloMosaic.Lib.Pointwise

@[expose] public section

set_option maxRecDepth 16384
noncomputable section
namespace Cert.Delta
open Cert.KernelIdeal Cert.KernelIdeal.Gen
open Idealize.ShloMosaic Idealize.ShloMosaic.TcCoe Idealize.ShloMosaic.Tactic Idealize.SL.Sem
open Cert.Delta.Spec

variable (m : (ℓ : Loc nD τ sig) → Buf (Elt Ideal) ℓ) (ρ : Dev nD → PrngReg) (c : Dev nD)

/-- The kernel's arguments as launched. -/
def arrays : Args.Arrays where
  z := m ((c.tc : Thread nD τ).loc main_arg0)
  x := m ((c.tc : Thread nD τ).loc main_arg1)
  w := m ((c.tc : Thread nD τ).loc main_arg2)
  a := m ((c.tc : Thread nD τ).loc main_arg3)
  d := m ((c.tc : Thread nD τ).loc main_arg4)
  n := m ((c.tc : Thread nD τ).loc main_arg5)

/-- A grid point's batch element and head. -/
abbrev atB (t : Fin cfg0.N) : Fin 8 := grid0.coords t 0
abbrev atH (t : Fin cfg0.N) : Fin 4 := grid0.coords t 1

theorem index0 : ∀ t : Fin grid0.N, win0_0.index t = ![(grid0.coords t 0).val, 0, 0 + (grid0.coords t 1).val] := by decide +kernel
theorem index1 : ∀ t : Fin grid0.N, win0_1.index t = ![(grid0.coords t 0).val, 0, 4 + (grid0.coords t 1).val] := by decide +kernel
theorem index2 : ∀ t : Fin grid0.N, win0_2.index t = ![(grid0.coords t 0).val, 0, 8 + (grid0.coords t 1).val] := by decide +kernel
theorem index3 : ∀ t : Fin grid0.N, win0_3.index t = ![(grid0.coords t 0).val, 0, 12 + (grid0.coords t 1).val] := by decide +kernel
theorem index4 : ∀ t : Fin grid0.N, win0_4.index t = ![(grid0.coords t 0).val, 0, 0 + (grid0.coords t 1).val] := by decide +kernel
theorem index5 : ∀ t : Fin grid0.N, win0_5.index t = ![(grid0.coords t 0).val, 0, 4 + (grid0.coords t 1).val] := by decide +kernel
theorem index6 : ∀ t : Fin grid0.N, win0_6.index t = ![(grid0.coords t 0).val, 0, 8 + (grid0.coords t 1).val] := by decide +kernel
theorem index7 : ∀ t : Fin grid0.N, win0_7.index t = ![(grid0.coords t 0).val, 0, 12 + (grid0.coords t 1).val] := by decide +kernel
theorem index8 : ∀ t : Fin grid0.N, win0_8.index t = ![(grid0.coords t 0).val, (grid0.coords t 1).val, 0, 0] := by decide +kernel
theorem index9 : ∀ t : Fin grid0.N, win0_9.index t = ![(grid0.coords t 1).val, 0, 0, 0] := by decide +kernel
theorem index10 : ∀ t : Fin grid0.N, win0_10.index t = ![(grid0.coords t 1).val, 0, 0] := by decide +kernel
theorem index11 : ∀ t : Fin grid0.N, win0_11.index t = ![0, 0] := by decide +kernel
theorem index12 : ∀ t : Fin grid0.N, win0_12.index t = ![(grid0.coords t 0).val, 0, (grid0.coords t 1).val] := by decide +kernel
theorem index13 : ∀ t : Fin grid0.N, win0_13.index t = ![(grid0.coords t 0).val, 0, (grid0.coords t 1).val] := by decide +kernel

theorem iblk0 (t : Fin cfg0.N) (r : Fin 256) (l : Fin 128) : iblk m c 0 t (ix3 0 r l) = Args.ctx (arrays m c) (atB t) (atH t) 0 r l := by
  have e : ((0 + (grid0.coords t 1).val) * 128 + l.val : ℕ) = (Args.lane 0 (atH t) l).val := by
    show _ = 512 * 0 + 128 * (grid0.coords t 1).val + l.val
    omega
  blk_simp [iblk]
  rw [V_main_arg0]
  refine congrArg (m ((c.tc : Thread nD τ).loc main_arg0)) ?_
  blk_ext [index0]
  all_goals first | rfl | exact e
theorem iblk1 (t : Fin cfg0.N) (r : Fin 256) (l : Fin 128) : iblk m c 1 t (ix3 0 r l) = Args.ctx (arrays m c) (atB t) (atH t) 1 r l := by
  have e : ((4 + (grid0.coords t 1).val) * 128 + l.val : ℕ) = (Args.lane 1 (atH t) l).val := by
    show _ = 512 * 1 + 128 * (grid0.coords t 1).val + l.val
    omega
  blk_simp [iblk]
  rw [V_main_arg0]
  refine congrArg (m ((c.tc : Thread nD τ).loc main_arg0)) ?_
  blk_ext [index1]
  all_goals first | rfl | exact e
theorem iblk2 (t : Fin cfg0.N) (r : Fin 256) (l : Fin 128) : iblk m c 2 t (ix3 0 r l) = Args.ctx (arrays m c) (atB t) (atH t) 2 r l := by
  have e : ((8 + (grid0.coords t 1).val) * 128 + l.val : ℕ) = (Args.lane 2 (atH t) l).val := by
    show _ = 512 * 2 + 128 * (grid0.coords t 1).val + l.val
    omega
  blk_simp [iblk]
  rw [V_main_arg0]
  refine congrArg (m ((c.tc : Thread nD τ).loc main_arg0)) ?_
  blk_ext [index2]
  all_goals first | rfl | exact e
theorem iblk3 (t : Fin cfg0.N) (r : Fin 256) (l : Fin 128) : iblk m c 3 t (ix3 0 r l) = Args.ctx (arrays m c) (atB t) (atH t) 3 r l := by
  have e : ((12 + (grid0.coords t 1).val) * 128 + l.val : ℕ) = (Args.lane 3 (atH t) l).val := by
    show _ = 512 * 3 + 128 * (grid0.coords t 1).val + l.val
    omega
  blk_simp [iblk]
  rw [V_main_arg0]
  refine congrArg (m ((c.tc : Thread nD τ).loc main_arg0)) ?_
  blk_ext [index3]
  all_goals first | rfl | exact e
theorem iblk4 (t : Fin cfg0.N) (r : Fin 2048) (l : Fin 128) : iblk m c 4 t (ix3 0 r l) = Args.lat (arrays m c) (atB t) (atH t) 0 r l := by
  have e : ((0 + (grid0.coords t 1).val) * 128 + l.val : ℕ) = (Args.lane 0 (atH t) l).val := by
    show _ = 512 * 0 + 128 * (grid0.coords t 1).val + l.val
    omega
  blk_simp [iblk]
  rw [V_main_arg1]
  refine congrArg (m ((c.tc : Thread nD τ).loc main_arg1)) ?_
  blk_ext [index4]
  all_goals first | rfl | exact e
theorem iblk5 (t : Fin cfg0.N) (r : Fin 2048) (l : Fin 128) : iblk m c 5 t (ix3 0 r l) = Args.lat (arrays m c) (atB t) (atH t) 1 r l := by
  have e : ((4 + (grid0.coords t 1).val) * 128 + l.val : ℕ) = (Args.lane 1 (atH t) l).val := by
    show _ = 512 * 1 + 128 * (grid0.coords t 1).val + l.val
    omega
  blk_simp [iblk]
  rw [V_main_arg1]
  refine congrArg (m ((c.tc : Thread nD τ).loc main_arg1)) ?_
  blk_ext [index5]
  all_goals first | rfl | exact e
theorem iblk6 (t : Fin cfg0.N) (r : Fin 2048) (l : Fin 128) : iblk m c 6 t (ix3 0 r l) = Args.lat (arrays m c) (atB t) (atH t) 2 r l := by
  have e : ((8 + (grid0.coords t 1).val) * 128 + l.val : ℕ) = (Args.lane 2 (atH t) l).val := by
    show _ = 512 * 2 + 128 * (grid0.coords t 1).val + l.val
    omega
  blk_simp [iblk]
  rw [V_main_arg1]
  refine congrArg (m ((c.tc : Thread nD τ).loc main_arg1)) ?_
  blk_ext [index6]
  all_goals first | rfl | exact e
theorem iblk7 (t : Fin cfg0.N) (r : Fin 2048) (l : Fin 128) : iblk m c 7 t (ix3 0 r l) = Args.lat (arrays m c) (atB t) (atH t) 3 r l := by
  have e : ((12 + (grid0.coords t 1).val) * 128 + l.val : ℕ) = (Args.lane 3 (atH t) l).val := by
    show _ = 512 * 3 + 128 * (grid0.coords t 1).val + l.val
    omega
  blk_simp [iblk]
  rw [V_main_arg1]
  refine congrArg (m ((c.tc : Thread nD τ).loc main_arg1)) ?_
  blk_ext [index7]
  all_goals first | rfl | exact e

theorem V14_col (b : Fin 8) (h : Fin 4) (t : Fin 2304) (n : Fin 4) :
    V m c main_v14 (ix4 b h t n) = joined
      (fun r => (arrays m c).z (ix3 b r ⟨2560 + (n.val * 4 + h.val), by have := n.isLt; have := h.isLt; omega⟩))
      (fun r => (arrays m c).x (ix3 b r ⟨2560 + (n.val * 4 + h.val), by have := n.isLt; have := h.isLt; omega⟩)) t := by
  simp only [V]
  after_results
  pointwise
  rfl

theorem V14 (b : Fin 8) (h : Fin 4) (t : Fin 2304) (i p : Fin 2) (n : Fin 4) (hn : n.val = 2 * i.val + p.val) :
    V m c main_v14 (ix4 b h t n) = Args.gate (arrays m c) b h i p t := by
  have e : (⟨2560 + (n.val * 4 + h.val), by have := n.isLt; have := h.isLt; omega⟩ : Fin 2688) = Args.gateCol i p h :=
    Fin.ext (by show 2560 + (n.val * 4 + h.val) = 2560 + 8 * i.val + 4 * p.val + h.val; omega)
  rw [V14_col, e]
  rfl

theorem V3 (b : Fin 4) (h : Fin 3) (t : Fin 4) (n : Fin 128) :
    V m c main_v3 (ix4 b h t n) = Args.taps (arrays m c) b h t n := by
  simp only [V]
  after_results
  pointwise
  exact congrArg (fun y => m ((c.tc : Thread nD τ).loc main_arg2) (ix2 t y))
    (Fin.ext (by show h.val * 512 + b.val * 128 + n.val = 512 * h.val + 128 * b.val + n.val; omega))

theorem V9 (b : Fin 4) (h : Fin 8) (n : Fin 128) :
    V m c main_v9 (ix3 b h n) = (if h_1 : h.val < 4 then
      if h_2 : h.val < 2 then (arrays m c).a (ix2 ⟨h.val, h_2⟩ b)
      else (arrays m c).d (ix2 ⟨h.val - 2, by omega⟩ b)
    else (0 : EReal)) := by
  simp only [V]
  after_results
  pointwise
  rfl

theorem V15 (b : Fin 1) (n : Fin 128) : V m c main_v15 (ix2 b n) = (arrays m c).n (ix1 n) := by
  simp only [V]
  after_results
  pointwise
  rfl

theorem iblk8 (t : Fin cfg0.N) (r : Fin 2304) (i p : Fin 2) (n : Fin 4) (hn : n.val = 2 * i.val + p.val) :
    iblk m c 8 t (ix4 0 0 r n) = Args.gate (arrays m c) (atB t) (atH t) i p r := by
  refine Eq.trans ?_ (V14 m c (atB t) (atH t) r i p n hn)
  blk_simp [iblk]
  refine congrArg _ ?_
  blk_ext [index8] <;> rfl
theorem iblk9 (t : Fin cfg0.N) (p : Fin 3) (j : Fin 4) (l : Fin 128) :
    iblk m c 9 t (ix4 0 p j l) = Args.taps (arrays m c) (atH t) p j l := by
  refine Eq.trans ?_ (V3 m c (atH t) p j l)
  blk_simp [iblk]
  refine congrArg _ ?_
  blk_ext [index9] <;> rfl
theorem iblk10 (t : Fin cfg0.N) (j : Fin 8) (l : Fin 128) :
    iblk m c 10 t (ix3 0 j l) = V m c main_v9 (ix3 (atH t) j l) := by
  blk_simp [iblk]
  refine congrArg _ ?_
  blk_ext [index10] <;> rfl
theorem iblk11 (t : Fin cfg0.N) (l : Fin 128) : iblk m c 11 t (ix2 0 l) = (arrays m c).n (ix1 l) := by
  refine Eq.trans ?_ (V15 m c 0 l)
  blk_simp [iblk]
  refine congrArg _ ?_
  blk_ext [index11] <;> rfl

/-! ## The prepared tokens of a point -/

variable (t : Fin cfg0.N)

theorem queries_eq : queries (iblk m c 0 t) (iblk m c 4 t) (iblk m c 9 t) = Args.q (arrays m c) (atB t) (atH t) := by
  unfold queries Args.q
  simp only [iblk9]
  exact congrArg₂ _ (funext fun r => funext fun l => iblk0 m c t r l) (funext fun r => funext fun l => iblk4 m c t r l)
theorem keys_eq : keys (iblk m c 1 t) (iblk m c 5 t) (iblk m c 9 t) = Args.k (arrays m c) (atB t) (atH t) := by
  unfold keys Args.k
  simp only [iblk9]
  exact congrArg₂ _ (funext fun r => funext fun l => iblk1 m c t r l) (funext fun r => funext fun l => iblk5 m c t r l)
theorem values_eq : values (iblk m c 2 t) (iblk m c 6 t) (iblk m c 9 t) = Args.v (arrays m c) (atB t) (atH t) := by
  unfold values Args.v
  simp only [iblk9]
  exact congrArg₂ _ (funext fun r => funext fun l => iblk2 m c t r l) (funext fun r => funext fun l => iblk6 m c t r l)

theorem decays_eq : decays (iblk m c 8 t) (iblk m c 10 t) = Args.g (arrays m c) (atB t) (atH t) := by
  funext p r
  unfold decays Args.g
  fin_cases p
  · refine (if_pos rfl).trans ?_
    rw [iblk8 m c t r 1 0 2 rfl, iblk10, iblk10, V9, V9]; rfl
  · refine (if_neg (by decide)).trans ?_
    rw [iblk8 m c t r 1 1 3 rfl, iblk10, iblk10, V9, V9]; rfl

theorem strengths_eq : strengths (iblk m c 8 t) = Args.s (arrays m c) (atB t) (atH t) := by
  funext p r
  unfold strengths Args.s
  fin_cases p
  · refine (if_pos rfl).trans ?_
    rw [iblk8 m c t r 0 0 0 rfl]; rfl
  · refine (if_neg (by decide)).trans ?_
    rw [iblk8 m c t r 0 1 1 rfl]; rfl

/-! ## The result arrays -/

/-- Lane `l` of head `h`, from a column of a result. -/
def headOf (y : Fin 512) : Fin 4 := ⟨y.val / 128, by have := y.isLt; omega⟩
def laneOf (y : Fin 512) : Fin 128 := ⟨y.val % 128, by omega⟩

def resultLat (A : Args.Arrays) : Vec Ideal ⟨3, ![8, 2048, 512]⟩ .f32 := fun y => Args.latOut A (y 0) (headOf (y 2)) (y 1) (laneOf (y 2))
def resultCtx (A : Args.Arrays) : Vec Ideal ⟨3, ![8, 256, 512]⟩ .f32 := fun y => Args.ctxOut A (y 0) (headOf (y 2)) (y 1) (laneOf (y 2))

theorem blockLat (r : Fin 2048) (l : Fin 128) :
    outX (iblk m c 0 t) (iblk m c 1 t) (iblk m c 2 t) (iblk m c 4 t) (iblk m c 5 t) (iblk m c 6 t) (iblk m c 7 t) (iblk m c 8 t) (iblk m c 9 t) (iblk m c 10 t) (iblk m c 11 t) (ix3 0 r l) = Args.latOut (arrays m c) (atB t) (atH t) r l := by
  have e : outX (iblk m c 0 t) (iblk m c 1 t) (iblk m c 2 t) (iblk m c 4 t) (iblk m c 5 t) (iblk m c 6 t) (iblk m c 7 t) (iblk m c 8 t) (iblk m c 9 t) (iblk m c 10 t) (iblk m c 11 t) (ix3 0 r l)
      = mixed (queries (iblk m c 0 t) (iblk m c 4 t) (iblk m c 9 t)) (keys (iblk m c 1 t) (iblk m c 5 t) (iblk m c 9 t)) (values (iblk m c 2 t) (iblk m c 6 t) (iblk m c 9 t)) (decays (iblk m c 8 t) (iblk m c 10 t)) (strengths (iblk m c 8 t))
        ⟨256 + r.val, by have := r.isLt; omega⟩ l * iblk m c 11 t (ix2 0 l) * silu (iblk m c 7 t (ix3 0 r l)) := rfl
  rw [e, queries_eq, keys_eq, values_eq, decays_eq, strengths_eq, iblk11, iblk7]
  rfl

theorem blockCtx (r : Fin 256) (l : Fin 128) :
    outZ (iblk m c 0 t) (iblk m c 1 t) (iblk m c 2 t) (iblk m c 3 t) (iblk m c 4 t) (iblk m c 5 t) (iblk m c 6 t) (iblk m c 8 t) (iblk m c 9 t) (iblk m c 10 t) (iblk m c 11 t) (ix3 0 r l) = Args.ctxOut (arrays m c) (atB t) (atH t) r l := by
  have e : outZ (iblk m c 0 t) (iblk m c 1 t) (iblk m c 2 t) (iblk m c 3 t) (iblk m c 4 t) (iblk m c 5 t) (iblk m c 6 t) (iblk m c 8 t) (iblk m c 9 t) (iblk m c 10 t) (iblk m c 11 t) (ix3 0 r l)
      = mixed (queries (iblk m c 0 t) (iblk m c 4 t) (iblk m c 9 t)) (keys (iblk m c 1 t) (iblk m c 5 t) (iblk m c 9 t)) (values (iblk m c 2 t) (iblk m c 6 t) (iblk m c 9 t)) (decays (iblk m c 8 t) (iblk m c 10 t)) (strengths (iblk m c 8 t))
        ⟨r.val, by have := r.isLt; omega⟩ l * iblk m c 11 t (ix2 0 l) * silu (iblk m c 3 t (ix3 0 r l)) := rfl
  rw [e, queries_eq, keys_eq, values_eq, decays_eq, strengths_eq, iblk11, iblk3]
  rfl

theorem final_lat : (dats m 0 c).arrAt 12 cfg0.N = resultLat (arrays m c) := by
  refine (dats m 0 c).arrAt_eq_of_covers 12 _ (by decide +kernel) fun t hf y => ?_
  obtain ⟨r, l, rfl⟩ := window_idx (R := 2048) y
  blk_simp
  rw [after0_12, blockLat]
  unfold resultLat
  have h1 : atB t = (((cfg0.win 12).blk t).view.emb (ix3 0 r l)) 0 := Fin.ext (by blk_simp [index12] <;> rfl)
  have h2 : r = (((cfg0.win 12).blk t).view.emb (ix3 0 r l)) 1 := Fin.ext (by blk_simp [index12] <;> omega)
  have h3 : ((((cfg0.win 12).blk t).view.emb (ix3 0 r l)) 2).val = (atH t).val * 128 + l.val := by blk_simp [index12] <;> rfl
  have h4 : atH t = headOf ((((cfg0.win 12).blk t).view.emb (ix3 0 r l)) 2) := Fin.ext (by unfold headOf; show (atH t).val = _ / 128; rw [h3]; have := l.isLt; omega)
  have h5 : l = laneOf ((((cfg0.win 12).blk t).view.emb (ix3 0 r l)) 2) := Fin.ext (by unfold laneOf; show l.val = _ % 128; rw [h3]; have := l.isLt; omega)
  exact congrFun (congr (congr (congrArg (Args.latOut (arrays m c)) h1) h4) h2) l |>.trans (congrArg _ h5)

theorem final_ctx : (dats m 0 c).arrAt 13 cfg0.N = resultCtx (arrays m c) := by
  refine (dats m 0 c).arrAt_eq_of_covers 13 _ (by decide +kernel) fun t hf y => ?_
  obtain ⟨r, l, rfl⟩ := window_idx (R := 256) y
  blk_simp
  rw [after0_13, blockCtx]
  unfold resultCtx
  have h1 : atB t = (((cfg0.win 13).blk t).view.emb (ix3 0 r l)) 0 := Fin.ext (by blk_simp [index13] <;> rfl)
  have h2 : r = (((cfg0.win 13).blk t).view.emb (ix3 0 r l)) 1 := Fin.ext (by blk_simp [index13] <;> omega)
  have h3 : ((((cfg0.win 13).blk t).view.emb (ix3 0 r l)) 2).val = (atH t).val * 128 + l.val := by blk_simp [index13] <;> rfl
  have h4 : atH t = headOf ((((cfg0.win 13).blk t).view.emb (ix3 0 r l)) 2) := Fin.ext (by unfold headOf; show (atH t).val = _ / 128; rw [h3]; have := l.isLt; omega)
  have h5 : l = laneOf ((((cfg0.win 13).blk t).view.emb (ix3 0 r l)) 2) := Fin.ext (by unfold laneOf; show l.val = _ % 128; rw [h3]; have := l.isLt; omega)
  exact congrFun (congr (congr (congrArg (Args.ctxOut (arrays m c)) h1) h4) h2) l |>.trans (congrArg _ h5)

end Cert.Delta
end
-- ==== Proof.RefEnd.lean ====
/- The reference's two results: the kernel's, wherever the arguments are real numbers. -/
module

public import proofs.«01_k».proof.Proof.RefScan
public import proofs.«01_k».proof.Proof.Finite
public import proofs.«01_k».proof.Proof.Result

@[expose] public section

set_option maxRecDepth 16384

noncomputable section

namespace Cert.Delta.RefEnd

open Idealize.ShloMosaic Idealize.ShloMosaic.TcCoe
open Cert.ReferenceIdeal Cert.ReferenceIdeal.Gen Cert.ReferenceIdeal.Step
open Cert.Delta.Spec Cert.Delta.RefPrep Cert.Delta.RefScan Cert.Delta.Math

/-- The normalised and gated row, of the two directions' sum. -/
theorem gated (f f' : Fin 128 → EReal) (hf : ∀ l, f l = f' l) (n x : EReal) (l : Fin 128) :
    f l * Ideal.rsqrt (Ideal.div (∑ y, f y * f y) (Ideal.ofBits FTy.f32 1124073472#32) + Ideal.ofBits FTy.f32 897988541#32)
        * n * (x * Ideal.div 1 (1 + Ideal.exp (-x)))
      = normed f' l * n * silu x := by
  obtain rfl : f = f' := funext hf
  rfl

theorem col (y : Fin 512) (hy : 1536 + y.val < 2688) :
    (⟨1536 + y.val, hy⟩ : Fin 2688) = Args.lane 3 ⟨y.val / 128, by omega⟩ ⟨y.val % 128, Nat.mod_lt _ (by norm_num)⟩ := by
  apply Fin.ext
  show 1536 + y.val = 512 * 3 + 128 * (y.val / 128) + y.val % 128
  omega

theorem up_lat (r : Fin 2048) :
    turn 1 (⟨256 + (Fin.rev r).val, by omega⟩ : Fin 2304) = ⟨256 + r.val, by omega⟩ := by
  apply Fin.ext
  rw [turn_high _ (by show ¬ 256 + _ < 256; omega)]
  show 2559 - (256 + (Fin.rev r).val) = 256 + r.val
  rw [Fin.val_rev]; omega

theorem up_ctx (r : Fin 256) :
    turn 1 (⟨(Fin.rev r).val, by omega⟩ : Fin 2304) = ⟨r.val, by omega⟩ := by
  apply Fin.ext
  rw [turn_low _ (by show (Fin.rev r).val < 256; omega)]
  show 255 - (Fin.rev r).val = r.val
  rw [Fin.val_rev]; omega

set_option maxHeartbeats 4000000 in
theorem lat_row (s : State Ideal) (x : Vec Ideal S8x2048x2688 .f32) (n : Vec Ideal S128 .f32) (b : Fin 8)
    (o : Fin 4 → Fin 2 → Fin 2304 → Fin 128 → EReal)
    (hs : ∀ h p t l, (s.main_v222_7 (ix5 t p b h l) : EReal) = o h p (turn p t) l) (r : Fin 2048) (y : Fin 512) :
    R_main_v256 s x n (ix3 b r y)
      = normed (fun l => o (headOf y) 0 ⟨256 + r.val, by omega⟩ l + o (headOf y) 1 ⟨256 + r.val, by omega⟩ l) (laneOf y)
        * n (ix1 (laneOf y)) * silu (x (ix3 b r (Args.lane 3 (headOf y) (laneOf y)))) := by
  have e := fun l => congrArg₂ (· + ·)
    ((hs (headOf y) 0 ⟨256 + r.val, by omega⟩ l).trans (congrArg (fun t => o (headOf y) 0 t l) (turn_zero _)))
    ((hs (headOf y) 1 ⟨256 + (Fin.rev r).val, by omega⟩ l).trans (congrArg (fun t => o (headOf y) 1 t l) (up_lat r)))
  have c := congrArg (fun c => x (ix3 b r c)) (col y (by omega))
  pointwise [R_main_v256]
  refine Eq.trans (gated _ _ e (n (ix1 (laneOf y))) (x (ix3 b r ⟨1536 + y.val, by omega⟩)) (laneOf y)) ?_
  exact congrArg (fun u => _ * silu u) c

set_option maxHeartbeats 4000000 in
theorem ctx_row (s : State Ideal) (x : Vec Ideal S8x256x2688 .f32) (n : Vec Ideal S128 .f32) (b : Fin 8)
    (o : Fin 4 → Fin 2 → Fin 2304 → Fin 128 → EReal)
    (hs : ∀ h p t l, (s.main_v222_7 (ix5 t p b h l) : EReal) = o h p (turn p t) l) (r : Fin 256) (y : Fin 512) :
    R_main_v275 s x n (ix3 b r y)
      = normed (fun l => o (headOf y) 0 ⟨r.val, by omega⟩ l + o (headOf y) 1 ⟨r.val, by omega⟩ l) (laneOf y)
        * n (ix1 (laneOf y)) * silu (x (ix3 b r (Args.lane 3 (headOf y) (laneOf y)))) := by
  have e := fun l => congrArg₂ (· + ·)
    ((hs (headOf y) 0 ⟨r.val, by omega⟩ l).trans (congrArg (fun t => o (headOf y) 0 t l) (turn_zero _)))
    ((hs (headOf y) 1 ⟨(Fin.rev r).val, by omega⟩ l).trans (congrArg (fun t => o (headOf y) 1 t l) (up_ctx r)))
  have c := congrArg (fun c => x (ix3 b r c)) (col y (by omega))
  pointwise [R_main_v275]
  refine Eq.trans (gated _ _ e (n (ix1 (laneOf y))) (x (ix3 b r ⟨1536 + y.val, by omega⟩)) (laneOf y)) ?_
  exact congrArg (fun u => _ * silu u) c

variable (A : Args.Arrays) (hA : Finite.AllReal A)

include hA in
/-- What the loop has written for scan token `t` of direction `p`: the read of the row it stands for. -/
theorem written (S : State Ideal) (e : S = it A 2304) (b : Fin 8) (h : Fin 4) (p : Fin 2) (t : Fin 2304) (l : Fin 128) :
    S.main_v222_7 (ix5 t p b h l)
      = scanOut (Args.q A b h) (Args.k A b h) (Args.v A b h) (Args.g A b h) (Args.s A b h) p (turn p t) l := by
  subst e
  choose q hq using Finite.q_real hA b h
  choose k hk using Finite.k_real hA b h
  choose v hv using Finite.v_real hA b h
  choose g hg using Finite.g_real hA b h
  choose s hs using Finite.s_real hA b h
  rw [it_out A b h q k v g s hq hk hv hg hs p 2304 le_rfl t t.isLt l,
    show Args.q A b h = fun t d => ((q t d : ℝ) : EReal) from funext fun t => funext fun d => hq t d,
    show Args.k A b h = fun t d => ((k t d : ℝ) : EReal) from funext fun t => funext fun d => hk t d,
    show Args.v A b h = fun t d => ((v t d : ℝ) : EReal) from funext fun t => funext fun d => hv t d,
    show Args.g A b h = fun p t => ((g p t : ℝ) : EReal) from funext fun p => funext fun t => hg p t,
    show Args.s A b h = fun p t => ((s p t : ℝ) : EReal) from funext fun p => funext fun t => hs p t]
  exact (scanOut_real q k v g s p (turn p t) l).symm

include hA

theorem lat_eq (s : State Ideal) (e : s = it A 2304) : R_main_v256 s A.x A.n = resultLat A := by
  funext i
  obtain ⟨b, r, y, rfl⟩ : ∃ b r y, i = ix3 b r y := ⟨i 0, i 1, i 2, by funext a; fin_cases a <;> rfl⟩
  exact lat_row s A.x A.n b
    (fun h p row l => scanOut (Args.q A b h) (Args.k A b h) (Args.v A b h) (Args.g A b h) (Args.s A b h) p row l)
    (fun h p t l => written A hA s e b h p t l) r y

theorem ctx_eq (s : State Ideal) (e : s = it A 2304) : R_main_v275 s A.z A.n = resultCtx A := by
  funext i
  obtain ⟨b, r, y, rfl⟩ : ∃ b r y, i = ix3 b r y := ⟨i 0, i 1, i 2, by funext a; fin_cases a <;> rfl⟩
  exact ctx_row s A.z A.n b
    (fun h p row l => scanOut (Args.q A b h) (Args.k A b h) (Args.v A b h) (Args.g A b h) (Args.s A b h) p row l)
    (fun h p t l => written A hA s e b h p t l) r y

end Cert.Delta.RefEnd

end
-- ==== Proof.lean ====
/- The claims proved, for each of the two calls: the frames of the kernel, of its idealization and of the reference, and
   that the last two have equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.WordsFrame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Proj
public import proofs.«01_k».proof.Proof.ProjRef
public import proofs.«01_k».proof.Proof.Mix
public import proofs.«01_k».proof.Proof.MixRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.RefRun
public import proofs.«01_k».proof.Proof.RefEnd
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Kernel2.Gen.facts Cert.Kernel2Ideal.Gen.facts Cert.Reference2Ideal.Gen.facts
  Cert.Kernel3.Gen.facts Cert.Kernel3Ideal.Gen.facts Cert.Reference3Ideal.Gen.facts Cert.Pre_finite.Gen.facts

section
open Cert.KernelIdeal Cert.KernelIdeal.Gen
variable (m : (ℓ : Loc nD τ sig) → Buf (Elt Ideal) ℓ) (g : Dev nD → PrngReg)

/-- What the kernel's run leaves in the two results. -/
theorem kernel_run : θ_run (defs (F := Ideal)) (onTc (τ := τ) (main (F := Ideal))) ⟨m, fun _ => 0, g⟩ (fun r => ∀ c : Dev nD,
    r.2.mem ((c.tc : Thread nD τ).loc main_v16_0) = Cert.Delta.resultLat (Cert.Delta.arrays m c)
    ∧ r.2.mem ((c.tc : Thread nD τ).loc main_v16_1) = Cert.Delta.resultCtx (Cert.Delta.arrays m c)) :=
  (θ_run defs _ _).mono (fun _ h c => ⟨((h c).1 12).trans (Cert.Delta.final_lat m c), ((h c).1 13).trans (Cert.Delta.final_ctx m c)⟩)
    (Cert.Delta.run_main m g)
end

section
open Cert.ReferenceIdeal Cert.ReferenceIdeal.Gen
variable (m : (ℓ : Loc nD τ sig) → Buf (Elt Ideal) ℓ) (g : Dev nD → PrngReg)

/-- The reference's arguments as launched. -/
def refArrays (c : Dev nD) : Cert.Delta.Args.Arrays where
  z := m ((c.tc : Thread nD τ).loc main_arg0)
  x := m ((c.tc : Thread nD τ).loc main_arg1)
  w := m ((c.tc : Thread nD τ).loc main_arg2)
  a := m ((c.tc : Thread nD τ).loc main_arg3)
  d := m ((c.tc : Thread nD τ).loc main_arg4)
  n := m ((c.tc : Thread nD τ).loc main_arg5)

/-- What the reference's run leaves in its two results and its arguments. -/
theorem reference_run : θ_run (defs (F := Ideal)) (onTc (τ := τ) (main (F := Ideal))) ⟨m, fun _ => 0, g⟩ fun r => ∀ c : Dev nD,
    r.2.mem ((c.tc : Thread nD τ).loc main_v256) = Step.R_main_v256 (Cert.Delta.RefScan.it (refArrays m c) 2304) (m ((c.tc : Thread nD τ).loc main_arg1)) (m ((c.tc : Thread nD τ).loc main_arg5))
    ∧ r.2.mem ((c.tc : Thread nD τ).loc main_v275) = Step.R_main_v275 (Cert.Delta.RefScan.it (refArrays m c) 2304) (m ((c.tc : Thread nD τ).loc main_arg0)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  Cert.Delta.RefRun.run_iter m g (fun c => Cert.Delta.RefScan.it (refArrays m c)) (fun _ => rfl) (fun _ _ => rfl)

/-- The reference's arguments end unchanged and every counter at zero. -/
theorem reference_frame : θ_run (defs (F := Ideal)) (onTc (τ := τ) (main (F := Ideal))) ⟨m, fun _ => 0, g⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0 :=
  (θ_run defs _ _).mono (fun r h => ⟨fun c => (h c).2.2, sem_eq_zero_of_no_sems (by decide) r.2⟩) (reference_run m g)

end

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts, by
  refine ⟨fun m g _ => Cert.Kernel.Words.frame m g, fun m g _ => Cert.Delta.unchanged m g, fun m g _ => Cert.Delta.unchanged m g, ?_, ?_,
    fun m g _ => Cert.Kernel2.Gen.frame m g, fun m g _ => Cert.Kernel2Ideal.Gen.frame m g, fun m g _ => Cert.Proj.ref_frame m g,
    fun m g _ => Cert.Kernel3.Gen.frame m g, fun m g _ => Cert.Kernel3Ideal.Gen.frame m g, fun m g _ => Cert.Mix.ref_frame m g,
    trivial, ?_, trivial, ?_, trivial, ?_⟩
  · exact fun m g _ => reference_frame m g
  · exact fun m g _ => reference_frame m g
  · intro m g m' g' hpre hargs
    refine ⟨fun c => Cert.Delta.resultLat (Cert.Delta.arrays m c), fun c => Cert.Delta.resultCtx (Cert.Delta.arrays m c), ?_, ?_⟩
    · exact (θ_run Cert.KernelIdeal.defs _ _).mono (fun r h c => ⟨(h.1 c).1, (h.1 c).2, h.2.1 c⟩)
        (θ_run_and (kernel_run m g) (Cert.Delta.unchanged m g))
    · refine (θ_run Cert.ReferenceIdeal.defs _ _).mono (fun r h c => ?_) (reference_run m' g')
      have ea : refArrays m' c = Cert.Delta.arrays m c := by
        obtain ⟨h0, h1, h2, h3, h4, h5⟩ := hargs c
        unfold refArrays Cert.Delta.arrays
        congr 1
      have hr : Cert.Delta.Finite.AllReal (refArrays m' c) := by
        rw [ea]
        exact Cert.Delta.Finite.all_real (Cert.Delta.arrays m c) (hpre c)
      obtain ⟨h0, h1, h2⟩ := h c
      exact ⟨h0.trans ((Cert.Delta.RefEnd.lat_eq (refArrays m' c) hr _ rfl).trans (congrArg Cert.Delta.resultLat ea)),
        h1.trans ((Cert.Delta.RefEnd.ctx_eq (refArrays m' c) hr _ rfl).trans (congrArg Cert.Delta.resultCtx ea)), h2⟩
  · intro m g m' g' _ hargs
    refine ⟨fun c => Cert.Proj.result (Cert.Proj.arrays m c), fun c => Cert.Proj.gates (Cert.Proj.arrays m c), ?_, ?_⟩
    · exact (θ_run Cert.Kernel2Ideal.defs _ _).mono
        (fun r h c => ⟨(h c).1.trans (Cert.Proj.final_result m c), (h c).2.1.trans (Cert.Proj.final_gates m c), (h c).2.2⟩)
        (Cert.Kernel2Ideal.Value.run_blocks m g)
    · refine (θ_run Cert.Reference2Ideal.defs _ _).mono (fun r h c => ?_) (Cert.Proj.ref_run m' g')
      have ea : Cert.Proj.refArrays m' c = Cert.Proj.arrays m c := by
        obtain ⟨h0, h1, h2, h3⟩ := hargs c
        unfold Cert.Proj.refArrays Cert.Proj.arrays
        congr 1
      obtain ⟨h0, h1, h2⟩ := h c
      exact ⟨h0.trans (congrArg Cert.Proj.result ea), h1.trans (congrArg Cert.Proj.gates ea), h2⟩
  · intro m g m' g' _ hargs
    refine ⟨fun c => Cert.Mix.result (Cert.Mix.arrays m c), ?_, ?_⟩
    · exact (θ_run Cert.Kernel3Ideal.defs _ _).mono (fun r h c => ⟨(h c).1.trans (Cert.Mix.final_result m c), (h c).2⟩)
        (Cert.Kernel3Ideal.Value.run_blocks m g)
    · refine (θ_run Cert.Reference3Ideal.defs _ _).mono (fun r h c => ?_) (Cert.Mix.ref_run m' g')
      have ea : Cert.Mix.refArrays m' c = Cert.Mix.arrays m c := by
        obtain ⟨h0, h1, h2, h3, h4, h5, h6, h7⟩ := hargs c
        unfold Cert.Mix.refArrays Cert.Mix.arrays
        congr 1
      exact ⟨(h c).1.trans (congrArg Cert.Mix.result ea), (h c).2⟩⟩

end Cert.Proof

end
